-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5)
      ∧ r.2.mem ((c.tc : Thread Cert.ConvOut.nD Cert.ConvOut.τ).loc Cert.ConvOut.main_arg6) = m ((c.tc : Thread Cert.ConvOut.nD Cert.ConvOut.τ).loc Cert.ConvOut.main_arg6)
      ∧ r.2.mem ((c.tc : Thread Cert.ConvOut.nD Cert.ConvOut.τ).loc Cert.ConvOut.main_arg7) = m ((c.tc : Thread Cert.ConvOut.nD Cert.ConvOut.τ).loc Cert.ConvOut.main_arg7)
      ∧ r.2.mem ((c.tc : Thread Cert.ConvOut.nD Cert.ConvOut.τ).loc Cert.ConvOut.main_arg8) = m ((c.tc : Thread Cert.ConvOut.nD Cert.ConvOut.τ).loc Cert.ConvOut.main_arg8)
      ∧ r.2.mem ((c.tc : Thread Cert.ConvOut.nD Cert.ConvOut.τ).loc Cert.ConvOut.main_arg9) = m ((c.tc : Thread Cert.ConvOut.nD Cert.ConvOut.τ).loc Cert.ConvOut.main_arg9)
      ∧ r.2.mem ((c.tc : Thread Cert.ConvOut.nD Cert.ConvOut.τ).loc Cert.ConvOut.main_arg10) = m ((c.tc : Thread Cert.ConvOut.nD Cert.ConvOut.τ).loc Cert.ConvOut.main_arg10))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
      ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
      ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7)
      ∧ r.2.mem ((c.tc : Thread Cert.ConvOutIdeal.nD Cert.ConvOutIdeal.τ).loc Cert.ConvOutIdeal.main_arg8) = m ((c.tc : Thread Cert.ConvOutIdeal.nD Cert.ConvOutIdeal.τ).loc Cert.ConvOutIdeal.main_arg8)
      ∧ r.2.mem ((c.tc : Thread Cert.ConvOutIdeal.nD Cert.ConvOutIdeal.τ).loc Cert.ConvOutIdeal.main_arg9) = m ((c.tc : Thread Cert.ConvOutIdeal.nD Cert.ConvOutIdeal.τ).loc Cert.ConvOutIdeal.main_arg9)
      ∧ r.2.mem ((c.tc : Thread Cert.ConvOutIdeal.nD Cert.ConvOutIdeal.τ).loc Cert.ConvOutIdeal.main_arg10) = m ((c.tc : Thread Cert.ConvOutIdeal.nD Cert.ConvOutIdeal.τ).loc Cert.ConvOutIdeal.main_arg10))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2)
      ∧ r.2.mem ((c.tc : Thread Cert.ConvOutReferenceIdeal.nD Cert.ConvOutReferenceIdeal.τ).loc Cert.ConvOutReferenceIdeal.main_arg3) = m ((c.tc : Thread Cert.ConvOutReferenceIdeal.nD Cert.ConvOutReferenceIdeal.τ).loc Cert.ConvOutReferenceIdeal.main_arg3)
      ∧ r.2.mem ((c.tc : Thread Cert.ConvOutReferenceIdeal.nD Cert.ConvOutReferenceIdeal.τ).loc Cert.ConvOutReferenceIdeal.main_arg4) = m ((c.tc : Thread Cert.ConvOutReferenceIdeal.nD Cert.ConvOutReferenceIdeal.τ).loc Cert.ConvOutReferenceIdeal.main_arg4)
      ∧ r.2.mem ((c.tc : Thread Cert.ConvOutReferenceIdeal.nD Cert.ConvOutReferenceIdeal.τ).loc Cert.ConvOutReferenceIdeal.main_arg5) = m ((c.tc : Thread Cert.ConvOutReferenceIdeal.nD Cert.ConvOutReferenceIdeal.τ).loc Cert.ConvOutReferenceIdeal.main_arg5)
      ∧ r.2.mem ((c.tc : Thread Cert.ConvOutReferenceIdeal.nD Cert.ConvOutReferenceIdeal.τ).loc Cert.ConvOutReferenceIdeal.main_arg6) = m ((c.tc : Thread Cert.ConvOutReferenceIdeal.nD Cert.ConvOutReferenceIdeal.τ).loc Cert.ConvOutReferenceIdeal.main_arg6)
      ∧ r.2.mem ((c.tc : Thread Cert.ConvOutReferenceIdeal.nD Cert.ConvOutReferenceIdeal.τ).loc Cert.ConvOutReferenceIdeal.main_arg7) = m ((c.tc : Thread Cert.ConvOutReferenceIdeal.nD Cert.ConvOutReferenceIdeal.τ).loc Cert.ConvOutReferenceIdeal.main_arg7)
      ∧ r.2.mem ((c.tc : Thread Cert.ConvOutReferenceIdeal.nD Cert.ConvOutReferenceIdeal.τ).loc Cert.ConvOutReferenceIdeal.main_arg8) = m ((c.tc : Thread Cert.ConvOutReferenceIdeal.nD Cert.ConvOutReferenceIdeal.τ).loc Cert.ConvOutReferenceIdeal.main_arg8)
      ∧ r.2.mem ((c.tc : Thread Cert.ConvOutReferenceIdeal.nD Cert.ConvOutReferenceIdeal.τ).loc Cert.ConvOutReferenceIdeal.main_arg9) = m ((c.tc : Thread Cert.ConvOutReferenceIdeal.nD Cert.ConvOutReferenceIdeal.τ).loc Cert.ConvOutReferenceIdeal.main_arg9)
      ∧ r.2.mem ((c.tc : Thread Cert.ConvOutReferenceIdeal.nD Cert.ConvOutReferenceIdeal.τ).loc Cert.ConvOutReferenceIdeal.main_arg10) = m ((c.tc : Thread Cert.ConvOutReferenceIdeal.nD Cert.ConvOutReferenceIdeal.τ).loc Cert.ConvOutReferenceIdeal.main_arg10))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v7_0)) (v1 : (c : Dev Cert.InProjIdeal.nD) → Buf (Elt Ideal) ((c.tc : Thread Cert.InProjIdeal.nD Cert.InProjIdeal.τ).loc Cert.InProjIdeal.main_v7_1)) (v2 : (c : Dev Cert.InProjIdeal.nD) → Buf (Elt Ideal) ((c.tc : Thread Cert.InProjIdeal.nD Cert.InProjIdeal.τ).loc Cert.InProjIdeal.main_v7_2)) (v3 : (c : Dev Cert.InProjIdeal.nD) → Buf (Elt Ideal) ((c.tc : Thread Cert.InProjIdeal.nD Cert.InProjIdeal.τ).loc Cert.InProjIdeal.main_v7_3)) (v4 : (c : Dev Cert.InProjIdeal.nD) → Buf (Elt Ideal) ((c.tc : Thread Cert.InProjIdeal.nD Cert.InProjIdeal.τ).loc Cert.InProjIdeal.main_v7_4)) (v5 : (c : Dev Cert.InProjIdeal.nD) → Buf (Elt Ideal) ((c.tc : Thread Cert.InProjIdeal.nD Cert.InProjIdeal.τ).loc Cert.InProjIdeal.main_v7_5)) (v6 : (c : Dev Cert.InProjIdeal.nD) → Buf (Elt Ideal) ((c.tc : Thread Cert.InProjIdeal.nD Cert.InProjIdeal.τ).loc Cert.InProjIdeal.main_v7_6)) (v7 : (c : Dev Cert.InProjIdeal.nD) → Buf (Elt Ideal) ((c.tc : Thread Cert.InProjIdeal.nD Cert.InProjIdeal.τ).loc Cert.InProjIdeal.main_v7_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7_0) = v0 c
          ∧ r.2.mem ((c.tc : Thread Cert.InProjIdeal.nD Cert.InProjIdeal.τ).loc Cert.InProjIdeal.main_v7_1) = v1 c
          ∧ r.2.mem ((c.tc : Thread Cert.InProjIdeal.nD Cert.InProjIdeal.τ).loc Cert.InProjIdeal.main_v7_2) = v2 c
          ∧ r.2.mem ((c.tc : Thread Cert.InProjIdeal.nD Cert.InProjIdeal.τ).loc Cert.InProjIdeal.main_v7_3) = v3 c
          ∧ r.2.mem ((c.tc : Thread Cert.InProjIdeal.nD Cert.InProjIdeal.τ).loc Cert.InProjIdeal.main_v7_4) = v4 c
          ∧ r.2.mem ((c.tc : Thread Cert.InProjIdeal.nD Cert.InProjIdeal.τ).loc Cert.InProjIdeal.main_v7_5) = v5 c
          ∧ r.2.mem ((c.tc : Thread Cert.InProjIdeal.nD Cert.InProjIdeal.τ).loc Cert.InProjIdeal.main_v7_6) = v6 c
          ∧ r.2.mem ((c.tc : Thread Cert.InProjIdeal.nD Cert.InProjIdeal.τ).loc Cert.InProjIdeal.main_v7_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v29) = v0 c
          ∧ r.2.mem ((c.tc : Thread Cert.InProjReferenceIdeal.nD Cert.InProjReferenceIdeal.τ).loc Cert.InProjReferenceIdeal.main_v30) = v1 c
          ∧ r.2.mem ((c.tc : Thread Cert.InProjReferenceIdeal.nD Cert.InProjReferenceIdeal.τ).loc Cert.InProjReferenceIdeal.main_v31) = v2 c
          ∧ r.2.mem ((c.tc : Thread Cert.InProjReferenceIdeal.nD Cert.InProjReferenceIdeal.τ).loc Cert.InProjReferenceIdeal.main_v32) = v3 c
          ∧ r.2.mem ((c.tc : Thread Cert.InProjReferenceIdeal.nD Cert.InProjReferenceIdeal.τ).loc Cert.InProjReferenceIdeal.main_v33) = v4 c
          ∧ r.2.mem ((c.tc : Thread Cert.InProjReferenceIdeal.nD Cert.InProjReferenceIdeal.τ).loc Cert.InProjReferenceIdeal.main_v34) = v5 c
          ∧ r.2.mem ((c.tc : Thread Cert.InProjReferenceIdeal.nD Cert.InProjReferenceIdeal.τ).loc Cert.InProjReferenceIdeal.main_v35) = v6 c
          ∧ r.2.mem ((c.tc : Thread Cert.InProjReferenceIdeal.nD Cert.InProjReferenceIdeal.τ).loc Cert.InProjReferenceIdeal.main_v36) = v7 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_ConvOut_ConvOutIdeal : Prop :=
  IdealRules.named_const.Statement Cert.ConvOutIdeal.κ "neg_log2e" .f32 0xBFB8AA3B#32 ((-((Real.log 2)⁻¹) : ℝ) : EReal)

def algebraic_ConvOutIdeal_ConvOutReferenceIdeal [hConvOutIdeal : Cert.ConvOutIdeal.Facts] [hConvOutReferenceIdeal : Cert.ConvOutReferenceIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutIdeal m →
    (∀ c : Dev Cert.ConvOutIdeal.nD,
      m' ((c.tc : Thread Cert.ConvOutReferenceIdeal.nD Cert.ConvOutReferenceIdeal.τ).loc Cert.ConvOutReferenceIdeal.main_arg0) = m ((c.tc : Thread Cert.ConvOutIdeal.nD Cert.ConvOutIdeal.τ).loc Cert.ConvOutIdeal.main_arg0)
      ∧ m' ((c.tc : Thread Cert.ConvOutReferenceIdeal.nD Cert.ConvOutReferenceIdeal.τ).loc Cert.ConvOutReferenceIdeal.main_arg1) = m ((c.tc : Thread Cert.ConvOutIdeal.nD Cert.ConvOutIdeal.τ).loc Cert.ConvOutIdeal.main_arg1)
      ∧ m' ((c.tc : Thread Cert.ConvOutReferenceIdeal.nD Cert.ConvOutReferenceIdeal.τ).loc Cert.ConvOutReferenceIdeal.main_arg2) = m ((c.tc : Thread Cert.ConvOutIdeal.nD Cert.ConvOutIdeal.τ).loc Cert.ConvOutIdeal.main_arg2)
      ∧ m' ((c.tc : Thread Cert.ConvOutReferenceIdeal.nD Cert.ConvOutReferenceIdeal.τ).loc Cert.ConvOutReferenceIdeal.main_arg3) = m ((c.tc : Thread Cert.ConvOutIdeal.nD Cert.ConvOutIdeal.τ).loc Cert.ConvOutIdeal.main_arg3)
      ∧ m' ((c.tc : Thread Cert.ConvOutReferenceIdeal.nD Cert.ConvOutReferenceIdeal.τ).loc Cert.ConvOutReferenceIdeal.main_arg4) = m ((c.tc : Thread Cert.ConvOutIdeal.nD Cert.ConvOutIdeal.τ).loc Cert.ConvOutIdeal.main_arg4)
      ∧ m' ((c.tc : Thread Cert.ConvOutReferenceIdeal.nD Cert.ConvOutReferenceIdeal.τ).loc Cert.ConvOutReferenceIdeal.main_arg5) = m ((c.tc : Thread Cert.ConvOutIdeal.nD Cert.ConvOutIdeal.τ).loc Cert.ConvOutIdeal.main_arg5)
      ∧ m' ((c.tc : Thread Cert.ConvOutReferenceIdeal.nD Cert.ConvOutReferenceIdeal.τ).loc Cert.ConvOutReferenceIdeal.main_arg6) = m ((c.tc : Thread Cert.ConvOutIdeal.nD Cert.ConvOutIdeal.τ).loc Cert.ConvOutIdeal.main_arg6)
      ∧ m' ((c.tc : Thread Cert.ConvOutReferenceIdeal.nD Cert.ConvOutReferenceIdeal.τ).loc Cert.ConvOutReferenceIdeal.main_arg7) = m ((c.tc : Thread Cert.ConvOutIdeal.nD Cert.ConvOutIdeal.τ).loc Cert.ConvOutIdeal.main_arg7)
      ∧ m' ((c.tc : Thread Cert.ConvOutReferenceIdeal.nD Cert.ConvOutReferenceIdeal.τ).loc Cert.ConvOutReferenceIdeal.main_arg8) = m ((c.tc : Thread Cert.ConvOutIdeal.nD Cert.ConvOutIdeal.τ).loc Cert.ConvOutIdeal.main_arg8)
      ∧ m' ((c.tc : Thread Cert.ConvOutReferenceIdeal.nD Cert.ConvOutReferenceIdeal.τ).loc Cert.ConvOutReferenceIdeal.main_arg9) = m ((c.tc : Thread Cert.ConvOutIdeal.nD Cert.ConvOutIdeal.τ).loc Cert.ConvOutIdeal.main_arg9)
      ∧ m' ((c.tc : Thread Cert.ConvOutReferenceIdeal.nD Cert.ConvOutReferenceIdeal.τ).loc Cert.ConvOutReferenceIdeal.main_arg10) = m ((c.tc : Thread Cert.ConvOutIdeal.nD Cert.ConvOutIdeal.τ).loc Cert.ConvOutIdeal.main_arg10)) →
    ∃ (v0 : (c : Dev Cert.ConvOutIdeal.nD) → Buf (Elt Ideal) ((c.tc : Thread Cert.ConvOutIdeal.nD Cert.ConvOutIdeal.τ).loc Cert.ConvOutIdeal.main_v12)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v12) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
          ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
          ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7)
          ∧ r.2.mem ((c.tc : Thread Cert.ConvOutIdeal.nD Cert.ConvOutIdeal.τ).loc Cert.ConvOutIdeal.main_arg8) = m ((c.tc : Thread Cert.ConvOutIdeal.nD Cert.ConvOutIdeal.τ).loc Cert.ConvOutIdeal.main_arg8)
          ∧ r.2.mem ((c.tc : Thread Cert.ConvOutIdeal.nD Cert.ConvOutIdeal.τ).loc Cert.ConvOutIdeal.main_arg9) = m ((c.tc : Thread Cert.ConvOutIdeal.nD Cert.ConvOutIdeal.τ).loc Cert.ConvOutIdeal.main_arg9)
          ∧ r.2.mem ((c.tc : Thread Cert.ConvOutIdeal.nD Cert.ConvOutIdeal.τ).loc Cert.ConvOutIdeal.main_arg10) = m ((c.tc : Thread Cert.ConvOutIdeal.nD Cert.ConvOutIdeal.τ).loc Cert.ConvOutIdeal.main_arg10))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v274) = v0 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2)
          ∧ r.2.mem ((c.tc : Thread Cert.ConvOutReferenceIdeal.nD Cert.ConvOutReferenceIdeal.τ).loc Cert.ConvOutReferenceIdeal.main_arg3) = m' ((c.tc : Thread Cert.ConvOutReferenceIdeal.nD Cert.ConvOutReferenceIdeal.τ).loc Cert.ConvOutReferenceIdeal.main_arg3)
          ∧ r.2.mem ((c.tc : Thread Cert.ConvOutReferenceIdeal.nD Cert.ConvOutReferenceIdeal.τ).loc Cert.ConvOutReferenceIdeal.main_arg4) = m' ((c.tc : Thread Cert.ConvOutReferenceIdeal.nD Cert.ConvOutReferenceIdeal.τ).loc Cert.ConvOutReferenceIdeal.main_arg4)
          ∧ r.2.mem ((c.tc : Thread Cert.ConvOutReferenceIdeal.nD Cert.ConvOutReferenceIdeal.τ).loc Cert.ConvOutReferenceIdeal.main_arg5) = m' ((c.tc : Thread Cert.ConvOutReferenceIdeal.nD Cert.ConvOutReferenceIdeal.τ).loc Cert.ConvOutReferenceIdeal.main_arg5)
          ∧ r.2.mem ((c.tc : Thread Cert.ConvOutReferenceIdeal.nD Cert.ConvOutReferenceIdeal.τ).loc Cert.ConvOutReferenceIdeal.main_arg6) = m' ((c.tc : Thread Cert.ConvOutReferenceIdeal.nD Cert.ConvOutReferenceIdeal.τ).loc Cert.ConvOutReferenceIdeal.main_arg6)
          ∧ r.2.mem ((c.tc : Thread Cert.ConvOutReferenceIdeal.nD Cert.ConvOutReferenceIdeal.τ).loc Cert.ConvOutReferenceIdeal.main_arg7) = m' ((c.tc : Thread Cert.ConvOutReferenceIdeal.nD Cert.ConvOutReferenceIdeal.τ).loc Cert.ConvOutReferenceIdeal.main_arg7)
          ∧ r.2.mem ((c.tc : Thread Cert.ConvOutReferenceIdeal.nD Cert.ConvOutReferenceIdeal.τ).loc Cert.ConvOutReferenceIdeal.main_arg8) = m' ((c.tc : Thread Cert.ConvOutReferenceIdeal.nD Cert.ConvOutReferenceIdeal.τ).loc Cert.ConvOutReferenceIdeal.main_arg8)
          ∧ r.2.mem ((c.tc : Thread Cert.ConvOutReferenceIdeal.nD Cert.ConvOutReferenceIdeal.τ).loc Cert.ConvOutReferenceIdeal.main_arg9) = m' ((c.tc : Thread Cert.ConvOutReferenceIdeal.nD Cert.ConvOutReferenceIdeal.τ).loc Cert.ConvOutReferenceIdeal.main_arg9)
          ∧ r.2.mem ((c.tc : Thread Cert.ConvOutReferenceIdeal.nD Cert.ConvOutReferenceIdeal.τ).loc Cert.ConvOutReferenceIdeal.main_arg10) = m' ((c.tc : Thread Cert.ConvOutReferenceIdeal.nD Cert.ConvOutReferenceIdeal.τ).loc Cert.ConvOutReferenceIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hConvOut : Cert.ConvOut.Facts) (hConvOutIdeal : Cert.ConvOutIdeal.Facts) (hConvOutReferenceIdeal : Cert.ConvOutReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_ConvOut (hConvOut := hConvOut)
    ∧ quiescent_ConvOutIdeal (hConvOutIdeal := hConvOutIdeal)
    ∧ quiescent_ConvOutReferenceIdeal (hConvOutReferenceIdeal := hConvOutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_ConvOut_ConvOutIdeal
    ∧ algebraic_ConvOutIdeal_ConvOutReferenceIdeal (hConvOutIdeal := hConvOutIdeal) (hConvOutReferenceIdeal := hConvOutReferenceIdeal)
-- ==== Pre_finite.lean ====
abbrev S2x4096x6x192 : Shape := ⟨4, ![2, 4096, 6, 192]⟩
abbrev S2x4096x6x128 : Shape := ⟨4, ![2, 4096, 6, 128]⟩
abbrev S2x4096x768 : Shape := ⟨3, ![2, 4096, 768]⟩
abbrev S_ : Shape := ⟨0, ![]⟩

class Facts : Prop where
  bcast_S_S2x4096x6x192 : S_.BroadcastsInDim S2x4096x6x192 (![] : Fin 0 → Fin S2x4096x6x192.rank)

variable [Facts]

def fn {F : FTy → Type} [FloatOps F] (main_arg0 : FVec F S2x4096x6x192 .f32) (main_arg1 : FVec F S2x4096x6x192 .f32) (main_arg2 : FVec F S2x4096x6x128 .f32) (main_arg3 : FVec F S2x4096x768 .f32) : IVec S2x4096x6x192 1 × IVec S2x4096x6x192 1 :=
  let main_v0 : FVec F S2x4096x6x192 .f32 := Host.absf main_arg0
  let main_cst : FVec F S_ .f32 := constant S_ .f32 0x7F800000#32
  let main_v1 : FVec F S2x4096x6x192 .f32 := broadcastInDim S2x4096x6x192 ![] bcast_S_S2x4096x6x192 main_cst
  let main_v2 : IVec S2x4096x6x192 1 := cmpf .olt main_v0 main_v1
  let main_v3 : FVec F S2x4096x6x192 .f32 := Host.absf main_arg1
  let main_cst_0 : FVec F S_ .f32 := constant S_ .f32 0x7F800000#32
  let main_v4 : FVec F S2x4096x6x192 .f32 := broadcastInDim S2x4096x6x192 ![] bcast_S_S2x4096x6x192 main_cst_0
  let main_v5 : IVec S2x4096x6x192 1 := cmpf .olt main_v3 main_v4
  (main_v2, main_v5)
-- ==== Kernel.lean ====
abbrev S2x4096x6x192 : Shape := ⟨4, ![2, 4096, 6, 192]⟩
abbrev S2x4096x6x128 : Shape := ⟨4, ![2, 4096, 6, 128]⟩
abbrev S2x4096x768 : Shape := ⟨3, ![2, 4096, 768]⟩
abbrev S36 : Shape := ⟨1, ![36]⟩
abbrev S_ : Shape := ⟨0, ![]⟩
abbrev S2x6x4096x192 : Shape := ⟨4, ![2, 6, 4096, 192]⟩
abbrev S2x6x4096x256 : Shape := ⟨4, ![2, 6, 4096, 256]⟩
abbrev S2x6x4096x128 : Shape := ⟨4, ![2, 6, 4096, 128]⟩
abbrev S8192x768 : Shape := ⟨2, ![8192, 768]⟩
abbrev S1x6x512x256 : Shape := ⟨4, ![1, 6, 512, 256]⟩
abbrev S1 : Shape := ⟨1, ![1]⟩
abbrev S1x6x512x128 : Shape := ⟨4, ![1, 6, 512, 128]⟩
abbrev S512x768 : Shape := ⟨2, ![512, 768]⟩
abbrev S6x512x128 : Shape := ⟨3, ![6, 512, 128]⟩
abbrev S2x512x512 : Shape := ⟨3, ![2, 512, 512]⟩
abbrev S2x512x128 : Shape := ⟨3, ![2, 512, 128]⟩
abbrev S1x1x512x256 : Shape := ⟨4, ![1, 1, 512, 256]⟩
abbrev S512x256 : Shape := ⟨2, ![512, 256]⟩
abbrev S512x512 : Shape := ⟨2, ![512, 512]⟩
abbrev S1x512x512 : Shape := ⟨3, ![1, 512, 512]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩
abbrev S1x1x512x128 : Shape := ⟨4, ![1, 1, 512, 128]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩

abbrev nBuf : Space → Nat
  | .hbm => 27
  | .vmem => 16
  | .smem => 2
  | _ => 0

abbrev bufTy : (tb : Table) → Fin (tcTables nBuf tb) → BufTy
  | .hbm, ⟨0, _⟩ => ⟨S2x4096x6x192, .f32⟩
  | .hbm, ⟨1, _⟩ => ⟨S2x4096x6x192, .f32⟩
  | .hbm, ⟨2, _⟩ => ⟨S2x4096x6x128, .f32⟩
  | .hbm, ⟨3, _⟩ => ⟨S2x4096x768, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x4096x6x192, .f32⟩
  | .hbm, ⟨12, _⟩ => ⟨S2x4096x6x192, .f32⟩
  | .hbm, ⟨13, _⟩ => ⟨S2x6x4096x192, .f32⟩
  | .hbm, ⟨14, _⟩ => ⟨S_, .i32⟩
  | .hbm, ⟨15, _⟩ => ⟨S_, .f32⟩
  | .hbm, ⟨16, _⟩ => ⟨S2x6x4096x256, .f32⟩
  | .hbm, ⟨17, _⟩ => ⟨S2x6x4096x256, .bf16⟩
  | .hbm, ⟨18, _⟩ => ⟨S2x6x4096x192, .f32⟩
  | .hbm, ⟨19, _⟩ => ⟨S_, .i32⟩
  | .hbm, ⟨20, _⟩ => ⟨S_, .f32⟩
  | .hbm, ⟨21, _⟩ => ⟨S2x6x4096x256, .f32⟩
  | .hbm, ⟨22, _⟩ => ⟨S2x6x4096x256, .bf16⟩
  | .hbm, ⟨23, _⟩ => ⟨S2x6x4096x128, .f32⟩
  | .hbm, ⟨24, _⟩ => ⟨S2x6x4096x128, .bf16⟩
  | .hbm, ⟨25, _⟩ => ⟨S8192x768, .f32⟩
  | .hbm, ⟨26, _⟩ => ⟨S8192x768, .bf16⟩
  | .local _ .vmem, ⟨0, _⟩ => ⟨S1x6x512x256, .bf16⟩
  | .local _ .vmem, ⟨1, _⟩ => ⟨S1x6x512x256, .bf16⟩
  | .local _ .vmem, ⟨2, _⟩ => ⟨S1x6x512x256, .bf16⟩
  | .local _ .vmem, ⟨3, _⟩ => ⟨S1x6x512x256, .bf16⟩
  | .local _ .vmem, ⟨4, _⟩ => ⟨S1x6x512x128, .bf16⟩
  | .local _ .vmem, ⟨5, _⟩ => ⟨S1x6x512x128, .bf16⟩
  | .local _ .vmem, ⟨6, _⟩ => ⟨S512x768, .f32⟩
  | .local _ .vmem, ⟨7, _⟩ => ⟨S512x768, .f32⟩
  | .local _ .vmem, ⟨8, _⟩ => ⟨S512x768, .bf16⟩
  | .local _ .vmem, ⟨9, _⟩ => ⟨S512x768, .bf16⟩
  | .local _ .vmem, ⟨10, _⟩ => ⟨S6x512x128, .f32⟩
  | .local _ .vmem, ⟨11, _⟩ => ⟨S6x512x128, .f32⟩
  | .local _ .vmem, ⟨12, _⟩ => ⟨S6x512x128, .f32⟩
  | .local _ .vmem, ⟨13, _⟩ => ⟨S2x512x512, .f32⟩
  | .local _ .vmem, ⟨14, _⟩ => ⟨S2x512x512, .bf16⟩
  | .local _ .vmem, ⟨15, _⟩ => ⟨S2x512x128, .f32⟩
  | .local _ .smem, ⟨0, _⟩ => ⟨S36, .i32⟩
  | .local _ .smem, ⟨1, _⟩ => ⟨S36, .i32⟩
  | _, _ => ⟨S2x4096x6x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![arg0.toNat, c0_i32.toNat, v1.toNat, c0_i32_0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S1x6x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S2x4096x6x192 : Shape := ⟨4, ![2, 4096, 6, 192]⟩
abbrev S2x4096x6x128 : Shape := ⟨4, ![2, 4096, 6, 128]⟩
abbrev S2x4096x768 : Shape := ⟨3, ![2, 4096, 768]⟩
abbrev S_ : Shape := ⟨0, ![]⟩
abbrev S2x6x4096x4096 : Shape := ⟨4, ![2, 6, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x6x4096 : Shape := ⟨3, ![2, 6, 4096]⟩
abbrev S2x6x4096x1 : Shape := ⟨4, ![2, 6, 4096, 1]⟩
abbrev S2x6x128x4096 : Shape := ⟨4, ![2, 6, 128, 4096]⟩
abbrev S8192x768 : Shape := ⟨2, ![8192, 768]⟩

abbrev nBuf : Space → Nat
  | .hbm => 52
  | .vmem => 0
  | .smem => 0
  | _ => 0

abbrev bufTy : (tb : Table) → Fin (tcTables nBuf tb) → BufTy
  | .hbm, ⟨0, _⟩ => ⟨S2x4096x6x192, .f32⟩
  | .hbm, ⟨1, _⟩ => ⟨S2x4096x6x192, .f32⟩
  | .hbm, ⟨2, _⟩ => ⟨S2x4096x6x128, .f32⟩
  | .hbm, ⟨3, _⟩ => ⟨S2x4096x768, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x6x4096x4096, .f32⟩
  | .hbm, ⟨9, _⟩ => ⟨S2x6x4096x4096, .f32⟩
  | .hbm, ⟨10, _⟩ => ⟨S2x6x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x1x4096x4096, .i1⟩
  | .hbm, ⟨18, _⟩ => ⟨S_, .f32⟩
  | .hbm, ⟨19, _⟩ => ⟨S_, .f32⟩
  | .hbm, ⟨20, _⟩ => ⟨S2x6x4096x4096, .i1⟩
  | .hbm, ⟨21, _⟩ => ⟨S2x6x4096x4096, .f32⟩
  | .hbm, ⟨22, _⟩ => ⟨S2x6x4096x4096, .f32⟩
  | .hbm, ⟨23, _⟩ => ⟨S_, .f32⟩
  | .hbm, ⟨24, _⟩ => ⟨S2x6x4096, .f32⟩
  | .hbm, ⟨25, _⟩ => ⟨S_, .f32⟩
  | .hbm, ⟨26, _⟩ => ⟨S2x6x4096, .f32⟩
  | .hbm, ⟨27, _⟩ => ⟨S2x6x4096, .f32⟩
  | .hbm, ⟨28, _⟩ => ⟨S2x6x4096x1, .f32⟩
  | .hbm, ⟨29, _⟩ => ⟨S2x6x4096x4096, .f32⟩
  | .hbm, ⟨30, _⟩ => ⟨S2x6x4096x4096, .f32⟩
  | .hbm, ⟨31, _⟩ => ⟨S2x6x4096x4096, .f32⟩
  | .hbm, ⟨32, _⟩ => ⟨S_, .f32⟩
  | .hbm, ⟨33, _⟩ => ⟨S2x6x4096, .f32⟩
  | .hbm, ⟨34, _⟩ => ⟨S2x6x4096x1, .f32⟩
  | .hbm, ⟨35, _⟩ => ⟨S2x6x4096x4096, .f32⟩
  | .hbm, ⟨36, _⟩ => ⟨S2x6x4096x4096, .f32⟩
  | .hbm, ⟨37, _⟩ => ⟨S2x6x128x4096, .f32⟩
  | .hbm, ⟨38, _⟩ => ⟨S2x4096x6x128, .f32⟩
  | .hbm, ⟨39, _⟩ => ⟨S2x4096x768, .f32⟩
  | .hbm, ⟨40, _⟩ => ⟨S2x4096x768, .f32⟩
  | .hbm, ⟨41, _⟩ => ⟨S2x4096x768, .f32⟩
  | .hbm, ⟨42, _⟩ => ⟨S_, .f32⟩
  | .hbm, ⟨43, _⟩ => ⟨S2x4096x768, .f32⟩
  | .hbm, ⟨44, _⟩ => ⟨S2x4096x768, .f32⟩
  | .hbm, ⟨45, _⟩ => ⟨S_, .f32⟩
  | .hbm, ⟨46, _⟩ => ⟨S2x4096x768, .f32⟩
  | .hbm, ⟨47, _⟩ => ⟨S2x4096x768, .f32⟩
  | .hbm, ⟨48, _⟩ => ⟨S2x4096x768, .f32⟩
  | .hbm, ⟨49, _⟩ => ⟨S2x4096x768, .f32⟩
  | .hbm, ⟨50, _⟩ => ⟨S8192x768, .f32⟩
  | .hbm, ⟨51, _⟩ => ⟨S8192x768, .bf16⟩
  | _, _ => ⟨S2x4096x6x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== InProj.lean ====
abbrev S2x4096x2048 : Shape := ⟨3, ![2, 4096, 2048]⟩
abbrev S2x2048 : Shape := ⟨2, ![2, 2048]⟩
abbrev S2x2048x5196 : Shape := ⟨3, ![2, 2048, 5196]⟩
abbrev S_ : Shape := ⟨0, ![]⟩
abbrev S2x2048x52 : Shape := ⟨3, ![2, 2048, 52]⟩
abbrev S2x2048x832 : Shape := ⟨3, ![2, 2048, 832]⟩
abbrev S2x2048x12 : Shape := ⟨3, ![2, 2048, 12]⟩
abbrev S2x2048x4352 : Shape := ⟨3, ![2, 2048, 4352]⟩
abbrev S2x2048x5248 : Shape := ⟨3, ![2, 2048, 5248]⟩
abbrev S8192x2048 : Shape := ⟨2, ![8192, 2048]⟩
abbrev S8192x512 : Shape := ⟨2, ![8192, 512]⟩
abbrev S8192x256 : Shape := ⟨2, ![8192, 256]⟩
abbrev S8192x128 : Shape := ⟨2, ![8192, 128]⟩
abbrev S8192x768 : Shape := ⟨2, ![8192, 768]⟩
abbrev S8192x1024 : Shape := ⟨2, ![8192, 1024]⟩
abbrev S8192x1280 : Shape := ⟨2, ![8192, 1280]⟩
abbrev S512x2048 : Shape := ⟨2, ![512, 2048]⟩
abbrev S1x2048x5248 : Shape := ⟨3, ![1, 2048, 5248]⟩
abbrev S512x512 : Shape := ⟨2, ![512, 512]⟩
abbrev S512x256 : Shape := ⟨2, ![512, 256]⟩
abbrev S512x128 : Shape := ⟨2, ![512, 128]⟩
abbrev S512x768 : Shape := ⟨2, ![512, 768]⟩
abbrev S512x1024 : Shape := ⟨2, ![512, 1024]⟩
abbrev S512x1280 : Shape := ⟨2, ![512, 1280]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S1x2048x256 : Shape := ⟨3, ![1, 2048, 256]⟩
abbrev S2048x256 : Shape := ⟨2, ![2048, 256]⟩
abbrev S1x2048x128 : Shape := ⟨3, ![1, 2048, 128]⟩
abbrev S2048x128 : Shape := ⟨2, ![2048, 128]⟩
abbrev S1x2048x768 : Shape := ⟨3, ![1, 2048, 768]⟩
abbrev S2048x768 : Shape := ⟨2, ![2048, 768]⟩
abbrev S1x2048x1024 : Shape := ⟨3, ![1, 2048, 1024]⟩
abbrev S2048x1024 : Shape := ⟨2, ![2048, 1024]⟩
abbrev S1x2048x1280 : Shape := ⟨3, ![1, 2048, 1280]⟩
abbrev S2048x1280 : Shape := ⟨2, ![2048, 1280]⟩

abbrev nBuf : Space → Nat
  | .hbm => 19
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x5196, .f32⟩
  | .hbm, ⟨3, _⟩ => ⟨S_, .f32⟩
  | .hbm, ⟨4, _⟩ => ⟨S2x2048x52, .f32⟩
  | .hbm, ⟨5, _⟩ => ⟨S2x2048x832, .f32⟩
  | .hbm, ⟨6, _⟩ => ⟨S2x2048x12, .f32⟩
  | .hbm, ⟨7, _⟩ => ⟨S2x2048x4352, .f32⟩
  | .hbm, ⟨8, _⟩ => ⟨S2x2048x5248, .f32⟩
  | .hbm, ⟨9, _⟩ => ⟨S2x2048x5248, .bf16⟩
  | .hbm, ⟨10, _⟩ => ⟨S8192x2048, .f32⟩
  | .hbm, ⟨11, _⟩ => ⟨S8192x512, .f32⟩
  | .hbm, ⟨12, _⟩ => ⟨S8192x256, .f32⟩
  | .hbm, ⟨13, _⟩ => ⟨S8192x128, .f32⟩
  | .hbm, ⟨14, _⟩ => ⟨S8192x768, .f32⟩
  | .hbm, ⟨15, _⟩ => ⟨S8192x1024, .f32⟩
  | .hbm, ⟨16, _⟩ => ⟨S8192x512, .f32⟩
  | .hbm, ⟨17, _⟩ => ⟨S8192x768, .f32⟩
  | .hbm, ⟨18, _⟩ => ⟨S8192x1280, .f32⟩
  | .local _ .vmem, ⟨0, _⟩ => ⟨S512x2048, .f32⟩
  | .local _ .vmem, ⟨1, _⟩ => ⟨S512x2048, .f32⟩
  | .local _ .vmem, ⟨2, _⟩ => ⟨S2x2048, .f32⟩
  | .local _ .vmem, ⟨3, _⟩ => ⟨S1x2048x5248, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x128, .f32⟩
  | .local _ .vmem, ⟨9, _⟩ => ⟨S512x128, .f32⟩
  | .local _ .vmem, ⟨10, _⟩ => ⟨S512x768, .f32⟩
  | .local _ .vmem, ⟨11, _⟩ => ⟨S512x768, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | .local _ .vmem, ⟨16, _⟩ => ⟨S512x768, .f32⟩
  | .local _ .vmem, ⟨17, _⟩ => ⟨S512x768, .f32⟩
  | .local _ .vmem, ⟨18, _⟩ => ⟨S512x1280, .f32⟩
  | .local _ .vmem, ⟨19, _⟩ => ⟨S512x1280, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjReferenceIdeal.lean ====
abbrev S2x4096x2048 : Shape := ⟨3, ![2, 4096, 2048]⟩
abbrev S2x2048 : Shape := ⟨2, ![2, 2048]⟩
abbrev S2x2048x5196 : Shape := ⟨3, ![2, 2048, 5196]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x5196 : Shape := ⟨3, ![1, 2048, 5196]⟩
abbrev S2048x5196 : Shape := ⟨2, ![2048, 5196]⟩
abbrev S2x4096x5196 : Shape := ⟨3, ![2, 4096, 5196]⟩
abbrev S2x4096x512 : Shape := ⟨3, ![2, 4096, 512]⟩
abbrev S2x4096x256 : Shape := ⟨3, ![2, 4096, 256]⟩
abbrev S2x4096x64 : Shape := ⟨3, ![2, 4096, 64]⟩
abbrev S2x4096x768 : Shape := ⟨3, ![2, 4096, 768]⟩
abbrev S2x4096x1024 : Shape := ⟨3, ![2, 4096, 1024]⟩
abbrev S2x4096x1280 : Shape := ⟨3, ![2, 4096, 1280]⟩
abbrev S2x4096x12 : Shape := ⟨3, ![2, 4096, 12]⟩
abbrev S2x4096x52 : Shape := ⟨3, ![2, 4096, 52]⟩
abbrev S2x4096x128 : Shape := ⟨3, ![2, 4096, 128]⟩
abbrev S8192x512 : Shape := ⟨2, ![8192, 512]⟩
abbrev S8192x256 : Shape := ⟨2, ![8192, 256]⟩
abbrev S8192x128 : Shape := ⟨2, ![8192, 128]⟩
abbrev S8192x768 : Shape := ⟨2, ![8192, 768]⟩
abbrev S8192x1024 : Shape := ⟨2, ![8192, 1024]⟩
abbrev S8192x1280 : Shape := ⟨2, ![8192, 1280]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x5196, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x5196, .f32⟩
  | .hbm, ⟨22, _⟩ => ⟨S2048x5196, .f32⟩
  | .hbm, ⟨23, _⟩ => ⟨S2x4096x5196, .f32⟩
  | .hbm, ⟨24, _⟩ => ⟨S2x4096x512, .f32⟩
  | .hbm, ⟨25, _⟩ => ⟨S2x4096x256, .f32⟩
  | .hbm, ⟨26, _⟩ => ⟨S2x4096x64, .f32⟩
  | .hbm, ⟨27, _⟩ => ⟨S2x4096x768, .f32⟩
  | .hbm, ⟨28, _⟩ => ⟨S2x4096x1024, .f32⟩
  | .hbm, ⟨29, _⟩ => ⟨S2x4096x512, .f32⟩
  | .hbm, ⟨30, _⟩ => ⟨S2x4096x768, .f32⟩
  | .hbm, ⟨31, _⟩ => ⟨S2x4096x1280, .f32⟩
  | .hbm, ⟨32, _⟩ => ⟨S2x4096x12, .f32⟩
  | .hbm, ⟨33, _⟩ => ⟨S_, .f32⟩
  | .hbm, ⟨34, _⟩ => ⟨S2x4096x52, .f32⟩
  | .hbm, ⟨35, _⟩ => ⟨S2x4096x128, .f32⟩
  | .hbm, ⟨36, _⟩ => ⟨S8192x512, .f32⟩
  | .hbm, ⟨37, _⟩ => ⟨S8192x256, .f32⟩
  | .hbm, ⟨38, _⟩ => ⟨S8192x128, .f32⟩
  | .hbm, ⟨39, _⟩ => ⟨S8192x768, .f32⟩
  | .hbm, ⟨40, _⟩ => ⟨S8192x1024, .f32⟩
  | .hbm, ⟨41, _⟩ => ⟨S8192x512, .f32⟩
  | .hbm, ⟨42, _⟩ => ⟨S8192x768, .f32⟩
  | .hbm, ⟨43, _⟩ => ⟨S8192x1280, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== ConvOut.lean ====
abbrev S2x4096x2048 : Shape := ⟨3, ![2, 4096, 2048]⟩
abbrev S2x4096x1024 : Shape := ⟨3, ![2, 4096, 1024]⟩
abbrev S2x4096x512 : Shape := ⟨3, ![2, 4096, 512]⟩
abbrev S2x4096x768 : Shape := ⟨3, ![2, 4096, 768]⟩
abbrev S2x31x512 : Shape := ⟨3, ![2, 31, 512]⟩
abbrev S2x512 : Shape := ⟨2, ![2, 512]⟩
abbrev S2x512x512 : Shape := ⟨3, ![2, 512, 512]⟩
abbrev S2x2048x2048 : Shape := ⟨3, ![2, 2048, 2048]⟩
abbrev S_ : Shape := ⟨0, ![]⟩
abbrev S2x32x512 : Shape := ⟨3, ![2, 32, 512]⟩
abbrev S2x2048x8x256 : Shape := ⟨4, ![2, 2048, 8, 256]⟩
abbrev S2x8x2048x256 : Shape := ⟨4, ![2, 8, 2048, 256]⟩
abbrev S8192x1024 : Shape := ⟨2, ![8192, 1024]⟩
abbrev S8192x512 : Shape := ⟨2, ![8192, 512]⟩
abbrev S8192x2048 : Shape := ⟨2, ![8192, 2048]⟩
abbrev S8192x768 : Shape := ⟨2, ![8192, 768]⟩
abbrev S512x1024 : Shape := ⟨2, ![512, 1024]⟩
abbrev S512x512 : Shape := ⟨2, ![512, 512]⟩
abbrev S512x2048 : Shape := ⟨2, ![512, 2048]⟩
abbrev S512x768 : Shape := ⟨2, ![512, 768]⟩
abbrev S1x32x512 : Shape := ⟨3, ![1, 32, 512]⟩
abbrev S1x512x512 : Shape := ⟨3, ![1, 512, 512]⟩
abbrev S1x8x2048x256 : Shape := ⟨4, ![1, 8, 2048, 256]⟩
abbrev S544x512 : Shape := ⟨2, ![544, 512]⟩
abbrev S7x544x512 : Shape := ⟨3, ![7, 544, 512]⟩
abbrev S528x512 : Shape := ⟨2, ![528, 512]⟩
abbrev S32x512 : Shape := ⟨2, ![32, 512]⟩
abbrev S1x1x512x256 : Shape := ⟨4, ![1, 1, 512, 256]⟩
abbrev S512x256 : Shape := ⟨2, ![512, 256]⟩
abbrev S1x1x768x256 : Shape := ⟨4, ![1, 1, 768, 256]⟩
abbrev S768x256 : Shape := ⟨2, ![768, 256]⟩
abbrev S16x512 : Shape := ⟨2, ![16, 512]⟩
abbrev S16x128 : Shape := ⟨2, ![16, 128]⟩
abbrev S24x512 : Shape := ⟨2, ![24, 512]⟩
abbrev S1x24x512 : Shape := ⟨3, ![1, 24, 512]⟩
abbrev S1x512 : Shape := ⟨2, ![1, 512]⟩
abbrev S1x1x512 : Shape := ⟨3, ![1, 1, 512]⟩
abbrev S512 : Shape := ⟨1, ![512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x4096x512, .f32⟩
  | .hbm, ⟨3, _⟩ => ⟨S2x4096x768, .f32⟩
  | .hbm, ⟨4, _⟩ => ⟨S2x4096x768, .f32⟩
  | .hbm, ⟨5, _⟩ => ⟨S2x31x512, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S2x512x512, .f32⟩
  | .hbm, ⟨10, _⟩ => ⟨S2x2048x2048, .f32⟩
  | .hbm, ⟨11, _⟩ => ⟨S_, .i32⟩
  | .hbm, ⟨12, _⟩ => ⟨S_, .f32⟩
  | .hbm, ⟨13, _⟩ => ⟨S2x32x512, .f32⟩
  | .hbm, ⟨14, _⟩ => ⟨S2x2048x8x256, .f32⟩
  | .hbm, ⟨15, _⟩ => ⟨S2x8x2048x256, .f32⟩
  | .hbm, ⟨16, _⟩ => ⟨S2x8x2048x256, .bf16⟩
  | .hbm, ⟨17, _⟩ => ⟨S8192x1024, .f32⟩
  | .hbm, ⟨18, _⟩ => ⟨S8192x512, .f32⟩
  | .hbm, ⟨19, _⟩ => ⟨S8192x2048, .f32⟩
  | .hbm, ⟨20, _⟩ => ⟨S8192x768, .f32⟩
  | .hbm, ⟨21, _⟩ => ⟨S8192x768, .bf16⟩
  | .hbm, ⟨22, _⟩ => ⟨S8192x768, .f32⟩
  | .hbm, ⟨23, _⟩ => ⟨S8192x768, .bf16⟩
  | .hbm, ⟨24, _⟩ => ⟨S2x512x512, .bf16⟩
  | .hbm, ⟨25, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x2048, .f32⟩
  | .local _ .vmem, ⟨5, _⟩ => ⟨S512x2048, .f32⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S1x32x512, .f32⟩
  | .local _ .vmem, ⟨11, _⟩ => ⟨S2x512, .f32⟩
  | .local _ .vmem, ⟨12, _⟩ => ⟨S2x512, .f32⟩
  | .local _ .vmem, ⟨13, _⟩ => ⟨S2x512, .f32⟩
  | .local _ .vmem, ⟨14, _⟩ => ⟨S1x512x512, .bf16⟩
  | .local _ .vmem, ⟨15, _⟩ => ⟨S1x8x2048x256, .bf16⟩
  | .local _ .vmem, ⟨16, _⟩ => ⟨S512x2048, .f32⟩
  | .local _ .vmem, ⟨17, _⟩ => ⟨S512x2048, .f32⟩
  | .local _ .vmem, ⟨18, _⟩ => ⟨S544x512, .f32⟩
  | .local _ .vmem, ⟨19, _⟩ => ⟨S7x544x512, .f32⟩
  | .local _ .vmem, ⟨20, _⟩ => ⟨S512x512, .f32⟩
  | .local _ .vmem, ⟨21, _⟩ => ⟨S528x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![17], ![false]⟩

def k0_mult1 (i : grid0.Coords) : BitVec 32 :=
  let arg0 : BitVec 32 := BitVec.ofNat 32 (i 0).val
  let c0_i32_4 : BitVec 32 := 0#32
  let v10 : BitVec 32 := Scalar.minsi arg0 c0_i32_4
  v10
def k0_off1 (i : grid0.Coords) : Fin 2 → Nat :=
  let arg0 : BitVec 32 := BitVec.ofNat 32 (i 0).val
  let c0_i32_4 : BitVec 32 := 0#32
  let v10 : BitVec 32 := Scalar.minsi arg0 c0_i32_4
  let v11 : BitVec 32 := v10
  let v12 : Index := Scalar.indexCast v11
  let c0 : Index := 0#32
  ![v12.toNat, 0]
def k0_off2 (i : grid0.Coords) : Fin 2 → Nat :=
  let c512_i32 : BitVec 32 := 512#32
  let arg0 : BitVec 32 := BitVec.ofNat 32 (i 0).val
  let c0_i32_4 : BitVec 32 := 0#32
  let v10 : BitVec 32 := Scalar.minsi arg0 c0_i32_4
  let v11 : BitVec 32 := v10
  let v119 : BitVec 32 := Scalar.addi c512_i32 v11
  let v120 : Index := Scalar.indexCast v119
  let c0_32 : Index := 0#32
  ![v120.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvOutIdeal.lean ====
variable {F : FTy → Type} [FloatOps F] [Named F]
def κ : String → Option EReal := fun
  | "neg_log2e" => some ((-((Real.log 2)⁻¹) : ℝ) : EReal)
  | _ => none
-- ==== ConvOutReferenceIdeal.lean ====
abbrev S2x4096x2048 : Shape := ⟨3, ![2, 4096, 2048]⟩
abbrev S2x4096x1024 : Shape := ⟨3, ![2, 4096, 1024]⟩
abbrev S2x4096x512 : Shape := ⟨3, ![2, 4096, 512]⟩
abbrev S2x4096x768 : Shape := ⟨3, ![2, 4096, 768]⟩
abbrev S2x31x512 : Shape := ⟨3, ![2, 31, 512]⟩
abbrev S2x512 : Shape := ⟨2, ![2, 512]⟩
abbrev S2x512x512 : Shape := ⟨3, ![2, 512, 512]⟩
abbrev S2x2048x2048 : Shape := ⟨3, ![2, 2048, 2048]⟩
abbrev S_ : Shape := ⟨0, ![]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S2x4126x512 : Shape := ⟨3, ![2, 4126, 512]⟩
abbrev S1x1x512 : Shape := ⟨3, ![1, 1, 512]⟩
abbrev S2x4096 : Shape := ⟨2, ![2, 4096]⟩
abbrev S2x4096x1 : Shape := ⟨3, ![2, 4096, 1]⟩
abbrev S1x512x512 : Shape := ⟨3, ![1, 512, 512]⟩
abbrev S512x512 : Shape := ⟨2, ![512, 512]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 312
  | .vmem => 0
  | .smem => 0
  | _ => 0

abbrev hbmTy0_0 (i : Nat) : BufTy := match i % 128 with
  | 0 => ⟨S2x4096x2048, .f32⟩
  | 1 => ⟨S2x4096x1024, .f32⟩
  | 2 => ⟨S2x4096x512, .f32⟩
  | 3 => ⟨S2x4096x768, .f32⟩
  | 4 => ⟨S2x4096x768, .f32⟩
  | 5 => ⟨S2x31x512, .f32⟩
  | 6 => ⟨S2x512, .f32⟩
  | 7 => ⟨S2x512, .f32⟩
  | 8 => ⟨S2x512, .f32⟩
  | 9 => ⟨S2x512x512, .f32⟩
  | 10 => ⟨S2x2048x2048, .f32⟩
  | 11 => ⟨S2x4096x512, .f32⟩
  | 12 => ⟨S2x4096x512, .f32⟩
  | 13 => ⟨S2x4096x512, .f32⟩
  | 14 => ⟨S2x4096x512, .f32⟩
  | 15 => ⟨S_, .f32⟩
  | 16 => ⟨S2x4096x512, .f32⟩
  | 17 => ⟨S2x4096x512, .f32⟩
  | 18 => ⟨S_, .f32⟩
  | 19 => ⟨S2x4096x512, .f32⟩
  | 20 => ⟨S2x4096x512, .f32⟩
  | 21 => ⟨S2x4096x512, .f32⟩
  | 22 => ⟨S1x31x512, .f32⟩
  | 23 => ⟨S31x512, .f32⟩
  | 24 => ⟨S1x512, .f32⟩
  | 25 => ⟨S512, .f32⟩
  | 26 => ⟨S_, .i32⟩
  | 27 => ⟨S_, .f32⟩
  | 28 => ⟨S2x4126x512, .f32⟩
  | 29 => ⟨S2x4096x512, .f32⟩
  | 30 => ⟨S1x512, .f32⟩
  | 31 => ⟨S512, .f32⟩
  | 32 => ⟨S1x1x512, .f32⟩
  | 33 => ⟨S2x4096x512, .f32⟩
  | 34 => ⟨S2x4096x512, .f32⟩
  | 35 => ⟨S_, .f32⟩
  | 36 => ⟨S2x4096x512, .f32⟩
  | 37 => ⟨S2x4096x512, .f32⟩
  | 38 => ⟨S2x4096x512, .f32⟩
  | 39 => ⟨S1x512, .f32⟩
  | 40 => ⟨S512, .f32⟩
  | 41 => ⟨S1x1x512, .f32⟩
  | 42 => ⟨S2x4096x512, .f32⟩
  | 43 => ⟨S2x4096x512, .f32⟩
  | 44 => ⟨S2x4096x512, .f32⟩
  | 45 => ⟨S2x4096x512, .f32⟩
  | 46 => ⟨S1x512, .f32⟩
  | 47 => ⟨S512, .f32⟩
  | 48 => ⟨S1x1x512, .f32⟩
  | 49 => ⟨S2x4096x512, .f32⟩
  | 50 => ⟨S2x4096x512, .f32⟩
  | 51 => ⟨S2x4096x512, .f32⟩
  | 52 => ⟨S2x4096x512, .f32⟩
  | 53 => ⟨S1x512, .f32⟩
  | 54 => ⟨S512, .f32⟩
  | 55 => ⟨S1x1x512, .f32⟩
  | 56 => ⟨S2x4096x512, .f32⟩
  | 57 => ⟨S2x4096x512, .f32⟩
  | 58 => ⟨S2x4096x512, .f32⟩
  | 59 => ⟨S2x4096x512, .f32⟩
  | 60 => ⟨S1x512, .f32⟩
  | 61 => ⟨S512, .f32⟩
  | 62 => ⟨S1x1x512, .f32⟩
  | 63 => ⟨S2x4096x512, .f32⟩
  | 64 => ⟨S2x4096x512, .f32⟩
  | 65 => ⟨S2x4096x512, .f32⟩
  | 66 => ⟨S2x4096x512, .f32⟩
  | 67 => ⟨S1x512, .f32⟩
  | 68 => ⟨S512, .f32⟩
  | 69 => ⟨S1x1x512, .f32⟩
  | 70 => ⟨S2x4096x512, .f32⟩
  | 71 => ⟨S2x4096x512, .f32⟩
  | 72 => ⟨S2x4096x512, .f32⟩
  | 73 => ⟨S2x4096x512, .f32⟩
  | 74 => ⟨S1x512, .f32⟩
  | 75 => ⟨S512, .f32⟩
  | 76 => ⟨S1x1x512, .f32⟩
  | 77 => ⟨S2x4096x512, .f32⟩
  | 78 => ⟨S2x4096x512, .f32⟩
  | 79 => ⟨S2x4096x512, .f32⟩
  | 80 => ⟨S2x4096x512, .f32⟩
  | 81 => ⟨S1x512, .f32⟩
  | 82 => ⟨S512, .f32⟩
  | 83 => ⟨S1x1x512, .f32⟩
  | 84 => ⟨S2x4096x512, .f32⟩
  | 85 => ⟨S2x4096x512, .f32⟩
  | 86 => ⟨S2x4096x512, .f32⟩
  | 87 => ⟨S2x4096x512, .f32⟩
  | 88 => ⟨S1x512, .f32⟩
  | 89 => ⟨S512, .f32⟩
  | 90 => ⟨S1x1x512, .f32⟩
  | 91 => ⟨S2x4096x512, .f32⟩
  | 92 => ⟨S2x4096x512, .f32⟩
  | 93 => ⟨S2x4096x512, .f32⟩
  | 94 => ⟨S2x4096x512, .f32⟩
  | 95 => ⟨S1x512, .f32⟩
  | 96 => ⟨S512, .f32⟩
  | 97 => ⟨S1x1x512, .f32⟩
  | 98 => ⟨S2x4096x512, .f32⟩
  | 99 => ⟨S2x4096x512, .f32⟩
  | 100 => ⟨S2x4096x512, .f32⟩
  | 101 => ⟨S2x4096x512, .f32⟩
  | 102 => ⟨S1x512, .f32⟩
  | 103 => ⟨S512, .f32⟩
  | 104 => ⟨S1x1x512, .f32⟩
  | 105 => ⟨S2x4096x512, .f32⟩
  | 106 => ⟨S2x4096x512, .f32⟩
  | 107 => ⟨S2x4096x512, .f32⟩
  | 108 => ⟨S2x4096x512, .f32⟩
  | 109 => ⟨S1x512, .f32⟩
  | 110 => ⟨S512, .f32⟩
  | 111 => ⟨S1x1x512, .f32⟩
  | 112 => ⟨S2x4096x512, .f32⟩
  | 113 => ⟨S2x4096x512, .f32⟩
  | 114 => ⟨S2x4096x512, .f32⟩
  | 115 => ⟨S2x4096x512, .f32⟩
  | 116 => ⟨S1x512, .f32⟩
  | 117 => ⟨S512, .f32⟩
  | 118 => ⟨S1x1x512, .f32⟩
  | 119 => ⟨S2x4096x512, .f32⟩
  | 120 => ⟨S2x4096x512, .f32⟩
  | 121 => ⟨S2x4096x512, .f32⟩
  | 122 => ⟨S2x4096x512, .f32⟩
  | 123 => ⟨S1x512, .f32⟩
  | 124 => ⟨S512, .f32⟩
  | 125 => ⟨S1x1x512, .f32⟩
  | 126 => ⟨S2x4096x512, .f32⟩
  | 127 => ⟨S2x4096x512, .f32⟩
  | _ => ⟨S2x4096x2048, .f32⟩

abbrev hbmTy0_1 (i : Nat) : BufTy := match i % 128 with
  | 0 => ⟨S2x4096x512, .f32⟩
  | 1 => ⟨S2x4096x512, .f32⟩
  | 2 => ⟨S1x512, .f32⟩
  | 3 => ⟨S512, .f32⟩
  | 4 => ⟨S1x1x512, .f32⟩
  | 5 => ⟨S2x4096x512, .f32⟩
  | 6 => ⟨S2x4096x512, .f32⟩
  | 7 => ⟨S2x4096x512, .f32⟩
  | 8 => ⟨S2x4096x512, .f32⟩
  | 9 => ⟨S1x512, .f32⟩
  | 10 => ⟨S512, .f32⟩
  | 11 => ⟨S1x1x512, .f32⟩
  | 12 => ⟨S2x4096x512, .f32⟩
  | 13 => ⟨S2x4096x512, .f32⟩
  | 14 => ⟨S2x4096x512, .f32⟩
  | 15 => ⟨S2x4096x512, .f32⟩
  | 16 => ⟨S1x512, .f32⟩
  | 17 => ⟨S512, .f32⟩
  | 18 => ⟨S1x1x512, .f32⟩
  | 19 => ⟨S2x4096x512, .f32⟩
  | 20 => ⟨S2x4096x512, .f32⟩
  | 21 => ⟨S2x4096x512, .f32⟩
  | 22 => ⟨S2x4096x512, .f32⟩
  | 23 => ⟨S1x512, .f32⟩
  | 24 => ⟨S512, .f32⟩
  | 25 => ⟨S1x1x512, .f32⟩
  | 26 => ⟨S2x4096x512, .f32⟩
  | 27 => ⟨S2x4096x512, .f32⟩
  | 28 => ⟨S2x4096x512, .f32⟩
  | 29 => ⟨S2x4096x512, .f32⟩
  | 30 => ⟨S1x512, .f32⟩
  | 31 => ⟨S512, .f32⟩
  | 32 => ⟨S1x1x512, .f32⟩
  | 33 => ⟨S2x4096x512, .f32⟩
  | 34 => ⟨S2x4096x512, .f32⟩
  | 35 => ⟨S2x4096x512, .f32⟩
  | 36 => ⟨S2x4096x512, .f32⟩
  | 37 => ⟨S1x512, .f32⟩
  | 38 => ⟨S512, .f32⟩
  | 39 => ⟨S1x1x512, .f32⟩
  | 40 => ⟨S2x4096x512, .f32⟩
  | 41 => ⟨S2x4096x512, .f32⟩
  | 42 => ⟨S2x4096x512, .f32⟩
  | 43 => ⟨S2x4096x512, .f32⟩
  | 44 => ⟨S1x512, .f32⟩
  | 45 => ⟨S512, .f32⟩
  | 46 => ⟨S1x1x512, .f32⟩
  | 47 => ⟨S2x4096x512, .f32⟩
  | 48 => ⟨S2x4096x512, .f32⟩
  | 49 => ⟨S2x4096x512, .f32⟩
  | 50 => ⟨S2x4096x512, .f32⟩
  | 51 => ⟨S1x512, .f32⟩
  | 52 => ⟨S512, .f32⟩
  | 53 => ⟨S1x1x512, .f32⟩
  | 54 => ⟨S2x4096x512, .f32⟩
  | 55 => ⟨S2x4096x512, .f32⟩
  | 56 => ⟨S2x4096x512, .f32⟩
  | 57 => ⟨S2x4096x512, .f32⟩
  | 58 => ⟨S1x512, .f32⟩
  | 59 => ⟨S512, .f32⟩
  | 60 => ⟨S1x1x512, .f32⟩
  | 61 => ⟨S2x4096x512, .f32⟩
  | 62 => ⟨S2x4096x512, .f32⟩
  | 63 => ⟨S2x4096x512, .f32⟩
  | 64 => ⟨S2x4096x512, .f32⟩
  | 65 => ⟨S1x512, .f32⟩
  | 66 => ⟨S512, .f32⟩
  | 67 => ⟨S1x1x512, .f32⟩
  | 68 => ⟨S2x4096x512, .f32⟩
  | 69 => ⟨S2x4096x512, .f32⟩
  | 70 => ⟨S2x4096x512, .f32⟩
  | 71 => ⟨S2x4096x512, .f32⟩
  | 72 => ⟨S1x512, .f32⟩
  | 73 => ⟨S512, .f32⟩
  | 74 => ⟨S1x1x512, .f32⟩
  | 75 => ⟨S2x4096x512, .f32⟩
  | 76 => ⟨S2x4096x512, .f32⟩
  | 77 => ⟨S2x4096x512, .f32⟩
  | 78 => ⟨S2x4096x512, .f32⟩
  | 79 => ⟨S1x512, .f32⟩
  | 80 => ⟨S512, .f32⟩
  | 81 => ⟨S1x1x512, .f32⟩
  | 82 => ⟨S2x4096x512, .f32⟩
  | 83 => ⟨S2x4096x512, .f32⟩
  | 84 => ⟨S2x4096x512, .f32⟩
  | 85 => ⟨S2x4096x512, .f32⟩
  | 86 => ⟨S1x512, .f32⟩
  | 87 => ⟨S512, .f32⟩
  | 88 => ⟨S1x1x512, .f32⟩
  | 89 => ⟨S2x4096x512, .f32⟩
  | 90 => ⟨S2x4096x512, .f32⟩
  | 91 => ⟨S2x4096x512, .f32⟩
  | 92 => ⟨S2x4096x512, .f32⟩
  | 93 => ⟨S1x512, .f32⟩
  | 94 => ⟨S512, .f32⟩
  | 95 => ⟨S1x1x512, .f32⟩
  | 96 => ⟨S2x4096x512, .f32⟩
  | 97 => ⟨S2x4096x512, .f32⟩
  | 98 => ⟨S2x4096x512, .f32⟩
  | 99 => ⟨S2x4096x512, .f32⟩
  | 100 => ⟨S1x512, .f32⟩
  | 101 => ⟨S512, .f32⟩
  | 102 => ⟨S1x1x512, .f32⟩
  | 103 => ⟨S2x4096x512, .f32⟩
  | 104 => ⟨S2x4096x512, .f32⟩
  | 105 => ⟨S2x4096x512, .f32⟩
  | 106 => ⟨S2x4096x512, .f32⟩
  | 107 => ⟨S1x512, .f32⟩
  | 108 => ⟨S512, .f32⟩
  | 109 => ⟨S1x1x512, .f32⟩
  | 110 => ⟨S2x4096x512, .f32⟩
  | 111 => ⟨S2x4096x512, .f32⟩
  | 112 => ⟨S2x4096x512, .f32⟩
  | 113 => ⟨S2x4096x512, .f32⟩
  | 114 => ⟨S1x512, .f32⟩
  | 115 => ⟨S512, .f32⟩
  | 116 => ⟨S1x1x512, .f32⟩
  | 117 => ⟨S2x4096x512, .f32⟩
  | 118 => ⟨S2x4096x512, .f32⟩
  | 119 => ⟨S2x4096x512, .f32⟩
  | 120 => ⟨S1x1x512, .f32⟩
  | 121 => ⟨S2x4096x512, .f32⟩
  | 122 => ⟨S2x4096x512, .f32⟩
  | 123 => ⟨S1x512, .f32⟩
  | 124 => ⟨S512, .f32⟩
  | 125 => ⟨S1x512, .f32⟩
  | 126 => ⟨S512, .f32⟩
  | 127 => ⟨S_, .f32⟩
  | _ => ⟨S2x4096x2048, .f32⟩

abbrev hbmTy0_2 (i : Nat) : BufTy := match i % 128 with
  | 0 => ⟨S2x4096, .f32⟩
  | 1 => ⟨S2x4096x1, .f32⟩
  | 2 => ⟨S_, .f32⟩
  | 3 => ⟨S2x4096x1, .f32⟩
  | 4 => ⟨S2x4096x1, .f32⟩
  | 5 => ⟨S2x4096x512, .f32⟩
  | 6 => ⟨S2x4096x512, .f32⟩
  | 7 => ⟨S2x4096x512, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S2x4096x512, .f32⟩
  | 15 => ⟨S2x4096x512, .f32⟩
  | 16 => ⟨S_, .f32⟩
  | 17 => ⟨S2x4096x1, .f32⟩
  | 18 => ⟨S2x4096x1, .f32⟩
  | 19 => ⟨S2x4096x1, .f32⟩
  | 20 => ⟨S2x4096x512, .f32⟩
  | 21 => ⟨S2x4096x512, .f32⟩
  | 22 => ⟨S1x1x512, .f32⟩
  | 23 => ⟨S2x4096x512, .f32⟩
  | 24 => ⟨S2x4096x512, .f32⟩
  | 25 => ⟨S1x1x512, .f32⟩
  | 26 => ⟨S2x4096x512, .f32⟩
  | 27 => ⟨S2x4096x512, .f32⟩
  | 28 => ⟨S2x4096x512, .f32⟩
  | 29 => ⟨S2x4096x512, .f32⟩
  | 30 => ⟨S_, .f32⟩
  | 31 => ⟨S2x4096x512, .f32⟩
  | 32 => ⟨S2x4096x512, .f32⟩
  | 33 => ⟨S_, .f32⟩
  | 34 => ⟨S2x4096x512, .f32⟩
  | 35 => ⟨S2x4096x512, .f32⟩
  | 36 => ⟨S2x4096x512, .f32⟩
  | 37 => ⟨S1x512x512, .f32⟩
  | 38 => ⟨S512x512, .f32⟩
  | 39 => ⟨S2x4096x512, .f32⟩
  | 40 => ⟨S2x4096x512, .f32⟩
  | 41 => ⟨S2x4096x512, .f32⟩
  | 42 => ⟨S_, .f32⟩
  | 43 => ⟨S2x4096x512, .f32⟩
  | 44 => ⟨S2x4096x512, .f32⟩
  | 45 => ⟨S_, .f32⟩
  | 46 => ⟨S2x4096x512, .f32⟩
  | 47 => ⟨S2x4096x512, .f32⟩
  | 48 => ⟨S2x4096x512, .f32⟩
  | 49 => ⟨S2x4096x512, .f32⟩
  | 50 => ⟨S2x4096x2048, .f32⟩
  | 51 => ⟨S1x2048x2048, .f32⟩
  | 52 => ⟨S2048x2048, .f32⟩
  | 53 => ⟨S2x4096x2048, .f32⟩
  | 54 => ⟨S2x4096x2048, .f32⟩
  | 55 => ⟨S8192x2048, .f32⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_cst_2 : Ref sig .tc := ⟨.hbm, 255, rfl⟩
abbrev main_v239 : Ref sig .tc := ⟨.hbm, 256, rfl⟩
abbrev main_v240 : Ref sig .tc := ⟨.hbm, 257, rfl⟩
abbrev main_cst_3 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_cst_4 : Ref sig .tc := ⟨.hbm, 264, rfl⟩
abbrev main_v246 : Ref sig .tc := ⟨.hbm, 265, rfl⟩
abbrev main_v247 : Ref sig .tc := ⟨.hbm, 266, rfl⟩
abbrev main_cst_5 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_cst_6 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_call1_v0 : Ref sig .tc := ⟨.hbm, 284, rfl⟩
abbrev main_call1_v1 : Ref sig .tc := ⟨.hbm, 285, rfl⟩
abbrev main_call1_cst : Ref sig .tc := ⟨.hbm, 286, rfl⟩
abbrev main_call1_v2 : Ref sig .tc := ⟨.hbm, 287, rfl⟩
abbrev main_call1_v3 : Ref sig .tc := ⟨.hbm, 288, rfl⟩
abbrev main_call1_cst_0 : Ref sig .tc := ⟨.hbm, 289, rfl⟩
abbrev main_call1_v4 : Ref sig .tc := ⟨.hbm, 290, rfl⟩
abbrev main_call1_v5 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_call2_v0 : Ref sig .tc := ⟨.hbm, 296, rfl⟩
abbrev main_call2_v1 : Ref sig .tc := ⟨.hbm, 297, rfl⟩
abbrev main_call2_cst : Ref sig .tc := ⟨.hbm, 298, rfl⟩
abbrev main_call2_v2 : Ref sig .tc := ⟨.hbm, 299, rfl⟩
abbrev main_call2_v3 : Ref sig .tc := ⟨.hbm, 300, rfl⟩
abbrev main_call2_cst_0 : Ref sig .tc := ⟨.hbm, 301, rfl⟩
abbrev main_call2_v4 : Ref sig .tc := ⟨.hbm, 302, rfl⟩
abbrev main_call2_v5 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩

abbrev nD : Nat := 1
abbrev τ : Topo := Topo.v7x

variable {F : FTy → Type} [FloatOps F]
-- ==== Proof.Body.lean ====
/-
  The attention kernel's body as a program over (head, slot, strip) parameters, and the equation that says
  the printed body is that program.

  A grid point works on one block of 512 queries and one block of 512 keys of one batch. For every head it
  forms a 512 x 512 block of scores, goes over it in eight strips of 64 rows (the running maximum `m`, the
  running lane sums `l`, the rescaling factors `a`, the probabilities `p`), and adds the probabilities times
  the values to the accumulator. Every definition takes the program that follows as its last argument.
-/
module

public import proofs.«01_k».proof.Proof.Gen.KernelIdeal
public import Idealize.ShloMosaic.Lib.Pipeline.Regions

@[expose] public section

noncomputable section

namespace Cert.KernelIdeal.Attn

open Idealize.ShloMosaic Idealize.SL.Sem Cert.KernelIdeal Cert.KernelIdeal.Gen

/-! ## Side conditions at any head, slot, strip, chunk -/

theorem inb_s (s : Fin 2) (j : Fin 8) (c : Fin 4) :
    ∀ a, (![s.val, 64 * j.val, 128 * c.val] : Fin 3 → Nat) a + S1x64x128.size a ≤ S2x512x512.size a := by
  revert s j c; decide

theorem inb_p (s : Fin 2) (j : Fin 8) :
    ∀ a, (![s.val, 64 * j.val, 0] : Fin 3 → Nat) a + S1x64x512.size a ≤ S2x512x512.size a := by
  revert s j; decide

theorem packed_p (s : Fin 2) (j : Fin 8) :
    (Rect.unit (s := S2x512x512) ![s.val, 64 * j.val, 0] S1x64x512.size (inb_p s j)).PackedRows
      (EltTy.packing .bf16) := by
  revert s j; decide

theorem inb_a (s : Fin 2) (j : Fin 8) :
    ∀ a, (![s.val, 64 * j.val, 0] : Fin 3 → Nat) a + S1x64x128.size a ≤ S2x512x128.size a := by
  revert s j; decide

theorem inb_m (h : Fin 6) (j : Fin 8) :
    ∀ a, (![h.val, 64 * j.val, 0] : Fin 3 → Nat) a + S1x64x128.size a ≤ S6x512x128.size a := by
  revert h j; decide

theorem inb_sfull (s : Fin 2) :
    ∀ a, (![s.val, 0, 0] : Fin 3 → Nat) a + S1x512x512.size a ≤ S2x512x512.size a := by
  revert s; decide

theorem inb_afull (s : Fin 2) :
    ∀ a, (![s.val, 0, 0] : Fin 3 → Nat) a + S1x512x128.size a ≤ S2x512x128.size a := by
  revert s; decide

theorem inb_mfull (h : Fin 6) :
    ∀ a, (![h.val, 0, 0] : Fin 3 → Nat) a + S1x512x128.size a ≤ S6x512x128.size a := by
  revert h; decide

theorem inb_q (h : Fin 6) :
    ∀ a, (![0, h.val, 0, 0] : Fin 4 → Nat) a + S1x1x512x256.size a ≤ S1x6x512x256.size a := by
  revert h; decide

theorem inb_v (h : Fin 6) :
    ∀ a, (![0, h.val, 0, 0] : Fin 4 → Nat) a + S1x1x512x128.size a ≤ S1x6x512x128.size a := by
  revert h; decide

theorem inb_o (h : Fin 6) :
    ∀ a, (![0, 128 * h.val] : Fin 2 → Nat) a + S512x128.size a ≤ S512x768.size a := by
  revert h; decide

theorem packed_o (h : Fin 6) :
    (Rect.unit (s := S512x768) ![0, 128 * h.val] S512x128.size (inb_o h)).PackedRows
      (EltTy.packing .bf16) := by
  revert h; decide

/-! ## The rectangles the body reads and writes -/

abbrev rS (s : Fin 2) (j : Fin 8) (c : Fin 4) : Rect S2x512x512 :=
  Rect.unit (s := S2x512x512) ![s.val, 64 * j.val, 128 * c.val] S1x64x128.size (inb_s s j c)
abbrev rP (s : Fin 2) (j : Fin 8) : Rect S2x512x512 :=
  Rect.unit (s := S2x512x512) ![s.val, 64 * j.val, 0] S1x64x512.size (inb_p s j)
abbrev rA (s : Fin 2) (j : Fin 8) : Rect S2x512x128 :=
  Rect.unit (s := S2x512x128) ![s.val, 64 * j.val, 0] S1x64x128.size (inb_a s j)
abbrev rM (h : Fin 6) (j : Fin 8) : Rect S6x512x128 :=
  Rect.unit (s := S6x512x128) ![h.val, 64 * j.val, 0] S1x64x128.size (inb_m h j)
abbrev rSF (s : Fin 2) : Rect S2x512x512 :=
  Rect.unit (s := S2x512x512) ![s.val, 0, 0] S1x512x512.size (inb_sfull s)
abbrev rAF (s : Fin 2) : Rect S2x512x128 :=
  Rect.unit (s := S2x512x128) ![s.val, 0, 0] S1x512x128.size (inb_afull s)
abbrev rMF (h : Fin 6) : Rect S6x512x128 :=
  Rect.unit (s := S6x512x128) ![h.val, 0, 0] S1x512x128.size (inb_mfull h)
abbrev rQ (h : Fin 6) : Rect S1x6x512x256 :=
  Rect.unit (s := S1x6x512x256) ![0, h.val, 0, 0] S1x1x512x256.size (inb_q h)
abbrev rV (h : Fin 6) : Rect S1x6x512x128 :=
  Rect.unit (s := S1x6x512x128) ![0, h.val, 0, 0] S1x1x512x128.size (inb_v h)
abbrev rO (h : Fin 6) : Rect S512x768 :=
  Rect.unit (s := S512x768) ![0, 128 * h.val] S512x128.size (inb_o h)
abbrev rAll : Rect S6x512x128 :=
  Rect.unit (s := S6x512x128) ![0, 0, 0] S6x512x128.size inb_S6x512x128_S6x512x128_0_0_0

/-! ## The values the body computes -/

variable {F : FTy → Type} [FloatOps F] [Named F]

/-- The score block of a head: queries by keys. -/
def scoreVal (q k : Vec F S1x1x512x256 .bf16) : FVec F S1x512x512 .f32 :=
  shapeCast S1x512x512
    (matmul dot_S512x256_S512x256_S512x512_1_1_0_0_n_n none
      (shapeCast S512x256 q shapeCasts_S1x1x512x256_S512x256 : FVec F S512x256 .bf16)
      (shapeCast S512x256 k shapeCasts_S1x1x512x256_S512x256 : FVec F S512x256 .bf16)
      (constant S512x512 .f32 0x00000000#32))
    shapeCasts_S512x512_S1x512x512

/-- A chunk of scores with the keys after the query set to minus infinity: rows from `64 j`, columns from `128 c`. -/
def maskVal (j : Fin 8) (c : Fin 4) (x : FVec F S64x128 .f32) : FVec F S64x128 .f32 :=
  select
    (cmpi .sge
      (addi (broadcast S64x128 (BitVec.ofNat 32 (64 * j.val))) (iota .tc S64x128 32 [0] iota_S64x128_d0_w32))
      (addi (broadcast S64x128 (BitVec.ofNat 32 (128 * c.val))) (iota .tc S64x128 32 [1] iota_S64x128_d1_w32)))
    x (broadcast S64x128 (Scalar.ofBits .f32 0xFF800000#32 : F .f32))

/-- A chunk as the strip reads it; under the mask only the last chunk of a strip crosses the diagonal. -/
def chunkVal (mk : Bool) (j : Fin 8) (c : Fin 4) (x : Vec F S1x64x128 .f32) : FVec F S64x128 .f32 :=
  bif mk && Nat.beq c.val (j.val / 2) then
    maskVal j c (shapeCast S64x128 x shapeCasts_S1x64x128_S64x128)
  else shapeCast S64x128 x shapeCasts_S1x64x128_S64x128

/-- The chunks of a strip joined by `f`, from the left. -/
def joinVal (f : FVec F S64x128 .f32 → FVec F S64x128 .f32 → FVec F S64x128 .f32) :
    List (FVec F S64x128 .f32) → FVec F S64x128 .f32
  | [] => broadcast S64x128 (Scalar.ofBits .f32 0x00000000#32 : F .f32)
  | x :: xs => xs.foldl f x

/-- The new running maximum of a strip. -/
def maxVal (xs : List (FVec F S64x128 .f32)) (m : Vec F S1x64x128 .f32) : FVec F S64x128 .f32 :=
  maximumf (shapeCast S64x128 m shapeCasts_S1x64x128_S64x128)
    (broadcastTo S64x128
      (shapeCast S64x1
        (multiReduction .maximumf [1] S64 (joinVal maximumf xs) 0xFF800000#32 reduces_S64x128_S64 (.inl rfl) rfl)
        shapeCasts_S64_S64x1)
      broadcasts_S64x1_S64x128)

/-- The factor that rescales what was summed under the old maximum. -/
def alphaVal (xs : List (FVec F S64x128 .f32)) (m : Vec F S1x64x128 .f32) : FVec F S64x128 .f32 :=
  exp2 (subf (shapeCast S64x128 m shapeCasts_S1x64x128_S64x128) (maxVal xs m))

/-- The probabilities of the strip's chunks. -/
def probVals (xs : List (FVec F S64x128 .f32)) (m : Vec F S1x64x128 .f32) : List (FVec F S64x128 .f32) :=
  xs.map fun x => exp2 (subf x (maxVal xs m))

/-- The new lane sums of the strip. -/
def sumVal (xs : List (FVec F S64x128 .f32)) (m l : Vec F S1x64x128 .f32) : FVec F S64x128 .f32 :=
  addf (mulf (alphaVal xs m) (shapeCast S64x128 l shapeCasts_S1x64x128_S64x128)) (joinVal addf (probVals xs m))

/-- Four chunks side by side, rounded; the chunks that are missing are zero. -/
def catVal : List (FVec F S64x128 .f32) → FVec F S64x512 .bf16
  | [a] =>
    concatenate S64x512 1
      [⟨S64x128, truncf .bf16 a bitsLt_bf16_f32⟩,
       ⟨S64x128, broadcast S64x128 (Scalar.ofBits .bf16 0x0000#16 : F .bf16)⟩,
       ⟨S64x128, broadcast S64x128 (Scalar.ofBits .bf16 0x0000#16 : F .bf16)⟩,
       ⟨S64x128, broadcast S64x128 (Scalar.ofBits .bf16 0x0000#16 : F .bf16)⟩]
      concatenates_S64x128_S64x128_S64x128_S64x128_S64x512_d1
  | [a, b] =>
    concatenate S64x512 1
      [⟨S64x128, truncf .bf16 a bitsLt_bf16_f32⟩,
       ⟨S64x128, truncf .bf16 b bitsLt_bf16_f32⟩,
       ⟨S64x128, broadcast S64x128 (Scalar.ofBits .bf16 0x0000#16 : F .bf16)⟩,
       ⟨S64x128, broadcast S64x128 (Scalar.ofBits .bf16 0x0000#16 : F .bf16)⟩]
      concatenates_S64x128_S64x128_S64x128_S64x128_S64x512_d1
  | [a, b, c] =>
    concatenate S64x512 1
      [⟨S64x128, truncf .bf16 a bitsLt_bf16_f32⟩,
       ⟨S64x128, truncf .bf16 b bitsLt_bf16_f32⟩,
       ⟨S64x128, truncf .bf16 c bitsLt_bf16_f32⟩,
       ⟨S64x128, broadcast S64x128 (Scalar.ofBits .bf16 0x0000#16 : F .bf16)⟩]
      concatenates_S64x128_S64x128_S64x128_S64x128_S64x512_d1
  | [a, b, c, d] =>
    concatenate S64x512 1
      [⟨S64x128, truncf .bf16 a bitsLt_bf16_f32⟩,
       ⟨S64x128, truncf .bf16 b bitsLt_bf16_f32⟩,
       ⟨S64x128, truncf .bf16 c bitsLt_bf16_f32⟩,
       ⟨S64x128, truncf .bf16 d bitsLt_bf16_f32⟩]
      concatenates_S64x128_S64x128_S64x128_S64x128_S64x512_d1
  | _ => broadcast S64x512 (Scalar.ofBits .bf16 0x0000#16 : F .bf16)

/-- The new accumulator of a head. -/
def accVal (p : Vec F S1x512x512 .bf16) (v : Vec F S1x1x512x128 .bf16) (a acc : Vec F S1x512x128 .f32) :
    FVec F S1x512x128 .f32 :=
  shapeCast S1x512x128
    (addf
      (mulf (shapeCast S512x128 a shapeCasts_S1x512x128_S512x128)
        (shapeCast S512x128 acc shapeCasts_S1x512x128_S512x128))
      (matmul dot_S512x512_S512x128_S512x128_1_0_0_1_n_n none
        (shapeCast S512x512 p shapeCasts_S1x512x512_S512x512 : FVec F S512x512 .bf16)
        (shapeCast S512x128 v shapeCasts_S1x1x512x128_S512x128 : FVec F S512x128 .bf16)
        (constant S512x128 .f32 0x00000000#32)))
    shapeCasts_S512x128_S1x512x128

/-- The gate times its logistic function. -/
def gateVal (g : FVec F S512x128 .f32) : FVec F S512x128 .f32 :=
  mulf g
    (divf (broadcast S512x128 (Scalar.ofBits .f32 0x3F800000#32 : F .f32))
      (addf (broadcast S512x128 (Scalar.ofBits .f32 0x3F800000#32 : F .f32))
        (exp2 (mulf g (broadcast S512x128 (Named.named κ "neg_log2e" 0xBFB8AA3B#32 : F .f32))))))

/-- The gated output of a head. -/
def outVal (acc l : Vec F S1x512x128 .f32) (g : Vec F S512x128 .f32) : FVec F S512x128 .bf16 :=
  truncf .bf16
    (mulf
      (divf (shapeCast S512x128 acc shapeCasts_S1x512x128_S512x128)
        (broadcastTo S512x128
          (shapeCast S512x1
            (multiReduction .add [1] S512 (shapeCast S512x128 l shapeCasts_S1x512x128_S512x128 : FVec F S512x128 .f32)
              0x00000000#32 reduces_S512x128_S512 (.inl rfl) rfl)
            shapeCasts_S512_S512x1)
          broadcasts_S512x1_S512x128))
      (gateVal (shapeCast S512x128 g shapeCasts_S512x128_S512x128)))
    bitsLt_bf16_f32

/-! ## The program -/

/-- The buffers the body works on. -/
structure Refs where
  q : Memref sig .tc .vmem S1x6x512x256 .bf16
  k : Memref sig .tc .vmem S1x6x512x256 .bf16
  v : Memref sig .tc .vmem S1x6x512x128 .bf16
  g : Memref sig .tc .vmem S512x768 .f32
  o : Memref sig .tc .vmem S512x768 .bf16
  m : Memref sig .tc .vmem S6x512x128 .f32
  l : Memref sig .tc .vmem S6x512x128 .f32
  acc : Memref sig .tc .vmem S6x512x128 .f32
  s : Memref sig .tc .vmem S2x512x512 .f32
  p : Memref sig .tc .vmem S2x512x512 .bf16
  a : Memref sig .tc .vmem S2x512x128 .f32
  hq : q.IsWhole
  hk : k.IsWhole
  hv : v.IsWhole
  hg : g.IsWhole
  ho : o.IsWhole
  hm : m.IsWhole
  hl : l.IsWhole
  hacc : acc.IsWhole
  hs : s.IsWhole
  hp : p.IsWhole
  ha : a.IsWhole

/-- A body's program. -/
abbrev PG (F : FTy → Type) [FloatOps F] := Prog (TpuEff nD τ sig (Elt F) Λ₀ .tc) PUnit

variable (R : Refs)

/-- The score block of head `h`, into slot `s`. -/
def scores (h : Fin 6) (s : Fin 2) (K : PG F) : PG F :=
  .op (.load R.q (rQ h).toLoadRect (View.loadsAt_vmem h_S1x1x512x256)) fun q =>
  .op (.load R.k (rQ h).toLoadRect (View.loadsAt_vmem h_S1x1x512x256)) fun k =>
  .op (.load R.s (rSF s).toLoadRect (View.loadsAt_vmem h_S1x512x512)) fun _ =>
  .op (.store R.s (rSF s) (scoreVal q k) Finset.univ (View.stores_vmem_bits_univ h_S1x512x512 rfl) (.inl rfl)) fun _ => K

/-- Read the strip's chunks. -/
def chunks (mk : Bool) (s : Fin 2) (j : Fin 8) : List (Fin 4) → (List (FVec F S64x128 .f32) → PG F) → PG F
  | [], K => K []
  | c :: cs, K =>
    .op (.load R.s (rS s j c).toLoadRect (View.loadsAt_vmem h_S1x64x128)) fun x =>
    chunks mk s j cs fun xs => K (chunkVal mk j c x :: xs)

/-- The rest of a strip, from its chunks. -/
def stripRest (h : Fin 6) (s : Fin 2) (j : Fin 8) (K : PG F) (xs : List (FVec F S64x128 .f32)) : PG F :=
  .op (.load R.m (rM h j).toLoadRect (View.loadsAt_vmem h_S1x64x128)) fun m =>
  .op (.load R.l (rM h j).toLoadRect (View.loadsAt_vmem h_S1x64x128)) fun l =>
  .op (.load R.l (rM h j).toLoadRect (View.loadsAt_vmem h_S1x64x128)) fun _ =>
  .op (.store R.l (rM h j) (shapeCast S1x64x128 (sumVal xs m l) shapeCasts_S64x128_S1x64x128) Finset.univ
    (View.stores_vmem_bits_univ h_S1x64x128 rfl) (.inl rfl)) fun _ =>
  .op (.load R.m (rM h j).toLoadRect (View.loadsAt_vmem h_S1x64x128)) fun _ =>
  .op (.store R.m (rM h j) (shapeCast S1x64x128 (maxVal xs m) shapeCasts_S64x128_S1x64x128) Finset.univ
    (View.stores_vmem_bits_univ h_S1x64x128 rfl) (.inl rfl)) fun _ =>
  .op (.load R.a (rA s j).toLoadRect (View.loadsAt_vmem h_S1x64x128)) fun _ =>
  .op (.store R.a (rA s j) (shapeCast S1x64x128 (alphaVal xs m) shapeCasts_S64x128_S1x64x128) Finset.univ
    (View.stores_vmem_bits_univ h_S1x64x128 rfl) (.inl rfl)) fun _ =>
  .op (.load R.p (rP s j).toLoadRect (View.loadsAt_vmem h_S1x64x512)) fun _ =>
  .op (.store R.p (rP s j) (shapeCast S1x64x512 (catVal (probVals xs m)) shapeCasts_S64x512_S1x64x512) Finset.univ
    (View.stores_vmem h_S1x64x512 (R.hp.storeExact_slice rfl _ (packed_p s j)) (fun _ => rfl)) (.inl rfl)) fun _ => K

/-- The chunks of strip `j` that are read: all four, or under the mask those up to the diagonal. -/
def live (mk : Bool) (j : Fin 8) : List (Fin 4) :=
  bif mk then
    match j.val / 2 with
    | 0 => [0]
    | 1 => [0, 1]
    | 2 => [0, 1, 2]
    | _ => [0, 1, 2, 3]
  else [0, 1, 2, 3]

/-- One strip of 64 rows. -/
def strip (mk : Bool) (h : Fin 6) (s : Fin 2) (j : Fin 8) (K : PG F) : PG F :=
  chunks R mk s j (live mk j) (stripRest R h s j K)

/-- The eight strips of a head. -/
def strips (mk : Bool) (h : Fin 6) (s : Fin 2) (K : PG F) : PG F :=
  strip R mk h s 0 (strip R mk h s 1 (strip R mk h s 2 (strip R mk h s 3
    (strip R mk h s 4 (strip R mk h s 5 (strip R mk h s 6 (strip R mk h s 7 K)))))))

/-- The probabilities times the values, added to the rescaled accumulator. -/
def pv (h : Fin 6) (s : Fin 2) (K : PG F) : PG F :=
  .op (.load R.p (rSF s).toLoadRect (View.loadsAt_vmem h_S1x512x512)) fun p =>
  .op (.load R.v (rV h).toLoadRect (View.loadsAt_vmem h_S1x1x512x128)) fun v =>
  .op (.load R.a (rAF s).toLoadRect (View.loadsAt_vmem h_S1x512x128)) fun a =>
  .op (.load R.acc (rMF h).toLoadRect (View.loadsAt_vmem h_S1x512x128)) fun acc =>
  .op (.load R.acc (rMF h).toLoadRect (View.loadsAt_vmem h_S1x512x128)) fun _ =>
  .op (.store R.acc (rMF h) (accVal p v a acc) Finset.univ
    (View.stores_vmem_bits_univ h_S1x512x128 rfl) (.inl rfl)) fun _ => K

/-- The six heads; the scores of the next head are formed before the strips of this one. -/
def heads (mk : Bool) (K : PG F) : PG F :=
  scores R 0 0 (
  scores R 1 1 (strips R mk 0 0 (pv R 0 0 (
  scores R 2 0 (strips R mk 1 1 (pv R 1 1 (
  scores R 3 1 (strips R mk 2 0 (pv R 2 0 (
  scores R 4 0 (strips R mk 3 1 (pv R 3 1 (
  scores R 5 1 (strips R mk 4 0 (pv R 4 0 (
  strips R mk 5 1 (pv R 5 1 K)))))))))))))))))

/-- The gated output of head `h`. -/
def fin1 (h : Fin 6) (K : PG F) : PG F :=
  .op (.load R.acc (rMF h).toLoadRect (View.loadsAt_vmem h_S1x512x128)) fun acc =>
  .op (.load R.l (rMF h).toLoadRect (View.loadsAt_vmem h_S1x512x128)) fun l =>
  .op (.load R.g (rO h).toLoadRect (View.loadsAt_vmem h_S512x128)) fun g =>
  .op (.load R.o (rO h).toLoadRect (View.loadsAt_vmem h_S512x128)) fun _ =>
  .op (.store R.o (rO h) (outVal acc l g) Finset.univ
    (View.stores_vmem h_S512x128 (R.ho.storeExact_slice rfl _ (packed_o h)) (fun _ => rfl)) (.inl rfl)) fun _ => K

/-- The gated output of every head. -/
def fin (K : PG F) : PG F :=
  fin1 R 0 (fin1 R 1 (fin1 R 2 (fin1 R 3 (fin1 R 4 (fin1 R 5 K)))))

/-- A whole buffer set to one value. -/
def fill (r : Memref sig .tc .vmem S6x512x128 .f32) (b : BitVec 32) (K : PG F) : PG F :=
  .op (.load r rAll.toLoadRect (View.loadsAt_vmem h_S6x512x128)) fun _ =>
  .op (.store r rAll
    (shapeCast S6x512x128 (broadcast S6x512x128 (Scalar.ofBits .f32 b : F .f32) : FVec F S6x512x128 .f32)
      shapeCasts_S6x512x128_S6x512x128) Finset.univ
    (View.stores_vmem_bits_univ h_S6x512x128 rfl) (.inl rfl)) fun _ => K

/-- The running values at the first block of keys. -/
def reset (K : PG F) : PG F :=
  fill R.m 0xFF800000#32 (fill R.l 0x00000000#32 (fill R.acc 0x00000000#32 K))

/-- The body from the two table entries: the query block `qi` and the key block `ki`. -/
def attnAt (qi ki : BitVec 32) : PG F :=
  let r3 : PG F := if k0_cond3 qi ki = 1#1 then heads R true (fin R (.ret ⟨⟩)) else .ret ⟨⟩
  let r2 : PG F := if Scalar.cmpi .ne (Scalar.extui (Scalar.cmpi .slt ki qi) : BitVec 32) 0#32 = 1#1 then
    heads R false r3 else r3
  if Scalar.cmpi .ne (Scalar.extui (Scalar.cmpi .eq ki 0#32) : BitVec 32) 0#32 = 1#1 then reset R r2 else r2

/-- The body: the two table entries, then the work. -/
def attn (tq tk : Memref sig .tc .smem S36 .i32) (i : grid0.Coords) : PG F :=
  smemLoad tq (Rect.unit (s := S36) (k0_off1 i) S1.size (k0_off1_inb i)) numel1_S1 rfl >>= fun qi =>
  smemLoad tk (Rect.unit (s := S36) (k0_off1 i) S1.size (k0_off1_inb i)) numel1_S1 rfl >>= fun ki =>
  attnAt R qi ki

/-- The printed body is this program. -/
theorem body_eq (i : grid0.Coords) (tq tk : Memref sig .tc .smem S36 .i32) (htq : tq.IsWhole) (htk : tk.IsWhole) :
    cc0_attention (F := F) i tq htq tk htk R.q R.hq R.k R.hk R.v R.hv R.g R.hg R.o R.ho R.m R.hm R.l R.hl
      R.acc R.hacc R.s R.hs R.p R.hp R.a R.ha = attn R tq tk i := by
  chain_rfl

end Cert.KernelIdeal.Attn

end
-- ==== Proof.Exec.lean ====
/-
  The body run: each part of the program takes the buffers' contents to the contents its value functions name.
-/
module

public import proofs.«01_k».proof.Proof.Body
public import Idealize.ShloMosaic.Lib.VecWindow
public import Idealize.ShloMosaic.Lib.Memref
public import Idealize.ShloMosaic.Rules.Step

@[expose] public section

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]
variable {Name : Type} [DecidableEq Name] {U : Type} [URA U]

local notation "𝕄" => MT nD τ sig Unit (Elt F) Name U ℕ

/-! ## A load and a store of a window -/

section Rules

variable {defs₀' : Defs nD τ sig (Elt F) Λ₀} {𝒱 : Variants} {c : Dev nD} {bd : Option 𝒱.V}
  {Γ : PendingWaitsCtx sig Unit} {E : Set Name}
variable {s : Shape} {e : EltTy}

/-- A load of a window reads the window of the contents. -/
theorem load_owns {Q : PUnit.{1} → sProp 𝕄} {m : Memref sig .tc .vmem s e} {off size : Fin s.rank → ℕ} {inb : ∀ a, off a + size a ≤ s.size a}
    {h : m.view.LoadsAt (Rect.unit off size inb).toLoadRect} {X : s.Idx → Elt F e} {q : PosShare TreeShare}
    {K : ((Rect.unit off size inb).shape.Idx → Elt F e) → PG F} :
    (owns c m q X : sProp 𝕄)
      ⊢ iprop((owns c m q X -∗ wp frame (wpE' defs₀' 𝒱 c.tc bd Γ) E (K (window X off size inb)) Q)
        -∗ wp frame (wpE' defs₀' 𝒱 c.tc bd Γ) E (.op (.load m (Rect.unit off size inb).toLoadRect h) K) Q) := by
  unfold owns
  iintro ⟨%f, %hf, Hp⟩ HK
  iapply (wp_load (c := c.tc) 𝒱 bd E (m := m) (k := K) (q := q) (f := f) (S := m.view.set)
    (View.setOn_subset_set _ _)) $$ Hp
  iintro Hp
  have e1 : m.view.readAt (Elt F) (Rect.unit off size inb).toLoadRect f = window X off size inb := by
    rw [View.readAt_unit m.view f inb rfl inb, hf]
  rw [e1]
  iapply HK
  iexists f
  isplitl []
  · ipureintro; exact hf
  · iexact Hp

/-- A store to a window puts the payload there. -/
theorem store_owns {Q : PUnit.{1} → sProp 𝕄} {m : Memref sig .tc .vmem s e} {off size : Fin s.rank → ℕ} {inb : ∀ a, off a + size a ≤ s.size a}
    {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {X : s.Idx → Elt F e}
    {K : PUnit → PG F} :
    (owns c m fullShare X : sProp 𝕄)
      ⊢ iprop((owns c m fullShare (put X off size w) -∗ wp frame (wpE' defs₀' 𝒱 c.tc bd Γ) E (K ⟨⟩) Q)
        -∗ wp frame (wpE' defs₀' 𝒱 c.tc bd Γ) E (.op (.store m (Rect.unit off size inb) w Finset.univ hx hm) K) Q) := by
  unfold owns
  iintro ⟨%f, %hf, Hp⟩ HK
  iapply (wp_store (c := c.tc) 𝒱 bd E (m := m) (r := Rect.unit off size inb) (k := K) (f := f)
    (S := (show Finset (Idx ((m.access (Rect.unit off size inb)).loc c.tc)) from m.view.set))
    ((View.setOn_subset_set _ _).trans (View.set_slice_subset _ _))) $$ Hp
  iintro Hp
  iapply HK
  iexists _
  isplitl []
  · ipureintro
    have := View.read_writes_cons_put (Val := Elt F) m.view f inb w [] rfl
    rw [View.writes_nil, hf] at this
    exact this
  · iexact Hp

end Rules

/-! ## The contents the body works on -/

/-- The blocks the body reads. -/
structure Env (F : FTy → Type) where
  q : S1x6x512x256.Idx → Elt F .bf16
  k : S1x6x512x256.Idx → Elt F .bf16
  v : S1x6x512x128.Idx → Elt F .bf16
  g : S512x768.Idx → Elt F .f32

/-- The contents the body changes. -/
structure St (F : FTy → Type) where
  o : S512x768.Idx → Elt F .bf16
  m : S6x512x128.Idx → Elt F .f32
  l : S6x512x128.Idx → Elt F .f32
  acc : S6x512x128.Idx → Elt F .f32
  s : S2x512x512.Idx → Elt F .f32
  p : S2x512x512.Idx → Elt F .bf16
  a : S2x512x128.Idx → Elt F .f32

/-- The core holds every buffer of the body, at these contents. -/
def Own (c : Dev nD) (R : Refs) (ε : Env F) (σ : St F) : sProp 𝕄 :=
  iprop(owns c R.q fullShare ε.q ∗ owns c R.k fullShare ε.k ∗ owns c R.v fullShare ε.v ∗ owns c R.g fullShare ε.g
    ∗ owns c R.o fullShare σ.o ∗ owns c R.m fullShare σ.m ∗ owns c R.l fullShare σ.l ∗ owns c R.acc fullShare σ.acc
    ∗ owns c R.s fullShare σ.s ∗ owns c R.p fullShare σ.p ∗ owns c R.a fullShare σ.a)

/-- After the scores of head `h` into slot `s`. -/
def scoresSt (ε : Env F) (h : Fin 6) (s : Fin 2) (σ : St F) : St F :=
  { σ with
    s := put σ.s ![s.val, 0, 0] S1x512x512.size
      (scoreVal (window ε.q ![0, h.val, 0, 0] S1x1x512x256.size (inb_q h))
        (window ε.k ![0, h.val, 0, 0] S1x1x512x256.size (inb_q h))) }

/-- The chunks a strip reads. -/
def chunksOf (mk : Bool) (s : Fin 2) (j : Fin 8) (x : S2x512x512.Idx → Elt F .f32) (cs : List (Fin 4)) :
    List (FVec F S64x128 .f32) :=
  cs.map fun c => chunkVal mk j c (window x ![s.val, 64 * j.val, 128 * c.val] S1x64x128.size (inb_s s j c))

/-- After strip `j` of head `h`. -/
def stripSt (mk : Bool) (h : Fin 6) (s : Fin 2) (j : Fin 8) (σ : St F) : St F :=
  let xs := chunksOf mk s j σ.s (live mk j)
  let m := window σ.m ![h.val, 64 * j.val, 0] S1x64x128.size (inb_m h j)
  let l := window σ.l ![h.val, 64 * j.val, 0] S1x64x128.size (inb_m h j)
  { σ with
    l := put σ.l ![h.val, 64 * j.val, 0] S1x64x128.size
      (shapeCast S1x64x128 (sumVal xs m l) shapeCasts_S64x128_S1x64x128)
    m := put σ.m ![h.val, 64 * j.val, 0] S1x64x128.size
      (shapeCast S1x64x128 (maxVal xs m) shapeCasts_S64x128_S1x64x128)
    a := put σ.a ![s.val, 64 * j.val, 0] S1x64x128.size
      (shapeCast S1x64x128 (alphaVal xs m) shapeCasts_S64x128_S1x64x128)
    p := put σ.p ![s.val, 64 * j.val, 0] S1x64x512.size
      (shapeCast S1x64x512 (catVal (probVals xs m)) shapeCasts_S64x512_S1x64x512) }

/-- After the first `n` strips of head `h`. -/
def stripsSt (mk : Bool) (h : Fin 6) (s : Fin 2) (σ : St F) : (n : ℕ) → n ≤ 8 → St F
  | 0, _ => σ
  | n + 1, hn => stripSt mk h s ⟨n, hn⟩ (stripsSt mk h s σ n (Nat.le_of_succ_le hn))

/-- After the accumulator of head `h`. -/
def pvSt (ε : Env F) (h : Fin 6) (s : Fin 2) (σ : St F) : St F :=
  { σ with
    acc := put σ.acc ![h.val, 0, 0] S1x512x128.size
      (accVal (window σ.p ![s.val, 0, 0] S1x512x512.size (inb_sfull s))
        (window ε.v ![0, h.val, 0, 0] S1x1x512x128.size (inb_v h))
        (window σ.a ![s.val, 0, 0] S1x512x128.size (inb_afull s))
        (window σ.acc ![h.val, 0, 0] S1x512x128.size (inb_mfull h))) }

/-- After the strips and the accumulator of head `h`. -/
def headSt (ε : Env F) (mk : Bool) (h : Fin 6) (s : Fin 2) (σ : St F) : St F :=
  pvSt ε h s (stripsSt mk h s σ 8 (Nat.le_refl 8))

/-- After the six heads. -/
def headsSt (ε : Env F) (mk : Bool) (σ : St F) : St F :=
  headSt ε mk 5 1 (headSt ε mk 4 0 (scoresSt ε 5 1 (headSt ε mk 3 1 (scoresSt ε 4 0 (headSt ε mk 2 0 (scoresSt ε 3 1
    (headSt ε mk 1 1 (scoresSt ε 2 0 (headSt ε mk 0 0 (scoresSt ε 1 1 (scoresSt ε 0 0 σ)))))))))))

/-- After the output of head `h`. -/
def fin1St (ε : Env F) (h : Fin 6) (σ : St F) : St F :=
  { σ with
    o := put σ.o ![0, 128 * h.val] S512x128.size
      (outVal (window σ.acc ![h.val, 0, 0] S1x512x128.size (inb_mfull h))
        (window σ.l ![h.val, 0, 0] S1x512x128.size (inb_mfull h))
        (window ε.g ![0, 128 * h.val] S512x128.size (inb_o h))) }

/-- After the outputs of the six heads. -/
def finSt (ε : Env F) (σ : St F) : St F :=
  fin1St ε 5 (fin1St ε 4 (fin1St ε 3 (fin1St ε 2 (fin1St ε 1 (fin1St ε 0 σ)))))

/-- One value everywhere. -/
def filled (b : BitVec 32) : S6x512x128.Idx → Elt F .f32 :=
  shapeCast S6x512x128 (broadcast S6x512x128 (Scalar.ofBits .f32 b : F .f32) : FVec F S6x512x128 .f32)
      shapeCasts_S6x512x128_S6x512x128

/-- After the reset. -/
def resetSt (σ : St F) : St F :=
  { σ with m := filled 0xFF800000#32, l := filled 0x00000000#32, acc := filled 0x00000000#32 }

/-- After the whole body. -/
def bodySt (ε : Env F) (qi ki : BitVec 32) (σ : St F) : St F :=
  let σ1 := if Scalar.cmpi .ne (Scalar.extui (Scalar.cmpi .eq ki 0#32) : BitVec 32) 0#32 = 1#1 then resetSt σ else σ
  let σ2 := if Scalar.cmpi .ne (Scalar.extui (Scalar.cmpi .slt ki qi) : BitVec 32) 0#32 = 1#1 then
    headsSt ε false σ1 else σ1
  if k0_cond3 qi ki = 1#1 then finSt ε (headsSt ε true σ2) else σ2

/-! ## The parts of the program run -/

section Run

variable {defs₀' : Defs nD τ sig (Elt F) Λ₀} {𝒱 : Variants} {c : Dev nD} {bd : Option 𝒱.V}
  {Γ : PendingWaitsCtx sig Unit} {E : Set Name} {R : Refs} {ε : Env F} {σ : St F}

theorem scores_run {Q : PUnit.{1} → sProp 𝕄} (h : Fin 6) (s : Fin 2) (K : PG F) :
    (Own c R ε σ : sProp 𝕄)
      ⊢ iprop((Own c R ε (scoresSt ε h s σ) -∗ wp frame (wpE' defs₀' 𝒱 c.tc bd Γ) E K Q)
        -∗ wp frame (wpE' defs₀' 𝒱 c.tc bd Γ) E (scores R h s K) Q) := by
  unfold Own scores scoresSt
  iintro ⟨Hq, Hk, Hv, Hg, Ho, Hm, Hl, Hacc, Hs, Hp, Ha⟩ HK
  iapply load_owns $$ Hq
  iintro Hq
  iapply load_owns $$ Hk
  iintro Hk
  iapply load_owns $$ Hs
  iintro Hs
  iapply store_owns $$ Hs
  iintro Hs
  iapply HK
  iframe

theorem chunks_run {Q : PUnit.{1} → sProp 𝕄} (mk : Bool) (s : Fin 2) (j : Fin 8) (x : S2x512x512.Idx → Elt F .f32)
    (cs : List (Fin 4)) (K : List (FVec F S64x128 .f32) → PG F) :
    (owns c R.s fullShare x : sProp 𝕄)
      ⊢ iprop((owns c R.s fullShare x -∗ wp frame (wpE' defs₀' 𝒱 c.tc bd Γ) E (K (chunksOf mk s j x cs)) Q)
        -∗ wp frame (wpE' defs₀' 𝒱 c.tc bd Γ) E (chunks R mk s j cs K) Q) := by
  induction cs generalizing K with
  | nil =>
    unfold chunks chunksOf
    iintro H HK
    iapply HK
    iexact H
  | cons d ds ih =>
    unfold chunks
    iintro H HK
    iapply load_owns $$ H
    iintro H
    iapply (ih fun xs => K (chunkVal mk j d (window x ![s.val, 64 * j.val, 128 * d.val] S1x64x128.size (inb_s s j d)) :: xs)) $$ H
    iintro H
    iapply HK
    iexact H

theorem strip_run {Q : PUnit.{1} → sProp 𝕄} (mk : Bool) (h : Fin 6) (s : Fin 2) (j : Fin 8) (K : PG F) :
    (Own c R ε σ : sProp 𝕄)
      ⊢ iprop((Own c R ε (stripSt mk h s j σ) -∗ wp frame (wpE' defs₀' 𝒱 c.tc bd Γ) E K Q) -∗ wp frame (wpE' defs₀' 𝒱 c.tc bd Γ) E (strip R mk h s j K) Q) := by
  unfold Own strip stripSt
  iintro ⟨Hq, Hk, Hv, Hg, Ho, Hm, Hl, Hacc, Hs, Hp, Ha⟩ HK
  iapply chunks_run $$ Hs
  iintro Hs
  unfold stripRest
  iapply load_owns $$ Hm
  iintro Hm
  iapply load_owns $$ Hl
  iintro Hl
  iapply load_owns $$ Hl
  iintro Hl
  iapply store_owns $$ Hl
  iintro Hl
  iapply load_owns $$ Hm
  iintro Hm
  iapply store_owns $$ Hm
  iintro Hm
  iapply load_owns $$ Ha
  iintro Ha
  iapply store_owns $$ Ha
  iintro Ha
  iapply load_owns $$ Hp
  iintro Hp
  iapply store_owns $$ Hp
  iintro Hp
  iapply HK
  iframe

theorem pv_run {Q : PUnit.{1} → sProp 𝕄} (h : Fin 6) (s : Fin 2) (K : PG F) :
    (Own c R ε σ : sProp 𝕄)
      ⊢ iprop((Own c R ε (pvSt ε h s σ) -∗ wp frame (wpE' defs₀' 𝒱 c.tc bd Γ) E K Q) -∗ wp frame (wpE' defs₀' 𝒱 c.tc bd Γ) E (pv R h s K) Q) := by
  unfold Own pv pvSt
  iintro ⟨Hq, Hk, Hv, Hg, Ho, Hm, Hl, Hacc, Hs, Hp, Ha⟩ HK
  iapply load_owns $$ Hp
  iintro Hp
  iapply load_owns $$ Hv
  iintro Hv
  iapply load_owns $$ Ha
  iintro Ha
  iapply load_owns $$ Hacc
  iintro Hacc
  iapply load_owns $$ Hacc
  iintro Hacc
  iapply store_owns $$ Hacc
  iintro Hacc
  iapply HK
  iframe

theorem fin1_run {Q : PUnit.{1} → sProp 𝕄} (h : Fin 6) (K : PG F) :
    (Own c R ε σ : sProp 𝕄)
      ⊢ iprop((Own c R ε (fin1St ε h σ) -∗ wp frame (wpE' defs₀' 𝒱 c.tc bd Γ) E K Q) -∗ wp frame (wpE' defs₀' 𝒱 c.tc bd Γ) E (fin1 R h K) Q) := by
  unfold Own fin1 fin1St
  iintro ⟨Hq, Hk, Hv, Hg, Ho, Hm, Hl, Hacc, Hs, Hp, Ha⟩ HK
  iapply load_owns $$ Hacc
  iintro Hacc
  iapply load_owns $$ Hl
  iintro Hl
  iapply load_owns $$ Hg
  iintro Hg
  iapply load_owns $$ Ho
  iintro Ho
  iapply store_owns $$ Ho
  iintro Ho
  iapply HK
  iframe

/-- Sizes of a whole buffer at zero offsets: the payload is all there is. -/
theorem put_all {α : Type} (x w : S6x512x128.Idx → α) :
    put x ![0, 0, 0] S6x512x128.size w = w := by
  have h1 := window_put_same x ![0, 0, 0] S6x512x128.size inb_S6x512x128_S6x512x128_0_0_0 w
  rw [← h1]
  funext y
  have : (Rect.unit (s := S6x512x128) ![0, 0, 0] S6x512x128.size inb_S6x512x128_S6x512x128_0_0_0).emb y = y := by
    funext a
    apply Fin.ext
    show ![0, 0, 0] a + 1 * (y a).val = (y a).val
    fin_cases a <;> simp
  rw [h1]
  have h2 := congrFun h1 y
  rw [← h2]
  unfold window
  rw [this]

theorem fill_run {Q : PUnit.{1} → sProp 𝕄} (r : Memref sig .tc .vmem S6x512x128 .f32) (b : BitVec 32)
    (x : S6x512x128.Idx → Elt F .f32) (K : PG F) :
    (owns c r fullShare x : sProp 𝕄)
      ⊢ iprop((owns c r fullShare (filled b) -∗ wp frame (wpE' defs₀' 𝒱 c.tc bd Γ) E K Q) -∗ wp frame (wpE' defs₀' 𝒱 c.tc bd Γ) E (fill r b K) Q) := by
  unfold fill
  iintro H HK
  iapply load_owns $$ H
  iintro H
  iapply store_owns $$ H
  rw [put_all]
  iintro H
  iapply HK
  iexact H

theorem reset_run {Q : PUnit.{1} → sProp 𝕄} (K : PG F) :
    (Own c R ε σ : sProp 𝕄)
      ⊢ iprop((Own c R ε (resetSt σ) -∗ wp frame (wpE' defs₀' 𝒱 c.tc bd Γ) E K Q) -∗ wp frame (wpE' defs₀' 𝒱 c.tc bd Γ) E (reset R K) Q) := by
  unfold Own reset resetSt
  iintro ⟨Hq, Hk, Hv, Hg, Ho, Hm, Hl, Hacc, Hs, Hp, Ha⟩ HK
  iapply fill_run $$ Hm
  iintro Hm
  iapply fill_run $$ Hl
  iintro Hl
  iapply fill_run $$ Hacc
  iintro Hacc
  iapply HK
  iframe

theorem head_run {Q : PUnit.{1} → sProp 𝕄} (mk : Bool) (h : Fin 6) (s : Fin 2) (K : PG F) :
    (Own c R ε σ : sProp 𝕄)
      ⊢ iprop((Own c R ε (headSt ε mk h s σ) -∗ wp frame (wpE' defs₀' 𝒱 c.tc bd Γ) E K Q) -∗ wp frame (wpE' defs₀' 𝒱 c.tc bd Γ) E (strips R mk h s (pv R h s K)) Q) := by
  unfold strips
  iintro H HK
  iapply strip_run $$ H
  iintro H
  iapply strip_run $$ H
  iintro H
  iapply strip_run $$ H
  iintro H
  iapply strip_run $$ H
  iintro H
  iapply strip_run $$ H
  iintro H
  iapply strip_run $$ H
  iintro H
  iapply strip_run $$ H
  iintro H
  iapply strip_run $$ H
  iintro H
  iapply pv_run $$ H
  iintro H
  iapply HK
  iexact H

theorem heads_run {Q : PUnit.{1} → sProp 𝕄} (mk : Bool) (K : PG F) :
    (Own c R ε σ : sProp 𝕄)
      ⊢ iprop((Own c R ε (headsSt ε mk σ) -∗ wp frame (wpE' defs₀' 𝒱 c.tc bd Γ) E K Q) -∗ wp frame (wpE' defs₀' 𝒱 c.tc bd Γ) E (heads R mk K) Q) := by
  unfold heads headsSt
  iintro H HK
  iapply scores_run $$ H
  iintro H
  iapply scores_run $$ H
  iintro H
  iapply head_run $$ H
  iintro H
  iapply scores_run $$ H
  iintro H
  iapply head_run $$ H
  iintro H
  iapply scores_run $$ H
  iintro H
  iapply head_run $$ H
  iintro H
  iapply scores_run $$ H
  iintro H
  iapply head_run $$ H
  iintro H
  iapply scores_run $$ H
  iintro H
  iapply head_run $$ H
  iintro H
  iapply head_run $$ H
  iintro H
  iapply HK
  iexact H

theorem fin_run {Q : PUnit.{1} → sProp 𝕄} (K : PG F) :
    (Own c R ε σ : sProp 𝕄)
      ⊢ iprop((Own c R ε (finSt ε σ) -∗ wp frame (wpE' defs₀' 𝒱 c.tc bd Γ) E K Q) -∗ wp frame (wpE' defs₀' 𝒱 c.tc bd Γ) E (fin R K) Q) := by
  unfold fin finSt
  iintro H HK
  iapply fin1_run $$ H
  iintro H
  iapply fin1_run $$ H
  iintro H
  iapply fin1_run $$ H
  iintro H
  iapply fin1_run $$ H
  iintro H
  iapply fin1_run $$ H
  iintro H
  iapply fin1_run $$ H
  iintro H
  iapply HK
  iexact H

/-- The whole body, from the two table entries. -/
theorem body_run {Q : PUnit.{1} → sProp 𝕄} (qi ki : BitVec 32) :
    (Own c R ε σ : sProp 𝕄)
      ⊢ iprop((Own c R ε (bodySt ε qi ki σ) -∗ Q ⟨⟩) -∗ wp frame (wpE' defs₀' 𝒱 c.tc bd Γ) E (attnAt R qi ki : PG F) Q) := by
  have h3 : ∀ σ : St F, (Own c R ε σ : sProp 𝕄)
      ⊢ iprop((Own c R ε (if k0_cond3 qi ki = 1#1 then finSt ε (headsSt ε true σ) else σ) -∗ Q ⟨⟩)
        -∗ wp frame (wpE' defs₀' 𝒱 c.tc bd Γ) E (if k0_cond3 qi ki = 1#1 then heads R true (fin R (.ret ⟨⟩)) else .ret ⟨⟩ : PG F) Q) := by
    intro σ
    split
    · iintro H HK
      iapply heads_run $$ H
      iintro H
      iapply fin_run $$ H
      iintro H
      rw [wp_ret]
      imodintro
      iapply HK
      iexact H
    · iintro H HK
      rw [wp_ret]
      imodintro
      iapply HK
      iexact H
  unfold bodySt attnAt
  split
  · split
    · iintro H HK
      iapply reset_run $$ H
      iintro H
      iapply heads_run $$ H
      iintro H
      iapply h3 $$ H
      iexact HK
    · iintro H HK
      iapply reset_run $$ H
      iintro H
      iapply h3 $$ H
      iexact HK
  · split
    · iintro H HK
      iapply heads_run $$ H
      iintro H
      iapply h3 $$ H
      iexact HK
    · exact h3 σ

end Run

end Cert.KernelIdeal.Attn

end
-- ==== Proof.Core.lean ====
/-
  What a grid point carries to the next: the running maxima, the lane sums and the accumulator, as functions of
  what they were. The slots for scores, probabilities and rescaling factors are written before they are read, so
  nothing depends on what they held.
-/
module

public import proofs.«01_k».proof.Proof.Exec
public import Idealize.ShloMosaic.Lib.ValueIdx
public import Idealize.ShloMosaic.Lib.ValueIdxCoords

@[expose] public section

noncomputable section

namespace Cert.KernelIdeal.Attn

open Idealize.ShloMosaic Cert.KernelIdeal Cert.KernelIdeal.Gen
open VecWindow ValueIdx

/-! ## Windows and stores of rank three, element by element -/

section Elem

variable {α : Type} {A B C : ℕ}

/-- A store of 64 rows of plane `i` from row `64 j`. -/
theorem put_strip (x : (⟨3, ![A, B, C]⟩ : Shape).Idx → α) (i j : ℕ) (w : (⟨3, ![1, 64, C]⟩ : Shape).Idx → α)
    (y : (⟨3, ![A, B, C]⟩ : Shape).Idx) :
    put x ![i, 64 * j, 0] ![1, 64, C] w y
      = if (y 0).val = i ∧ (y 1).val / 64 = j then w (ix3 0 ⟨(y 1).val % 64, Nat.mod_lt _ (by norm_num)⟩ (y 2)) else x y := by
  have h2 : (y 2).val < C := (y 2).isLt
  unfold put
  by_cases h : (y 0).val = i ∧ (y 1).val / 64 = j
  · have h' : ∀ a, ![i, 64 * j, 0] a ≤ (y a).val ∧ (y a).val < ![i, 64 * j, 0] a + ![1, 64, C] a := by
      intro a
      match a with
      | ⟨0, _⟩ => show i ≤ (y 0).val ∧ (y 0).val < i + 1; omega
      | ⟨1, _⟩ => show 64 * j ≤ (y 1).val ∧ (y 1).val < 64 * j + 64; omega
      | ⟨2, _⟩ => show 0 ≤ (y 2).val ∧ (y 2).val < 0 + C; omega
    rw [dif_pos h', if_pos h]
    congr 1
    funext a
    apply Fin.ext
    match a with
    | ⟨0, _⟩ => show (y 0).val - i = 0; omega
    | ⟨1, _⟩ => show (y 1).val - 64 * j = (y 1).val % 64; omega
    | ⟨2, _⟩ => show (y 2).val - 0 = (y 2).val; omega
  · rw [if_neg h, dif_neg]
    intro h'
    have h0 : i ≤ (y 0).val ∧ (y 0).val < i + 1 := h' 0
    have h1 : 64 * j ≤ (y 1).val ∧ (y 1).val < 64 * j + 64 := h' 1
    omega

/-- A store of plane `i`. -/
theorem put_plane (x : (⟨3, ![A, B, C]⟩ : Shape).Idx → α) (i : ℕ) (w : (⟨3, ![1, B, C]⟩ : Shape).Idx → α)
    (y : (⟨3, ![A, B, C]⟩ : Shape).Idx) :
    put x ![i, 0, 0] ![1, B, C] w y = if (y 0).val = i then w (ix3 0 (y 1) (y 2)) else x y := by
  have h1 : (y 1).val < B := (y 1).isLt
  have h2 : (y 2).val < C := (y 2).isLt
  unfold put
  by_cases h : (y 0).val = i
  · have h' : ∀ a, ![i, 0, 0] a ≤ (y a).val ∧ (y a).val < ![i, 0, 0] a + ![1, B, C] a := by
      intro a
      match a with
      | ⟨0, _⟩ => show i ≤ (y 0).val ∧ (y 0).val < i + 1; omega
      | ⟨1, _⟩ => show 0 ≤ (y 1).val ∧ (y 1).val < 0 + B; omega
      | ⟨2, _⟩ => show 0 ≤ (y 2).val ∧ (y 2).val < 0 + C; omega
    rw [dif_pos h', if_pos h]
    congr 1
    funext a
    apply Fin.ext
    match a with
    | ⟨0, _⟩ => show (y 0).val - i = 0; omega
    | ⟨1, _⟩ => show (y 1).val - 0 = (y 1).val; omega
    | ⟨2, _⟩ => show (y 2).val - 0 = (y 2).val; omega
  · rw [if_neg h, dif_neg]
    intro h'
    have h0 : i ≤ (y 0).val ∧ (y 0).val < i + 1 := h' 0
    omega

/-- A store of 128 columns from column `128 h`. -/
theorem put_cols (x : (⟨2, ![A, B]⟩ : Shape).Idx → α) (h : ℕ) (w : (⟨2, ![A, 128]⟩ : Shape).Idx → α)
    (y : (⟨2, ![A, B]⟩ : Shape).Idx) :
    put x ![0, 128 * h] ![A, 128] w y
      = if (y 1).val / 128 = h then w (ix2 (y 0) ⟨(y 1).val % 128, Nat.mod_lt _ (by norm_num)⟩) else x y := by
  have h0 : (y 0).val < A := (y 0).isLt
  unfold put
  by_cases hh : (y 1).val / 128 = h
  · have h' : ∀ a, ![0, 128 * h] a ≤ (y a).val ∧ (y a).val < ![0, 128 * h] a + ![A, 128] a := by
      intro a
      match a with
      | ⟨0, _⟩ => show 0 ≤ (y 0).val ∧ (y 0).val < 0 + A; omega
      | ⟨1, _⟩ => show 128 * h ≤ (y 1).val ∧ (y 1).val < 128 * h + 128; omega
    rw [dif_pos h', if_pos hh]
    congr 1
    funext a
    apply Fin.ext
    match a with
    | ⟨0, _⟩ => show (y 0).val - 0 = (y 0).val; omega
    | ⟨1, _⟩ => show (y 1).val - 128 * h = (y 1).val % 128; omega
  · rw [if_neg hh, dif_neg]
    intro h'
    have h1 : 128 * h ≤ (y 1).val ∧ (y 1).val < 128 * h + 128 := h' 1
    omega

end Elem

variable {F : FTy → Type} [FloatOps F] [Named F]

/-! ## One head -/

/-- The chunks of strip `j` of a score block. -/
def xsOf (mk : Bool) (X : S1x512x512.Idx → Elt F .f32) (j : Fin 8) : List (FVec F S64x128 .f32) :=
  chunksOf mk 0 j (fun y => X (ix3 0 (y 1) (y 2))) (live mk j)

/-- The strip a row of a block lies in. -/
def strOf (r : Fin 512) : Fin 8 := ⟨r.val / 64, by have := r.isLt; omega⟩

/-- Its place there. -/
def inStr (r : Fin 512) : Fin 64 := ⟨r.val % 64, Nat.mod_lt _ (by norm_num)⟩

/-- Strip `j` of plane `h`. -/
abbrev stripWin (x : S6x512x128.Idx → Elt F .f32) (h : Fin 6) (j : Fin 8) : Vec F S1x64x128 .f32 :=
  window x ![h.val, 64 * j.val, 0] S1x64x128.size (inb_m h j)

/-- The running maxima after head `h`, its scores `X`. -/
def newM (mk : Bool) (X : S1x512x512.Idx → Elt F .f32) (h : Fin 6) (m : S6x512x128.Idx → Elt F .f32) :
    S6x512x128.Idx → Elt F .f32 := fun y =>
  if (y 0).val = h.val then
    (shapeCast S1x64x128 (maxVal (xsOf mk X (strOf (y 1))) (stripWin m h (strOf (y 1)))) shapeCasts_S64x128_S1x64x128 :
      FVec F S1x64x128 .f32) (ix3 0 (inStr (y 1)) (y 2))
  else m y

/-- The lane sums after head `h`. -/
def newL (mk : Bool) (X : S1x512x512.Idx → Elt F .f32) (h : Fin 6) (m l : S6x512x128.Idx → Elt F .f32) :
    S6x512x128.Idx → Elt F .f32 := fun y =>
  if (y 0).val = h.val then
    (shapeCast S1x64x128 (sumVal (xsOf mk X (strOf (y 1))) (stripWin m h (strOf (y 1))) (stripWin l h (strOf (y 1))))
      shapeCasts_S64x128_S1x64x128 : FVec F S1x64x128 .f32) (ix3 0 (inStr (y 1)) (y 2))
  else l y

/-- The probabilities of head `h`. -/
def newP (mk : Bool) (X : S1x512x512.Idx → Elt F .f32) (h : Fin 6) (m : S6x512x128.Idx → Elt F .f32) :
    S1x512x512.Idx → Elt F .bf16 := fun y =>
  (shapeCast S1x64x512 (catVal (probVals (xsOf mk X (strOf (y 1))) (stripWin m h (strOf (y 1))))) shapeCasts_S64x512_S1x64x512 :
    FVec F S1x64x512 .bf16) (ix3 0 (inStr (y 1)) (y 2))

/-- The rescaling factors of head `h`. -/
def newA (mk : Bool) (X : S1x512x512.Idx → Elt F .f32) (h : Fin 6) (m : S6x512x128.Idx → Elt F .f32) :
    S1x512x128.Idx → Elt F .f32 := fun y =>
  (shapeCast S1x64x128 (alphaVal (xsOf mk X (strOf (y 1))) (stripWin m h (strOf (y 1)))) shapeCasts_S64x128_S1x64x128 :
    FVec F S1x64x128 .f32) (ix3 0 (inStr (y 1)) (y 2))

/-- What is carried from grid point to grid point. -/
structure Core (F : FTy → Type) where
  m : S6x512x128.Idx → Elt F .f32
  l : S6x512x128.Idx → Elt F .f32
  acc : S6x512x128.Idx → Elt F .f32

/-- The carried part of the contents. -/
def St.core (σ : St F) : Core F := ⟨σ.m, σ.l, σ.acc⟩

/-- The scores of head `h`. -/
def scoreOf (ε : Env F) (h : Fin 6) : S1x512x512.Idx → Elt F .f32 :=
  scoreVal (window ε.q ![0, h.val, 0, 0] S1x1x512x256.size (inb_q h))
    (window ε.k ![0, h.val, 0, 0] S1x1x512x256.size (inb_q h))

/-- The carried part after head `h`. -/
def headCore (ε : Env F) (mk : Bool) (h : Fin 6) (x : Core F) : Core F where
  m := newM mk (scoreOf ε h) h x.m
  l := newL mk (scoreOf ε h) h x.m x.l
  acc := put x.acc ![h.val, 0, 0] S1x512x128.size
    (accVal (newP mk (scoreOf ε h) h x.m) (window ε.v ![0, h.val, 0, 0] S1x1x512x128.size (inb_v h))
      (newA mk (scoreOf ε h) h x.m) (window x.acc ![h.val, 0, 0] S1x512x128.size (inb_mfull h)))

/-- The chunks of a slot are the chunks of the score block it holds. -/
theorem chunksOf_slot (mk : Bool) (s : Fin 2) (j : Fin 8) (x : S2x512x512.Idx → Elt F .f32)
    (X : S1x512x512.Idx → Elt F .f32) (hx : window x ![s.val, 0, 0] S1x512x512.size (inb_sfull s) = X) :
    chunksOf mk s j x (live mk j) = xsOf mk X j := by
  unfold xsOf chunksOf
  refine List.map_congr_left fun c _ => ?_
  congr 1
  funext z
  subst hx
  unfold window
  congr 1
  funext a
  apply Fin.ext
  match a with
  | ⟨0, _⟩ =>
    have hz : (z 0).val < 1 := (z 0).isLt
    show s.val + 1 * (z 0).val = s.val + 1 * 0
    omega
  | ⟨1, _⟩ =>
    show 64 * j.val + 1 * (z 1).val = 0 + 1 * (64 * j.val + 1 * (z 1).val)
    omega
  | ⟨2, _⟩ =>
    show 128 * c.val + 1 * (z 2).val = 0 + 1 * (128 * c.val + 1 * (z 2).val)
    omega

/-- The strips below `n` of plane `h` are `b`, everything else is `x`. -/
def upto {A C : ℕ} {e : EltTy} (h n : ℕ) (x b : (⟨3, ![A, 512, C]⟩ : Shape).Idx → Elt F e) :
    (⟨3, ![A, 512, C]⟩ : Shape).Idx → Elt F e := fun y => if (y 0).val = h ∧ (y 1).val / 64 < n then b y else x y

theorem upto_zero {A C : ℕ} {e : EltTy} (h : ℕ) (x b : (⟨3, ![A, 512, C]⟩ : Shape).Idx → Elt F e) : upto h 0 x b = x :=
  funext fun y => if_neg fun hh => absurd hh.2 (Nat.not_lt_zero _)

theorem upto_put {A C : ℕ} {e : EltTy} (h n : ℕ) (x b : (⟨3, ![A, 512, C]⟩ : Shape).Idx → Elt F e)
    (w : (⟨3, ![1, 64, C]⟩ : Shape).Idx → Elt F e)
    (hw : ∀ y : (⟨3, ![A, 512, C]⟩ : Shape).Idx, (y 0).val = h → (y 1).val / 64 = n →
      w (ix3 0 ⟨(y 1).val % 64, Nat.mod_lt _ (by norm_num)⟩ (y 2)) = b y) :
    put (upto h n x b) ![h, 64 * n, 0] ![1, 64, C] w = upto h (n + 1) x b := by
  funext y
  rw [put_strip]
  unfold upto
  by_cases h0 : (y 0).val = h
  · by_cases h1 : (y 1).val / 64 = n
    · rw [if_pos ⟨h0, h1⟩, if_pos ⟨h0, by omega⟩, hw y h0 h1]
    · rw [if_neg (fun hh => h1 hh.2)]
      by_cases h2 : (y 1).val / 64 < n
      · rw [if_pos ⟨h0, h2⟩, if_pos ⟨h0, by omega⟩]
      · rw [if_neg (fun hh => h2 hh.2), if_neg (fun hh => h2 (by omega))]
  · rw [if_neg (fun hh => h0 hh.1), if_neg (fun hh => h0 hh.1), if_neg (fun hh => h0 hh.1)]

/-- A strip not yet reached is the old one. -/
theorem upto_strip (h : Fin 6) (n : ℕ) (hn : n < 8) (x b : S6x512x128.Idx → Elt F .f32) :
    stripWin (upto (A := 6) (C := 128) (e := .f32) h.val n x b) h ⟨n, hn⟩ = stripWin x h ⟨n, hn⟩ := by
  funext z
  refine if_neg fun hh => ?_
  have h1 := hh.2
  have e1 : (((Rect.unit (s := S6x512x128) ![h.val, 64 * n, 0] S1x64x128.size (inb_m h ⟨n, hn⟩)).emb z) 1).val
      = 64 * n + 1 * (z 1).val := rfl
  rw [e1] at h1
  omega

/-- Every strip. -/
theorem upto_eight {A C : ℕ} {e : EltTy} (h : ℕ) (x b : (⟨3, ![A, 512, C]⟩ : Shape).Idx → Elt F e) :
    upto h 8 x b = fun y => if (y 0).val = h then b y else x y := by
  funext y
  have hy : (y 1).val < 512 := (y 1).isLt
  unfold upto
  by_cases h0 : (y 0).val = h
  · rw [if_pos ⟨h0, by omega⟩, if_pos h0]
  · rw [if_neg (fun hh => h0 hh.1), if_neg h0]

/-- The contents after the first `n` strips. -/
theorem strips_upto (mk : Bool) (h : Fin 6) (s : Fin 2) (σ : St F) (X : S1x512x512.Idx → Elt F .f32)
    (hX : window σ.s ![s.val, 0, 0] S1x512x512.size (inb_sfull s) = X) : ∀ (n : ℕ) (hn : n ≤ 8),
    stripsSt mk h s σ n hn =
      { σ with
        m := upto (A := 6) (C := 128) (e := .f32) h.val n σ.m (newM mk X h σ.m)
        l := upto (A := 6) (C := 128) (e := .f32) h.val n σ.l (newL mk X h σ.m σ.l)
        a := upto (A := 2) (C := 128) (e := .f32) s.val n σ.a (fun y => newA mk X h σ.m (ix3 0 (y 1) (y 2)))
        p := upto (A := 2) (C := 512) (e := .bf16) s.val n σ.p (fun y => newP mk X h σ.m (ix3 0 (y 1) (y 2))) } := by
  intro n
  induction n with
  | zero =>
    intro hn
    simp only [upto_zero]
    rfl
  | succ n ih =>
    intro hn
    have hstr : ∀ r : Fin 512, r.val / 64 = n → strOf r = ⟨n, hn⟩ := fun r hr => Fin.ext hr
    have e0 : stripsSt mk h s σ (n + 1) hn = stripSt mk h s ⟨n, hn⟩ (stripsSt mk h s σ n (Nat.le_of_succ_le hn)) := rfl
    rw [e0, ih]
    unfold stripSt
    simp only
    rw [chunksOf_slot mk s ⟨n, hn⟩ σ.s X hX]
    have em := upto_strip h n hn σ.m (newM mk X h σ.m)
    have el := upto_strip h n hn σ.l (newL mk X h σ.m σ.l)
    unfold stripWin at em el
    rw [em, el]
    rw [St.mk.injEq]
    refine ⟨rfl, ?_, ?_, rfl, rfl, ?_, ?_⟩
    · refine upto_put (A := 6) (C := 128) (e := .f32) h.val n σ.m (newM mk X h σ.m) _ fun y h0 h1 => ?_
      unfold newM
      rw [if_pos h0, hstr (y 1) h1]
      rfl
    · refine upto_put (A := 6) (C := 128) (e := .f32) h.val n σ.l (newL mk X h σ.m σ.l) _ fun y h0 h1 => ?_
      unfold newL
      rw [if_pos h0, hstr (y 1) h1]
      rfl
    · refine upto_put (A := 2) (C := 512) (e := .bf16) s.val n σ.p _ _ fun y h0 h1 => ?_
      show _ = newP mk X h σ.m (ix3 0 (y 1) (y 2))
      unfold newP
      simp only [ix3_1, ix3_2]
      rw [hstr (y 1) h1]
      rfl
    · refine upto_put (A := 2) (C := 128) (e := .f32) s.val n σ.a _ _ fun y h0 h1 => ?_
      show _ = newA mk X h σ.m (ix3 0 (y 1) (y 2))
      unfold newA
      simp only [ix3_1, ix3_2]
      rw [hstr (y 1) h1]
      rfl

/-- A plane of the second half of a whole write. -/
theorem plane_upto {C : ℕ} {e : EltTy} (s : Fin 2) (x : (⟨3, ![2, 512, C]⟩ : Shape).Idx → Elt F e)
    (b : (⟨3, ![1, 512, C]⟩ : Shape).Idx → Elt F e)
    (inb : ∀ a, (![s.val, 0, 0] : Fin 3 → ℕ) a + (![1, 512, C] : Fin 3 → ℕ) a ≤ (![2, 512, C] : Fin 3 → ℕ) a) :
    window (s := ⟨3, ![2, 512, C]⟩) (upto s.val 8 x (fun y => b (ix3 0 (y 1) (y 2)))) ![s.val, 0, 0] ![1, 512, C] inb = b := by
  rw [upto_eight]
  funext z
  have hz : (z 0).val < 1 := (z 0).isLt
  refine (if_pos (show s.val + 1 * (z 0).val = s.val by omega)).trans ?_
  congr 1
  funext a
  apply Fin.ext
  match a with
  | ⟨0, _⟩ => show 0 = (z 0).val; omega
  | ⟨1, _⟩ => show 0 + 1 * (z 1).val = (z 1).val; omega
  | ⟨2, _⟩ => show 0 + 1 * (z 2).val = (z 2).val; omega

/-- A head, its scores in the slot. -/
theorem head_core (ε : Env F) (mk : Bool) (h : Fin 6) (s : Fin 2) (σ : St F)
    (hX : window σ.s ![s.val, 0, 0] S1x512x512.size (inb_sfull s) = scoreOf ε h) :
    (headSt ε mk h s σ).core = headCore ε mk h σ.core ∧ (headSt ε mk h s σ).s = σ.s := by
  unfold headSt
  rw [strips_upto mk h s σ _ hX]
  refine ⟨?_, rfl⟩
  unfold pvSt headCore St.core
  rw [Core.mk.injEq]
  refine ⟨?_, ?_, ?_⟩
  · refine (upto_eight (A := 6) (C := 128) (e := .f32) h.val σ.m (newM mk (scoreOf ε h) h σ.m)).trans ?_
    funext y
    show (if _ then _ else _) = _
    by_cases h0 : (y 0).val = h.val
    · rw [if_pos h0]
    · rw [if_neg h0]; exact (if_neg h0).symm
  · refine (upto_eight (A := 6) (C := 128) (e := .f32) h.val σ.l (newL mk (scoreOf ε h) h σ.m σ.l)).trans ?_
    funext y
    show (if _ then _ else _) = _
    by_cases h0 : (y 0).val = h.val
    · rw [if_pos h0]
    · rw [if_neg h0]; exact (if_neg h0).symm
  · have e1 := plane_upto s σ.p (newP mk (scoreOf ε h) h σ.m) (inb_sfull s)
    have e2 := plane_upto s σ.a (newA mk (scoreOf ε h) h σ.m) (inb_afull s)
    simp only
    congr 2

theorem scores_core (ε : Env F) (h : Fin 6) (s : Fin 2) (σ : St F) : (scoresSt ε h s σ).core = σ.core := rfl

theorem scores_same (ε : Env F) (h : Fin 6) (s : Fin 2) (σ : St F) :
    window (scoresSt ε h s σ).s ![s.val, 0, 0] S1x512x512.size (inb_sfull s) = scoreOf ε h :=
  window_put_same _ _ _ _ _

theorem scores_other (ε : Env F) (h : Fin 6) (s s' : Fin 2) (hs : s'.val + 1 ≤ s.val ∨ s.val + 1 ≤ s'.val) (σ : St F) :
    window (scoresSt ε h s σ).s ![s'.val, 0, 0] S1x512x512.size (inb_sfull s')
      = window σ.s ![s'.val, 0, 0] S1x512x512.size (inb_sfull s') :=
  window_put_of_disjoint _ _ _ _ _ _ _ 0 hs

/-- The carried part after the six heads. -/
def headsCore (ε : Env F) (mk : Bool) (x : Core F) : Core F :=
  headCore ε mk 5 (headCore ε mk 4 (headCore ε mk 3 (headCore ε mk 2 (headCore ε mk 1 (headCore ε mk 0 x)))))

/-- A head, then the scores of a later one: what holds before is carried over. -/
theorem head_scores (ε : Env F) (mk : Bool) (h h' h'' : Fin 6) (s s' : Fin 2)
    (hs : s'.val + 1 ≤ s.val ∨ s.val + 1 ≤ s'.val) (σ : St F) (x : Core F) (hx : σ.core = x)
    (hX : window σ.s ![s.val, 0, 0] S1x512x512.size (inb_sfull s) = scoreOf ε h)
    (hX' : window σ.s ![s'.val, 0, 0] S1x512x512.size (inb_sfull s') = scoreOf ε h') :
    (scoresSt ε h'' s (headSt ε mk h s σ)).core = headCore ε mk h x
      ∧ window (scoresSt ε h'' s (headSt ε mk h s σ)).s ![s'.val, 0, 0] S1x512x512.size (inb_sfull s') = scoreOf ε h'
      ∧ window (scoresSt ε h'' s (headSt ε mk h s σ)).s ![s.val, 0, 0] S1x512x512.size (inb_sfull s) = scoreOf ε h'' := by
  obtain ⟨h1, h2⟩ := head_core ε mk h s σ hX
  refine ⟨?_, ?_, scores_same ε h'' s _⟩
  · rw [scores_core, h1, hx]
  · rw [scores_other ε h'' s s' hs, h2, hX']

theorem heads_core (ε : Env F) (mk : Bool) (σ : St F) : (headsSt ε mk σ).core = headsCore ε mk σ.core := by
  have a0 : (scoresSt ε 1 1 (scoresSt ε 0 0 σ)).core = σ.core := rfl
  have a1 : window (scoresSt ε 1 1 (scoresSt ε 0 0 σ)).s ![(0 : Fin 2).val, 0, 0] S1x512x512.size (inb_sfull 0) = scoreOf ε 0 := by
    rw [scores_other ε 1 1 0 (by decide), scores_same]
  have a2 := scores_same ε 1 1 (scoresSt ε 0 0 σ)
  obtain ⟨b0, b1, b2⟩ := head_scores ε mk 0 1 2 0 1 (by decide) _ _ a0 a1 a2
  obtain ⟨c0, c1, c2⟩ := head_scores ε mk 1 2 3 1 0 (by decide) _ _ b0 b1 b2
  obtain ⟨d0, d1, d2⟩ := head_scores ε mk 2 3 4 0 1 (by decide) _ _ c0 c1 c2
  obtain ⟨e0, e1, e2⟩ := head_scores ε mk 3 4 5 1 0 (by decide) _ _ d0 d1 d2
  obtain ⟨f0, f1⟩ := head_core ε mk 4 0 _ e1
  obtain ⟨g0, g1⟩ := head_core ε mk 5 1 (headSt ε mk 4 0 _) ((congrArg (fun x => window x _ _ _) f1).trans e2)
  unfold headsSt headsCore
  rw [g0, f0, e0]

/-! ## The output -/

/-- The gated output block. -/
def outOf (ε : Env F) (x : Core F) : S512x768.Idx → Elt F .bf16 := fun y =>
  have hh : (y 1).val / 128 < 6 := by have : (y 1).val < 768 := (y 1).isLt; omega
  outVal (window x.acc ![(y 1).val / 128, 0, 0] S1x512x128.size (inb_mfull ⟨_, hh⟩))
    (window x.l ![(y 1).val / 128, 0, 0] S1x512x128.size (inb_mfull ⟨_, hh⟩))
    (window ε.g ![0, 128 * ((y 1).val / 128)] S512x128.size (inb_o ⟨_, hh⟩))
    (ix2 (y 0) ⟨(y 1).val % 128, Nat.mod_lt _ (by norm_num)⟩)

/-- The columns of the first `n` heads are the output's. -/
def OutUpto (ε : Env F) (n : ℕ) (x : Core F) (σ : St F) : Prop :=
  σ.core = x ∧ ∀ y : S512x768.Idx, (y 1).val / 128 < n → σ.o y = outOf ε x y

theorem outUpto_step (ε : Env F) (h : Fin 6) (x : Core F) (σ : St F) (hσ : OutUpto ε h.val x σ) :
    OutUpto ε (h.val + 1) x (fin1St ε h σ) := by
  obtain ⟨h0, h1⟩ := hσ
  subst h0
  refine ⟨rfl, fun y hy => ?_⟩
  have e := put_cols (A := 512) (B := 768) σ.o h.val
    (outVal (window σ.acc ![h.val, 0, 0] S1x512x128.size (inb_mfull h))
        (window σ.l ![h.val, 0, 0] S1x512x128.size (inb_mfull h))
        (window ε.g ![0, 128 * h.val] S512x128.size (inb_o h))) y
  refine Eq.trans e ?_
  by_cases hh : (y 1).val / 128 = h.val
  · rw [if_pos hh]
    obtain ⟨h, hlt⟩ := h
    simp only at hh
    subst hh
    rfl
  · rw [if_neg hh]
    exact h1 y (by omega)

theorem fin_out (ε : Env F) (σ : St F) : (finSt ε σ).core = σ.core ∧ (finSt ε σ).o = outOf ε σ.core := by
  have h0 : OutUpto ε 0 σ.core σ := ⟨rfl, fun y hy => absurd hy (Nat.not_lt_zero _)⟩
  have h6 := outUpto_step ε 5 _ _ (outUpto_step ε 4 _ _ (outUpto_step ε 3 _ _ (outUpto_step ε 2 _ _
    (outUpto_step ε 1 _ _ (outUpto_step ε 0 _ _ h0)))))
  refine ⟨h6.1, funext fun y => h6.2 y ?_⟩
  have : (y 1).val < 768 := (y 1).isLt
  show (y 1).val / 128 < 6
  omega

/-! ## The whole body -/

/-- Nothing summed yet. -/
def core0 : Core F := ⟨filled 0xFF800000#32, filled 0x00000000#32, filled 0x00000000#32⟩

/-- The carried part after a grid point. -/
def stepCore (ε : Env F) (qi ki : BitVec 32) (x : Core F) : Core F :=
  let x1 := if Scalar.cmpi .ne (Scalar.extui (Scalar.cmpi .eq ki 0#32) : BitVec 32) 0#32 = 1#1 then core0 else x
  let x2 := if Scalar.cmpi .ne (Scalar.extui (Scalar.cmpi .slt ki qi) : BitVec 32) 0#32 = 1#1 then
    headsCore ε false x1 else x1
  if k0_cond3 qi ki = 1#1 then headsCore ε true x2 else x2

theorem body_core (ε : Env F) (qi ki : BitVec 32) (σ : St F) :
    (bodySt ε qi ki σ).core = stepCore ε qi ki σ.core := by
  have hf : ∀ σ : St F, (finSt ε σ).core = σ.core := fun σ => (fin_out ε σ).1
  have hr : (resetSt σ).core = core0 := rfl
  have hi : ∀ (p : Prop) [Decidable p] (a b : St F), (if p then a else b).core = if p then a.core else b.core :=
    fun p _ a b => apply_ite St.core p a b
  unfold bodySt stepCore
  simp only [hi, hf, heads_core, hr]

theorem body_out (ε : Env F) (qi ki : BitVec 32) (σ : St F) (h : k0_cond3 qi ki = 1#1) :
    (bodySt ε qi ki σ).o = outOf ε (bodySt ε qi ki σ).core := by
  unfold bodySt
  simp only
  rw [if_pos h, (fin_out ε _).2, (fin_out ε _).1]

theorem body_keep (ε : Env F) (qi ki : BitVec 32) (σ : St F) (h : ¬ k0_cond3 qi ki = 1#1) :
    (bodySt ε qi ki σ).o = σ.o := by
  have hs : ∀ (mk : Bool) (h : Fin 6) (s : Fin 2) (σ : St F) (n : ℕ) (hn : n ≤ 8), (stripsSt mk h s σ n hn).o = σ.o := by
    intro mk h s σ n
    induction n with
    | zero => intro _; rfl
    | succ n ih => intro hn; exact ih _
  have hh : ∀ (mk : Bool) (h : Fin 6) (s : Fin 2) (σ : St F), (headSt ε mk h s σ).o = σ.o := fun mk h s σ => by
    have e : (headSt ε mk h s σ).o = (stripsSt mk h s σ 8 (Nat.le_refl 8)).o := by unfold headSt pvSt; with_reducible rfl
    rw [e]; exact hs mk h s σ 8 _
  have hsc : ∀ (h : Fin 6) (s : Fin 2) (σ : St F), (scoresSt ε h s σ).o = σ.o := fun _ _ _ => rfl
  have hhs : ∀ (mk : Bool) (σ : St F), (headsSt ε mk σ).o = σ.o := fun mk σ => by
    unfold headsSt; simp only [hh, hsc]
  have hr : (resetSt σ).o = σ.o := rfl
  have hi : ∀ (p : Prop) [Decidable p] (a b : St F), (if p then a else b).o = if p then a.o else b.o :=
    fun p _ a b => apply_ite St.o p a b
  unfold bodySt
  simp only
  rw [if_neg h]
  simp only [hi, hhs, hr, ite_self]

/-- At the first key block nothing that was carried counts. -/
theorem step_reset (ε : Env F) (qi : BitVec 32) (x y : Core F) : stepCore ε qi 0#32 x = stepCore ε qi 0#32 y := by
  unfold stepCore
  have h : Scalar.cmpi .ne (Scalar.extui (Scalar.cmpi .eq (0#32 : BitVec 32) 0#32) : BitVec 32) 0#32 = 1#1 := by decide
  rw [if_pos h, if_pos h]

end Cert.KernelIdeal.Attn

end
-- ==== Proof.Tables.lean ====
/-
  The two tables of the grid: which query block and which key block a grid point works on.
-/
module

public import proofs.«01_k».proof.Proof.Core
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle

@[expose] public section

noncomputable section

namespace Cert.KernelIdeal.Attn

open Idealize.ShloMosaic Idealize.ShloMosaic.TcCoe Cert.KernelIdeal Cert.KernelIdeal.Gen

variable {F : FTy → Type} [FloatOps F] [Named F]

set_option backward.proofsInPublic true in
/-- What the host writes into the tables. -/
def tabs : pre0.Contents (Elt F) := fun
  | ⟨0, _⟩ => fun x => (lit0 (S36.rowMajor x) : BitVec 32)
  | ⟨1, _⟩ => fun x => (lit1 (S36.rowMajor x) : BitVec 32)
  | ⟨_ + 2, h⟩ => absurd h (by simp)

/-- The query block of the `n`-th pair. -/
def qTab (n : Fin 36) : Fin 8 := ![0, 1, 1, 2, 2, 2, 3, 3, 3, 3, 4, 4, 4, 4, 4, 5, 5, 5, 5, 5, 5, 6, 6, 6, 6, 6, 6, 6,
  7, 7, 7, 7, 7, 7, 7, 7] n
/-- The key block of the `n`-th pair. -/
def kTab (n : Fin 36) : Fin 8 := ![0, 0, 1, 0, 1, 2, 0, 1, 2, 3, 0, 1, 2, 3, 4, 0, 1, 2, 3, 4, 5, 0, 1, 2, 3, 4, 5, 6,
  0, 1, 2, 3, 4, 5, 6, 7] n

theorem lit0_eq : ∀ n : Fin 36, lit0 n = BitVec.ofNat 32 (qTab n).val := by decide
theorem lit1_eq : ∀ n : Fin 36, lit1 n = BitVec.ofNat 32 (kTab n).val := by decide

theorem rowMajor36 (x : S36.Idx) : S36.rowMajor x = x 0 := by
  apply Fin.ext
  revert x
  decide

/-- The offset a grid point reads the tables at. -/
theorem off1_eq (i : grid0.Coords) : k0_off1 i 0 = (i 1).val := by
  have h : (i 1).val < 36 := (i 1).isLt
  show (BitVec.ofNat 32 (i 1).val).toNat = _
  rw [BitVec.toNat_ofNat, Nat.mod_eq_of_lt (by omega)]

/-- The entry a grid point reads. -/
theorem emb_off1 (i : grid0.Coords) (x : (Rect.unit (s := S36) (k0_off1 i) S1.size (k0_off1_inb i)).shape.Idx) :
    S36.rowMajor ((Rect.unit (s := S36) (k0_off1 i) S1.size (k0_off1_inb i)).emb x) = i 1 := by
  rw [rowMajor36]
  apply Fin.ext
  have hx : (x 0).val = 0 := by have : (x 0).val < 1 := (x 0).isLt; omega
  show k0_off1 i 0 + 1 * (x 0).val = _
  rw [hx, off1_eq]; rfl

theorem tab0_at (i : grid0.Coords) :
    (tabs (F := F)).at 0 (Rect.unit (s := S36) (k0_off1 i) S1.size (k0_off1_inb i)) numel1_S1 = BitVec.ofNat 32 (qTab (i 1)).val := by
  exact (congrArg lit0 (emb_off1 i _)).trans (lit0_eq _)

theorem tab1_at (i : grid0.Coords) :
    (tabs (F := F)).at 1 (Rect.unit (s := S36) (k0_off1 i) S1.size (k0_off1_inb i)) numel1_S1 = BitVec.ofNat 32 (kTab (i 1)).val := by
  exact (congrArg lit1 (emb_off1 i _)).trans (lit1_eq _)

theorem tab0_atD (i : grid0.Coords) : (tabs (F := F)).atD 0 (k0_off1 i) = BitVec.ofNat 32 (qTab (i 1)).val := by
  unfold Pipeline.Prefetch.Contents.atD
  split
  · next h =>
      exact (congrArg lit0 ((rowMajor36 (fun a => ⟨k0_off1 i a, h a⟩)).trans (Fin.ext (off1_eq i)))).trans (lit0_eq (i 1))
  · next hn => exact absurd (fun a => by fin_cases a; exact k0_off1_inb i 0) hn

theorem tab1_atD (i : grid0.Coords) : (tabs (F := F)).atD 1 (k0_off1 i) = BitVec.ofNat 32 (kTab (i 1)).val := by
  unfold Pipeline.Prefetch.Contents.atD
  split
  · next h =>
      exact (congrArg lit1 ((rowMajor36 (fun a => ⟨k0_off1 i a, h a⟩)).trans (Fin.ext (off1_eq i)))).trans (lit1_eq (i 1))
  · next hn => exact absurd (fun a => by fin_cases a; exact k0_off1_inb i 0) hn

theorem toNat8 (n : Fin 8) : (BitVec.ofNat 32 n.val).toNat = n.val := by
  rw [BitVec.toNat_ofNat, Nat.mod_eq_of_lt (by omega)]
theorem toNat2 (n : Fin 2) : (BitVec.ofNat 32 n.val).toNat = n.val := by
  rw [BitVec.toNat_ofNat, Nat.mod_eq_of_lt (by omega)]

/-! ## The index maps at these tables -/

theorem ix_q (i : grid0.Coords) : cc0_transform_0 k0_off1_inb numel1_S1 (tabs (F := F)) i = ![(i 0).val, 0, (qTab (i 1)).val, 0] := by
  have e := tab0_at (F := F) i
  have h0 := toNat2 (i 0)
  show ![(BitVec.ofNat 32 (i 0).val).toNat, 0, ((tabs (F := F)).at 0 (Rect.unit (s := S36) (k0_off1 i) S1.size (k0_off1_inb i)) numel1_S1 : BitVec 32).toNat, 0] = _
  rw [e, toNat8, h0]

theorem ix_k (i : grid0.Coords) : cc0_transform_1 k0_off1_inb numel1_S1 (tabs (F := F)) i = ![(i 0).val, 0, (kTab (i 1)).val, 0] := by
  have e := tab1_at (F := F) i
  have h0 := toNat2 (i 0)
  show ![(BitVec.ofNat 32 (i 0).val).toNat, 0, ((tabs (F := F)).at 1 (Rect.unit (s := S36) (k0_off1 i) S1.size (k0_off1_inb i)) numel1_S1 : BitVec 32).toNat, 0] = _
  rw [e, toNat8, h0]

theorem ix_v (i : grid0.Coords) : cc0_transform_2 k0_off1_inb numel1_S1 (tabs (F := F)) i = ![(i 0).val, 0, (kTab (i 1)).val, 0] := by
  have e := tab1_at (F := F) i
  have h0 := toNat2 (i 0)
  show ![(BitVec.ofNat 32 (i 0).val).toNat, 0, ((tabs (F := F)).at 1 (Rect.unit (s := S36) (k0_off1 i) S1.size (k0_off1_inb i)) numel1_S1 : BitVec 32).toNat, 0] = _
  rw [e, toNat8, h0]

theorem row_toNat : ∀ (b : Fin 2) (q : Fin 8),
    (Scalar.addi (Scalar.muli (BitVec.ofNat 32 b.val) 8#32) (BitVec.ofNat 32 q.val) : BitVec 32).toNat = 8 * b.val + q.val := by decide

theorem ix_g (i : grid0.Coords) : cc0_transform_3 k0_off1_inb numel1_S1 (tabs (F := F)) i = ![8 * (i 0).val + (qTab (i 1)).val, 0] := by
  have e := tab0_at (F := F) i
  have h0 := row_toNat (i 0) (qTab (i 1))
  show ![(Scalar.addi (Scalar.muli (BitVec.ofNat 32 (i 0).val) 8#32) ((tabs (F := F)).at 0 (Rect.unit (s := S36) (k0_off1 i) S1.size (k0_off1_inb i)) numel1_S1 : BitVec 32) : BitVec 32).toNat, 0] = _
  rw [e, h0]

theorem ix_o (i : grid0.Coords) : cc0_transform_4 k0_off1_inb numel1_S1 (tabs (F := F)) i = ![8 * (i 0).val + (qTab (i 1)).val, 0] := by
  have e := tab0_at (F := F) i
  have h0 := row_toNat (i 0) (qTab (i 1))
  show ![(Scalar.addi (Scalar.muli (BitVec.ofNat 32 (i 0).val) 8#32) ((tabs (F := F)).at 0 (Rect.unit (s := S36) (k0_off1 i) S1.size (k0_off1_inb i)) numel1_S1 : BitVec 32) : BitVec 32).toNat, 0] = _
  rw [e, h0]

theorem inb4 (b : Fin 2) (q : Fin 8) (C : ℕ) : ∀ a : Fin 4,
    ((![b.val, 0, q.val, 0] : Fin 4 → ℕ) a + 1) * (![1, 6, 512, C] : Fin 4 → ℕ) a ≤ (![2, 6, 4096, C] : Fin 4 → ℕ) a := by
  intro a
  have hb := b.isLt
  have hq := q.isLt
  fin_cases a <;> simp <;> omega

theorem inb2 (b : Fin 2) (q : Fin 8) : ∀ a : Fin 2,
    ((![8 * b.val + q.val, 0] : Fin 2 → ℕ) a + 1) * S512x768.size a ≤ S8192x768.size a := by
  intro a
  have hb := b.isLt
  have hq := q.isLt
  fin_cases a
  · show (8 * b.val + q.val + 1) * 512 ≤ 8192; omega
  · show (0 + 1) * 768 ≤ 768; omega

theorem words_qk : ∀ (b : Fin 2) (q : Fin 8), ∃ h : (∀ a, ((![b.val, 0, q.val, 0] : Fin 4 → ℕ) a + 1) * S1x6x512x256.size a ≤ S2x6x4096x256.size a),
    EltTy.bits .bf16 = 32 ∨ (Rect.block (s := S2x6x4096x256) S1x6x512x256.size ![b.val, 0, q.val, 0] h).WholeWords (EltTy.packing .bf16) := by
  decide
theorem words_v : ∀ (b : Fin 2) (q : Fin 8), ∃ h : (∀ a, ((![b.val, 0, q.val, 0] : Fin 4 → ℕ) a + 1) * S1x6x512x128.size a ≤ S2x6x4096x128.size a),
    EltTy.bits .bf16 = 32 ∨ (Rect.block (s := S2x6x4096x128) S1x6x512x128.size ![b.val, 0, q.val, 0] h).WholeWords (EltTy.packing .bf16) := by
  decide
theorem words_o : ∀ (b : Fin 2) (q : Fin 8), ∃ h : (∀ a, ((![8 * b.val + q.val, 0] : Fin 2 → ℕ) a + 1) * S512x768.size a ≤ S8192x768.size a),
    EltTy.bits .bf16 = 32 ∨ (Rect.block (s := S8192x768) S512x768.size ![8 * b.val + q.val, 0] h).WholeWords (EltTy.packing .bf16) := by
  decide

/-- Every block lies in its array, on whole words. -/
theorem tabs_ok : ok0 (F := F) tabs := by
  unfold ok0
  refine ⟨fun i => ?_, fun i => ?_, fun i => ?_, fun i => ?_, fun i => ?_⟩
  · rw [ix_q]; exact words_qk (i 0) _
  · rw [ix_k]; exact words_qk (i 0) _
  · rw [ix_v]; exact words_v (i 0) _
  · rw [ix_g]; exact ⟨inb2 (i 0) _, .inl rfl⟩
  · rw [ix_o]; exact words_o (i 0) _

/-- The tables the pipeline runs at. -/
def adm : (pcfg0 (F := F)).Adm := ⟨tabs, tabs_ok⟩

/-- The pipeline at these tables. -/
abbrev cfgA : Pipeline.Cfg sig Λ₀ := cfg0 (adm (F := F))

/-- The block and the pair a grid point works on. -/
theorem grid_pt : ∀ t : Fin grid0.N, (grid0.coords t 0).val = t.val / 36 ∧ (grid0.coords t 1).val = t.val % 36 := by decide

end Cert.KernelIdeal.Attn

end
-- ==== Proof.Run.lean ====
/-
  The run: from any memory the program ends, every block of the result being what the carried part leaves at the
  diagonal point of its row of blocks.
-/
module

public import proofs.«01_k».proof.Proof.Tables

@[expose] public section

noncomputable section

namespace Cert.KernelIdeal.Attn

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ)

local notation "𝕄" => MT nD τ sig Unit (Elt F) ℕ (UR sig nD τ) ℕ

/-! ## The arrays at entry, and what is carried from point to point -/

/-- What each buffer holds when the kernel is entered: the host operations, run over the arguments. -/
def V (c : Dev nD) (b : Ref sig .tc) : Buf (Elt F) ((c.tc : Thread nD τ).loc b) :=
  StableHlo.after (List.flatten [hostOps0, hostOps0_1, hostOps0_2, hostOps0_3, hostOps0_4]) (fun b => m (c, b)) b

/-- The blocks a grid point reads. -/
def envAt (c : Dev nD) (t : Fin grid0.N) : Env F where
  q := ((cfgA (F := F)).win 0).blk t |>.view.read (Elt F) (V m c main_v8)
  k := ((cfgA (F := F)).win 1).blk t |>.view.read (Elt F) (V m c main_v11)
  v := ((cfgA (F := F)).win 2).blk t |>.view.read (Elt F) (V m c main_v13)
  g := ((cfgA (F := F)).win 3).blk t |>.view.read (Elt F) (V m c main_v14)

/-- The word of a block number. -/
abbrev wd (n : Fin 8) : BitVec 32 := BitVec.ofNat 32 n.val

/-- The query block and the key block of a grid point. -/
abbrev qAt (t : Fin grid0.N) : Fin 8 := qTab (grid0.coords t 1)
abbrev kAt (t : Fin grid0.N) : Fin 8 := kTab (grid0.coords t 1)

/-- The carried part before the `n`-th point. -/
def coreAt (c : Dev nD) : ℕ → Core F
  | 0 => core0
  | n + 1 => if h : n < grid0.N then stepCore (envAt m c ⟨n, h⟩) (wd (qAt ⟨n, h⟩)) (wd (kAt ⟨n, h⟩)) (coreAt c n) else core0

theorem coreAt_succ (c : Dev nD) (t : Fin grid0.N) :
    coreAt m c (t.val + 1) = stepCore (envAt m c t) (wd (qAt t)) (wd (kAt t)) (coreAt m c t.val) := by
  rw [coreAt, dif_pos t.isLt]

/-- The invariant before the `n`-th point: the scratch buffers, the tables and the generator. -/
def Inv (c : Dev nD) (n : ℕ) : sProp 𝕄 :=
  iprop((∃ x : Core F, ⌜n ≠ 0 → x = coreAt m c n⌝
      ∗ owns (c : Thread nD τ) (Memref.whole cc0_scratch0) fullShare x.m
      ∗ owns (c : Thread nD τ) (Memref.whole cc0_scratch1) fullShare x.l
      ∗ owns (c : Thread nD τ) (Memref.whole cc0_scratch2) fullShare x.acc)
    ∗ (∃ s, owns (c : Thread nD τ) (Memref.whole cc0_scratch3) fullShare s)
    ∗ (∃ p, owns (c : Thread nD τ) (Memref.whole cc0_scratch4) fullShare p)
    ∗ (∃ a, owns (c : Thread nD τ) (Memref.whole cc0_scratch5) fullShare a)
    ∗ (((c : Thread nD τ).loc main_c) ↦{fullShare.right} (show Buf (Elt F) ((c : Thread nD τ).loc main_c) from tabs (F := F) 0))
    ∗ (((c : Thread nD τ).loc main_c_0) ↦{fullShare.right} (show Buf (Elt F) ((c : Thread nD τ).loc main_c_0) from tabs (F := F) 1))
    ∗ (∃ r, prngReg c r))

/-- The proof's data. -/
def dats (_ : Fin 1) (c : Dev nD) : Pipeline.Dat τ (Elt F) Unit ℕ (UR sig nD τ) ℕ (cfgA (F := F)) c where
  A w := V m c (Pipeline.arrRef spec0 w)
  after w t := match w with
    | ⟨0, _⟩ => (envAt m c t).q
    | ⟨1, _⟩ => (envAt m c t).k
    | ⟨2, _⟩ => (envAt m c t).v
    | ⟨3, _⟩ => (envAt m c t).g
    | ⟨4, _⟩ => outOf (envAt m c t) (coreAt m c (t.val + 1))
  Φ t := Inv m c t.val
  q _ := fullShare
  owed _ := 0

abbrev 𝒱₀ : Variants := Variants.none

/-! ## The windows -/

theorem before_q (c : Dev nD) (t : Fin grid0.N) (d) : (dats m 0 c).before 0 t d = (envAt m c t).q :=
  (dats m 0 c).before_in_eq_fetched 0 rfl (fun _ => rfl) (fun _ _ _ => rfl) (fun _ => rfl) t d
theorem before_k (c : Dev nD) (t : Fin grid0.N) (d) : (dats m 0 c).before 1 t d = (envAt m c t).k :=
  (dats m 0 c).before_in_eq_fetched 1 rfl (fun _ => rfl) (fun _ _ _ => rfl) (fun _ => rfl) t d
theorem before_v (c : Dev nD) (t : Fin grid0.N) (d) : (dats m 0 c).before 2 t d = (envAt m c t).v :=
  (dats m 0 c).before_in_eq_fetched 2 rfl (fun _ => rfl) (fun _ _ _ => rfl) (fun _ => rfl) t d
theorem before_g (c : Dev nD) (t : Fin grid0.N) (d) : (dats m 0 c).before 3 t d = (envAt m c t).g :=
  (dats m 0 c).before_in_eq_fetched 3 rfl (fun _ => rfl) (fun _ _ _ => rfl) (fun _ => rfl) t d

theorem cond3_iff : ∀ q k : Fin 8, k0_cond3 (wd q) (wd k) = 1#1 ↔ q = k := by decide

theorem idle_o (t : Fin grid0.N) : (cfgA (F := F)).idle 4 (grid0.coords t) = !decide (qAt t = kAt t) := by
  show (!(k0_cond3 ((tabs (F := F)).atD 0 (k0_off1 (grid0.coords t))) ((tabs (F := F)).atD 1 (k0_off1 (grid0.coords t))) == 1#1)) = _
  rw [tab0_atD, tab1_atD]
  have h := cond3_iff (qAt t) (kAt t)
  by_cases e : qAt t = kAt t
  · rw [decide_eq_true e, h.2 e]; rfl
  · rw [decide_eq_false e]
    have := mt h.1 e
    simp only [beq_eq_false_iff_ne.2 this]

theorem next_pt : ∀ t : Fin grid0.N, qAt t ≠ kAt t → ∃ h : t.val + 1 < grid0.N,
    (grid0.coords ⟨t.val + 1, h⟩ 0).val = (grid0.coords t 0).val ∧ qAt ⟨t.val + 1, h⟩ = qAt t := by decide

theorem index_o (t : Fin grid0.N) : ((cfgA (F := F)).win 4).index t = ![8 * (grid0.coords t 0).val + (qAt t).val, 0] :=
  ix_o (grid0.coords t)

/-- Off the diagonal the result's block is not written back. -/
theorem flush_o (t : Fin grid0.N) (h : qAt t ≠ kAt t) : ((cfgA (F := F)).win 4).flush t = false := by
  obtain ⟨h1, h2, h3⟩ := next_pt t h
  rw [← Bool.not_eq_true]
  intro hf
  rcases (((cfgA (F := F)).win 4).flush_out rfl t).1 hf with e | ⟨e, e'⟩
  · have e : t.val + 1 = grid0.N := e
    omega
  · refine e' ((index_o ⟨t.val + 1, h1⟩).trans (Eq.trans ?_ (index_o t).symm))
    rw [h2, h3]

/-! ## The body at a grid point -/

/-- The buffers the body works on at a grid point. -/
def refsAt (t : Fin grid0.N) : Refs where
  q := spec0_0.stage ((cfgA (F := F)).slots t 0)
  k := spec0_1.stage ((cfgA (F := F)).slots t 1)
  v := spec0_2.stage ((cfgA (F := F)).slots t 2)
  g := spec0_3.stage ((cfgA (F := F)).slots t 3)
  o := spec0_4.stage ((cfgA (F := F)).slots t 4)
  m := Memref.whole cc0_scratch0
  l := Memref.whole cc0_scratch1
  acc := Memref.whole cc0_scratch2
  s := Memref.whole cc0_scratch3
  p := Memref.whole cc0_scratch4
  a := Memref.whole cc0_scratch5
  hq := hstage0_0 (((cfgA (F := F)).slots t 0).cast nbuf0_0)
  hk := hstage0_1 (((cfgA (F := F)).slots t 1).cast nbuf0_1)
  hv := hstage0_2 (((cfgA (F := F)).slots t 2).cast nbuf0_2)
  hg := hstage0_3 (((cfgA (F := F)).slots t 3).cast nbuf0_3)
  ho := hstage0_4 (((cfgA (F := F)).slots t 4).cast nbuf0_4)
  hm := Memref.isWhole_whole _
  hl := Memref.isWhole_whole _
  hacc := Memref.isWhole_whole _
  hs := Memref.isWhole_whole _
  hp := Memref.isWhole_whole _
  ha := Memref.isWhole_whole _

theorem body_at (t : Fin grid0.N) :
    defs₀ (F := F) .tc (cfgA (F := F)).body ((cfgA (F := F)).bodyArgs t ((cfgA (F := F)).slots t))
      = attn (refsAt (F := F) t) (Memref.whole main_c) (Memref.whole main_c_0) (grid0.coords t) :=
  body_eq (refsAt (F := F) t) (grid0.coords t) _ _ (Memref.isWhole_whole _) (Memref.isWhole_whole _)

/-- Reading a table's entry. -/
theorem load_tab0 (c : Dev nD) (i : grid0.Coords) (K : BitVec 32 → PG F) {E : Set ℕ} {Q : PUnit.{1} → sProp 𝕄} :
    (((c : Thread nD τ).loc main_c) ↦{fullShare.right} (show Buf (Elt F) ((c : Thread nD τ).loc main_c) from tabs (F := F) 0))
      ⊢ iprop(((((c : Thread nD τ).loc main_c) ↦{fullShare.right} (show Buf (Elt F) ((c : Thread nD τ).loc main_c) from tabs (F := F) 0))
          -∗ wp frame (wpE (defs₀ (F := F)) 𝒱₀ c none) E (K (wd (qTab (i 1)))) Q)
        -∗ wp frame (wpE (defs₀ (F := F)) 𝒱₀ c none) E
          (smemLoad (Memref.whole main_c) (Rect.unit (s := S36) (k0_off1 i) S1.size (k0_off1_inb i)) numel1_S1 rfl >>= K) Q) := by
  have e := tab0_at (F := F) i
  unfold wd
  rw [← e]
  exact wp_smemLoadElt (Val := Elt F) (τ := τ) (Λ := Λ₀) (defs := defs₀ (F := F)) (c := c.tc) 𝒱₀ none E (m := Memref.whole main_c)
    (r := Rect.unit (s := S36) (k0_off1 i) S1.size (k0_off1_inb i))
    (hw := View.loads_smem_one rfl numel1_S1) (k := K)
    (S := Finset.univ) (Finset.subset_univ _)

theorem load_tab1 (c : Dev nD) (i : grid0.Coords) (K : BitVec 32 → PG F) {E : Set ℕ} {Q : PUnit.{1} → sProp 𝕄} :
    (((c : Thread nD τ).loc main_c_0) ↦{fullShare.right} (show Buf (Elt F) ((c : Thread nD τ).loc main_c_0) from tabs (F := F) 1))
      ⊢ iprop(((((c : Thread nD τ).loc main_c_0) ↦{fullShare.right} (show Buf (Elt F) ((c : Thread nD τ).loc main_c_0) from tabs (F := F) 1))
          -∗ wp frame (wpE (defs₀ (F := F)) 𝒱₀ c none) E (K (wd (kTab (i 1)))) Q)
        -∗ wp frame (wpE (defs₀ (F := F)) 𝒱₀ c none) E
          (smemLoad (Memref.whole main_c_0) (Rect.unit (s := S36) (k0_off1 i) S1.size (k0_off1_inb i)) numel1_S1 rfl >>= K) Q) := by
  have e := tab1_at (F := F) i
  unfold wd
  rw [← e]
  exact wp_smemLoadElt (Val := Elt F) (τ := τ) (Λ := Λ₀) (defs := defs₀ (F := F)) (c := c.tc) 𝒱₀ none E (m := Memref.whole main_c_0)
    (r := Rect.unit (s := S36) (k0_off1 i) S1.size (k0_off1_inb i))
    (hw := View.loads_smem_one rfl numel1_S1) (k := K)
    (S := Finset.univ) (Finset.subset_univ _)

/-- The body reads the two tables, then does the grid point's work. -/
theorem attn_run (c : Dev nD) (t : Fin grid0.N) (ε : Env F) (σ : St F) {E : Set ℕ} {Q : PUnit.{1} → sProp 𝕄} :
    iprop((((c : Thread nD τ).loc main_c) ↦{fullShare.right} (show Buf (Elt F) ((c : Thread nD τ).loc main_c) from tabs (F := F) 0))
      ∗ (((c : Thread nD τ).loc main_c_0) ↦{fullShare.right} (show Buf (Elt F) ((c : Thread nD τ).loc main_c_0) from tabs (F := F) 1))
      ∗ Own c (refsAt (F := F) t) ε σ)
      ⊢ iprop(((((c : Thread nD τ).loc main_c) ↦{fullShare.right} (show Buf (Elt F) ((c : Thread nD τ).loc main_c) from tabs (F := F) 0))
        ∗ (((c : Thread nD τ).loc main_c_0) ↦{fullShare.right} (show Buf (Elt F) ((c : Thread nD τ).loc main_c_0) from tabs (F := F) 1))
        ∗ Own c (refsAt (F := F) t) ε (bodySt ε (wd (qAt t)) (wd (kAt t)) σ) -∗ Q ⟨⟩)
      -∗ wp frame (wpE (defs₀ (F := F)) 𝒱₀ c none) E
        (attn (refsAt (F := F) t) (Memref.whole main_c) (Memref.whole main_c_0) (grid0.coords t)) Q) := by
  iintro ⟨H0, H1, HO⟩ HK
  unfold attn
  iapply (load_tab0 c (grid0.coords t)) $$ H0
  iintro H0
  iapply (load_tab1 c (grid0.coords t)) $$ H1
  iintro H1
  iapply (body_run (R := refsAt (F := F) t) (ε := ε) (σ := σ) (wd (qAt t)) (wd (kAt t))) $$ HO
  iintro HO
  iapply HK
  iframe

/-- Two states of the scratch buffers carry the same after the first point, whose key block is the first. -/
theorem step_start (c : Dev nD) (t : Fin grid0.N) (x : Core F) (hx : t.val ≠ 0 → x = coreAt m c t.val) :
    stepCore (envAt m c t) (wd (qAt t)) (wd (kAt t)) x = coreAt m c (t.val + 1) := by
  rw [coreAt_succ]
  by_cases h : t.val = 0
  · have hk : ∀ t : Fin grid0.N, t.val = 0 → wd (kAt t) = 0#32 := by decide
    rw [hk t h]
    exact step_reset _ _ _ _
  · rw [hx h]

/-! The blocks the body reads, as it finds them. -/

theorem found_q (c : Dev nD) (t : Fin grid0.N) (d) :
    (owns (c : Thread nD τ) (((cfgA (F := F)).win 0).stage ((cfgA (F := F)).slots t 0)) fullShare ((dats m 0 c).before 0 t d) : sProp 𝕄)
      ⊢ owns (c : Thread nD τ) (refsAt (F := F) t).q fullShare (envAt m c t).q := by
  rw [before_q]; exact .rfl
theorem found_k (c : Dev nD) (t : Fin grid0.N) (d) :
    (owns (c : Thread nD τ) (((cfgA (F := F)).win 1).stage ((cfgA (F := F)).slots t 1)) fullShare ((dats m 0 c).before 1 t d) : sProp 𝕄)
      ⊢ owns (c : Thread nD τ) (refsAt (F := F) t).k fullShare (envAt m c t).k := by
  rw [before_k]; exact .rfl
theorem found_v (c : Dev nD) (t : Fin grid0.N) (d) :
    (owns (c : Thread nD τ) (((cfgA (F := F)).win 2).stage ((cfgA (F := F)).slots t 2)) fullShare ((dats m 0 c).before 2 t d) : sProp 𝕄)
      ⊢ owns (c : Thread nD τ) (refsAt (F := F) t).v fullShare (envAt m c t).v := by
  rw [before_v]; exact .rfl
theorem found_g (c : Dev nD) (t : Fin grid0.N) (d) :
    (owns (c : Thread nD τ) (((cfgA (F := F)).win 3).stage ((cfgA (F := F)).slots t 3)) fullShare ((dats m 0 c).before 3 t d) : sProp 𝕄)
      ⊢ owns (c : Thread nD τ) (refsAt (F := F) t).g fullShare (envAt m c t).g := by
  rw [before_g]; exact .rfl
theorem found_o (c : Dev nD) (t : Fin grid0.N) (d) :
    (owns (c : Thread nD τ) (((cfgA (F := F)).win 4).stage ((cfgA (F := F)).slots t 4)) fullShare ((dats m 0 c).before 4 t d) : sProp 𝕄)
      ⊢ owns (c : Thread nD τ) (refsAt (F := F) t).o fullShare ((dats m 0 c).before 4 t d) := .rfl

/-- What the body leaves of the result's block: all of it on the diagonal, nothing changed elsewhere. -/
theorem leaf_o (c : Dev nD) (t : Fin grid0.N) (o : S512x768.Idx → Elt F .bf16)
    (h1 : qAt t = kAt t → (dats m 0 c).after 4 t = o) (h2 : qAt t ≠ kAt t → ∃ d, o = (dats m 0 c).before 4 t d) :
    (owns (c : Thread nD τ) (refsAt (F := F) t).o fullShare o : sProp 𝕄) ⊢ (dats m 0 c).leaves 4 t := by
  unfold Pipeline.Dat.leaves
  have hi := idle_o (F := F) t
  by_cases h : qAt t = kAt t
  · rw [decide_eq_true h] at hi
    obtain rfl := h1 h
    have hi' : (cfgA (F := F)).idle 4 ((cfgA (F := F)).grid.coords t) = false := hi
    rw [hi']
    exact .rfl
  · rw [decide_eq_false h] at hi
    obtain ⟨d, rfl⟩ := h2 h
    have hi' : (cfgA (F := F)).idle 4 ((cfgA (F := F)).grid.coords t) = true := hi
    rw [hi', flush_o t h]
    show _ ⊢ iprop(∃ d, owns (c : Thread nD τ) (((cfgA (F := F)).win 4).stage ((cfgA (F := F)).slots t 4)) fullShare ((dats m 0 c).before 4 t d))
    iintro H
    iexists d
    iexact H

/-- The body at a grid point keeps the invariant and leaves the result's block. -/
theorem body_pt (c : Dev nD) (t : Fin (cfgA (F := F)).N) :
    (iprop(Inv m c t.val ∗ (dats m 0 c).owesAt () t.castSucc
          ∗ owns (c : Thread nD τ) (refsAt (F := F) t).q fullShare (envAt m c t).q
          ∗ owns (c : Thread nD τ) (refsAt (F := F) t).k fullShare (envAt m c t).k
          ∗ owns (c : Thread nD τ) (refsAt (F := F) t).v fullShare (envAt m c t).v
          ∗ owns (c : Thread nD τ) (refsAt (F := F) t).g fullShare (envAt m c t).g
          ∗ (∃ d, owns (c : Thread nD τ) (refsAt (F := F) t).o fullShare ((dats m 0 c).before 4 t d))) : sProp 𝕄)
      ⊢ wp frame (wpE (defs₀ (F := F)) 𝒱₀ c none) Set.univ
        (attn (refsAt (F := F) t) (Memref.whole main_c) (Memref.whole main_c_0) (grid0.coords t)) fun _ =>
        iprop(Inv m c (t.val + 1) ∗ (dats m 0 c).owesAt () t.succ
          ∗ owns (c : Thread nD τ) (refsAt (F := F) t).q fullShare (envAt m c t).q
          ∗ owns (c : Thread nD τ) (refsAt (F := F) t).k fullShare (envAt m c t).k
          ∗ owns (c : Thread nD τ) (refsAt (F := F) t).v fullShare (envAt m c t).v
          ∗ owns (c : Thread nD τ) (refsAt (F := F) t).g fullShare (envAt m c t).g
          ∗ (dats m 0 c).leaves 4 t) := by
  unfold Inv
  iintro ⟨HI, Hw, H0, H1, H2, H3, ⟨%d4, H4⟩⟩
  icases HI with ⟨⟨%x, %hx, Hm, Hl, Hacc⟩, ⟨%s, Hs⟩, ⟨%p, Hp⟩, ⟨%a, Ha⟩, HT0, HT1, Hr⟩
  iapply (attn_run c t (envAt m c t) ⟨(dats m 0 c).before 4 t d4, x.m, x.l, x.acc, s, p, a⟩) $$ [H0 H1 H2 H3 H4 Hm Hl Hacc Hs Hp Ha HT0 HT1]
  · isplitl [HT0]
    · iexact HT0
    isplitl [HT1]
    · iexact HT1
    unfold Own
    isplitl [H0]
    · iexact H0
    isplitl [H1]
    · iexact H1
    isplitl [H2]
    · iexact H2
    isplitl [H3]
    · iexact H3
    isplitl [H4]
    · iexact H4
    isplitl [Hm]
    · iexact Hm
    isplitl [Hl]
    · iexact Hl
    isplitl [Hacc]
    · iexact Hacc
    isplitl [Hs]
    · iexact Hs
    isplitl [Hp]
    · iexact Hp
    iexact Ha
  iintro ⟨HT0, HT1, HO⟩
  have hc := (body_core (envAt m c t) (wd (qAt t)) (wd (kAt t)) ⟨(dats m 0 c).before 4 t d4, x.m, x.l, x.acc, s, p, a⟩).trans
    (step_start m c t x hx)
  have ho := body_out (envAt m c t) (wd (qAt t)) (wd (kAt t)) ⟨(dats m 0 c).before 4 t d4, x.m, x.l, x.acc, s, p, a⟩
  have hk := body_keep (envAt m c t) (wd (qAt t)) (wd (kAt t)) ⟨(dats m 0 c).before 4 t d4, x.m, x.l, x.acc, s, p, a⟩
  generalize bodySt (envAt m c t) (wd (qAt t)) (wd (kAt t)) ⟨(dats m 0 c).before 4 t d4, x.m, x.l, x.acc, s, p, a⟩ = σ at hc ho hk
  unfold Own
  icases HO with ⟨H0, H1, H2, H3, H4, Hm, Hl, Hacc, Hs, Hp, Ha⟩
  isplitl [Hm Hl Hacc Hs Hp Ha HT0 HT1 Hr]
  · isplitl [Hm Hl Hacc]
    · iexists σ.core
      isplitr
      · ipureintro; exact fun _ => hc
      · isplitl [Hm]
        · iexact Hm
        isplitl [Hl]
        · iexact Hl
        iexact Hacc
    isplitl [Hs]
    · iexists σ.s; iexact Hs
    isplitl [Hp]
    · iexists σ.p; iexact Hp
    isplitl [Ha]
    · iexists σ.a; iexact Ha
    isplitl [HT0]
    · iexact HT0
    isplitl [HT1]
    · iexact HT1
    iexact Hr
  isplitl [Hw]
  · iexact Hw
  isplitl [H0]
  · iexact H0
  isplitl [H1]
  · iexact H1
  isplitl [H2]
  · iexact H2
  isplitl [H3]
  · iexact H3
  have hl := leaf_o m c t σ.o (fun h => by rw [ho ((cond3_iff _ _).2 h), hc]; rfl) (fun h => ⟨d4, hk (mt (cond3_iff _ _).1 h)⟩)
  ihave H4 := hl $$ H4
  iexact H4

theorem body (c : Dev nD) : Pipeline.BodyObligationLoose (dats m 0 c) (defs₀ (F := F)) 𝒱₀ () Set.univ := by
  intro t
  rw [bigSep_W0, bigSep_W0, body_at]
  have hΦ0 : (dats m 0 c).Φ t.castSucc = Inv m c t.val := by
    dsimp only [dats]; exact Pipeline.Dat.Φ_castSucc (fun n _ => Inv m c n) t
  have hΦ1 : (dats m 0 c).Φ t.succ = Inv m c (t.val + 1) := rfl
  rw [hΦ0, hΦ1]
  exact (BIClass.sep_mono .rfl (BIClass.sep_mono .rfl (BIClass.sep_mono (exists_elim fun d => found_q m c t d)
    (BIClass.sep_mono (exists_elim fun d => found_k m c t d) (BIClass.sep_mono (exists_elim fun d => found_v m c t d)
      (BIClass.sep_mono (exists_elim fun d => found_g m c t d) .rfl)))))).trans (body_pt m c t)

/-! ## The run -/

theorem V_main : Pipeline.HMainP (Ix := Unit) (Name := ℕ) (U := UR sig nD τ) (Lvl := ℕ) (pcfgs (F := F)) 0 (defs₀ (F := F)) 𝒱₀ m
    (main (F := F)) (V m) :=
  Pipeline.hmainP_prefixes _ 0 _ _ m main [hostOps0, hostOps0_1, hostOps0_2, hostOps0_3, hostOps0_4]
    ⟨hostOps0_sub, hostOps0_1_sub, hostOps0_2_sub, hostOps0_3_sub, hostOps0_4_sub⟩
    ⟨⟨rfl, rfl, rfl, rfl, rfl, rfl, rfl, rfl, rfl, rfl, rfl, rfl, rfl⟩, ⟨rfl, rfl⟩, ⟨rfl, rfl, rfl⟩, ⟨rfl, rfl⟩, ⟨rfl, rfl, rfl, rfl⟩⟩
    main_chain

theorem V_tab0 (c : Dev nD) : V m c main_c = tabs (F := F) 0 := by
  rfl
theorem V_tab1 (c : Dev nD) : V m c main_c_0 = tabs (F := F) 1 := by
  rfl

/-- The two tables, opened. -/
theorem tables_held (c : Dev nD) (q : Fin 2 → PosShare TreeShare) (v : pre0.Contents (Elt F)) :
    (Pipeline.prefHeld pre0 c q v : sProp 𝕄)
      = iprop((((c : Thread nD τ).loc main_c) ↦{q 0} (show Buf (Elt F) ((c : Thread nD τ).loc main_c) from v 0))
          ∗ (((c : Thread nD τ).loc main_c_0) ↦{q 1} (show Buf (Elt F) ((c : Thread nD τ).loc main_c_0) from v 1))) := by
  unfold Pipeline.prefHeld
  rw [show (Finset.univ : Finset (Fin 2)) = insert 0 {1} from by decide, bigSep_insert (by decide), bigSep_singleton]
  rfl

/-- The scratch buffers, at some contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

theorem scr_eq (c : Dev nD) :
    (Pipeline.scopedRest (Ix := Unit) (Name := ℕ) (U := UR sig nD τ) (Lvl := ℕ) (Val := Elt F) (cfgA (F := F)).spec c : sProp 𝕄) = Scr c :=
  scopedRest0_eq c

theorem scr_in (c : Dev nD) :
    iprop((Scr (F := F) c ∗ ∃ r, prngReg c r)
      ∗ (((c : Thread nD τ).loc main_c) ↦{fullShare.right} (show Buf (Elt F) ((c : Thread nD τ).loc main_c) from tabs (F := F) 0))
      ∗ (((c : Thread nD τ).loc main_c_0) ↦{fullShare.right} (show Buf (Elt F) ((c : Thread nD τ).loc main_c_0) from tabs (F := F) 1)))
      ⊢ (Inv m c 0 : sProp 𝕄) := by
  unfold Scr Inv
  simp only [owns_whole]
  iintro ⟨⟨⟨⟨%f0, H0⟩, ⟨%f1, H1⟩, ⟨%f2, H2⟩, ⟨%f3, H3⟩, ⟨%f4, H4⟩, ⟨%f5, H5⟩⟩, Hr⟩, HT0, HT1⟩
  isplitl [H0 H1 H2]
  · iexists (⟨f0, f1, f2⟩ : Core F)
    isplitr
    · ipureintro; exact fun h => absurd rfl h
    isplitl [H0]
    · iexact H0
    isplitl [H1]
    · iexact H1
    iexact H2
  isplitl [H3]
  · iexists f3; iexact H3
  isplitl [H4]
  · iexists f4; iexact H4
  isplitl [H5]
  · iexists f5; iexact H5
  isplitl [HT0]
  · iexact HT0
  isplitl [HT1]
  · iexact HT1
  iexact Hr

theorem scr_out (c : Dev nD) (n : ℕ) :
    (Inv m c n : sProp 𝕄) ⊢ iprop(Scr (F := F) c ∗ ∃ r, prngReg c r) := by
  unfold Scr Inv
  simp only [owns_whole]
  iintro ⟨⟨%x, -, H0, H1, H2⟩, ⟨%s, H3⟩, ⟨%p, H4⟩, ⟨%a, H5⟩, -, -, Hr⟩
  isplitl [H0 H1 H2 H3 H4 H5]
  · isplitl [H0]
    · iexists x.m; iexact H0
    isplitl [H1]
    · iexists x.l; iexact H1
    isplitl [H2]
    · iexists x.acc; iexact H2
    isplitl [H3]
    · iexists s; iexact H3
    isplitl [H4]
    · iexists p; iexact H4
    iexists a; iexact H5
  iexact Hr

theorem phi_in (c : Dev nD) :
    iprop(Pipeline.ΦA (cfgA (F := F)).spec c ∗ Pipeline.ΦT pre0 (tabs (F := F)) c) ⊢ ((dats m 0 c).Φ 0 : sProp 𝕄) := by
  unfold Pipeline.ΦA Pipeline.ΦT
  rw [scr_eq, tables_held]
  exact scr_in m c

theorem phi_out (c : Dev nD) :
    ((dats m 0 c).Φ (Fin.last (cfgA (F := F)).N) : sProp 𝕄) ⊢ Pipeline.ΦA (cfgA (F := F)).spec c := by
  unfold Pipeline.ΦA
  rw [scr_eq]
  exact scr_out m c _

/-- Every run ends, the result's array holding its blocks, every other array what it held at entry. -/
theorem run_main (g : Dev nD → PrngReg) :
    θ_run (defs (F := F)) (onTc (τ := τ) (main (F := F))) ⟨m, fun _ => 0, g⟩ (fun r =>
      Pipeline.FramePost (Pipeline.pin (pcfgs (F := F)) fun _ => adm) (dats m) 0 (V m) r ∧ r.2.sem = fun _ => 0) :=
  Pipeline.θ_run_frameP_track (pcfgs (F := F)) (fun _ => adm) (dats m) 0 launch0 (defs₀ (F := F)) 𝒱₀ m g (main (F := F))
    (body m) (fun c w => by unfold Pipeline.Dat.share; split <;> rfl) (fun _ _ => rfl) (V m) (V_main m) (fun _ _ => rfl)
    (fun c => fun | 0 => V_tab0 m c | 1 => V_tab1 m c) (phi_in m) (phi_out m) _ (fun _ h => h)

end Cert.KernelIdeal.Attn

end
-- ==== Proof.Frames.lean ====
/-
  The frames: the kernel's run leaves the arguments alone, at the ideal values and at the machine's.
-/
module

public import proofs.«01_k».proof.Defs
public import proofs.«01_k».proof.Proof.Run
public import proofs.«01_k».proof.Proof.Gen.Kernel

@[expose] public section

noncomputable section

namespace Cert.KernelIdeal.Attn

open Idealize.ShloMosaic Idealize.ShloMosaic.TcCoe Cert.KernelIdeal Cert.KernelIdeal.Gen Idealize.SL.Sem

variable {F : FTy → Type} [FloatOps F] [Named F]
variable (m : (ℓ : Loc nD τ sig) → Buf (Elt F) ℓ)

theorem V_arg0 (c : Dev nD) : V m c main_arg0 = m (c, main_arg0) := by
  rfl
theorem V_arg1 (c : Dev nD) : V m c main_arg1 = m (c, main_arg1) := by
  rfl
theorem V_arg2 (c : Dev nD) : V m c main_arg2 = m (c, main_arg2) := by
  rfl
theorem V_arg3 (c : Dev nD) : V m c main_arg3 = m (c, main_arg3) := by
  rfl

/-- What the result's array holds at the end. -/
def res (c : Dev nD) : Buf (Elt F) ((c.tc : Thread nD τ).loc main_v15) := (dats m 0 c).arrAt 4 grid0.N

/-- Every run ends with the result's array at `res`, the arguments unchanged and every counter at zero. -/
theorem run_frame (g : Dev nD → PrngReg) :
    θ_run (defs (F := F)) (onTc (τ := τ) (main (F := F))) ⟨m, fun _ => 0, g⟩ (fun r => (∀ c : Dev nD,
      r.2.mem ((c.tc : Thread nD τ).loc main_v15) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r ⟨h, hz⟩ => ⟨fun c =>
    ⟨(h c).1 4,
     ((h c).2 main_arg0 (Pipeline.mem_restRefs_of main_arg0 rfl (fun w => by fin_cases w <;> exact fun h => by cases h))).trans (V_arg0 m c),
     ((h c).2 main_arg1 (Pipeline.mem_restRefs_of main_arg1 rfl (fun w => by fin_cases w <;> exact fun h => by cases h))).trans (V_arg1 m c),
     ((h c).2 main_arg2 (Pipeline.mem_restRefs_of main_arg2 rfl (fun w => by fin_cases w <;> exact fun h => by cases h))).trans (V_arg2 m c),
     ((h c).2 main_arg3 (Pipeline.mem_restRefs_of main_arg3 rfl (fun w => by fin_cases w <;> exact fun h => by cases h))).trans (V_arg3 m c)⟩, hz⟩)
    (run_main m g)

end Cert.KernelIdeal.Attn

end
-- ==== Proof.FrameBits.lean ====
/-
  The frame of the program as printed, from the run proved over any float values.
-/
module

public import proofs.«01_k».proof.Proof.Frames

@[expose] public section

noncomputable section

namespace Cert.Proof

open Idealize.ShloMosaic Idealize.ShloMosaic.TcCoe Idealize.SL.Sem

/-- At the machine's values a named constant is the literal it names. -/
local instance named_bits : Named Bits where
  named _ _ {φ} b := FloatOps.ofBits φ b

theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ =
    θ_run (Cert.KernelIdeal.defs (F := Bits)) (onTc (τ := Cert.KernelIdeal.τ) (Cert.KernelIdeal.main (F := Bits))) ⟨m, fun _ => 0, g⟩ := by
  chain_rfl

theorem frame_kernel : Cert.quiescent_Kernel := fun m g _ => by
  rw [run_bits]
  exact (θ_run (Cert.KernelIdeal.defs (F := Bits)) _ _).mono (fun _ h => ⟨fun c => (h.1 c).2, h.2⟩)
    (Cert.KernelIdeal.Attn.run_frame (F := Bits) m g)

end Cert.Proof

end
-- ==== Proof.Soft.lean ====
/-
  One row of the softmax, block by block: a maximum, sums over lanes and an accumulator that are rescaled when
  the maximum grows give, after the last block, the softmax of the whole row.
-/
module

public import Idealize.ShloMosaic.PureOps.Ideal
public import Idealize.ShloMosaic.PureOps.Ideal.Laws

@[expose] public section

noncomputable section

namespace Cert.Soft

open Idealize.ShloMosaic

/-! ## Weights -/

/-- The weight of a score under the maximum `M`: two to the difference, nothing at minus infinity. -/
def wt (y : EReal) (M : ℝ) : ℝ := if y = ⊥ then 0 else Real.rpow 2 (y.toReal - M)

theorem wt_bot (M : ℝ) : wt ⊥ M = 0 := if_pos rfl

theorem wt_coe (r M : ℝ) : wt (r : EReal) M = Real.rpow 2 (r - M) := if_neg (EReal.coe_ne_bot r)

theorem wt_nonneg (y : EReal) (M : ℝ) : 0 ≤ wt y M := by
  unfold wt
  split
  · exact le_rfl
  · exact Real.rpow_nonneg (by norm_num) _

theorem wt_pos {y : EReal} (h : y ≠ ⊥) (M : ℝ) : 0 < wt y M := by
  unfold wt
  rw [if_neg h]
  exact Real.rpow_pos_of_pos (by norm_num) _

theorem bot_sub (x : EReal) : (⊥ : EReal) - x = ⊥ := by
  rw [sub_eq_add_neg]; exact EReal.bot_add _

theorem exp2_sub {y : EReal} (hy : y ≠ ⊤) (M : ℝ) : Ideal.exp2 (y - (M : EReal)) = (wt y M : EReal) := by
  induction y using EReal.rec with
  | bot => rw [bot_sub, wt_bot]; rfl
  | top => exact absurd rfl hy
  | coe r => rw [wt_coe, ← EReal.coe_sub]; rfl

theorem wt_shift (y : EReal) (M M' : ℝ) : Real.rpow 2 (M - M') * wt y M = wt y M' := by
  unfold wt
  split
  · exact mul_zero _
  · show (2 : ℝ) ^ (M - M') * (2 : ℝ) ^ (y.toReal - M) = (2 : ℝ) ^ (y.toReal - M')
    rw [← Real.rpow_add (by norm_num)]
    congr 1
    ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number that is not negative goes into a sum. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert b s hb ih =>
    rw [Finset.sum_insert hb, Finset.sum_insert hb,
      EReal.left_distrib_of_nonneg_of_ne_top (EReal.coe_nonneg.2 ha) (EReal.coe_ne_top a), ih]

/-! ## A row -/

/-- A row's running maximum, lane sums and accumulator. -/
@[ext] structure Row where
  m : Fin 128 → EReal
  l : Fin 128 → EReal
  acc : Fin 128 → EReal

/-- Nothing seen. -/
def row0 : Row := ⟨fun _ => ⊥, fun _ => 0, fun _ => 0⟩

/-- Lane `i` of chunk `c`. -/
def col (c : Fin 4) (i : Fin 128) : Fin 512 := ⟨128 * c.val + i.val, by have := c.isLt; have := i.isLt; omega⟩

/-- The lane of a column. -/
def lane (j : Fin 512) : Fin 128 := ⟨j.val % 128, Nat.mod_lt _ (by norm_num)⟩

/-- The maximum after a block of scores. -/
def rowMax (X : Fin 512 → EReal) (ρ : Row) (i : Fin 128) : EReal := max (ρ.m i) (Finset.univ.sup X)

/-- A row after a block of scores `X` with values `V`. -/
def rowStep (X : Fin 512 → EReal) (V : Fin 512 → Fin 128 → EReal) (ρ : Row) : Row where
  m := rowMax X ρ
  l i := Ideal.exp2 (ρ.m i - rowMax X ρ i) * ρ.l i + ∑ c : Fin 4, Ideal.exp2 (X (col c i) - rowMax X ρ i)
  acc e := Ideal.exp2 (ρ.m e - rowMax X ρ e) * ρ.acc e + ∑ j : Fin 512, Ideal.exp2 (X j - rowMax X ρ (lane j)) * V j e

/-- The row after the first `n` blocks of scores `y` with values `v`. -/
def Good (y : ℕ → EReal) (v : ℕ → Fin 128 → EReal) (n : ℕ) (ρ : Row) : Prop :=
  ∃ M : ℝ, (∀ i, ρ.m i = (M : EReal))
    ∧ (∀ i, ρ.l i = ((∑ b ∈ Finset.range n, ∑ c : Fin 4, wt (y (512 * b + (col c i).val)) M : ℝ) : EReal))
    ∧ ∀ e, ρ.acc e = ∑ b ∈ Finset.range n, ∑ j : Fin 512, (wt (y (512 * b + j.val)) M : EReal) * v (512 * b + j.val) e

theorem sup_real {ι : Type} [Fintype ι] (X : ι → EReal) (ht : ∀ j, X j ≠ ⊤) (hb : ∃ j, X j ≠ ⊥) : ∃ M : ℝ, Finset.univ.sup X = (M : EReal) := by
  have h1 : Finset.univ.sup X ≠ ⊤ := by
    refine ne_of_lt ?_
    rw [Finset.sup_lt_iff (by simp)]
    exact fun j _ => lt_top_iff_ne_top.2 (ht j)
  have h2 : Finset.univ.sup X ≠ ⊥ := by
    obtain ⟨j, hj⟩ := hb
    exact fun h => hj (le_bot_iff.1 (h ▸ Finset.le_sup (f := X) (Finset.mem_univ j)))
  exact ⟨_, (EReal.coe_toReal h1 h2).symm⟩

theorem good_first (y : ℕ → EReal) (v : ℕ → Fin 128 → EReal) (ht : ∀ k, y k ≠ ⊤) (h0 : y 0 ≠ ⊥) :
    Good y v 1 (rowStep (fun j => y (512 * 0 + j.val)) (fun j => v (512 * 0 + j.val)) row0) := by
  obtain ⟨M, hM⟩ := sup_real (fun j : Fin 512 => y (512 * 0 + j.val)) (fun j => ht _) ⟨0, h0⟩
  have hm : ∀ i, rowMax (fun j => y (512 * 0 + j.val)) row0 i = (M : EReal) := fun i => by
    unfold rowMax row0
    rw [hM]
    exact max_eq_right bot_le
  refine ⟨M, hm, fun i => ?_, fun e => ?_⟩
  · show Ideal.exp2 (⊥ - _) * 0 + _ = _
    rw [mul_zero, zero_add, Finset.sum_range_one, coe_sum]
    refine Finset.sum_congr rfl fun c _ => ?_
    rw [hm, exp2_sub (ht _)]
  · show Ideal.exp2 (⊥ - _) * 0 + _ = _
    rw [mul_zero, zero_add, Finset.sum_range_one]
    refine Finset.sum_congr rfl fun c _ => ?_
    rw [hm, exp2_sub (ht _)]

theorem good_next (y : ℕ → EReal) (v : ℕ → Fin 128 → EReal) (ht : ∀ k, y k ≠ ⊤) (n : ℕ) (ρ : Row) (h : Good y v n ρ) :
    Good y v (n + 1) (rowStep (fun j => y (512 * n + j.val)) (fun j => v (512 * n + j.val)) ρ) := by
  obtain ⟨M, h1, h2, h3⟩ := h
  obtain ⟨M', hM'⟩ : ∃ M' : ℝ, ∀ i, rowMax (fun j => y (512 * n + j.val)) ρ i = (M' : EReal) := by
    unfold rowMax
    by_cases hb : ∃ j : Fin 512, y (512 * n + j.val) ≠ ⊥
    · obtain ⟨A, hA⟩ := sup_real (fun j : Fin 512 => y (512 * n + j.val)) (fun j => ht _) hb
      exact ⟨max M A, fun i => by rw [h1, hA]; exact (EReal.coe_strictMono.monotone.map_max).symm⟩
    · refine ⟨M, fun i => ?_⟩
      have hs : Finset.univ.sup (fun j : Fin 512 => y (512 * n + j.val)) = ⊥ := by
        rw [Finset.sup_eq_bot_iff]
        exact fun j _ => by_contra fun h => hb ⟨j, h⟩
      rw [h1, hs]
      exact max_eq_left bot_le
  have ha : ∀ i, Ideal.exp2 (ρ.m i - rowMax (fun j => y (512 * n + j.val)) ρ i) = ((Real.rpow 2 (M - M') : ℝ) : EReal) := fun i => by
    rw [hM', h1, ← EReal.coe_sub]; rfl
  have hpos : 0 ≤ Real.rpow 2 (M - M') := Real.rpow_nonneg (by norm_num) _
  refine ⟨M', hM', fun i => ?_, fun e => ?_⟩
  · show Ideal.exp2 (ρ.m i - rowMax (fun j => y (512 * n + j.val)) ρ i) * ρ.l i + _ = _
    rw [ha, h2, ← EReal.coe_mul, Finset.mul_sum, Finset.sum_range_succ, EReal.coe_add, coe_sum]
    congr 1
    · rw [coe_sum]
      refine Finset.sum_congr rfl fun b _ => ?_
      rw [Finset.mul_sum]
      congr 1
      exact Finset.sum_congr rfl fun c _ => wt_shift _ _ _
    · rw [coe_sum]
      refine Finset.sum_congr rfl fun c _ => ?_
      rw [hM', exp2_sub (ht _)]
  · show Ideal.exp2 (ρ.m e - rowMax (fun j => y (512 * n + j.val)) ρ e) * ρ.acc e + _ = _
    rw [ha, h3, mul_sum _ _ hpos, Finset.sum_range_succ]
    congr 1
    · refine Finset.sum_congr rfl fun b _ => ?_
      rw [mul_sum _ _ hpos]
      refine Finset.sum_congr rfl fun j _ => ?_
      rw [← mul_assoc, ← EReal.coe_mul, wt_shift]
    · refine Finset.sum_congr rfl fun j _ => ?_
      rw [hM', exp2_sub (ht _)]

/-! ## The whole row -/

theorem sum_blocks {α : Type} [AddCommMonoid α] (f : ℕ → α) (n : ℕ) :
    ∑ b ∈ Finset.range n, ∑ j : Fin 512, f (512 * b + j.val) = ∑ k ∈ Finset.range (512 * n), f k := by
  induction n with
  | zero => rfl
  | succ n ih =>
    rw [Finset.sum_range_succ, ih, Nat.mul_succ, Finset.sum_range_add]
    congr 1

theorem sum_cols {α : Type} [AddCommMonoid α] (f : Fin 512 → α) : ∑ i : Fin 128, ∑ c : Fin 4, f (col c i) = ∑ j : Fin 512, f j := by
  rw [Finset.sum_comm, ← Fintype.sum_prod_type']
  refine Fintype.sum_equiv (finProdFinEquiv (m := 4) (n := 128)) _ _ fun x => congrArg f (Fin.ext ?_)
  show 128 * x.1.val + x.2.val = x.2.val + 128 * x.1.val
  omega

theorem sum_lanes (g : ℕ → ℝ) (n : ℕ) :
    ∑ i : Fin 128, ∑ b ∈ Finset.range n, ∑ c : Fin 4, g (512 * b + (col c i).val) = ∑ k ∈ Finset.range (512 * n), g k := by
  rw [Finset.sum_comm, ← sum_blocks]
  exact Finset.sum_congr rfl fun b _ => sum_cols fun j => g (512 * b + j.val)

theorem div_coe (x : EReal) {L : ℝ} (hL : 0 < L) : Ideal.div x (L : EReal) = ((L⁻¹ : ℝ) : EReal) * x := by
  unfold Ideal.div
  rw [if_neg (by exact_mod_cast hL.ne'), EReal.coe_inv, mul_comm]

/-- A row after its last block, divided by its sum: the softmax of the scores in natural units, times the values. -/
theorem good_soft (y : ℕ → EReal) (v : ℕ → Fin 128 → EReal) (n : ℕ) (ρ : Row) (h : Good y v n ρ) (hn : 512 * n ≤ 4096) (h0 : y 0 ≠ ⊥)
    (n0 : n ≠ 0) (hy : ∀ k, 512 * n ≤ k → y k = ⊥) (z : Fin 4096 → EReal) (A : ℝ)
    (hz : ∀ k : Fin 4096, (y k.val = ⊥ ∧ z k = ⊥) ∨ ∃ r : ℝ, y k.val = (r : EReal) ∧ z k = ((r * Real.log 2 : ℝ) : EReal)) (e : Fin 128) :
    Ideal.div (ρ.acc e) (∑ i : Fin 128, ρ.l i)
      = ∑ k : Fin 4096, v k.val e * Ideal.div (Ideal.exp (z k - (A : EReal))) (0 + ∑ k : Fin 4096, Ideal.exp (z k - (A : EReal))) := by
  obtain ⟨M, -, h2, h3⟩ := h
  have hl2 : Real.log 2 ≠ 0 := (Real.log_pos (by norm_num)).ne'
  have he : ∀ k : Fin 4096, Ideal.exp (z k - (A : EReal)) = (wt (y k.val) (A / Real.log 2) : EReal) := fun k => by
    rcases hz k with ⟨a, b⟩ | ⟨r, a, b⟩
    · rw [a, b, wt_bot, bot_sub]; rfl
    · rw [a, b, wt_coe, ← EReal.coe_sub]
      show ((Real.exp _ : ℝ) : EReal) = _
      congr 1
      show _ = (2 : ℝ) ^ (r - A / Real.log 2)
      rw [Real.rpow_def_of_pos (by norm_num)]
      congr 1
      field_simp
  have hs : ∑ k : Fin 4096, Ideal.exp (z k - (A : EReal)) = ((∑ k ∈ Finset.range 4096, wt (y k) (A / Real.log 2) : ℝ) : EReal) := by
    rw [Finset.sum_range, coe_sum]
    exact Finset.sum_congr rfl fun k _ => he k
  have hsum : ∀ B : ℝ, 0 < ∑ k ∈ Finset.range 4096, wt (y k) B := fun B =>
    Finset.sum_pos' (fun k _ => wt_nonneg _ _) ⟨0, Finset.mem_range.2 (by norm_num), wt_pos h0 B⟩
  have hext : ∀ {α : Type} [AddCommMonoid α] (f : ℕ → α), (∀ k, y k = ⊥ → f k = 0) →
      ∑ k ∈ Finset.range (512 * n), f k = ∑ k ∈ Finset.range 4096, f k := fun f hf =>
    Finset.sum_subset (Finset.range_subset_range.2 hn) fun k _ hk => hf k (hy k (by simpa using hk))
  have hL : ∑ i : Fin 128, ρ.l i = ((∑ k ∈ Finset.range 4096, wt (y k) M : ℝ) : EReal) := by
    rw [← hext (fun k => wt (y k) M) (fun k hk => by rw [hk, wt_bot]), ← sum_lanes, coe_sum]
    exact Finset.sum_congr rfl fun i _ => h2 i
  have hacc : ρ.acc e = ∑ k ∈ Finset.range 4096, (wt (y k) M : EReal) * v k e := by
    rw [h3, sum_blocks (fun k => (wt (y k) M : EReal) * v k e)]
    exact hext _ fun k hk => by rw [hk, wt_bot, EReal.coe_zero, zero_mul]
  have hM := hsum M
  have hA := hsum (A / Real.log 2)
  rw [hL, hacc, hs, zero_add, div_coe _ hM, mul_sum _ _ (inv_nonneg.2 hM.le), Finset.sum_range]
  refine Finset.sum_congr rfl fun k _ => ?_
  rw [he, div_coe _ hA, mul_comm (v k.val e), ← mul_assoc, ← EReal.coe_mul, ← EReal.coe_mul]
  congr 2
  have e1 : ∀ k, wt (y k) M = Real.rpow 2 (A / Real.log 2 - M) * wt (y k) (A / Real.log 2) := fun k => (wt_shift _ _ _).symm
  have e2 : ∑ k ∈ Finset.range 4096, wt (y k) M
      = Real.rpow 2 (A / Real.log 2 - M) * ∑ k ∈ Finset.range 4096, wt (y k) (A / Real.log 2) := by
    rw [Finset.mul_sum]; exact Finset.sum_congr rfl fun k _ => e1 k
  have hp : (0 : ℝ) < Real.rpow 2 (A / Real.log 2 - M) := Real.rpow_pos_of_pos (by norm_num) _
  rw [e2, e1 k.val]
  generalize Real.rpow 2 (A / Real.log 2 - M) = a at hp
  generalize (∑ k ∈ Finset.range 4096, wt (y k) (A / Real.log 2)) = S at hA
  field_simp

end Cert.Soft

end
-- ==== Proof.Rows.lean ====
/-
  What a head does to one row, over the extended reals: a strip's chunks are the row's scores, the keys after the
  query at minus infinity, and the running maximum, the lane sums and the accumulator of the row make one step of
  the blockwise softmax.
-/
module

public import proofs.«01_k».proof.Proof.Core
public import proofs.«01_k».proof.Proof.Soft
public import Idealize.ShloMosaic.Lib.MatmulPlain
public import Idealize.ShloMosaic.Lib.WordCmp
public import Idealize.ShloMosaic.Lib.Pipeline.Value

@[expose] public section

noncomputable section

namespace Cert.KernelIdeal.Attn

open Idealize.ShloMosaic Cert.KernelIdeal Cert.KernelIdeal.Gen Cert.Soft
open VecWindow ValueIdx

/-! ## Casts of blocks with unit axes -/

section Casts

variable {α : Type} {A B : ℕ}

theorem cast_drop (v : (⟨3, ![1, A, B]⟩ : Shape).Idx → α) (h : (⟨3, ![1, A, B]⟩ : Shape).ShapeCasts ⟨2, ![A, B]⟩)
    (a : Fin A) (b : Fin B) : shapeCast ⟨2, ![A, B]⟩ v h (ix2 a b) = v (ix3 0 a b) := by
  refine shapeCast_apply _ _ _ _ ?_
  rw [Shape.rowMajor_val_three, Shape.rowMajor_val_two]
  show (0 * A + a.val) * B + b.val = a.val * B + b.val
  rw [Nat.zero_mul, Nat.zero_add]

theorem cast_add (v : (⟨2, ![A, B]⟩ : Shape).Idx → α) (h : (⟨2, ![A, B]⟩ : Shape).ShapeCasts ⟨3, ![1, A, B]⟩)
    (a : Fin A) (b : Fin B) : shapeCast ⟨3, ![1, A, B]⟩ v h (ix3 0 a b) = v (ix2 a b) := by
  refine shapeCast_apply _ _ _ _ ?_
  rw [Shape.rowMajor_val_three, Shape.rowMajor_val_two]
  show a.val * B + b.val = (0 * A + a.val) * B + b.val
  rw [Nat.zero_mul, Nat.zero_add]

theorem cast_drop2 (v : (⟨4, ![1, 1, A, B]⟩ : Shape).Idx → α) (h : (⟨4, ![1, 1, A, B]⟩ : Shape).ShapeCasts ⟨2, ![A, B]⟩)
    (a : Fin A) (b : Fin B) : shapeCast ⟨2, ![A, B]⟩ v h (ix2 a b) = v (ix4 0 0 a b) := by
  refine shapeCast_apply _ _ _ _ ?_
  rw [Shape.rowMajor_val_four, Shape.rowMajor_val_two]
  show ((0 * 1 + 0) * A + a.val) * B + b.val = a.val * B + b.val
  simp

theorem cast_col (v : (⟨1, ![A]⟩ : Shape).Idx → α) (h : (⟨1, ![A]⟩ : Shape).ShapeCasts ⟨2, ![A, 1]⟩)
    (a : Fin A) : shapeCast ⟨2, ![A, 1]⟩ v h (ix2 a 0) = v (ix1 a) := by
  refine shapeCast_apply _ _ _ _ ?_
  rw [Shape.rowMajor_val_one, Shape.rowMajor_val_two]
  show a.val = a.val * 1 + 0
  omega

theorem spread_col (hA : A ≠ 1) (v : (⟨2, ![A, 1]⟩ : Shape).Idx → α) (h : (⟨2, ![A, 1]⟩ : Shape).Broadcasts ⟨2, ![A, B]⟩)
    (a : Fin A) (b : Fin B) : broadcastTo ⟨2, ![A, B]⟩ v h (ix2 a b) = v (ix2 a 0) := by
  refine broadcastTo_apply _ _ _ _ fun x => ?_
  match x with
  | ⟨0, _⟩ => exact (if_neg hA).symm
  | ⟨1, _⟩ => exact (if_pos rfl).symm

end Casts

theorem minus_inf : (Scalar.ofBits .f32 0xFF800000#32 : Ideal .f32) = (⊥ : EReal) := by
  show Ideal.ofBits .f32 0xFF800000#32 = ⊥
  decide +kernel

theorem zero_f32 : (Scalar.ofBits .f32 0x00000000#32 : Ideal .f32) = (0 : EReal) := by
  show Ideal.ofBits .f32 0x00000000#32 = 0
  exact Ideal.ofBits_zero_f32

theorem zero_bf16 : (Scalar.ofBits .bf16 0x0000#16 : Ideal .bf16) = (0 : EReal) := by
  show Ideal.ofBits .bf16 0x0000#16 = 0
  simp [Ideal.ofBits, Ideal.ieee]

/-! ## Scores -/

/-- The row of a block that row `r` of strip `j` is. -/
def row (j : Fin 8) (r : Fin 64) : Fin 512 := ⟨64 * j.val + r.val, by have := j.isLt; have := r.isLt; omega⟩

/-- A row of scores; under the mask the keys after the query are at minus infinity. -/
def masked (mk : Bool) (X : Fin 512 → EReal) (r q : Fin 512) : EReal := if mk = true ∧ r.val < q.val then ⊥ else X q

theorem score_read (ε : Env Ideal) (h : Fin 6) (r q : Fin 512) :
    (scoreOf ε h (ix3 0 r q) : EReal) = ∑ d : Fin 256, (ε.q (ix4 0 h r d) : EReal) * ε.k (ix4 0 h q d) := by
  unfold scoreOf scoreVal
  refine (cast_add (A := 512) (B := 512) _ _ r q).trans ?_
  refine (Ideal.matmul_transposedRhs_apply none _ _ _ r q).trans ?_
  have e0 : (constant (F := Ideal) S512x512 .f32 0x00000000#32 (ix2 r q) : EReal) = 0 := zero_f32
  rw [e0, zero_add]
  refine Finset.sum_congr rfl fun d _ => ?_
  congr 1
  · refine (cast_drop2 (A := 512) (B := 256) _ _ r d).trans ?_
    unfold window
    congr 1
    funext a
    apply Fin.ext
    match a with
    | ⟨0, _⟩ => rfl
    | ⟨1, _⟩ => show h.val + 1 * 0 = h.val; omega
    | ⟨2, _⟩ => show 0 + 1 * r.val = r.val; omega
    | ⟨3, _⟩ => show 0 + 1 * d.val = d.val; omega
  · refine (cast_drop2 (A := 512) (B := 256) _ _ q d).trans ?_
    unfold window
    congr 1
    funext a
    apply Fin.ext
    match a with
    | ⟨0, _⟩ => rfl
    | ⟨1, _⟩ => show h.val + 1 * 0 = h.val; omega
    | ⟨2, _⟩ => show 0 + 1 * q.val = q.val; omega
    | ⟨3, _⟩ => show 0 + 1 * d.val = d.val; omega

theorem mask_read (j : Fin 8) (c : Fin 4) (x : FVec Ideal S64x128 .f32) (r : Fin 64) (i : Fin 128) :
    maskVal j c x (ix2 r i) = if (row j r).val < (col c i).val then (⊥ : EReal) else x (ix2 r i) := by
  have hj := j.isLt
  have hc := c.isLt
  have hr := r.isLt
  have hi := i.isLt
  unfold maskVal
  rw [select_apply]
  have e0 := iota_single_apply .tc S64x128 32 0 iota_S64x128_d0_w32 (ix2 r i)
  have e1 := iota_single_apply .tc S64x128 32 1 iota_S64x128_d1_w32 (ix2 r i)
  show Scalar.select (IntOp.cmpi .sge (BitVec.ofNat 32 (64 * j.val) + iota .tc S64x128 32 [0] iota_S64x128_d0_w32 (ix2 r i))
    (BitVec.ofNat 32 (128 * c.val) + iota .tc S64x128 32 [1] iota_S64x128_d1_w32 (ix2 r i))) _ _ = _
  rw [e0, e1]
  show Scalar.select (IntOp.cmpi .sge (BitVec.ofNat 32 (64 * j.val) + BitVec.ofNat 32 r.val)
    (BitVec.ofNat 32 (128 * c.val) + BitVec.ofNat 32 i.val)) (x (ix2 r i)) (Scalar.ofBits .f32 0xFF800000#32 : Ideal .f32) = _
  rw [← BitVec.ofNat_add, ← BitVec.ofNat_add, WordCmp.cmpi_sge_ofNat (by norm_num; omega) (by norm_num; omega), minus_inf]
  show Scalar.select (BitVec.ofBool (decide (128 * c.val + i.val ≤ 64 * j.val + r.val))) _ _
    = if 64 * j.val + r.val < 128 * c.val + i.val then _ else _
  by_cases h : 64 * j.val + r.val < 128 * c.val + i.val
  · rw [if_pos h, decide_eq_false (by omega)]; rfl
  · rw [if_neg h, decide_eq_true (by omega)]; rfl

theorem live_mem (mk : Bool) (j : Fin 8) (c : Fin 4) : c ∈ live mk j ↔ (mk = true → c.val ≤ j.val / 2) := by
  revert mk j c; decide

theorem live_cases (mk : Bool) (j : Fin 8) :
    live mk j = [0] ∨ live mk j = [0, 1] ∨ live mk j = [0, 1, 2] ∨ live mk j = [0, 1, 2, 3] := by
  revert mk j; decide

/-- A chunk of strip `j` of a block of scores. -/
def chunkAt (mk : Bool) (X : S1x512x512.Idx → Elt Ideal .f32) (j : Fin 8) (c : Fin 4) : FVec Ideal S64x128 .f32 :=
  chunkVal mk j c (window (s := S2x512x512) (fun y => X (ix3 0 (y 1) (y 2))) ![(0 : Fin 2).val, 64 * j.val, 128 * c.val]
    S1x64x128.size (inb_s 0 j c))

theorem chunk_read (mk : Bool) (X : S1x512x512.Idx → Elt Ideal .f32) (j : Fin 8) (c : Fin 4) (hc : c ∈ live mk j)
    (r : Fin 64) (i : Fin 128) :
    (chunkAt mk X j c (ix2 r i) : EReal) = masked mk (fun q => X (ix3 0 (row j r) q)) (row j r) (col c i) := by
  have hc' := (live_mem mk j c).1 hc
  have hr := r.isLt
  have hi := i.isLt
  have e : (shapeCast S64x128 (window (s := S2x512x512) (fun y => X (ix3 0 (y 1) (y 2))) ![(0 : Fin 2).val, 64 * j.val, 128 * c.val]
      S1x64x128.size (inb_s 0 j c)) shapeCasts_S1x64x128_S64x128 : FVec Ideal S64x128 .f32) (ix2 r i)
      = X (ix3 0 (row j r) (col c i)) := by
    refine (cast_drop (A := 64) (B := 128) _ _ r i).trans ?_
    unfold window
    show X (ix3 0 _ _) = _
    congr 2
    · apply Fin.ext
      show 64 * j.val + 1 * r.val = 64 * j.val + r.val
      omega
    · apply Fin.ext
      show 128 * c.val + 1 * i.val = 128 * c.val + i.val
      omega
  unfold chunkAt chunkVal masked
  cases mk with
  | false =>
    refine e.trans ?_
    rw [if_neg (fun h => Bool.false_ne_true h.1)]
  | true =>
    have hle := hc' rfl
    by_cases hd : c.val = j.val / 2
    · have hb : Nat.beq c.val (j.val / 2) = true := by rw [hd]; exact Nat.beq_refl _
      rw [hb]
      refine (mask_read j c _ r i).trans ?_
      rw [e]
      by_cases hlt : (row j r).val < (col c i).val
      · rw [if_pos hlt, if_pos ⟨rfl, hlt⟩]
      · rw [if_neg hlt, if_neg (fun h => hlt h.2)]
    · have hb : Nat.beq c.val (j.val / 2) = false := by
        rw [Bool.eq_false_iff]; exact fun h => hd (Nat.eq_of_beq_eq_true h)
      rw [hb]
      refine e.trans ?_
      rw [if_neg]
      rintro ⟨-, h⟩
      have h' : 64 * j.val + r.val < 128 * c.val + i.val := h
      omega

theorem chunk_dead (mk : Bool) (X : Fin 512 → EReal) (j : Fin 8) (c : Fin 4) (hc : c ∉ live mk j) (r : Fin 64) (i : Fin 128) :
    masked mk X (row j r) (col c i) = ⊥ := by
  rw [live_mem] at hc
  have hr := r.isLt
  refine if_pos ?_
  by_cases hm : mk = true
  · refine ⟨hm, ?_⟩
    have : ¬ c.val ≤ j.val / 2 := fun h => hc fun _ => h
    show 64 * j.val + r.val < 128 * c.val + i.val
    omega
  · exact absurd (fun h => absurd h hm) hc

/-! ## Joining chunks -/

theorem join_max (mk : Bool) (j : Fin 8) (g : Fin 4 → FVec Ideal S64x128 .f32) (y : S64x128.Idx) (X : Fin 4 → EReal)
    (hg : ∀ c ∈ live mk j, g c y = X c) (hd : ∀ c, c ∉ live mk j → X c = ⊥) :
    (joinVal maximumf ((live mk j).map g) y : EReal) = Finset.univ.sup X := by
  have hu : Finset.univ.sup X = X 0 ⊔ (X 1 ⊔ (X 2 ⊔ X 3)) := by
    simp [Fin.univ_succ]
  rcases live_cases mk j with e | e | e | e <;> rw [e] at hg hd ⊢ <;> rw [hu]
  · rw [hd 1 (by decide), hd 2 (by decide), hd 3 (by decide), ← hg 0 (by decide)]
    simp [joinVal]
  · rw [hd 2 (by decide), hd 3 (by decide), ← hg 0 (by decide), ← hg 1 (by decide)]
    simp only [bot_sup_eq, sup_bot_eq]
    rfl
  · rw [hd 3 (by decide), ← hg 0 (by decide), ← hg 1 (by decide), ← hg 2 (by decide)]
    simp only [bot_sup_eq, sup_bot_eq, ← sup_assoc]
    rfl
  · rw [← hg 0 (by decide), ← hg 1 (by decide), ← hg 2 (by decide), ← hg 3 (by decide)]
    simp only [← sup_assoc]
    rfl

theorem join_add (mk : Bool) (j : Fin 8) (g : Fin 4 → FVec Ideal S64x128 .f32) (y : S64x128.Idx) (X : Fin 4 → EReal)
    (hg : ∀ c ∈ live mk j, g c y = X c) (hd : ∀ c, c ∉ live mk j → X c = 0) :
    (joinVal addf ((live mk j).map g) y : EReal) = ∑ c, X c := by
  rw [Fin.sum_univ_four]
  rcases live_cases mk j with e | e | e | e <;> rw [e] at hg hd ⊢
  · rw [hd 1 (by decide), hd 2 (by decide), hd 3 (by decide), ← hg 0 (by decide)]
    simp [joinVal]
  · rw [hd 2 (by decide), hd 3 (by decide), ← hg 0 (by decide), ← hg 1 (by decide)]
    simp only [add_zero]
    rfl
  · rw [hd 3 (by decide), ← hg 0 (by decide), ← hg 1 (by decide), ← hg 2 (by decide)]
    simp only [add_zero]
    rfl
  · rw [← hg 0 (by decide), ← hg 1 (by decide), ← hg 2 (by decide), ← hg 3 (by decide)]
    rfl

/-- The chunk of a column. -/
def chunkOfCol (q : Fin 512) : Fin 4 := ⟨q.val / 128, by have := q.isLt; omega⟩

theorem cat_four (f : Fin 4 → FVec Ideal S64x128 .bf16)
    (h : Shape.Concatenates [S64x128, S64x128, S64x128, S64x128] S64x512 1) (r : Fin 64) (q : Fin 512) :
    concatenate S64x512 1 [⟨S64x128, f 0⟩, ⟨S64x128, f 1⟩, ⟨S64x128, f 2⟩, ⟨S64x128, f 3⟩] h (ix2 r q)
      = f (chunkOfCol q) (ix2 r (lane q)) := by
  refine concatenate_ofFn_apply (t := S64x512) (s₁ := S64x128) 1 f h rfl 128 rfl (ix2 r q) (chunkOfCol q) rfl (ix2 r (lane q)) rfl ?_
  intro b hb
  match b with
  | ⟨0, _⟩ => rfl
  | ⟨1, _⟩ => exact absurd rfl hb

theorem cat_read (mk : Bool) (j : Fin 8) (g : Fin 4 → FVec Ideal S64x128 .f32) (r : Fin 64) (q : Fin 512) (X : EReal)
    (hg : chunkOfCol q ∈ live mk j → g (chunkOfCol q) (ix2 r (lane q)) = X) (hd : chunkOfCol q ∉ live mk j → X = 0) :
    (catVal ((live mk j).map g) (ix2 r q) : EReal) = X := by
  have key : ∀ f : Fin 4 → FVec Ideal S64x128 .bf16,
      (∀ c ∈ live mk j, f c = truncf .bf16 (g c) bitsLt_bf16_f32) →
      (∀ c, c ∉ live mk j → f c = broadcast S64x128 (Scalar.ofBits .bf16 0x0000#16 : Ideal .bf16)) →
      f (chunkOfCol q) (ix2 r (lane q)) = X := by
    intro f h1 h2
    by_cases hc : chunkOfCol q ∈ live mk j
    · rw [h1 _ hc]; exact hg hc
    · rw [h2 _ hc, hd hc]; exact zero_bf16
  rcases live_cases mk j with e | e | e | e <;> rw [e] at key ⊢
  · refine (cat_four ![truncf .bf16 (g 0) bitsLt_bf16_f32, broadcast S64x128 (Scalar.ofBits .bf16 0x0000#16 : Ideal .bf16), broadcast S64x128 (Scalar.ofBits .bf16 0x0000#16 : Ideal .bf16),
      broadcast S64x128 (Scalar.ofBits .bf16 0x0000#16 : Ideal .bf16)] concatenates_S64x128_S64x128_S64x128_S64x128_S64x512_d1 r q).trans (key _ ?_ ?_)
    · intro c; fin_cases c <;> simp
    · intro c; fin_cases c <;> simp
  · refine (cat_four ![truncf .bf16 (g 0) bitsLt_bf16_f32, truncf .bf16 (g 1) bitsLt_bf16_f32, broadcast S64x128 (Scalar.ofBits .bf16 0x0000#16 : Ideal .bf16),
      broadcast S64x128 (Scalar.ofBits .bf16 0x0000#16 : Ideal .bf16)] concatenates_S64x128_S64x128_S64x128_S64x128_S64x512_d1 r q).trans (key _ ?_ ?_)
    · intro c; fin_cases c <;> simp
    · intro c; fin_cases c <;> simp
  · refine (cat_four ![truncf .bf16 (g 0) bitsLt_bf16_f32, truncf .bf16 (g 1) bitsLt_bf16_f32, truncf .bf16 (g 2) bitsLt_bf16_f32,
      broadcast S64x128 (Scalar.ofBits .bf16 0x0000#16 : Ideal .bf16)] concatenates_S64x128_S64x128_S64x128_S64x128_S64x512_d1 r q).trans (key _ ?_ ?_)
    · intro c; fin_cases c <;> simp
    · intro c; fin_cases c <;> simp
  · refine (cat_four ![truncf .bf16 (g 0) bitsLt_bf16_f32, truncf .bf16 (g 1) bitsLt_bf16_f32, truncf .bf16 (g 2) bitsLt_bf16_f32,
      truncf .bf16 (g 3) bitsLt_bf16_f32] concatenates_S64x128_S64x128_S64x128_S64x128_S64x512_d1 r q).trans (key _ ?_ ?_)
    · intro c; fin_cases c <;> simp
    · intro c; fin_cases c <;> simp

/-! ## A strip -/

theorem sup_cols (X : Fin 512 → EReal) :
    (Finset.univ.sup fun i : Fin 128 => Finset.univ.sup fun c : Fin 4 => X (col c i)) = Finset.univ.sup X := by
  apply le_antisymm
  · exact Finset.sup_le fun i _ => Finset.sup_le fun c _ => Finset.le_sup (f := X) (Finset.mem_univ _)
  · refine Finset.sup_le fun q _ => ?_
    have hq : q = col (chunkOfCol q) (lane q) := by
      apply Fin.ext
      show q.val = 128 * (q.val / 128) + q.val % 128
      omega
    refine le_trans ?_ (Finset.le_sup (f := fun i : Fin 128 => Finset.univ.sup fun c : Fin 4 => X (col c i)) (Finset.mem_univ (lane q)))
    refine le_trans (le_of_eq ?_) (Finset.le_sup (f := fun c : Fin 4 => X (col c (lane q))) (Finset.mem_univ (chunkOfCol q)))
    show X q = X _
    rw [← hq]

variable (mk : Bool) (X : S1x512x512.Idx → Elt Ideal .f32) (h : Fin 6) (x : Core Ideal)

/-- A row of what is carried. -/
def rowOf (x : Core Ideal) (h : Fin 6) (r : Fin 512) : Row :=
  ⟨fun i => x.m (ix3 h r i), fun i => x.l (ix3 h r i), fun i => x.acc (ix3 h r i)⟩

theorem strip_cast (m : S6x512x128.Idx → Elt Ideal .f32) (j : Fin 8) (r : Fin 64) (i : Fin 128) :
    (shapeCast S64x128 (stripWin m h j) shapeCasts_S1x64x128_S64x128 : FVec Ideal S64x128 .f32) (ix2 r i) = m (ix3 h (row j r) i) := by
  refine (cast_drop (A := 64) (B := 128) _ _ r i).trans ?_
  unfold stripWin window
  congr 1
  funext a
  apply Fin.ext
  match a with
  | ⟨0, _⟩ => show h.val + 1 * 0 = h.val; omega
  | ⟨1, _⟩ => show 64 * j.val + 1 * r.val = 64 * j.val + r.val; omega
  | ⟨2, _⟩ => show 0 + 1 * i.val = i.val; omega

/-- The scores of a row of the block. -/
abbrev rowX (r : Fin 512) : Fin 512 → EReal := masked mk (fun q => X (ix3 0 r q)) r

theorem xsOf_eq (j : Fin 8) : xsOf mk X j = (live mk j).map (chunkAt mk X j) := rfl

theorem max_read (j : Fin 8) (r : Fin 64) (i : Fin 128) :
    (maxVal (xsOf mk X j) (stripWin x.m h j) (ix2 r i) : EReal) = rowMax (rowX mk X (row j r)) (rowOf x h (row j r)) i := by
  unfold maxVal rowMax
  rw [maximumf_apply, strip_cast]
  refine congrArg (max (x.m (ix3 h (row j r) i) : EReal)) ?_
  refine (spread_col (A := 64) (B := 128) (by norm_num) _ _ r i).trans ?_
  refine (cast_col (A := 64) _ _ r).trans ?_
  refine (Ideal.multiReduction_maximumf_single _ _ _ _ _ _).trans ?_
  rw [show (FloatOps.ofBits .f32 0xFF800000#32 : Ideal .f32) = (⊥ : EReal) from minus_inf, ← sup_cols]
  show Finset.univ.sup _ = _
  refine Finset.sup_congr rfl fun k _ => ?_
  rw [xsOf_eq]
  refine (congrArg (joinVal maximumf ((live mk j).map (chunkAt mk X j))) (?_ : _ = ix2 r k)).trans ?_
  · funext a
    match a with
    | ⟨0, _⟩ => rfl
    | ⟨1, _⟩ => rfl
  · exact join_max mk j _ _ _ (fun c hc => chunk_read mk X j c hc r k) (fun c hc => chunk_dead mk _ j c hc r k)

theorem alpha_read (j : Fin 8) (r : Fin 64) (i : Fin 128) :
    (alphaVal (xsOf mk X j) (stripWin x.m h j) (ix2 r i) : EReal)
      = Ideal.exp2 ((rowOf x h (row j r)).m i - rowMax (rowX mk X (row j r)) (rowOf x h (row j r)) i) := by
  unfold alphaVal
  show Ideal.exp2 (_ - _) = _
  rw [strip_cast, max_read]
  rfl

theorem prob_read (j : Fin 8) (c : Fin 4) (hc : c ∈ live mk j) (r : Fin 64) (i : Fin 128) :
    (exp2 (subf (chunkAt mk X j c) (maxVal (xsOf mk X j) (stripWin x.m h j))) (ix2 r i) : EReal)
      = Ideal.exp2 (rowX mk X (row j r) (col c i) - rowMax (rowX mk X (row j r)) (rowOf x h (row j r)) i) := by
  show Ideal.exp2 (_ - _) = _
  rw [max_read, chunk_read mk X j c hc]

theorem prob_dead (j : Fin 8) (c : Fin 4) (hc : c ∉ live mk j) (r : Fin 64) (i : Fin 128) :
    Ideal.exp2 (rowX mk X (row j r) (col c i) - rowMax (rowX mk X (row j r)) (rowOf x h (row j r)) i) = 0 := by
  rw [show rowX mk X (row j r) (col c i) = ⊥ from chunk_dead mk _ j c hc r i, bot_sub]
  rfl

theorem probs_eq (j : Fin 8) (m : Vec Ideal S1x64x128 .f32) : probVals (xsOf mk X j) m
    = (live mk j).map fun c => exp2 (subf (chunkAt mk X j c) (maxVal (xsOf mk X j) m)) := by
  unfold probVals
  rw [xsOf_eq, List.map_map]
  rfl

theorem sum_read (j : Fin 8) (r : Fin 64) (i : Fin 128) (V : Fin 512 → Fin 128 → EReal) :
    (sumVal (xsOf mk X j) (stripWin x.m h j) (stripWin x.l h j) (ix2 r i) : EReal)
      = (rowStep (rowX mk X (row j r)) V (rowOf x h (row j r))).l i := by
  unfold sumVal
  show _ * _ + _ = _
  rw [alpha_read, strip_cast, probs_eq]
  refine congrArg (fun z : EReal => Ideal.exp2 ((rowOf x h (row j r)).m i - rowMax (rowX mk X (row j r)) (rowOf x h (row j r)) i)
    * x.l (ix3 h (row j r) i) + z) ?_
  exact join_add mk j _ _ _ (fun c hc => prob_read mk X h x j c hc r i) (fun c hc => prob_dead mk X h x j c hc r i)

theorem probs_read (j : Fin 8) (r : Fin 64) (q : Fin 512) :
    (catVal (probVals (xsOf mk X j) (stripWin x.m h j)) (ix2 r q) : EReal)
      = Ideal.exp2 (rowX mk X (row j r) q - rowMax (rowX mk X (row j r)) (rowOf x h (row j r)) (lane q)) := by
  have hq : q = col (chunkOfCol q) (lane q) := by
    apply Fin.ext
    show q.val = 128 * (q.val / 128) + q.val % 128
    omega
  rw [probs_eq]
  refine cat_read mk j _ r q _ (fun hc => ?_) (fun hc => ?_)
  · refine (prob_read mk X h x j _ hc r (lane q)).trans ?_
    rw [← hq]
  · refine Eq.trans ?_ (prob_dead mk X h x j _ hc r (lane q))
    rw [← hq]

/-! ## A head -/

theorem row_str (r : Fin 512) : row (strOf r) (inStr r) = r := by
  apply Fin.ext
  show 64 * (r.val / 64) + r.val % 64 = r.val
  omega

/-- The values of a head, row by row. -/
def valOf (ε : Env Ideal) (h : Fin 6) (q : Fin 512) (e : Fin 128) : EReal := ε.v (ix4 0 h q e)

theorem head_row (ε : Env Ideal) (r : Fin 512) :
    rowOf (headCore ε mk h x) h r = rowStep (rowX mk (scoreOf ε h) r) (valOf ε h) (rowOf x h r) := by
  have hP : ∀ q : Fin 512, (newP mk (scoreOf ε h) h x.m (ix3 0 r q) : EReal)
      = Ideal.exp2 (rowX mk (scoreOf ε h) r q - rowMax (rowX mk (scoreOf ε h) r) (rowOf x h r) (lane q)) := fun q => by
    refine (cast_add (A := 64) (B := 512) _ _ (inStr r) q).trans ?_
    refine (probs_read mk (scoreOf ε h) h x (strOf r) (inStr r) q).trans ?_
    rw [row_str]
  have hA : ∀ i : Fin 128, (newA mk (scoreOf ε h) h x.m (ix3 0 r i) : EReal)
      = Ideal.exp2 ((rowOf x h r).m i - rowMax (rowX mk (scoreOf ε h) r) (rowOf x h r) i) := fun i => by
    refine (cast_add (A := 64) (B := 128) _ _ (inStr r) i).trans ?_
    refine (alpha_read mk (scoreOf ε h) h x (strOf r) (inStr r) i).trans ?_
    rw [row_str]
  ext i
  · refine (if_pos rfl).trans ?_
    refine (cast_add (A := 64) (B := 128) _ _ (inStr r) i).trans ?_
    refine (max_read mk (scoreOf ε h) h x (strOf r) (inStr r) i).trans ?_
    rw [row_str]
    rfl
  · refine (if_pos rfl).trans ?_
    refine (cast_add (A := 64) (B := 128) _ _ (inStr r) i).trans ?_
    refine (sum_read mk (scoreOf ε h) h x (strOf r) (inStr r) i (valOf ε h)).trans ?_
    rw [row_str]
  · refine (put_plane (A := 6) (B := 512) (C := 128) x.acc h.val _ (ix3 h r i)).trans ?_
    refine (if_pos rfl).trans ?_
    refine (cast_add (A := 512) (B := 128) _ _ r i).trans ?_
    show _ * _ + _ = _ * _ + _
    congr 1
    · congr 1
      · refine (cast_drop (A := 512) (B := 128) _ _ r i).trans ?_
        exact hA i
      · refine (cast_drop (A := 512) (B := 128) _ _ r i).trans ?_
        unfold window
        show x.acc _ = x.acc _
        congr 1
        funext a
        apply Fin.ext
        match a with
        | ⟨0, _⟩ => show h.val + 1 * 0 = h.val; omega
        | ⟨1, _⟩ => show 0 + 1 * r.val = r.val; omega
        | ⟨2, _⟩ => show 0 + 1 * i.val = i.val; omega
    · refine (Ideal.matmul_plain_apply none _ _ _ r i).trans ?_
      have e0 : (constant (F := Ideal) S512x128 .f32 0x00000000#32 (ix2 r i) : EReal) = 0 := zero_f32
      rw [e0, zero_add]
      refine Finset.sum_congr rfl fun q _ => ?_
      congr 1
      · refine (cast_drop (A := 512) (B := 512) _ _ r q).trans ?_
        exact hP q
      · refine (cast_drop2 (A := 512) (B := 128) _ _ q i).trans ?_
        unfold window valOf
        congr 1
        funext a
        apply Fin.ext
        match a with
        | ⟨0, _⟩ => rfl
        | ⟨1, _⟩ => show h.val + 1 * 0 = h.val; omega
        | ⟨2, _⟩ => show 0 + 1 * q.val = q.val; omega
        | ⟨3, _⟩ => show 0 + 1 * i.val = i.val; omega

theorem head_other (ε : Env Ideal) (h' : Fin 6) (hh : h ≠ h') (r : Fin 512) :
    rowOf (headCore ε mk h' x) h r = rowOf x h r := by
  have hv : ¬ h.val = h'.val := fun e => hh (Fin.ext e)
  ext i
  · exact if_neg hv
  · exact if_neg hv
  · exact (put_plane (A := 6) (B := 512) (C := 128) x.acc h'.val _ (ix3 h r i)).trans (if_neg hv)

theorem heads_row (ε : Env Ideal) (r : Fin 512) :
    rowOf (headsCore ε mk x) h r = rowStep (rowX mk (scoreOf ε h) r) (valOf ε h) (rowOf x h r) := by
  unfold headsCore
  fin_cases h
  all_goals
    simp only [Fin.zero_eta, Fin.mk_one, Fin.reduceFinMk]
    repeat rw [head_other mk _ _ ε _ (by decide)]
    rw [head_row]
    try repeat rw [head_other mk _ _ ε _ (by decide)]

theorem row_core0 (r : Fin 512) : rowOf core0 h r = row0 := by
  ext i
  · exact minus_inf
  · exact zero_f32
  · exact zero_f32

end Cert.KernelIdeal.Attn

end
-- ==== Proof.Values.lean ====
/-
  The blocks a grid point reads, element by element, from the program's arguments: queries scaled, queries and keys
  padded with zeros, heads moved in front of positions.
-/
module

public import proofs.«01_k».proof.Proof.Rows
public import proofs.«01_k».proof.Proof.Frames
public import Idealize.ShloMosaic.Lib.KernelVsHost
public import Idealize.ShloMosaic.Lib.IdealHost

@[expose] public section

noncomputable section

namespace Cert.KernelIdeal.Attn

open Idealize.ShloMosaic Idealize.ShloMosaic.TcCoe Cert.KernelIdeal Cert.KernelIdeal.Gen Cert.Soft
open ValueIdx

variable (m : (ℓ : Loc nD τ sig) → Buf (Elt Ideal) ℓ) (c : Dev nD)

/-- The arguments' contents. -/
abbrev A0 : FVec Ideal S2x4096x6x192 .f32 := m (c, main_arg0)
abbrev A1 : FVec Ideal S2x4096x6x192 .f32 := m (c, main_arg1)
abbrev A2 : FVec Ideal S2x4096x6x128 .f32 := m (c, main_arg2)
abbrev A3 : FVec Ideal S2x4096x768 .f32 := m (c, main_arg3)

/-- The queries' factor. -/
def qScale : FVec Ideal S_ .f32 :=
  Host.divf (constant S_ .f32 0x3F800000#32)
    (mulf (Host.log (constant S_ .f32 0x40000000#32)) (Host.sqrt (constant S_ .f32 0x43400000#32)))

theorem V_v8 : V m c main_v8 = (truncf .bf16 (pad S2x6x4096x256 ![0, 0, 0, 0] ![0, 0, 0, 64] ![0, 0, 0, 0]
    (transpose S2x6x4096x192 [0, 2, 1, 3] (mulf (A0 m c) (broadcastInDim S2x4096x6x192 ![] bcast_S_S2x4096x6x192 qScale))
      transposes_S2x4096x6x192_S2x6x4096x192_0_2_1_3)
    (sitofp .f32 (constantI S_ 32 0#32)) pads_S2x6x4096x192_S2x6x4096x256_000_000_000_0640 h_S_) bitsLt_bf16_f32 :
      FVec Ideal S2x6x4096x256 .bf16) := by
  rfl

theorem V_v11 : V m c main_v11 = (truncf .bf16 (pad S2x6x4096x256 ![0, 0, 0, 0] ![0, 0, 0, 64] ![0, 0, 0, 0]
    (transpose S2x6x4096x192 [0, 2, 1, 3] (A1 m c) transposes_S2x4096x6x192_S2x6x4096x192_0_2_1_3)
    (sitofp .f32 (constantI S_ 32 0#32)) pads_S2x6x4096x192_S2x6x4096x256_000_000_000_0640 h_S_) bitsLt_bf16_f32 :
      FVec Ideal S2x6x4096x256 .bf16) := by
  rfl

theorem V_v13 : V m c main_v13 = (truncf .bf16 (transpose S2x6x4096x128 [0, 2, 1, 3] (A2 m c)
    transposes_S2x4096x6x128_S2x6x4096x128_0_2_1_3) bitsLt_bf16_f32 : FVec Ideal S2x6x4096x128 .bf16) := by
  rfl

theorem V_v14 : V m c main_v14 = (shapeCast S8192x768 (A3 m c) shapeCasts_S2x4096x768_S8192x768 : FVec Ideal S8192x768 .f32) := by
  rfl

theorem pad_zero : (sitofp (F := Ideal) .f32 (constantI S_ 32 0#32) (Shape.Idx.first h_S_) : EReal) = 0 := by
  show ((((0#32 : BitVec 32).toInt : ℝ)) : EReal) = 0
  simp

/-- A padded array under a head. -/
theorem pad_read (x : FVec Ideal S2x6x4096x192 .f32) (b : Fin 2) (h : Fin 6) (s : Fin 4096) (d : Fin 256) :
    (pad S2x6x4096x256 ![0, 0, 0, 0] ![0, 0, 0, 64] ![0, 0, 0, 0] x (sitofp (F := Ideal) .f32 (constantI S_ 32 0#32))
      pads_S2x6x4096x192_S2x6x4096x256_000_000_000_0640 h_S_ (ix4 b h s d) : EReal)
      = if hd : d.val < 192 then x (ix4 b h s ⟨d.val, hd⟩) else 0 := by
  split
  · next hd =>
    refine pad_apply_of_inside _ _ _ x _ _ _ (ix4 b h s d) (ix4 b h s ⟨d.val, hd⟩) fun a => ?_
    match a with
    | ⟨0, _⟩ => show b.val = 0 + b.val * (0 + 1); omega
    | ⟨1, _⟩ => show h.val = 0 + h.val * (0 + 1); omega
    | ⟨2, _⟩ => show s.val = 0 + s.val * (0 + 1); omega
    | ⟨3, _⟩ => show d.val = 0 + d.val * (0 + 1); omega
  · next hd =>
    refine (pad_apply_of_not_inside _ _ _ x _ _ _ (ix4 b h s d) (a := 3) ?_).trans pad_zero
    rintro ⟨-, -, h3⟩
    have h3 : (d.val - 0) / (0 + 1) < 192 := h3
    omega

theorem swap_read {C : ℕ} (x : (⟨4, ![2, 4096, 6, C]⟩ : Shape).Idx → EReal)
    (ht : (⟨4, ![2, 4096, 6, C]⟩ : Shape).Transposes [0, 2, 1, 3] ⟨4, ![2, 6, 4096, C]⟩) (b : Fin 2) (h : Fin 6) (s : Fin 4096) (d : Fin C) :
    transpose ⟨4, ![2, 6, 4096, C]⟩ [0, 2, 1, 3] x ht (ix4 b h s d) = x (ix4 b s h d) := by
  refine transpose_apply _ _ _ _ _ fun a => ?_
  match a with
  | ⟨0, _⟩ => rfl
  | ⟨1, _⟩ => rfl
  | ⟨2, _⟩ => rfl
  | ⟨3, _⟩ => rfl

theorem v8_read (b : Fin 2) (h : Fin 6) (s : Fin 4096) (d : Fin 256) :
    (V m c main_v8 (ix4 b h s d) : EReal)
      = if hd : d.val < 192 then A0 m c (ix4 b s h ⟨d.val, hd⟩) * qScale ValueIdx.ix0 else 0 := by
  rw [V_v8]
  refine (pad_read _ b h s d).trans ?_
  split
  · next hd =>
    refine (swap_read (C := 192) _ _ b h s ⟨d.val, hd⟩).trans ?_
    rw [mulf_apply, broadcastInDim_scalar_apply]
  · rfl

theorem v11_read (b : Fin 2) (h : Fin 6) (s : Fin 4096) (d : Fin 256) :
    (V m c main_v11 (ix4 b h s d) : EReal) = if hd : d.val < 192 then A1 m c (ix4 b s h ⟨d.val, hd⟩) else 0 := by
  rw [V_v11]
  refine (pad_read _ b h s d).trans ?_
  split
  · next hd => exact swap_read (C := 192) _ _ b h s ⟨d.val, hd⟩
  · rfl

theorem v13_read (b : Fin 2) (h : Fin 6) (s : Fin 4096) (e : Fin 128) :
    (V m c main_v13 (ix4 b h s e) : EReal) = A2 m c (ix4 b s h e) := by
  rw [V_v13]
  exact swap_read (C := 128) _ _ b h s e

/-- A row of the flat arrays. -/
def flat (b : Fin 2) (s : Fin 4096) : Fin 8192 := ⟨4096 * b.val + s.val, by have := b.isLt; have := s.isLt; omega⟩

theorem v14_read (b : Fin 2) (s : Fin 4096) (e : Fin 768) :
    (V m c main_v14 (ix2 (flat b s) e) : EReal) = A3 m c (ix3 b s e) := by
  rw [V_v14]
  refine shapeCast_apply _ _ _ _ ?_
  rw [Shape.rowMajor_val_three, Shape.rowMajor_val_two]
  show (b.val * 4096 + s.val) * 768 + e.val = (4096 * b.val + s.val) * 768 + e.val
  omega

/-! ## The blocks -/

/-- The batch of a grid point. -/
def bAt (t : Fin grid0.N) : Fin 2 := grid0.coords t 0

/-- Row `r` of block `n`. -/
def pos (n : Fin 8) (r : Fin 512) : Fin 4096 := ⟨512 * n.val + r.val, by have := n.isLt; have := r.isLt; omega⟩

theorem q_read (t : Fin grid0.N) (h : Fin 6) (r : Fin 512) (d : Fin 256) :
    (envAt m c t).q (ix4 0 h r d) = V m c main_v8 (ix4 (bAt t) h (pos (qAt t) r) d) := by
  show V m c main_v8 ((((cfgA (F := Ideal)).win 0).rect t).emb (ix4 0 h r d)) = _
  congr 1
  have k : ∀ a, ((((cfgA (F := Ideal)).win 0).rect t).emb (ix4 0 h r d) a : ℕ) = _ :=
    fun a => ((cfgA (F := Ideal)).win 0).rect_emb_val t (ix4 0 h r d) a
  have e : ((cfgA (F := Ideal)).win 0).index t = _ := ix_q (F := Ideal) (grid0.coords t)
  funext a
  apply Fin.ext
  rw [k, e]
  match a with
  | ⟨0, _⟩ => show (grid0.coords t 0).val * 1 + 0 = (grid0.coords t 0).val; omega
  | ⟨1, _⟩ => show 0 * 6 + h.val = h.val; omega
  | ⟨2, _⟩ => show (qAt t).val * 512 + r.val = 512 * (qAt t).val + r.val; omega
  | ⟨3, _⟩ => show 0 * 256 + d.val = d.val; omega

theorem k_read (t : Fin grid0.N) (h : Fin 6) (r : Fin 512) (d : Fin 256) :
    (envAt m c t).k (ix4 0 h r d) = V m c main_v11 (ix4 (bAt t) h (pos (kAt t) r) d) := by
  show V m c main_v11 ((((cfgA (F := Ideal)).win 1).rect t).emb (ix4 0 h r d)) = _
  congr 1
  have k : ∀ a, ((((cfgA (F := Ideal)).win 1).rect t).emb (ix4 0 h r d) a : ℕ) = _ :=
    fun a => ((cfgA (F := Ideal)).win 1).rect_emb_val t (ix4 0 h r d) a
  have e : ((cfgA (F := Ideal)).win 1).index t = _ := ix_k (F := Ideal) (grid0.coords t)
  funext a
  apply Fin.ext
  rw [k, e]
  match a with
  | ⟨0, _⟩ => show (grid0.coords t 0).val * 1 + 0 = (grid0.coords t 0).val; omega
  | ⟨1, _⟩ => show 0 * 6 + h.val = h.val; omega
  | ⟨2, _⟩ => show (kAt t).val * 512 + r.val = 512 * (kAt t).val + r.val; omega
  | ⟨3, _⟩ => show 0 * 256 + d.val = d.val; omega

theorem v_read (t : Fin grid0.N) (h : Fin 6) (r : Fin 512) (d : Fin 128) :
    (envAt m c t).v (ix4 0 h r d) = V m c main_v13 (ix4 (bAt t) h (pos (kAt t) r) d) := by
  show V m c main_v13 ((((cfgA (F := Ideal)).win 2).rect t).emb (ix4 0 h r d)) = _
  congr 1
  have k : ∀ a, ((((cfgA (F := Ideal)).win 2).rect t).emb (ix4 0 h r d) a : ℕ) = _ :=
    fun a => ((cfgA (F := Ideal)).win 2).rect_emb_val t (ix4 0 h r d) a
  have e : ((cfgA (F := Ideal)).win 2).index t = _ := ix_v (F := Ideal) (grid0.coords t)
  funext a
  apply Fin.ext
  rw [k, e]
  match a with
  | ⟨0, _⟩ => show (grid0.coords t 0).val * 1 + 0 = (grid0.coords t 0).val; omega
  | ⟨1, _⟩ => show 0 * 6 + h.val = h.val; omega
  | ⟨2, _⟩ => show (kAt t).val * 512 + r.val = 512 * (kAt t).val + r.val; omega
  | ⟨3, _⟩ => show 0 * 128 + d.val = d.val; omega

theorem g_read (t : Fin grid0.N) (r : Fin 512) (e : Fin 768) :
    (envAt m c t).g (ix2 r e) = V m c main_v14 (ix2 (flat (bAt t) (pos (qAt t) r)) e) := by
  show V m c main_v14 ((((cfgA (F := Ideal)).win 3).rect t).emb (ix2 r e)) = _
  congr 1
  have k : ∀ a, ((((cfgA (F := Ideal)).win 3).rect t).emb (ix2 r e) a : ℕ) = _ :=
    fun a => ((cfgA (F := Ideal)).win 3).rect_emb_val t (ix2 r e) a
  have e' : ((cfgA (F := Ideal)).win 3).index t = _ := ix_g (F := Ideal) (grid0.coords t)
  funext a
  apply Fin.ext
  rw [k, e']
  match a with
  | ⟨0, _⟩ =>
    show (8 * (grid0.coords t 0).val + (qAt t).val) * 512 + r.val = 4096 * (grid0.coords t 0).val + (512 * (qAt t).val + r.val)
    omega
  | ⟨1, _⟩ => show 0 * 768 + e.val = e.val; omega

end Cert.KernelIdeal.Attn

end
-- ==== Proof.Fold.lean ====
/-
  Over the grid points of a row of blocks the scratch buffers hold, for every row of queries, the running softmax of its
  scores.
-/
module

public import proofs.«01_k».proof.Proof.Values

@[expose] public section

noncomputable section

namespace Cert.KernelIdeal.Attn

open Idealize.ShloMosaic Idealize.ShloMosaic.TcCoe Cert.KernelIdeal Cert.KernelIdeal.Gen Cert.Soft
open ValueIdx

variable (m : (ℓ : Loc nD τ sig) → Buf (Elt Ideal) ℓ) (c : Dev nD)

/-! ## The step of a grid point -/

theorem first_iff : ∀ k : Fin 8, Scalar.cmpi .ne (Scalar.extui (Scalar.cmpi .eq (wd k) 0#32) : BitVec 32) 0#32 = 1#1 ↔ k = 0 := by decide
theorem below_iff : ∀ q k : Fin 8, Scalar.cmpi .ne (Scalar.extui (Scalar.cmpi .slt (wd k) (wd q)) : BitVec 32) 0#32 = 1#1 ↔ k < q := by decide

theorem step_eq (ε : Env Ideal) (q k : Fin 8) (h : k ≤ q) (x : Core Ideal) :
    stepCore ε (wd q) (wd k) x = headsCore ε (decide (q = k)) (if k = 0 then core0 else x) := by
  unfold stepCore
  simp only [first_iff, below_iff, cond3_iff]
  by_cases e : q = k
  · rw [if_pos e, if_neg (by omega), decide_eq_true e]
  · rw [if_neg e, if_pos (by omega), decide_eq_false e]

theorem le_pt : ∀ t : Fin grid0.N, kAt t ≤ qAt t := by decide

theorem prev_pt : ∀ t : Fin grid0.N, kAt t ≠ 0 → ∃ s : Fin grid0.N, s.val + 1 = t.val ∧ bAt s = bAt t ∧ qAt s = qAt t
    ∧ (kAt s).val + 1 = (kAt t).val := by decide +kernel

/-! ## The scores -/

/-- The queries' factor as a real. -/
def cq : ℝ := (Real.log 2 * Real.sqrt 192)⁻¹

theorem two_f32 : Ideal.ofBits .f32 0x40000000#32 = ((2 : ℝ) : EReal) := by
  simp [Ideal.ofBits, Ideal.ieee, -EReal.coe_mul]; norm_num

theorem dims_f32 : Ideal.ofBits .f32 0x43400000#32 = ((192 : ℝ) : EReal) := by
  simp [Ideal.ofBits, Ideal.ieee, -EReal.coe_mul]; norm_num

theorem scale_pos : 0 < Real.log 2 * Real.sqrt 192 := mul_pos (Real.log_pos (by norm_num)) (Real.sqrt_pos.2 (by norm_num))

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem qScale_eq : (qScale ValueIdx.ix0 : EReal) = (cq : EReal) := by
  show Ideal.div (Ideal.ofBits .f32 0x3F800000#32) (Ideal.log (Ideal.ofBits .f32 0x40000000#32) * Ideal.sqrt (Ideal.ofBits .f32 0x43400000#32)) = _
  rw [two_f32, dims_f32, Ideal.ofBits_one_f32, Ideal.sqrt_coe, if_neg (by norm_num)]
  rw [show Ideal.log ((2 : ℝ) : EReal) = ((Real.log 2 : ℝ) : EReal) from log_two, ← EReal.coe_mul, div_coe _ scale_pos, mul_one]
  rfl

variable (a0 a1 : S2x4096x6x192.Idx → ℝ)

/-- A score of the kernel's. -/
def scR (b : Fin 2) (h : Fin 6) (s k : Fin 4096) : ℝ := ∑ d : Fin 192, a0 (ix4 b s h d) * cq * a1 (ix4 b k h d)

/-- The scores of a query, those after it left out. -/
def yOf (b : Fin 2) (h : Fin 6) (s : Fin 4096) (k : ℕ) : EReal :=
  if hk : k ≤ s.val then (scR a0 a1 b h s ⟨k, lt_of_le_of_lt hk s.isLt⟩ : EReal) else ⊥

/-- The values of a head. -/
def vOf (b : Fin 2) (h : Fin 6) (k : ℕ) (e : Fin 128) : EReal := if hk : k < 4096 then A2 m c (ix4 b ⟨k, hk⟩ h e) else 0

theorem yOf_top (b : Fin 2) (h : Fin 6) (s : Fin 4096) (k : ℕ) : yOf a0 a1 b h s k ≠ ⊤ := by
  unfold yOf
  split
  · exact EReal.coe_ne_top _
  · exact bot_ne_top

theorem yOf_zero (b : Fin 2) (h : Fin 6) (s : Fin 4096) : yOf a0 a1 b h s 0 ≠ ⊥ := by
  unfold yOf
  rw [dif_pos (Nat.zero_le _)]
  exact EReal.coe_ne_bot _

variable (h0 : ∀ i, (A0 m c i : EReal) = (a0 i : EReal)) (h1 : ∀ i, (A1 m c i : EReal) = (a1 i : EReal))
include h0 h1

theorem score_eq (t : Fin grid0.N) (h : Fin 6) (r q : Fin 512) :
    (scoreOf (envAt m c t) h (ix3 0 r q) : EReal) = (scR a0 a1 (bAt t) h (pos (qAt t) r) (pos (kAt t) q) : EReal) := by
  rw [score_read]
  simp only [q_read, k_read, v8_read, v11_read]
  unfold scR
  rw [coe_sum]
  refine (Fin.sum_univ_add (a := 192) (b := 64) _).trans ?_
  refine (congrArg₂ (· + ·) (Finset.sum_congr rfl fun d _ => ?_) (Finset.sum_eq_zero fun d _ => ?_)).trans (add_zero _)
  · have hd : (Fin.castAdd 64 d).val < 192 := d.isLt
    rw [dif_pos hd, dif_pos hd, h0, h1, qScale_eq, ← EReal.coe_mul, ← EReal.coe_mul]
    rfl
  · have hd : ¬ (Fin.natAdd 192 d).val < 192 := by show ¬ 192 + d.val < 192; omega
    rw [dif_neg hd, dif_neg hd, zero_mul]

theorem rowX_eq (t : Fin grid0.N) (h : Fin 6) (r : Fin 512) :
    rowX (decide (qAt t = kAt t)) (scoreOf (envAt m c t) h) r
      = fun q : Fin 512 => yOf a0 a1 (bAt t) h (pos (qAt t) r) (512 * (kAt t).val + q.val) := by
  funext q
  have hle : (kAt t).val ≤ (qAt t).val := le_pt t
  have hr := r.isLt
  have hq := q.isLt
  unfold rowX masked yOf
  show (if _ then ⊥ else (scoreOf (envAt m c t) h (ix3 0 r q) : EReal)) = _
  rw [score_eq m c a0 a1 h0 h1]
  by_cases e : qAt t = kAt t
  · rw [decide_eq_true e]
    by_cases hrq : r.val < q.val
    · rw [if_pos ⟨rfl, hrq⟩, dif_neg]
      show ¬ 512 * (kAt t).val + q.val ≤ 512 * (qAt t).val + r.val
      rw [e]; omega
    · rw [if_neg (fun x => hrq x.2), dif_pos]
      · rfl
      · show 512 * (kAt t).val + q.val ≤ 512 * (qAt t).val + r.val
        rw [e]; omega
  · rw [decide_eq_false e, if_neg (fun x => Bool.false_ne_true x.1), dif_pos]
    · rfl
    · show 512 * (kAt t).val + q.val ≤ 512 * (qAt t).val + r.val
      have : (qAt t).val ≠ (kAt t).val := fun x => e (Fin.ext x)
      omega

omit h0 h1 in
theorem valOf_eq (t : Fin grid0.N) (h : Fin 6) :
    valOf (envAt m c t) h = fun q : Fin 512 => vOf m c (bAt t) h (512 * (kAt t).val + q.val) := by
  funext q e
  unfold valOf vOf
  rw [v_read, v13_read]
  rw [dif_pos (show 512 * (kAt t).val + q.val < 4096 from (pos (kAt t) q).isLt)]
  rfl

/-- After a grid point every row is the running softmax of the scores up to its block of keys. -/
theorem fold (n : ℕ) : ∀ (t : Fin grid0.N), t.val = n → ∀ (h : Fin 6) (r : Fin 512),
    Good (yOf a0 a1 (bAt t) h (pos (qAt t) r)) (vOf m c (bAt t) h) ((kAt t).val + 1) (rowOf (coreAt m c (t.val + 1)) h r) := by
  induction n using Nat.strong_induction_on with
  | _ n ih =>
    intro t ht h r
    rw [coreAt_succ, step_eq _ _ _ (le_pt t), heads_row, rowX_eq m c a0 a1 h0 h1, valOf_eq]
    by_cases hk : kAt t = 0
    · rw [if_pos hk, row_core0]
      have hz : (kAt t).val = 0 := congrArg Fin.val hk
      rw [hz]
      exact good_first _ _ (yOf_top a0 a1 _ h _) (yOf_zero a0 a1 _ h _)
    · rw [if_neg hk]
      obtain ⟨s, hs, hb, hq, hk'⟩ := prev_pt t hk
      have g := ih s.val (by omega) s rfl h r
      rw [hb, hq, hk', hs] at g
      exact good_next _ _ (yOf_top a0 a1 _ h _) _ _ g

end Cert.KernelIdeal.Attn

end
-- ==== Proof.Ref.lean ====
/-
  The reference's result, element by element: the softmax of the masked scores times the values, times the gate.
-/
module

public import proofs.«01_k».proof.Proof.Gen.ReferenceIdeal.Run
public import Idealize.ShloMosaic.Lib.WordCmp
public import Idealize.ShloMosaic.Lib.Pipeline.Value
public import Idealize.ShloMosaic.Lib.ValueIdxCore
public import Idealize.ShloMosaic.Lib.KernelVsHost
public import Idealize.ShloMosaic.Lib.IdealHost
public import Idealize.ShloMosaic.Lib.MatmulPlain

@[expose] public section

noncomputable section

namespace Cert.ReferenceIdeal.Attn

open Idealize.ShloMosaic Idealize.ShloMosaic.TcCoe Cert.ReferenceIdeal Cert.ReferenceIdeal.Gen
open ValueIdx

variable (q k : FVec Ideal S2x4096x6x192 .f32) (v : FVec Ideal S2x4096x6x128 .f32) (g : FVec Ideal S2x4096x768 .f32)

/-- Which keys a query sees. -/
def mask : IVec S2x6x4096x4096 1 :=
  broadcastInDim S2x6x4096x4096 ![0, 1, 2, 3] bcast_S1x1x4096x4096_S2x6x4096x4096_0_1_2_3
    (broadcastInDim S1x1x4096x4096 ![2, 3] bcast_S4096x4096_S1x1x4096x4096_2_3
      (cmpi .sle
        (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))

def scaleC : FVec Ideal S_ .f32 := Host.divf (constant S_ .f32 0x3F800000#32) (Host.sqrt (constant S_ .f32 0x43400000#32))

def prods : FVec Ideal S2x6x4096x4096 .f32 :=
  Host.dotGeneral dot_S2x4096x6x192_S2x4096x6x192_S2x6x4096x4096_3_3_1_1_02_02 none q k

/-- The masked scores. -/
def scores : FVec Ideal S2x6x4096x4096 .f32 :=
  select mask (mulf (prods q k) (broadcastInDim S2x6x4096x4096 ![] bcast_S_S2x6x4096x4096 scaleC))
    (broadcastInDim S2x6x4096x4096 ![] bcast_S_S2x6x4096x4096 (id (constant S_ .f32 0xFF800000#32)))

variable (z : FVec Ideal S2x6x4096x4096 .f32)

/-- One number for each query, for every key. -/
def spread (x : FVec Ideal S2x6x4096 .f32) : FVec Ideal S2x6x4096x4096 .f32 :=
  broadcastInDim S2x6x4096x4096 ![0, 1, 2, 3] bcast_S2x6x4096x1_S2x6x4096x4096_0_1_2_3
    (broadcastInDim S2x6x4096x1 ![0, 1, 2] bcast_S2x6x4096_S2x6x4096x1_0_1_2 x)

def tops : FVec Ideal S2x6x4096 .f32 :=
  maximumf (broadcastInDim S2x6x4096 ![] bcast_S_S2x6x4096 (constant S_ .f32 0xFF800000#32))
    (Host.reduce FloatOps.maximumf z (constant S_ .f32 0xFF800000#32) reducesTo_S2x6x4096x4096_S2x6x4096_d3 h_S_)

def exps : FVec Ideal S2x6x4096x4096 .f32 := Host.exp (subf z (spread (tops z)))

def weights : FVec Ideal S2x6x4096x4096 .f32 :=
  Host.divf (exps z) (spread (Host.reduceAdd (exps z) (constant S_ .f32 0x00000000#32) reducesTo_S2x6x4096x4096_S2x6x4096_d3 h_S_))

def mixed (w : FVec Ideal S2x6x4096x4096 .f32) : FVec Ideal S2x6x128x4096 .f32 :=
  Host.dotGeneral dot_S2x4096x6x128_S2x6x4096x4096_S2x6x128x4096_1_3_3_2_02_01 none v w

def gated : FVec Ideal S2x4096x768 .f32 :=
  mulf g (Host.divf (broadcastInDim S2x4096x768 ![] bcast_S_S2x4096x768 (constant S_ .f32 0x3F800000#32))
    (addf (broadcastInDim S2x4096x768 ![] bcast_S_S2x4096x768 (constant S_ .f32 0x3F800000#32)) (Host.exp (Host.negf g))))

def out3 (w : FVec Ideal S2x6x4096x4096 .f32) : FVec Ideal S2x4096x768 .f32 :=
  mulf (shapeCast S2x4096x768 (transpose S2x4096x6x128 [0, 3, 1, 2] (mixed v w)
    transposes_S2x6x128x4096_S2x4096x6x128_0_3_1_2) shapeCasts_S2x4096x6x128_S2x4096x768) (gated g)

def out (w : FVec Ideal S2x6x4096x4096 .f32) : FVec Ideal S8192x768 .bf16 :=
  truncf .bf16 (shapeCast S8192x768 (out3 v g w) shapeCasts_S2x4096x768_S8192x768) bitsLt_bf16_f32

theorem res_eq (m : (ℓ : Loc nD τ sig) → Buf (Elt Ideal) ℓ) (c : Dev nD) : Value.res_main_v30 m c
    = out (m ((c.tc : Thread nD τ).loc main_arg2)) (m ((c.tc : Thread nD τ).loc main_arg3))
        (weights (scores (m ((c.tc : Thread nD τ).loc main_arg0)) (m ((c.tc : Thread nD τ).loc main_arg1)))) := by
  unfold Value.res_main_v30
  rfl

/-! ## The reads -/

theorem minus_inf : (Ideal.ofBits .f32 0xFF800000#32 : EReal) = ⊥ := by
  simp [Ideal.ofBits, Ideal.ieee]

theorem mask_read (b : Fin 2) (h : Fin 6) (s j : Fin 4096) : mask (ix4 b h s j) = 1#1 ↔ j.val ≤ s.val := by
  have e : mask (ix4 b h s j) = IntOp.cmpi .sle (BitVec.ofNat 32 j.val) (BitVec.ofNat 32 s.val) := by
    unfold mask
    refine (broadcastInDim_apply _ _ _ _ (ix4 0 0 s j) fun a => ?_).trans ?_
    · match a with
      | ⟨0, _⟩ => rfl
      | ⟨1, _⟩ => rfl
      | ⟨2, _⟩ => rfl
      | ⟨3, _⟩ => rfl
    refine (broadcastInDim_apply _ _ _ _ (ix2 s j) fun a => ?_).trans ?_
    · match a with
      | ⟨0, _⟩ => rfl
      | ⟨1, _⟩ => rfl
    refine congrArg₂ (IntOp.cmpi .sle) ?_ ?_
    · refine (broadcastInDim_apply _ _ _ _ (ix2 0 j) fun a => ?_).trans ((broadcastInDim_apply _ _ _ _ (ix1 j) fun a => ?_).trans rfl)
      · match a with
        | ⟨0, _⟩ => rfl
        | ⟨1, _⟩ => rfl
      · match a with
        | ⟨0, _⟩ => rfl
    · refine (broadcastInDim_apply _ _ _ _ (ix2 s 0) fun a => ?_).trans ((broadcastInDim_apply _ _ _ _ (ix1 s) fun a => ?_).trans rfl)
      · match a with
        | ⟨0, _⟩ => rfl
        | ⟨1, _⟩ => rfl
      · match a with
        | ⟨0, _⟩ => rfl
  rw [e]
  exact WordCmp.cmpi_sle_ofNat_eq_one_iff (by have := j.isLt; norm_num; omega) (by have := s.isLt; norm_num; omega)

theorem spread_read (x : FVec Ideal S2x6x4096 .f32) (b : Fin 2) (h : Fin 6) (s j : Fin 4096) : spread x (ix4 b h s j) = x (ix3 b h s) := by
  unfold spread
  refine (broadcastInDim_apply _ _ _ _ (ix4 b h s 0) fun a => ?_).trans ?_
  · match a with
    | ⟨0, _⟩ => rfl
    | ⟨1, _⟩ => rfl
    | ⟨2, _⟩ => rfl
    | ⟨3, _⟩ => rfl
  refine broadcastInDim_apply _ _ _ _ (ix3 b h s) fun a => ?_
  match a with
  | ⟨0, _⟩ => rfl
  | ⟨1, _⟩ => rfl
  | ⟨2, _⟩ => rfl

theorem prods_read (b : Fin 2) (h : Fin 6) (s j : Fin 4096) :
    (prods q k (ix4 b h s j) : EReal) = ∑ d : Fin 192, q (ix4 b s h d) * k (ix4 b j h d) := by
  have hr : dot_S2x4096x6x192_S2x4096x6x192_S2x6x4096x4096_3_3_1_1_02_02.contr.rank = 1 := rfl
  have hs : dot_S2x4096x6x192_S2x4096x6x192_S2x6x4096x4096_3_3_1_1_02_02.contr.size ⟨0, by rw [hr]; exact Nat.one_pos⟩ = 192 := rfl
  refine (Ideal.dotGeneral_apply _ _ _ _ _ _).trans ?_
  rw [← Equiv.sum_comp (contrEquiv1 _ 192 hr hs).symm]
  refine Finset.sum_congr rfl fun d _ => ?_
  have hk := contrEquiv1_symm_val _ 192 hr hs d
  refine congrArg₂ (fun x y : EReal => x * y) (congrArg q ?_) (congrArg k ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem mixed_read (w : FVec Ideal S2x6x4096x4096 .f32) (b : Fin 2) (h : Fin 6) (e : Fin 128) (s : Fin 4096) :
    (mixed v w (ix4 b h e s) : EReal) = ∑ j : Fin 4096, v (ix4 b j h e) * w (ix4 b h s j) := by
  have hr : dot_S2x4096x6x128_S2x6x4096x4096_S2x6x128x4096_1_3_3_2_02_01.contr.rank = 1 := rfl
  have hs : dot_S2x4096x6x128_S2x6x4096x4096_S2x6x128x4096_1_3_3_2_02_01.contr.size ⟨0, by rw [hr]; exact Nat.one_pos⟩ = 4096 := rfl
  refine (Ideal.dotGeneral_apply _ _ _ _ _ _).trans ?_
  rw [← Equiv.sum_comp (contrEquiv1 _ 4096 hr hs).symm]
  refine Finset.sum_congr rfl fun d _ => ?_
  have hk := contrEquiv1_symm_val _ 4096 hr hs d
  refine congrArg₂ (fun x y : EReal => x * y) (congrArg v ?_) (congrArg w ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

theorem scores_read (b : Fin 2) (h : Fin 6) (s j : Fin 4096) : (scores q k (ix4 b h s j) : EReal)
    = if j.val ≤ s.val then (∑ d : Fin 192, q (ix4 b s h d) * k (ix4 b j h d)) * scaleC ix0 else ⊥ := by
  unfold scores
  show (if mask (ix4 b h s j) = 1#1 then (prods q k (ix4 b h s j) : EReal) * broadcastInDim S2x6x4096x4096 ![] bcast_S_S2x6x4096x4096 scaleC (ix4 b h s j)
    else broadcastInDim S2x6x4096x4096 ![] bcast_S_S2x6x4096x4096 (id (constant (F := Ideal) S_ .f32 0xFF800000#32)) (ix4 b h s j)) = _
  simp only [mask_read, broadcastInDim_scalar_apply, prods_read]
  refine if_congr Iff.rfl rfl ?_
  exact minus_inf

theorem red3 : S2x6x4096x4096.Reduces [3] S2x6x4096 := by decide

theorem lift3 {A B C D : ℕ} (hd : (⟨4, ![A, B, C, D]⟩ : Shape).Reduces [3] ⟨3, ![A, B, C]⟩) (b : Fin A) (h : Fin B) (s : Fin C) (j : Fin D) :
    hd.lift (ix3 b h s) j = ix4 b h s j := by
  funext a
  match a with
  | ⟨0, _⟩ => rfl
  | ⟨1, _⟩ => rfl
  | ⟨2, _⟩ => rfl
  | ⟨3, _⟩ => rfl

theorem fold_max {n : ℕ} (x : Ideal .f32) (f : Fin n → Ideal .f32) (f' : Fin n → EReal) (hx : x = (⊥ : EReal)) (hf : ∀ j, f j = f' j) :
    Finset.univ.fold (FloatOps.maximumf (F := Ideal) (φ := .f32)) x f = Finset.univ.sup f' := by
  obtain rfl : f = f' := funext hf
  subst hx
  rfl

/-- The maximum over the last axis, from −∞. -/
theorem max_last {A B C D : ℕ} (z : FVec Ideal ⟨4, ![A, B, C, D]⟩ .f32) (i : S_.Idx → Ideal .f32) (hu : 0 < S_.numel) (hi : ∀ u, i u = (⊥ : EReal))
    (h' : (⟨4, ![A, B, C, D]⟩ : Shape).ReducesTo [3] ⟨3, ![A, B, C]⟩) (hd : (⟨4, ![A, B, C, D]⟩ : Shape).Reduces [3] ⟨3, ![A, B, C]⟩)
    (b : Fin A) (h : Fin B) (s : Fin C) :
    (Host.reduce (FloatOps.maximumf (F := Ideal) (φ := .f32)) z i h' hu (ix3 b h s) : Ideal .f32)
      = Finset.univ.sup fun j : Fin D => (z (ix4 b h s j) : EReal) := by
  rw [Host.reduce_eq_fold_single FloatOps.maximumf z i h' hd hu]
  exact fold_max (n := D) _ _ _ (hi _) fun j => congrArg z (lift3 hd b h s j)

/-- The sum over the last axis, from zero. -/
theorem sum_last {A B C D : ℕ} (z : FVec Ideal ⟨4, ![A, B, C, D]⟩ .f32) (i : S_.Idx → Ideal .f32) (hu : 0 < S_.numel) (hi : ∀ u, i u = (0 : EReal))
    (h' : (⟨4, ![A, B, C, D]⟩ : Shape).ReducesTo [3] ⟨3, ![A, B, C]⟩) (hd : (⟨4, ![A, B, C, D]⟩ : Shape).Reduces [3] ⟨3, ![A, B, C]⟩)
    (b : Fin A) (h : Fin B) (s : Fin C) :
    (Host.reduceAdd z i h' hu (ix3 b h s) : Ideal .f32) = 0 + ∑ j : Fin D, (z (ix4 b h s j) : EReal) := by
  rw [hostReduceAdd_apply, Ideal.hostReduceAdd_single _ hd, hi]
  exact congrArg ((0 : EReal) + ·) (Finset.sum_congr rfl fun j _ => congrArg z (lift3 hd b h s j))

theorem tops_read (b : Fin 2) (h : Fin 6) (s : Fin 4096) :
    (tops z (ix3 b h s) : EReal) = Finset.univ.sup fun j : Fin 4096 => (z (ix4 b h s j) : EReal) := by
  have e := max_last z (constant S_ .f32 0xFF800000#32) h_S_ (fun _ => minus_inf) reducesTo_S2x6x4096x4096_S2x6x4096_d3 red3 b h s
  have e' : (broadcastInDim S2x6x4096 ![] bcast_S_S2x6x4096 (constant (F := Ideal) S_ .f32 0xFF800000#32) (ix3 b h s) : EReal) = ⊥ :=
    (broadcastInDim_scalar_apply _ _ _).trans minus_inf
  have e2 : (tops z (ix3 b h s) : EReal) = max (broadcastInDim S2x6x4096 ![] bcast_S_S2x6x4096 (constant (F := Ideal) S_ .f32 0xFF800000#32) (ix3 b h s) : EReal)
      (Host.reduce (FloatOps.maximumf (F := Ideal) (φ := .f32)) z (constant (F := Ideal) S_ .f32 0xFF800000#32) reducesTo_S2x6x4096x4096_S2x6x4096_d3 h_S_ (ix3 b h s)) := by
    unfold tops
    exact maximumf_apply _ _ _
  rw [e2, e', e]
  exact max_eq_right bot_le

theorem exps_read (b : Fin 2) (h : Fin 6) (s j : Fin 4096) : (exps z (ix4 b h s j) : EReal)
    = Ideal.exp (z (ix4 b h s j) - Finset.univ.sup fun j : Fin 4096 => (z (ix4 b h s j) : EReal)) := by
  rw [← tops_read, ← spread_read (tops z) b h s j]
  rfl

theorem weights_read (b : Fin 2) (h : Fin 6) (s j : Fin 4096) : (weights z (ix4 b h s j) : EReal)
    = Ideal.div (exps z (ix4 b h s j)) (0 + ∑ j : Fin 4096, (exps z (ix4 b h s j) : EReal)) := by
  unfold weights
  rw [hostDivf_apply, spread_read]
  refine congrArg (Ideal.div _) ?_
  exact sum_last (exps z) (constant S_ .f32 0x00000000#32) h_S_ (fun _ => Ideal.ofBits_zero_f32) reducesTo_S2x6x4096x4096_S2x6x4096_d3 red3 b h s

def flat (b : Fin 2) (s : Fin 4096) : Fin 8192 := ⟨4096 * b.val + s.val, by have := b.isLt; have := s.isLt; omega⟩
def lane (h : Fin 6) (e : Fin 128) : Fin 768 := ⟨128 * h.val + e.val, by have := h.isLt; have := e.isLt; omega⟩

theorem gated_read (b : Fin 2) (s : Fin 4096) (d : Fin 768) :
    (gated g (ix3 b s d) : EReal) = g (ix3 b s d) * Ideal.div 1 (1 + Ideal.exp (-g (ix3 b s d))) := by
  unfold gated
  show (g (ix3 b s d) : EReal) * Ideal.div (broadcastInDim S2x4096x768 ![] bcast_S_S2x4096x768 (constant (F := Ideal) S_ .f32 0x3F800000#32) (ix3 b s d))
    (broadcastInDim S2x4096x768 ![] bcast_S_S2x4096x768 (constant (F := Ideal) S_ .f32 0x3F800000#32) (ix3 b s d) + Ideal.exp (-g (ix3 b s d))) = _
  rw [broadcastInDim_scalar_apply]
  show _ * Ideal.div (Ideal.ofBits .f32 0x3F800000#32) (Ideal.ofBits .f32 0x3F800000#32 + _) = _
  rw [Ideal.ofBits_one_f32]

theorem out_read (w : FVec Ideal S2x6x4096x4096 .f32) (b : Fin 2) (s : Fin 4096) (h : Fin 6) (e : Fin 128) :
    (out v g w (ix2 (flat b s) (lane h e)) : EReal)
      = (∑ j : Fin 4096, v (ix4 b j h e) * w (ix4 b h s j))
        * (g (ix3 b s (lane h e)) * Ideal.div 1 (1 + Ideal.exp (-g (ix3 b s (lane h e))))) := by
  show (shapeCast S8192x768 (out3 v g w) shapeCasts_S2x4096x768_S8192x768 (ix2 (flat b s) (lane h e)) : EReal) = _
  refine (shapeCast_apply _ _ (ix2 (flat b s) (lane h e)) (ix3 b s (lane h e)) ?_).trans ?_
  · rw [Shape.rowMajor_val_three, Shape.rowMajor_val_two]
    show (b.val * 4096 + s.val) * 768 + (lane h e).val = (4096 * b.val + s.val) * 768 + (lane h e).val
    omega
  refine congrArg₂ (fun x y : EReal => x * y) ?_ (gated_read g b s (lane h e))
  refine (shapeCast_apply _ _ (ix3 b s (lane h e)) (ix4 b s h e) ?_).trans ?_
  · rw [Shape.rowMajor_val_four, Shape.rowMajor_val_three]
    show ((b.val * 4096 + s.val) * 6 + h.val) * 128 + e.val = (b.val * 4096 + s.val) * 768 + (128 * h.val + e.val)
    omega
  refine (transpose_apply _ _ _ _ (ix4 b h e s) fun a => ?_).trans (mixed_read v w b h e s)
  match a with
  | ⟨0, _⟩ => rfl
  | ⟨1, _⟩ => rfl
  | ⟨2, _⟩ => rfl
  | ⟨3, _⟩ => rfl

end Cert.ReferenceIdeal.Attn

end
-- ==== Proof.Result.lean ====
/-
  What the kernel writes is what the reference computes.
-/
module

public import proofs.«01_k».proof.Proof.Fold
public import proofs.«01_k».proof.Proof.Ref
public import Idealize.ShloMosaic.Lib.Pipeline.ValueKit.Geometry
public import Idealize.ShloMosaic.PureOps.IdealRules

@[expose] public section

noncomputable section

namespace Cert.KernelIdeal.Attn

open Idealize.ShloMosaic Idealize.ShloMosaic.TcCoe Cert.KernelIdeal Cert.KernelIdeal.Gen Cert.Soft
open VecWindow ValueIdx

/-! ## The gate -/

/-- The logistic function in powers of two. -/
theorem gate_exp (x : EReal) : Ideal.exp2 (x * ((-((Real.log 2)⁻¹) : ℝ) : EReal)) = Ideal.exp (-x) := by
  have hl : 0 < Real.log 2 := Real.log_pos (by norm_num)
  have hn : (-((Real.log 2)⁻¹) : ℝ) < 0 := neg_lt_zero.2 (inv_pos.2 hl)
  induction x using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg, Ideal.exp2_coe, Ideal.exp_coe]
    congr 1
    show (2 : ℝ) ^ (r * -(Real.log 2)⁻¹) = Real.exp (-r)
    rw [Real.rpow_def_of_pos (by norm_num)]
    congr 1
    field_simp

theorem gate_read (g : FVec Ideal S512x128 .f32) (y : S512x128.Idx) :
    (gateVal g y : EReal) = g y * Ideal.div 1 (1 + Ideal.exp (-g y)) := by
  have hn : (Named.named κ "neg_log2e" 0xBFB8AA3B#32 : Ideal .f32) = ((-((Real.log 2)⁻¹) : ℝ) : EReal) :=
    IdealRules.named_const.ideal_named_scalar _ _ _ _ rfl
  unfold gateVal
  show (g y : EReal) * Ideal.div (Ideal.ofBits .f32 0x3F800000#32)
    (Ideal.ofBits .f32 0x3F800000#32 + Ideal.exp2 (g y * (Named.named κ "neg_log2e" 0xBFB8AA3B#32 : Ideal .f32))) = _
  rw [hn, gate_exp, Ideal.ofBits_one_f32]

/-! ## The output of a block -/

/-- The head of a column. -/
def hd (y : S512x768.Idx) : Fin 6 := ⟨(y 1).val / 128, by have : (y 1).val < 768 := (y 1).isLt; omega⟩
/-- The column in its head. -/
def ln (y : S512x768.Idx) : Fin 128 := ⟨(y 1).val % 128, Nat.mod_lt _ (by norm_num)⟩

theorem plane_read (x : S6x512x128.Idx → Ideal .f32) (y : S512x768.Idx) (r : Fin 512) (i : Fin 128) :
    (shapeCast S512x128 (window x ![(y 1).val / 128, 0, 0] S1x512x128.size (inb_mfull (hd y))) shapeCasts_S1x512x128_S512x128
      : FVec Ideal S512x128 .f32) (ix2 r i) = x (ix3 (hd y) r i) := by
  refine (cast_drop (A := 512) (B := 128) _ _ r i).trans ?_
  unfold window
  congr 1
  funext a
  apply Fin.ext
  match a with
  | ⟨0, _⟩ => show (y 1).val / 128 + 1 * 0 = (y 1).val / 128; omega
  | ⟨1, _⟩ => show 0 + 1 * r.val = r.val; omega
  | ⟨2, _⟩ => show 0 + 1 * i.val = i.val; omega

theorem gcol_read (g : S512x768.Idx → Ideal .f32) (y : S512x768.Idx) :
    (shapeCast S512x128 (window g ![0, 128 * ((y 1).val / 128)] S512x128.size (inb_o (hd y))) shapeCasts_S512x128_S512x128
      : FVec Ideal S512x128 .f32) (ix2 (y 0) (ln y)) = g y := by
  refine (shapeCast_apply _ _ _ (ix2 (y 0) (ln y)) rfl).trans ?_
  unfold window
  congr 1
  funext a
  apply Fin.ext
  match a with
  | ⟨0, _⟩ => show 0 + 1 * (y 0).val = (y 0).val; omega
  | ⟨1, _⟩ => show 128 * ((y 1).val / 128) + 1 * ((y 1).val % 128) = (y 1).val; omega

theorem sum_plane (x : S6x512x128.Idx → Ideal .f32) (y : S512x768.Idx) (r : Fin 512) (e : Fin 128) :
    (broadcastTo S512x128 (shapeCast S512x1 (multiReduction .add [1] S512
      (shapeCast S512x128 (window x ![(y 1).val / 128, 0, 0] S1x512x128.size (inb_mfull (hd y))) shapeCasts_S1x512x128_S512x128 : FVec Ideal S512x128 .f32)
        0x00000000#32 reduces_S512x128_S512 (.inl rfl) rfl) shapeCasts_S512_S512x1) broadcasts_S512x1_S512x128 : FVec Ideal S512x128 .f32) (ix2 r e)
      = (∑ i : Fin 128, x (ix3 (hd y) r i) : EReal) := by
  refine (spread_col (A := 512) (B := 128) (by norm_num) _ _ r e).trans ?_
  refine (cast_col (A := 512) _ _ r).trans ?_
  refine (Ideal.multiReduction_add_single _ _ _ _ _ _).trans ?_
  refine Finset.sum_congr rfl fun k _ => ?_
  refine Eq.trans (congrArg _ (?_ : _ = ix2 r k)) (plane_read x y r k)
  funext a
  match a with
  | ⟨0, _⟩ => rfl
  | ⟨1, _⟩ => rfl

theorem outOf_read (ε : Env Ideal) (x : Core Ideal) (y : S512x768.Idx) :
    (outOf ε x y : EReal) = Ideal.div ((rowOf x (hd y) (y 0)).acc (ln y)) (∑ i : Fin 128, (rowOf x (hd y) (y 0)).l i)
      * (ε.g y * Ideal.div 1 (1 + Ideal.exp (-ε.g y))) := by
  have h1 := plane_read x.acc y (y 0) (ln y)
  have h2 := sum_plane x.l y (y 0) (ln y)
  have h3 := (gate_read _ _).trans (congrArg (fun g : EReal => g * Ideal.div 1 (1 + Ideal.exp (-g))) (gcol_read ε.g y))
  exact congrArg₂ (fun a b : EReal => a * b) (congrArg₂ Ideal.div h1 h2) h3

/-! ## The reference's scores -/

variable (m : (ℓ : Loc nD τ sig) → Buf (Elt Ideal) ℓ) (c : Dev nD)
variable (a0 a1 : S2x4096x6x192.Idx → ℝ)
variable (h0 : ∀ i, (A0 m c i : EReal) = (a0 i : EReal)) (h1 : ∀ i, (A1 m c i : EReal) = (a1 i : EReal))

theorem scaleC_eq : (ReferenceIdeal.Attn.scaleC ValueIdx.ix0 : EReal) = (((Real.sqrt 192)⁻¹ : ℝ) : EReal) := by
  show Ideal.div (Ideal.ofBits .f32 0x3F800000#32) (Ideal.sqrt (Ideal.ofBits .f32 0x43400000#32)) = _
  rw [dims_f32, Ideal.ofBits_one_f32, Ideal.sqrt_coe, if_neg (by norm_num), div_coe _ (Real.sqrt_pos.2 (by norm_num)), mul_one]

/-- The reference's result from the kernel's arguments. -/
def want : S8192x768.Idx → Ideal .bf16 :=
  ReferenceIdeal.Attn.out (A2 m c) (A3 m c) (ReferenceIdeal.Attn.weights (ReferenceIdeal.Attn.scores (A0 m c) (A1 m c)))

include h0 h1

theorem ref_score (b : Fin 2) (h : Fin 6) (s j : Fin 4096) :
    (ReferenceIdeal.Attn.scores (A0 m c) (A1 m c) (ix4 b h s j) : EReal)
      = if j.val ≤ s.val then ((scR a0 a1 b h s j * Real.log 2 : ℝ) : EReal) else ⊥ := by
  refine (ReferenceIdeal.Attn.scores_read (A0 m c) (A1 m c) b h s j).trans (if_congr Iff.rfl ?_ rfl)
  rw [scaleC_eq]
  have e : (∑ d : Fin 192, (A0 m c (ix4 b s h d) : EReal) * A1 m c (ix4 b j h d)) = ((∑ d : Fin 192, a0 (ix4 b s h d) * a1 (ix4 b j h d) : ℝ) : EReal) := by
    rw [coe_sum]
    exact Finset.sum_congr rfl fun d _ => by rw [h0, h1, ← EReal.coe_mul]
  refine (congrArg (fun x : EReal => x * (((Real.sqrt 192)⁻¹ : ℝ) : EReal)) e).trans ?_
  rw [← EReal.coe_mul]
  congr 1
  have hl : Real.log 2 ≠ 0 := (Real.log_pos (by norm_num)).ne'
  unfold scR cq
  rw [Finset.sum_mul, Finset.sum_mul]
  refine Finset.sum_congr rfl fun d _ => ?_
  rw [mul_inv]
  field_simp

/-- A finished row of the kernel is the reference's. -/
theorem row_eq (t : Fin grid0.N) (hq : qAt t = kAt t) (h : Fin 6) (r : Fin 512) (e : Fin 128) :
    Ideal.div ((rowOf (coreAt m c (t.val + 1)) h r).acc e) (∑ i : Fin 128, (rowOf (coreAt m c (t.val + 1)) h r).l i)
      = ∑ j : Fin 4096, (A2 m c (ix4 (bAt t) j h e) : EReal)
          * ReferenceIdeal.Attn.weights (ReferenceIdeal.Attn.scores (A0 m c) (A1 m c)) (ix4 (bAt t) h (pos (qAt t) r) j) := by
  have hg := fold m c a0 a1 h0 h1 t.val t rfl h r
  have hs := ref_score m c a0 a1 h0 h1 (bAt t) h (pos (qAt t) r)
  obtain ⟨A, hA⟩ := sup_real (fun j : Fin 4096 => (ReferenceIdeal.Attn.scores (A0 m c) (A1 m c) (ix4 (bAt t) h (pos (qAt t) r) j) : EReal))
    (fun j => by rw [hs]; split; exacts [EReal.coe_ne_top _, bot_ne_top])
    ⟨0, by rw [hs, if_pos (show (0 : Fin 4096).val ≤ (pos (qAt t) r).val from Nat.zero_le _)]; exact EReal.coe_ne_bot _⟩
  have key := good_soft _ _ _ _ hg (by have := (kAt t).isLt; omega) (yOf_zero a0 a1 _ h _) (Nat.succ_ne_zero _)
    (fun k hk => by
      unfold yOf
      rw [dif_neg]
      have := r.isLt
      show ¬ k ≤ 512 * (qAt t).val + r.val
      rw [hq]; omega)
    (fun j => (ReferenceIdeal.Attn.scores (A0 m c) (A1 m c) (ix4 (bAt t) h (pos (qAt t) r) j) : EReal)) A
    (fun k => by
      rw [hs]
      unfold yOf
      by_cases hk : k.val ≤ (pos (qAt t) r).val
      · right
        rw [dif_pos hk, if_pos hk]
        exact ⟨_, rfl, rfl⟩
      · left
        rw [dif_neg hk, if_neg hk]
        exact ⟨rfl, rfl⟩) e
  refine key.trans (Finset.sum_congr rfl fun j _ => ?_)
  have hv : vOf m c (bAt t) h j.val e = A2 m c (ix4 (bAt t) j h e) := dif_pos j.isLt
  have hw := ReferenceIdeal.Attn.weights_read (ReferenceIdeal.Attn.scores (A0 m c) (A1 m c)) (bAt t) h (pos (qAt t) r) j
  simp only [ReferenceIdeal.Attn.exps_read, hA] at hw
  rw [hv]
  exact congrArg (fun x : EReal => (A2 m c (ix4 (bAt t) j h e) : EReal) * x) hw.symm

/-- A block of the result. -/
theorem block_eq (t : Fin grid0.N) (hq : qAt t = kAt t) (y : S512x768.Idx) :
    outOf (envAt m c t) (coreAt m c (t.val + 1)) y = want m c (ix2 (flat (bAt t) (pos (qAt t) (y 0))) (y 1)) := by
  have hy : (y 1 : Fin 768) = ReferenceIdeal.Attn.lane (hd y) (ln y) := by
    apply Fin.ext
    show (y 1).val = 128 * ((y 1).val / 128) + (y 1).val % 128
    omega
  have hg : ((envAt m c t).g y : EReal) = A3 m c (ix3 (bAt t) (pos (qAt t) (y 0)) (ReferenceIdeal.Attn.lane (hd y) (ln y))) := by
    refine (congrArg (envAt m c t).g (?_ : y = ix2 (y 0) (ReferenceIdeal.Attn.lane (hd y) (ln y)))).trans ((g_read m c t (y 0) _).trans (v14_read m c _ _ _))
    funext a
    match a with
    | ⟨0, _⟩ => rfl
    | ⟨1, _⟩ => exact hy
  have hr := ReferenceIdeal.Attn.out_read (A2 m c) (A3 m c) (ReferenceIdeal.Attn.weights (ReferenceIdeal.Attn.scores (A0 m c) (A1 m c)))
    (bAt t) (pos (qAt t) (y 0)) (hd y) (ln y)
  refine (outOf_read _ _ y).trans ?_
  refine (congrArg₂ (fun x g : EReal => x * (g * Ideal.div 1 (1 + Ideal.exp (-g)))) (row_eq m c a0 a1 h0 h1 t hq (hd y) (y 0) (ln y)) hg).trans ?_
  refine Eq.trans hr.symm ?_
  unfold want
  exact congrArg (fun z : Fin 768 => ReferenceIdeal.Attn.out (A2 m c) (A3 m c)
    (ReferenceIdeal.Attn.weights (ReferenceIdeal.Attn.scores (A0 m c) (A1 m c))) (ix2 (flat (bAt t) (pos (qAt t) (y 0))) z)) hy.symm

/-! ## The whole result -/

omit h0 h1 in
theorem diag_pt : ∀ (b : Fin 2) (n : Fin 8), ∃ t : Fin grid0.N, bAt t = b ∧ qAt t = n ∧ kAt t = n := by decide +kernel

omit h0 h1 in
theorem next_diag : ∀ t : Fin grid0.N, qAt t = kAt t → t.val + 1 = grid0.N ∨ ∃ h : t.val + 1 < grid0.N,
    8 * (bAt ⟨t.val + 1, h⟩).val + (qAt ⟨t.val + 1, h⟩).val ≠ 8 * (bAt t).val + (qAt t).val := by decide +kernel

omit h0 h1 in
theorem flush_diag (t : Fin grid0.N) (h : qAt t = kAt t) : ((cfgA (F := Ideal)).win 4).flush t = true := by
  refine (((cfgA (F := Ideal)).win 4).flush_out rfl t).2 ?_
  rcases next_diag t h with e | ⟨h1, h2⟩
  · exact Or.inl e
  · refine Or.inr ⟨h1, fun e => h2 ?_⟩
    have e := (index_o (F := Ideal) ⟨t.val + 1, h1⟩).symm.trans (e.trans (index_o (F := Ideal) t))
    exact congrFun e 0

omit h0 h1 in
theorem o_emb (t : Fin grid0.N) (y : S512x768.Idx) :
    (((cfgA (F := Ideal)).win 4).rect t).emb y = ix2 (flat (bAt t) (pos (qAt t) (y 0))) (y 1) := by
  have k : ∀ a, ((((cfgA (F := Ideal)).win 4).rect t).emb y a : ℕ) = _ := fun a => ((cfgA (F := Ideal)).win 4).rect_emb_val t y a
  have e : ((cfgA (F := Ideal)).win 4).index t = _ := index_o (F := Ideal) t
  funext a
  apply Fin.ext
  rw [k, e]
  match a with
  | ⟨0, _⟩ =>
    show (8 * (grid0.coords t 0).val + (qAt t).val) * 512 + (y 0).val = 4096 * (grid0.coords t 0).val + (512 * (qAt t).val + (y 0).val)
    omega
  | ⟨1, _⟩ => show 0 * 768 + (y 1).val = (y 1).val; omega

theorem res_eq : res m c = want m c := by
  refine (dats m 0 c).arrAt_eq_of_emb 4 (want m c) (fun t hf y => ?_) fun i => ?_
  · have hq : qAt t = kAt t := by
      by_contra hne
      exact Bool.false_ne_true ((flush_o t hne).symm.trans hf)
    exact (block_eq m c a0 a1 h0 h1 t hq y).trans (congrArg (want m c) (o_emb t y).symm)
  · have i0 : (i 0).val < 8192 := (i 0).isLt
    obtain ⟨t, hb, hq, hk⟩ := diag_pt ⟨(i 0).val / 4096, by omega⟩ ⟨(i 0).val % 4096 / 512, by omega⟩
    refine ⟨t, flush_diag t (hq.trans hk.symm), ?_⟩
    have e : i = (((cfgA (F := Ideal)).win 4).rect t).emb (ix2 ⟨(i 0).val % 512, by omega⟩ (i 1) : S512x768.Idx) := by
      rw [o_emb]
      funext a
      apply Fin.ext
      match a with
      | ⟨0, _⟩ =>
        show (i 0).val = 4096 * (bAt t).val + (512 * (qAt t).val + (i 0).val % 512)
        rw [hb, hq]
        show (i 0).val = 4096 * ((i 0).val / 4096) + (512 * ((i 0).val % 4096 / 512) + (i 0).val % 512)
        omega
      | ⟨1, _⟩ => rfl
    rw [e]
    exact View.emb_mem_set _ _

end Cert.KernelIdeal.Attn

end
-- ==== Proof.Norm.lean ====
/-
  The projection of a normalised row: the row over its root mean square, times the gains, times the weights' columns;
  and the columns as they are laid out for the product.
-/
module

public import Idealize.ShloMosaic.PureOps.Ideal
public import Idealize.ShloMosaic.PureOps.Ideal.Laws
public import Idealize.ShloMosaic.Lib.ValueIdxCore

@[expose] public section

noncomputable section

namespace Cert.Norm

open Idealize.ShloMosaic

/-- A row over the root of its mean square (and a small constant), times the gains. -/
def normed {n : ℕ} (x g : Fin n → EReal) (j : Fin n) : EReal :=
  x j * Ideal.rsqrt (Ideal.div (∑ k : Fin n, x k * x k) (Ideal.ofBits .f32 0x45000000#32) + Ideal.ofBits .f32 0x358637BD#32) * g j

/-- The normalised row times one column of the weights. -/
def proj {n : ℕ} (x g w : Fin n → EReal) : EReal := ∑ j : Fin n, normed x g j * w j

/-- The columns in the order of the product: the last twelve stand after the first 832, then 52 of zeros, then the others. -/
def laid (w : Fin 5196 → EReal) (k : Fin 5248) : EReal :=
  if h : k.val < 832 then w ⟨k.val, by omega⟩
  else if h2 : k.val < 844 then w ⟨k.val - 832 + 5184, by omega⟩
  else if h3 : k.val < 896 then 0
  else w ⟨k.val - 64, by have := k.isLt; omega⟩

theorem laid_first (w : Fin 5196 → EReal) (k : Fin 5248) (i : Fin 5196) (h : k.val < 832) (hi : i.val = k.val) : laid w k = w i := by
  unfold laid
  rw [dif_pos h]
  exact congrArg w (Fin.ext hi.symm)

theorem laid_last (w : Fin 5196 → EReal) (k : Fin 5248) (i : Fin 5196) (h : 832 ≤ k.val) (h2 : k.val < 844) (hi : i.val = k.val - 832 + 5184) :
    laid w k = w i := by
  unfold laid
  rw [dif_neg (by omega), dif_pos h2]
  exact congrArg w (Fin.ext hi.symm)

theorem laid_zero (w : Fin 5196 → EReal) (k : Fin 5248) (h : 844 ≤ k.val) (h2 : k.val < 896) : laid w k = 0 := by
  unfold laid
  rw [dif_neg (by omega), dif_neg (by omega), dif_pos h2]

theorem laid_mid (w : Fin 5196 → EReal) (k : Fin 5248) (i : Fin 5196) (h : 896 ≤ k.val) (hi : i.val = k.val - 64) : laid w k = w i := by
  unfold laid
  rw [dif_neg (by omega), dif_neg (by omega), dif_neg (by omega)]
  exact congrArg w (Fin.ext hi.symm)

/-- Row `i` of the activations, the batches one after the other. -/
def rowOf (x : (⟨3, ![2, 4096, 2048]⟩ : Shape).Idx → EReal) (i : Fin 8192) (j : Fin 2048) : EReal :=
  x (ValueIdx.ix3 ⟨i.val / 4096, by have := i.isLt; omega⟩ ⟨i.val % 4096, Nat.mod_lt _ (by norm_num)⟩ j)

/-- Row `i`, normalised, times column `k` of the laid-out weights of the first layer. -/
def entry (x : (⟨3, ![2, 4096, 2048]⟩ : Shape).Idx → EReal) (g : (⟨2, ![2, 2048]⟩ : Shape).Idx → EReal)
    (w : (⟨3, ![2, 2048, 5196]⟩ : Shape).Idx → EReal) (i : Fin 8192) (k : Fin 5248) : EReal :=
  proj (rowOf x i) (fun j => g (ValueIdx.ix2 0 j)) fun j => laid (fun q => w (ValueIdx.ix3 0 j q)) k

/-- A result: the rows against `N` laid-out columns from `off` on. -/
def columns (x : (⟨3, ![2, 4096, 2048]⟩ : Shape).Idx → EReal) (g : (⟨2, ![2, 2048]⟩ : Shape).Idx → EReal)
    (w : (⟨3, ![2, 2048, 5196]⟩ : Shape).Idx → EReal) (N off : ℕ) (h : off + N ≤ 5248) : (⟨2, ![8192, N]⟩ : Shape).Idx → EReal :=
  fun i => entry x g w (i 0) ⟨off + (i 1).val, by have : (i 1).val < N := (i 1).isLt; omega⟩

end Cert.Norm

end
-- ==== Proof.Project.lean ====
/-
  What the projection kernel leaves in its eight arrays: each row of the activations, normalised, times a run of the
  laid-out weights' columns.
-/
module

public import proofs.«01_k».proof.Proof.Gen.InProjIdeal.Value
public import proofs.«01_k».proof.Proof.Norm
public import Idealize.ShloMosaic.Lib.Pipeline.ValueKit
public import Idealize.ShloMosaic.Lib.KernelVsHost
public import Idealize.ShloMosaic.Lib.IdealHost
public import Idealize.ShloMosaic.Lib.MatmulPlain

@[expose] public section

noncomputable section

namespace Cert.InProjIdeal.Project

open Idealize.ShloMosaic hiding ix0 ix1 ix2 ix3 ix4 mulf_apply
open Idealize.ShloMosaic.TcCoe Cert.InProjIdeal Cert.InProjIdeal.Gen Cert.Norm
open ValueIdx

/-! ## The body -/

theorem lift_row {A B : ℕ} (hd : (⟨2, ![A, B]⟩ : Shape).Reduces [1] ⟨1, ![A]⟩) (r : Fin A) (j : Fin B) : hd.lift (ix1 r) j = ix2 r j := by
  funext a
  match a with
  | ⟨0, _⟩ => rfl
  | ⟨1, _⟩ => rfl

/-- A block's rows, normalised. -/
theorem normed_row {A B : ℕ} (x : FVec Ideal ⟨2, ![A, B]⟩ .f32) (g : FVec Ideal ⟨2, ![1, B]⟩ .f32)
    (h0 : (⟨2, ![A, B]⟩ : Shape).ShapeCasts ⟨2, ![A, B]⟩) (hr : (⟨2, ![A, B]⟩ : Shape).Reduces [1] ⟨1, ![A]⟩) (h1 : (⟨1, ![A]⟩ : Shape).ShapeCasts ⟨2, ![A, 1]⟩)
    (hb : (⟨2, ![A, 1]⟩ : Shape).Broadcasts ⟨2, ![A, B]⟩) (hg : (⟨2, ![1, B]⟩ : Shape).Broadcasts ⟨2, ![A, B]⟩)
    (hφ : FKind.Formats .f32) (ha : (0x00000000#32 : BitVec 32) = FKind.add.neutral .f32 hφ) (r : Fin A) (j : Fin B) :
    (mulf (mulf (shapeCast ⟨2, ![A, B]⟩ x h0) (broadcastTo ⟨2, ![A, B]⟩ (rsqrt (addf (divf (shapeCast ⟨2, ![A, 1]⟩
      (multiReduction .add [1] ⟨1, ![A]⟩ (mulf (shapeCast ⟨2, ![A, B]⟩ x h0) (shapeCast ⟨2, ![A, B]⟩ x h0)) 0x00000000#32 hr hφ ha) h1)
      (broadcast ⟨2, ![A, 1]⟩ (Scalar.ofBits (F := Ideal) .f32 0x45000000#32))) (broadcast ⟨2, ![A, 1]⟩ (Scalar.ofBits (F := Ideal) .f32 0x358637BD#32)))) hb))
      (broadcastTo ⟨2, ![A, B]⟩ g hg) (ix2 r j) : EReal) = normed (fun k => x (ix2 r k)) (fun k => g (ix2 0 k)) j := by
  have hc : shapeCast ⟨2, ![A, B]⟩ x h0 = x := by
    funext y
    exact shapeCast_apply _ _ _ _ rfl
  rw [hc, mulf_apply, mulf_apply]
  unfold normed
  refine congrArg₂ (fun a b : EReal => a * b) (congrArg (fun a : EReal => x (ix2 r j) * a) ?_) ?_
  · refine (broadcastTo_apply _ _ _ (ix2 r 0) fun a => ?_).trans ?_
    · match a with
      | ⟨0, _⟩ =>
        show r.val = if A = 1 then 0 else r.val
        split
        · have := r.isLt; omega
        · rfl
      | ⟨1, _⟩ => exact (if_pos rfl).symm
    refine congrArg (fun a : EReal => Ideal.rsqrt (Ideal.div a _ + _)) ?_
    refine (shapeCast_apply _ _ _ (ix1 r) ?_).trans ?_
    · rw [Shape.rowMajor_val_two, Shape.rowMajor_val_one]
      show r.val = r.val * 1 + 0
      omega
    refine (Ideal.multiReduction_add_single _ _ hr hφ ha _).trans ?_
    refine Finset.sum_congr rfl fun k _ => ?_
    exact (congrArg (mulf x x) (lift_row hr r k)).trans rfl
  · refine broadcastTo_apply _ _ _ (ix2 0 j) fun a => ?_
    match a with
    | ⟨0, _⟩ => exact (if_pos rfl).symm
    | ⟨1, _⟩ =>
      show j.val = if B = 1 then 0 else j.val
      split
      · have := j.isLt; omega
      · rfl

theorem pay6_read (x : Vec Ideal S512x2048 .f32) (g : Vec Ideal S1x2048 .f32) (r : Fin 512) (j : Fin 2048) :
    (k0_pay6 x g (ix2 r j) : EReal) = normed (fun k => x (ix2 r k)) (fun k => g (ix2 0 k)) j :=
  normed_row (A := 512) (B := 2048) x g _ _ _ _ _ _ _ r j

/-- One product of the body: a block of rows times a run of columns. -/
theorem product {N : ℕ} (h : FVec Ideal ⟨2, ![512, 2048]⟩ .bf16) (w : FVec Ideal ⟨3, ![1, 2048, N]⟩ .bf16)
    (hs : (⟨3, ![1, 2048, N]⟩ : Shape).ShapeCasts ⟨2, ![2048, N]⟩) (r : Fin 512) (e : Fin N) :
    (matmul (DotDims.plain 512 2048 N) none h (shapeCast ⟨2, ![2048, N]⟩ w hs) (constant ⟨2, ![512, N]⟩ .f32 0x00000000#32) (ix2 r e) : EReal)
      = ∑ j : Fin 2048, h (ix2 r j) * w (ix3 0 j e) := by
  refine (Ideal.matmul_plain_apply none _ _ _ r e).trans ?_
  have e0 : (constant (F := Ideal) ⟨2, ![512, N]⟩ .f32 0x00000000#32 (ix2 r e) : EReal) = 0 := Ideal.ofBits_zero_f32
  rw [e0, zero_add]
  refine Finset.sum_congr rfl fun j _ => ?_
  refine congrArg (fun a : EReal => h (ix2 r j) * a) (shapeCast_apply _ _ _ (ix3 0 j e) ?_)
  rw [Shape.rowMajor_val_three, Shape.rowMajor_val_two]
  show (0 * 2048 + j.val) * N + e.val = j.val * N + e.val
  simp

variable (m : (ℓ : Loc nD τ sig) → Buf (Elt Ideal) ℓ) (c : Dev nD)

/-- The arguments' contents. -/
abbrev A0 : FVec Ideal S2x4096x2048 .f32 := m (c, main_arg0)
abbrev A1 : FVec Ideal S2x2048 .f32 := m (c, main_arg1)
abbrev A2 : FVec Ideal S2x2048x5196 .f32 := m (c, main_arg2)

/-- Row `r` of the block of point `t`. -/
def at_ (t : Fin cfg0.N) (r : Fin 512) : Fin 8192 := ⟨512 * t.val + r.val, by have : t.val < 16 := t.isLt; have := r.isLt; omega⟩

/-! ## The blocks a point reads -/

theorem index_x : ∀ t : Fin cfg0.N, win0_0.index t = ![t.val, 0] := (by decide +kernel : ∀ t : Fin grid0.N, win0_0.index t = ![t.val, 0])
theorem index_g : ∀ t : Fin cfg0.N, win0_1.index t = ![0, 0] := (by decide +kernel : ∀ t : Fin grid0.N, win0_1.index t = ![0, 0])
theorem index_w : ∀ t : Fin cfg0.N, win0_2.index t = ![0, 0, 0] := (by decide +kernel : ∀ t : Fin grid0.N, win0_2.index t = ![0, 0, 0])

theorem V_rows : V m c main_v6 = (shapeCast S8192x2048 (A0 m c) shapeCasts_S2x4096x2048_S8192x2048 : FVec Ideal S8192x2048 .f32) := by
  rfl

theorem rows_read (i : Fin 8192) (j : Fin 2048) : (V m c main_v6 (ix2 i j) : EReal) = rowOf (A0 m c) i j := by
  rw [V_rows]
  refine shapeCast_apply _ _ _ _ ?_
  rw [Shape.rowMajor_val_three, Shape.rowMajor_val_two]
  show (i.val / 4096 * 4096 + i.val % 4096) * 2048 + j.val = i.val * 2048 + j.val
  omega

theorem x_read (t : Fin cfg0.N) (r : Fin 512) (j : Fin 2048) : (iblk m c 0 t (ix2 r j) : EReal) = rowOf (A0 m c) (at_ t r) j := by
  rw [← rows_read]
  blk_simp [iblk]
  refine congrArg (V m c main_v6) ?_
  funext a
  apply Fin.ext
  match a with
  | ⟨0, _⟩ => blk_simp [index_x]; show t.val * 512 + r.val = 512 * t.val + r.val; omega
  | ⟨1, _⟩ => blk_simp [index_x]

theorem g_read (t : Fin cfg0.N) (j : Fin 2048) : (View.ld (iblk m c 1 t) r0_1 (ix2 0 j) : EReal) = A1 m c (ix2 0 j) := by
  show (iblk m c 1 t (r0_1.emb (ix2 0 j)) : EReal) = _
  rw [show (A1 m c (ix2 0 j) : EReal) = V m c main_arg1 (ix2 0 j) from (congrFun (V_main_arg1 m c) _).symm]
  blk_simp [iblk]
  refine congrArg (V m c main_arg1) ?_
  funext a
  apply Fin.ext
  match a with
  | ⟨0, _⟩ => blk_simp [index_g]; rfl
  | ⟨1, _⟩ => blk_simp [index_g]

theorem V_cols : V m c main_v5 = (truncf .bf16 (concatenate S2x2048x5248 2
    [⟨S2x2048x832, (extractStridedSlice S2x2048x832 ![0, 0, 0] (A2 m c) slices_S2x2048x5196_S2x2048x832_0_0_0)⟩,
     ⟨S2x2048x12, (extractStridedSlice S2x2048x12 ![0, 0, 5184] (A2 m c) slices_S2x2048x5196_S2x2048x12_0_0_5184)⟩,
     ⟨S2x2048x52, (broadcastInDim S2x2048x52 ![] bcast_S_S2x2048x52 (constant (F := Ideal) S_ .f32 0x00000000#32))⟩,
     ⟨S2x2048x4352, (extractStridedSlice S2x2048x4352 ![0, 0, 832] (A2 m c) slices_S2x2048x5196_S2x2048x4352_0_0_832)⟩]
    concatenates_S2x2048x832_S2x2048x12_S2x2048x52_S2x2048x4352_S2x2048x5248_d2) bitsLt_bf16_f32 : FVec Ideal S2x2048x5248 .bf16) := by
  rfl

theorem cols_read (j : Fin 2048) (k : Fin 5248) :
    (V m c main_v5 (ix3 0 j k) : EReal) = laid (fun q => A2 m c (ix3 0 j q)) k := by
  rw [V_cols]
  have hk := k.isLt
  by_cases h1 : k.val < 832
  · rw [laid_first _ k ⟨k.val, by omega⟩ h1 rfl]
    refine (concatenate_apply_piece 2 _ (by exact concatenates_S2x2048x832_S2x2048x12_S2x2048x52_S2x2048x4352_S2x2048x5248_d2) (ix3 0 j k) 0 (by simp) S2x2048x832 _ rfl rfl 0 rfl (ix3 0 j ⟨k.val, h1⟩) (fun b hb => ?_) ?_).trans ?_
    · match b with
      | ⟨0, _⟩ => rfl
      | ⟨1, _⟩ => rfl
      | ⟨2, _⟩ => exact absurd rfl hb
    · show 0 + k.val = k.val
      omega
    · refine congrArg (A2 m c) ?_
      funext a
      apply Fin.ext
      match a with
      | ⟨0, _⟩ => rfl
      | ⟨1, _⟩ => show 0 + j.val = j.val; omega
      | ⟨2, _⟩ => show 0 + k.val = k.val; omega
  by_cases h2 : k.val < 844
  · rw [laid_last _ k ⟨k.val - 832 + 5184, by omega⟩ (by omega) h2 rfl]
    refine (concatenate_apply_piece 2 _ (by exact concatenates_S2x2048x832_S2x2048x12_S2x2048x52_S2x2048x4352_S2x2048x5248_d2) (ix3 0 j k) 1 (by simp) S2x2048x12 _ rfl rfl 832 rfl (ix3 0 j ⟨k.val - 832, by omega⟩) (fun b hb => ?_) ?_).trans ?_
    · match b with
      | ⟨0, _⟩ => rfl
      | ⟨1, _⟩ => rfl
      | ⟨2, _⟩ => exact absurd rfl hb
    · show 832 + (k.val - 832) = k.val
      omega
    · refine congrArg (A2 m c) ?_
      funext a
      apply Fin.ext
      match a with
      | ⟨0, _⟩ => rfl
      | ⟨1, _⟩ => show 0 + j.val = j.val; omega
      | ⟨2, _⟩ => show 5184 + (k.val - 832) = k.val - 832 + 5184; omega
  by_cases h3 : k.val < 896
  · rw [laid_zero _ k (by omega) h3]
    refine (concatenate_apply_piece 2 _ (by exact concatenates_S2x2048x832_S2x2048x12_S2x2048x52_S2x2048x4352_S2x2048x5248_d2) (ix3 0 j k) 2 (by simp) S2x2048x52 _ rfl rfl 844 rfl (ix3 0 j ⟨k.val - 844, by omega⟩) (fun b hb => ?_) ?_).trans ?_
    · match b with
      | ⟨0, _⟩ => rfl
      | ⟨1, _⟩ => rfl
      | ⟨2, _⟩ => exact absurd rfl hb
    · show 844 + (k.val - 844) = k.val
      omega
    · exact (broadcastInDim_scalar_apply _ _ _).trans Ideal.ofBits_zero_f32
  · rw [laid_mid _ k ⟨k.val - 64, by omega⟩ (by omega) rfl]
    refine (concatenate_apply_piece 2 _ (by exact concatenates_S2x2048x832_S2x2048x12_S2x2048x52_S2x2048x4352_S2x2048x5248_d2) (ix3 0 j k) 3 (by simp) S2x2048x4352 _ rfl rfl 896 rfl (ix3 0 j ⟨k.val - 896, by omega⟩) (fun b hb => ?_) ?_).trans ?_
    · match b with
      | ⟨0, _⟩ => rfl
      | ⟨1, _⟩ => rfl
      | ⟨2, _⟩ => exact absurd rfl hb
    · show 896 + (k.val - 896) = k.val
      omega
    · refine congrArg (A2 m c) ?_
      funext a
      apply Fin.ext
      match a with
      | ⟨0, _⟩ => rfl
      | ⟨1, _⟩ => show 0 + j.val = j.val; omega
      | ⟨2, _⟩ => show 832 + (k.val - 896) = k.val - 64; omega

theorem w_read (t : Fin cfg0.N) (j : Fin 2048) (k : Fin 5248) :
    (iblk m c 2 t (ix3 0 j k) : EReal) = laid (fun q => A2 m c (ix3 0 j q)) k := by
  rw [← cols_read]
  blk_simp [iblk]
  refine congrArg (V m c main_v5) ?_
  funext a
  apply Fin.ext
  match a with
  | ⟨0, _⟩ => blk_simp [index_w]; rfl
  | ⟨1, _⟩ => blk_simp [index_w]
  | ⟨2, _⟩ => blk_simp [index_w]

/-! ## The results -/

/-- What a point computes of a run of columns is that part of the result. -/
theorem run_of_columns {N off : ℕ} (h : off + N ≤ 5248) (t : Fin cfg0.N) (r : Fin 512) (e : Fin N) (w : FVec Ideal ⟨3, ![1, 2048, N]⟩ .bf16)
    (hw : ∀ (j : Fin 2048) (k : Fin 5248), k.val = off + e.val → (w (ix3 0 j e) : EReal) = iblk m c 2 t (ix3 0 j k)) :
    (∑ j : Fin 2048, (k0_pay6 (iblk m c 0 t) (View.ld (iblk m c 1 t) r0_1) (ix2 r j) : EReal) * w (ix3 0 j e))
      = columns (A0 m c) (A1 m c) (A2 m c) N off h (ix2 (at_ t r) e) := by
  unfold columns entry proj
  refine Finset.sum_congr rfl fun j _ => congrArg₂ (fun a b : EReal => a * b) ?_ ?_
  · refine (pay6_read _ _ r j).trans ?_
    rw [show (fun k => (iblk m c 0 t (ix2 r k) : EReal)) = rowOf (A0 m c) (at_ t r) from funext fun k => x_read m c t r k,
      show (fun k => (View.ld (iblk m c 1 t) r0_1 (ix2 0 k) : EReal)) = fun k => A1 m c (ix2 0 k) from funext fun k => g_read m c t k]
    rfl
  · exact (hw j ⟨off + e.val, by have := e.isLt; omega⟩ rfl).trans (w_read m c t j _)

/-- Where a run of columns is loaded from. -/
theorem load_at {N : ℕ} (x : (⟨3, ![1, 2048, 5248]⟩ : Shape).Idx → EReal) (off : ℕ) (inb) (j : Fin 2048) (e : Fin N) (k : Fin 5248) (hk : k.val = off + e.val) :
    x ((Rect.unit (s := ⟨3, ![1, 2048, 5248]⟩) ![0, 0, off] ![1, 2048, N] inb).emb (ix3 0 j e)) = x (ix3 0 j k) := by
  refine congrArg x ?_
  funext a
  apply Fin.ext
  match a with
  | ⟨0, _⟩ => rfl
  | ⟨1, _⟩ => show 0 + 1 * j.val = j.val; omega
  | ⟨2, _⟩ => show off + 1 * e.val = k.val; omega

/-- The rows that the later products take are those of the first three. -/
theorem later_rows (x : Vec Ideal S512x2048 .f32) (g : Vec Ideal S2x2048 .f32) (w : Vec Ideal S1x2048x5248 .bf16) :
    k0_pay10 x g w = k0_pay6 x (View.ld g r0_1) := by
  have e : View.ld x r0_0 = x := by
    funext y
    refine congrArg x ?_
    funext a
    apply Fin.ext
    match a with
    | ⟨0, _⟩ => show 0 + 1 * (y 0).val = (y 0).val; omega
    | ⟨1, _⟩ => show 0 + 1 * (y 1).val = (y 1).val; omega
  unfold k0_pay10
  rw [e]

theorem out3 : (dats m 0 c).arrAt 3 cfg0.N = columns (A0 m c) (A1 m c) (A2 m c) 512 0 (by decide) := by
  refine (dats m 0 c).arrAt_eq_of_covers 3 _ (by decide +kernel) fun t hf y => ?_
  blk_simp
  rw [after0_3]
  frame_out
  obtain ⟨r, e, rfl⟩ : ∃ (r : Fin 512) (e : Fin 512), y = ix2 r e := ⟨y 0, y 1, by funext a; match a with | ⟨0, _⟩ => rfl | ⟨1, _⟩ => rfl⟩
  refine ((product (N := 512) _ _ _ r e).trans (run_of_columns m c (off := 0) (by decide) t r e _ fun j k hk =>
    load_at (N := 512) (iblk m c 2 t) 0 _ j e k hk)).trans (congrArg (columns (A0 m c) (A1 m c) (A2 m c) 512 0 _) ?_)
  have ix : win0_3.index t = ![t.val, 0] := (by decide +kernel : ∀ t : Fin grid0.N, win0_3.index t = ![t.val, 0]) t
  funext a
  apply Fin.ext
  match a with
  | ⟨0, _⟩ => blk_simp [ix]; show 512 * t.val + r.val = t.val * 512 + r.val; omega
  | ⟨1, _⟩ => blk_simp [ix]

theorem out4 : (dats m 0 c).arrAt 4 cfg0.N = columns (A0 m c) (A1 m c) (A2 m c) 256 512 (by decide) := by
  refine (dats m 0 c).arrAt_eq_of_covers 4 _ (by decide +kernel) fun t hf y => ?_
  blk_simp
  rw [after0_4]
  frame_out
  obtain ⟨r, e, rfl⟩ : ∃ (r : Fin 512) (e : Fin 256), y = ix2 r e := ⟨y 0, y 1, by funext a; match a with | ⟨0, _⟩ => rfl | ⟨1, _⟩ => rfl⟩
  refine ((product (N := 256) _ _ _ r e).trans (run_of_columns m c (off := 512) (by decide) t r e _ fun j k hk =>
    load_at (N := 256) (iblk m c 2 t) 512 _ j e k hk)).trans (congrArg (columns (A0 m c) (A1 m c) (A2 m c) 256 512 _) ?_)
  have ix : win0_4.index t = ![t.val, 0] := (by decide +kernel : ∀ t : Fin grid0.N, win0_4.index t = ![t.val, 0]) t
  funext a
  apply Fin.ext
  match a with
  | ⟨0, _⟩ => blk_simp [ix]; show 512 * t.val + r.val = t.val * 512 + r.val; omega
  | ⟨1, _⟩ => blk_simp [ix]

theorem out5 : (dats m 0 c).arrAt 5 cfg0.N = columns (A0 m c) (A1 m c) (A2 m c) 128 768 (by decide) := by
  refine (dats m 0 c).arrAt_eq_of_covers 5 _ (by decide +kernel) fun t hf y => ?_
  blk_simp
  rw [after0_5]
  frame_out
  obtain ⟨r, e, rfl⟩ : ∃ (r : Fin 512) (e : Fin 128), y = ix2 r e := ⟨y 0, y 1, by funext a; match a with | ⟨0, _⟩ => rfl | ⟨1, _⟩ => rfl⟩
  refine ((product (N := 128) _ _ _ r e).trans (run_of_columns m c (off := 768) (by decide) t r e _ fun j k hk =>
    load_at (N := 128) (iblk m c 2 t) 768 _ j e k hk)).trans (congrArg (columns (A0 m c) (A1 m c) (A2 m c) 128 768 _) ?_)
  have ix : win0_5.index t = ![t.val, 0] := (by decide +kernel : ∀ t : Fin grid0.N, win0_5.index t = ![t.val, 0]) t
  funext a
  apply Fin.ext
  match a with
  | ⟨0, _⟩ => blk_simp [ix]; show 512 * t.val + r.val = t.val * 512 + r.val; omega
  | ⟨1, _⟩ => blk_simp [ix]

theorem out6 : (dats m 0 c).arrAt 6 cfg0.N = columns (A0 m c) (A1 m c) (A2 m c) 768 896 (by decide) := by
  refine (dats m 0 c).arrAt_eq_of_covers 6 _ (by decide +kernel) fun t hf y => ?_
  blk_simp
  rw [after0_6]
  frame_out
  rw [later_rows]
  obtain ⟨r, e, rfl⟩ : ∃ (r : Fin 512) (e : Fin 768), y = ix2 r e := ⟨y 0, y 1, by funext a; match a with | ⟨0, _⟩ => rfl | ⟨1, _⟩ => rfl⟩
  refine ((product (N := 768) _ _ _ r e).trans (run_of_columns m c (off := 896) (by decide) t r e _ fun j k hk =>
    load_at (N := 768) (iblk m c 2 t) 896 _ j e k hk)).trans (congrArg (columns (A0 m c) (A1 m c) (A2 m c) 768 896 _) ?_)
  have ix : win0_6.index t = ![t.val, 0] := (by decide +kernel : ∀ t : Fin grid0.N, win0_6.index t = ![t.val, 0]) t
  funext a
  apply Fin.ext
  match a with
  | ⟨0, _⟩ => blk_simp [ix]; show 512 * t.val + r.val = t.val * 512 + r.val; omega
  | ⟨1, _⟩ => blk_simp [ix]

theorem out7 : (dats m 0 c).arrAt 7 cfg0.N = columns (A0 m c) (A1 m c) (A2 m c) 1024 1664 (by decide) := by
  refine (dats m 0 c).arrAt_eq_of_covers 7 _ (by decide +kernel) fun t hf y => ?_
  blk_simp
  rw [after0_7]
  frame_out
  rw [later_rows]
  obtain ⟨r, e, rfl⟩ : ∃ (r : Fin 512) (e : Fin 1024), y = ix2 r e := ⟨y 0, y 1, by funext a; match a with | ⟨0, _⟩ => rfl | ⟨1, _⟩ => rfl⟩
  refine ((product (N := 1024) _ _ _ r e).trans (run_of_columns m c (off := 1664) (by decide) t r e _ fun j k hk =>
    load_at (N := 1024) (iblk m c 2 t) 1664 _ j e k hk)).trans (congrArg (columns (A0 m c) (A1 m c) (A2 m c) 1024 1664 _) ?_)
  have ix : win0_7.index t = ![t.val, 0] := (by decide +kernel : ∀ t : Fin grid0.N, win0_7.index t = ![t.val, 0]) t
  funext a
  apply Fin.ext
  match a with
  | ⟨0, _⟩ => blk_simp [ix]; show 512 * t.val + r.val = t.val * 512 + r.val; omega
  | ⟨1, _⟩ => blk_simp [ix]

theorem out8 : (dats m 0 c).arrAt 8 cfg0.N = columns (A0 m c) (A1 m c) (A2 m c) 512 2688 (by decide) := by
  refine (dats m 0 c).arrAt_eq_of_covers 8 _ (by decide +kernel) fun t hf y => ?_
  blk_simp
  rw [after0_8]
  frame_out
  rw [later_rows]
  obtain ⟨r, e, rfl⟩ : ∃ (r : Fin 512) (e : Fin 512), y = ix2 r e := ⟨y 0, y 1, by funext a; match a with | ⟨0, _⟩ => rfl | ⟨1, _⟩ => rfl⟩
  refine ((product (N := 512) _ _ _ r e).trans (run_of_columns m c (off := 2688) (by decide) t r e _ fun j k hk =>
    load_at (N := 512) (iblk m c 2 t) 2688 _ j e k hk)).trans (congrArg (columns (A0 m c) (A1 m c) (A2 m c) 512 2688 _) ?_)
  have ix : win0_8.index t = ![t.val, 0] := (by decide +kernel : ∀ t : Fin grid0.N, win0_8.index t = ![t.val, 0]) t
  funext a
  apply Fin.ext
  match a with
  | ⟨0, _⟩ => blk_simp [ix]; show 512 * t.val + r.val = t.val * 512 + r.val; omega
  | ⟨1, _⟩ => blk_simp [ix]

theorem out9 : (dats m 0 c).arrAt 9 cfg0.N = columns (A0 m c) (A1 m c) (A2 m c) 768 3200 (by decide) := by
  refine (dats m 0 c).arrAt_eq_of_covers 9 _ (by decide +kernel) fun t hf y => ?_
  blk_simp
  rw [after0_9]
  frame_out
  rw [later_rows]
  obtain ⟨r, e, rfl⟩ : ∃ (r : Fin 512) (e : Fin 768), y = ix2 r e := ⟨y 0, y 1, by funext a; match a with | ⟨0, _⟩ => rfl | ⟨1, _⟩ => rfl⟩
  refine ((product (N := 768) _ _ _ r e).trans (run_of_columns m c (off := 3200) (by decide) t r e _ fun j k hk =>
    load_at (N := 768) (iblk m c 2 t) 3200 _ j e k hk)).trans (congrArg (columns (A0 m c) (A1 m c) (A2 m c) 768 3200 _) ?_)
  have ix : win0_9.index t = ![t.val, 0] := (by decide +kernel : ∀ t : Fin grid0.N, win0_9.index t = ![t.val, 0]) t
  funext a
  apply Fin.ext
  match a with
  | ⟨0, _⟩ => blk_simp [ix]; show 512 * t.val + r.val = t.val * 512 + r.val; omega
  | ⟨1, _⟩ => blk_simp [ix]

theorem out10 : (dats m 0 c).arrAt 10 cfg0.N = columns (A0 m c) (A1 m c) (A2 m c) 1280 3968 (by decide) := by
  refine (dats m 0 c).arrAt_eq_of_covers 10 _ (by decide +kernel) fun t hf y => ?_
  blk_simp
  rw [after0_10]
  frame_out
  rw [later_rows]
  obtain ⟨r, e, rfl⟩ : ∃ (r : Fin 512) (e : Fin 1280), y = ix2 r e := ⟨y 0, y 1, by funext a; match a with | ⟨0, _⟩ => rfl | ⟨1, _⟩ => rfl⟩
  refine ((product (N := 1280) _ _ _ r e).trans (run_of_columns m c (off := 3968) (by decide) t r e _ fun j k hk =>
    load_at (N := 1280) (iblk m c 2 t) 3968 _ j e k hk)).trans (congrArg (columns (A0 m c) (A1 m c) (A2 m c) 1280 3968 _) ?_)
  have ix : win0_10.index t = ![t.val, 0] := (by decide +kernel : ∀ t : Fin grid0.N, win0_10.index t = ![t.val, 0]) t
  funext a
  apply Fin.ext
  match a with
  | ⟨0, _⟩ => blk_simp [ix]; show 512 * t.val + r.val = t.val * 512 + r.val; omega
  | ⟨1, _⟩ => blk_simp [ix]

end Cert.InProjIdeal.Project

end
-- ==== Proof.ProjectRef.lean ====
/-
  The projection's reference, element by element: the same rows against the same columns.
-/
module

public import proofs.«01_k».proof.Proof.Gen.InProjReferenceIdeal.Run
public import proofs.«01_k».proof.Proof.Norm
public import Idealize.ShloMosaic.Lib.Pipeline.Value
public import Idealize.ShloMosaic.Lib.ValueIdxCore
public import Idealize.ShloMosaic.Lib.KernelVsHost
public import Idealize.ShloMosaic.Lib.IdealHost
public import Idealize.ShloMosaic.Lib.MatmulPlain

@[expose] public section

noncomputable section

namespace Cert.InProjReferenceIdeal.Project

open Idealize.ShloMosaic Idealize.ShloMosaic.TcCoe Cert.InProjReferenceIdeal Cert.InProjReferenceIdeal.Gen Cert.Norm
open ValueIdx

variable (x : FVec Ideal S2x4096x2048 .f32) (g : FVec Ideal S2x2048 .f32) (w : FVec Ideal S2x2048x5196 .f32)

/-- One over each row's root mean square. -/
def scale : FVec Ideal S2x4096x1 .f32 :=
  Host.rsqrt (addf (Host.divf (broadcastInDim S2x4096x1 ![0, 1] bcast_S2x4096_S2x4096x1_0_1 (Host.reduceAdd (mulf x x)
    (constant S_ .f32 0x00000000#32) reducesTo_S2x4096x2048_S2x4096_d2 h_S_)) (broadcastInDim S2x4096x1 ![] bcast_S_S2x4096x1 (constant S_ .f32 0x45000000#32)))
    (broadcastInDim S2x4096x1 ![] bcast_S_S2x4096x1 (constant S_ .f32 0x358637BD#32)))

/-- The gains of the first layer. -/
def gains : FVec Ideal S2048 .f32 := shapeCast S2048 (extractStridedSlice S1x2048 ![0, 0] g slices_S2x2048_S1x2048_0_0) shapeCasts_S1x2048_S2048

/-- The normalised rows. -/
def hid : FVec Ideal S2x4096x2048 .f32 :=
  mulf (mulf x (broadcastInDim S2x4096x2048 ![0, 1, 2] bcast_S2x4096x1_S2x4096x2048_0_1_2 (scale x)))
    (broadcastInDim S2x4096x2048 ![0, 1, 2] bcast_S1x1x2048_S2x4096x2048_0_1_2 (broadcastInDim S1x1x2048 ![2] bcast_S2048_S1x1x2048_2 (gains g)))

/-- The weights of the first layer. -/
def cols : FVec Ideal S2048x5196 .f32 :=
  shapeCast S2048x5196 (extractStridedSlice S1x2048x5196 ![0, 0, 0] w slices_S2x2048x5196_S1x2048x5196_0_0_0) shapeCasts_S1x2048x5196_S2048x5196

/-- The projections, all columns side by side. -/
def prods : FVec Ideal S2x4096x5196 .f32 :=
  Host.dotGeneral dot_S2x4096x2048_S2048x5196_S2x4096x5196_2_0_01_1_n_n none (hid x g) (cols w)

/-! ## The reads -/

theorem red2 : S2x4096x2048.Reduces [2] S2x4096 := by decide

theorem lift2 {A B C : ℕ} (hd : (⟨3, ![A, B, C]⟩ : Shape).Reduces [2] ⟨2, ![A, B]⟩) (b : Fin A) (s : Fin B) (j : Fin C) :
    hd.lift (ix2 b s) j = ix3 b s j := by
  funext a
  match a with
  | ⟨0, _⟩ => rfl
  | ⟨1, _⟩ => rfl
  | ⟨2, _⟩ => rfl

/-- The sum over the last axis, from zero. -/
theorem sum_last {A B C : ℕ} (z : FVec Ideal ⟨3, ![A, B, C]⟩ .f32) (i : S_.Idx → Ideal .f32) (hu : 0 < S_.numel) (hi : ∀ u, i u = (0 : EReal))
    (h' : (⟨3, ![A, B, C]⟩ : Shape).ReducesTo [2] ⟨2, ![A, B]⟩) (hd : (⟨3, ![A, B, C]⟩ : Shape).Reduces [2] ⟨2, ![A, B]⟩)
    (b : Fin A) (s : Fin B) :
    (Host.reduceAdd z i h' hu (ix2 b s) : Ideal .f32) = ∑ j : Fin C, (z (ix3 b s j) : EReal) := by
  rw [hostReduceAdd_apply, Ideal.hostReduceAdd_single _ hd, hi]
  exact (zero_add _).trans (Finset.sum_congr rfl fun j _ => congrArg z (lift2 hd b s j))

theorem scale_read (b : Fin 2) (s : Fin 4096) : (scale x (ix3 b s 0) : EReal)
    = Ideal.rsqrt (Ideal.div (∑ k : Fin 2048, x (ix3 b s k) * x (ix3 b s k)) (Ideal.ofBits .f32 0x45000000#32) + Ideal.ofBits .f32 0x358637BD#32) := by
  unfold scale
  refine congrArg (fun a : EReal => Ideal.rsqrt (a + Ideal.ofBits .f32 0x358637BD#32)) ?_
  rw [hostDivf_apply]
  refine congrArg (fun a : EReal => Ideal.div a (Ideal.ofBits .f32 0x45000000#32)) ?_
  refine (broadcastInDim_apply _ _ _ _ (ix2 b s) fun a => ?_).trans ?_
  · match a with
    | ⟨0, _⟩ => rfl
    | ⟨1, _⟩ => rfl
  exact sum_last (mulf x x) (constant S_ .f32 0x00000000#32) h_S_ (fun _ => Ideal.ofBits_zero_f32) reducesTo_S2x4096x2048_S2x4096_d2 red2 b s

theorem gains_read (j : Fin 2048) : (gains g (ix1 j) : EReal) = g (ix2 0 j) := by
  unfold gains
  refine (shapeCast_apply _ _ _ (ix2 0 j) ?_).trans ?_
  · rw [Shape.rowMajor_val_two, Shape.rowMajor_val_one]
    show 0 * 2048 + j.val = j.val
    omega
  refine congrArg g ?_
  funext a
  apply Fin.ext
  match a with
  | ⟨0, _⟩ => rfl
  | ⟨1, _⟩ => show 0 + j.val = j.val; omega

theorem cols_read (j : Fin 2048) (q : Fin 5196) : (cols w (ix2 j q) : EReal) = w (ix3 0 j q) := by
  unfold cols
  refine (shapeCast_apply _ _ _ (ix3 0 j q) ?_).trans ?_
  · rw [Shape.rowMajor_val_three, Shape.rowMajor_val_two]
    show (0 * 2048 + j.val) * 5196 + q.val = j.val * 5196 + q.val
    omega
  refine congrArg w ?_
  funext a
  apply Fin.ext
  match a with
  | ⟨0, _⟩ => rfl
  | ⟨1, _⟩ => show 0 + j.val = j.val; omega
  | ⟨2, _⟩ => show 0 + q.val = q.val; omega

theorem hid_read (b : Fin 2) (s : Fin 4096) (j : Fin 2048) :
    (hid x g (ix3 b s j) : EReal) = normed (fun k => x (ix3 b s k)) (fun k => g (ix2 0 k)) j := by
  unfold hid normed
  rw [mulf_apply, mulf_apply]
  refine congrArg₂ (fun a b : EReal => a * b) (congrArg (fun a : EReal => x (ix3 b s j) * a) ?_) ?_
  · refine (broadcastInDim_apply _ _ _ _ (ix3 b s 0) fun a => ?_).trans (scale_read x b s)
    match a with
    | ⟨0, _⟩ => rfl
    | ⟨1, _⟩ => rfl
    | ⟨2, _⟩ => rfl
  · refine (broadcastInDim_apply _ _ _ _ (ix3 0 0 j) fun a => ?_).trans ?_
    · match a with
      | ⟨0, _⟩ => rfl
      | ⟨1, _⟩ => rfl
      | ⟨2, _⟩ => rfl
    refine (broadcastInDim_apply _ _ _ _ (ix1 j) fun a => ?_).trans (gains_read g j)
    match a with
    | ⟨0, _⟩ => rfl

theorem prods_read (b : Fin 2) (s : Fin 4096) (q : Fin 5196) :
    (prods x g w (ix3 b s q) : EReal) = proj (fun k => x (ix3 b s k)) (fun k => g (ix2 0 k)) fun j => w (ix3 0 j q) := by
  have hr : dot_S2x4096x2048_S2048x5196_S2x4096x5196_2_0_01_1_n_n.contr.rank = 1 := rfl
  have hs : dot_S2x4096x2048_S2048x5196_S2x4096x5196_2_0_01_1_n_n.contr.size ⟨0, by rw [hr]; exact Nat.one_pos⟩ = 2048 := rfl
  refine (Ideal.dotGeneral_apply _ _ _ _ _ _).trans ?_
  rw [← Equiv.sum_comp (contrEquiv1 _ 2048 hr hs).symm]
  unfold proj
  refine Finset.sum_congr rfl fun d _ => ?_
  have hk := contrEquiv1_symm_val _ 2048 hr hs d
  refine congrArg₂ (fun x y : EReal => x * y) ((congrArg (hid x g) ?_).trans (hid_read x g b s d)) ((congrArg (cols w) ?_).trans (cols_read w d q))
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

/-! ## The results -/

def batch (i : Fin 8192) : Fin 2 := ⟨i.val / 4096, by have := i.isLt; omega⟩
def pos (i : Fin 8192) : Fin 4096 := ⟨i.val % 4096, Nat.mod_lt _ (by norm_num)⟩

/-- An array reshaped to rows. -/
theorem rows_read {N : ℕ} (u : FVec Ideal ⟨3, ![2, 4096, N]⟩ .f32) (hc : (⟨3, ![2, 4096, N]⟩ : Shape).ShapeCasts ⟨2, ![8192, N]⟩)
    (i : Fin 8192) (e : Fin N) : (shapeCast ⟨2, ![8192, N]⟩ u hc (ix2 i e) : EReal) = u (ix3 (batch i) (pos i) e) := by
  refine shapeCast_apply _ _ _ (ix3 (batch i) (pos i) e) ?_
  rw [Shape.rowMajor_val_three, Shape.rowMajor_val_two]
  show (i.val / 4096 * 4096 + i.val % 4096) * N + e.val = i.val * N + e.val
  rw [Nat.div_add_mod']

/-- A run of the columns. -/
theorem slice_read {N off : ℕ} (u : FVec Ideal S2x4096x5196 .f32) (hs : S2x4096x5196.Slices ![0, 0, off] ⟨3, ![2, 4096, N]⟩)
    (b : Fin 2) (s : Fin 4096) (e : Fin N) (q : Fin 5196) (hq : q.val = off + e.val) :
    (extractStridedSlice ⟨3, ![2, 4096, N]⟩ ![0, 0, off] u hs (ix3 b s e) : EReal) = u (ix3 b s q) := by
  refine congrArg u ?_
  funext a
  apply Fin.ext
  match a with
  | ⟨0, _⟩ => show 0 + b.val = b.val; omega
  | ⟨1, _⟩ => show 0 + s.val = s.val; omega
  | ⟨2, _⟩ => exact hq.symm

theorem entry_of (i : Fin 8192) (k : Fin 5248) (q : Fin 5196) (h : ∀ v : Fin 5196 → EReal, laid v k = v q) :
    (prods x g w (ix3 (batch i) (pos i) q) : EReal) = entry x g w i k := by
  rw [prods_read]
  unfold entry
  exact congrArg (proj _ _) (funext fun j => (h (fun q => w (ix3 0 j q))).symm)

/-- A run of columns before the join. -/
theorem run_first {N off : ℕ} (hs : S2x4096x5196.Slices ![0, 0, off] ⟨3, ![2, 4096, N]⟩) (hc : (⟨3, ![2, 4096, N]⟩ : Shape).ShapeCasts ⟨2, ![8192, N]⟩)
    (ho : off + N ≤ 832) : shapeCast ⟨2, ![8192, N]⟩ (extractStridedSlice ⟨3, ![2, 4096, N]⟩ ![0, 0, off] (prods x g w) hs) hc
      = columns x g w N off (by omega) := by
  funext y
  obtain ⟨i, e, rfl⟩ : ∃ (i : Fin 8192) (e : Fin N), y = ix2 i e := ⟨y 0, y 1, by funext a; match a with | ⟨0, _⟩ => rfl | ⟨1, _⟩ => rfl⟩
  have he := e.isLt
  refine (rows_read _ hc i e).trans ((slice_read _ hs _ _ e ⟨off + e.val, by omega⟩ rfl).trans ?_)
  exact entry_of x g w i ⟨off + e.val, by omega⟩ _ fun v => laid_first v _ _ (by show off + e.val < 832; omega) rfl

/-- A run of columns after the join. -/
theorem run_mid {N off dst : ℕ} (hs : S2x4096x5196.Slices ![0, 0, off] ⟨3, ![2, 4096, N]⟩) (hc : (⟨3, ![2, 4096, N]⟩ : Shape).ShapeCasts ⟨2, ![8192, N]⟩)
    (ho : 832 ≤ off) (hN : off + N ≤ 5184) (ht : dst = off + 64) :
    shapeCast ⟨2, ![8192, N]⟩ (extractStridedSlice ⟨3, ![2, 4096, N]⟩ ![0, 0, off] (prods x g w) hs) hc
      = columns x g w N dst (by omega) := by
  funext y
  obtain ⟨i, e, rfl⟩ : ∃ (i : Fin 8192) (e : Fin N), y = ix2 i e := ⟨y 0, y 1, by funext a; match a with | ⟨0, _⟩ => rfl | ⟨1, _⟩ => rfl⟩
  have he := e.isLt
  refine (rows_read _ hc i e).trans ((slice_read _ hs _ _ e ⟨off + e.val, by omega⟩ rfl).trans ?_)
  exact entry_of x g w i ⟨dst + e.val, by omega⟩ _ fun v => laid_mid v _ _ (by show 896 ≤ dst + e.val; omega) (by show off + e.val = dst + e.val - 64; omega)

/-- The rotary key and the time steps side by side, and zeros. -/
def joined : FVec Ideal S2x4096x128 .f32 :=
  concatenate S2x4096x128 2
    [⟨S2x4096x64, (extractStridedSlice S2x4096x64 ![0, 0, 768] (prods x g w) slices_S2x4096x5196_S2x4096x64_0_0_768)⟩,
     ⟨S2x4096x12, (extractStridedSlice S2x4096x12 ![0, 0, 5184] (prods x g w) slices_S2x4096x5196_S2x4096x12_0_0_5184)⟩,
     ⟨S2x4096x52, (broadcastInDim S2x4096x52 ![] bcast_S_S2x4096x52 (constant (F := Ideal) S_ .f32 0x00000000#32))⟩]
    concatenates_S2x4096x64_S2x4096x12_S2x4096x52_S2x4096x128_d2

theorem joined_read (i : Fin 8192) (e : Fin 128) :
    (joined x g w (ix3 (batch i) (pos i) e) : EReal) = entry x g w i ⟨768 + e.val, by have := e.isLt; omega⟩ := by
  unfold joined
  have he := e.isLt
  by_cases h1 : e.val < 64
  · refine (concatenate_apply_piece 2 _ (by exact concatenates_S2x4096x64_S2x4096x12_S2x4096x52_S2x4096x128_d2) (ix3 (batch i) (pos i) e) 0 (by simp)
      S2x4096x64 _ rfl rfl 0 rfl (ix3 (batch i) (pos i) ⟨e.val, h1⟩) (fun b hb => ?_) ?_).trans ?_
    · match b with
      | ⟨0, _⟩ => rfl
      | ⟨1, _⟩ => rfl
      | ⟨2, _⟩ => exact absurd rfl hb
    · show 0 + e.val = e.val
      omega
    · refine (slice_read _ _ _ _ (N := 64) ⟨e.val, h1⟩ ⟨768 + e.val, by omega⟩ rfl).trans ?_
      exact entry_of x g w i _ _ fun v => laid_first v _ _ (by show 768 + e.val < 832; omega) rfl
  by_cases h2 : e.val < 76
  · refine (concatenate_apply_piece 2 _ (by exact concatenates_S2x4096x64_S2x4096x12_S2x4096x52_S2x4096x128_d2) (ix3 (batch i) (pos i) e) 1 (by simp)
      S2x4096x12 _ rfl rfl 64 rfl (ix3 (batch i) (pos i) ⟨e.val - 64, by omega⟩) (fun b hb => ?_) ?_).trans ?_
    · match b with
      | ⟨0, _⟩ => rfl
      | ⟨1, _⟩ => rfl
      | ⟨2, _⟩ => exact absurd rfl hb
    · show 64 + (e.val - 64) = e.val
      omega
    · refine (slice_read _ _ _ _ (N := 12) ⟨e.val - 64, by omega⟩ ⟨5184 + (e.val - 64), by omega⟩ rfl).trans ?_
      exact entry_of x g w i _ _ fun v => laid_last v _ _ (by show 832 ≤ 768 + e.val; omega) (by show 768 + e.val < 844; omega)
        (by show 5184 + (e.val - 64) = 768 + e.val - 832 + 5184; omega)
  · refine (concatenate_apply_piece 2 _ (by exact concatenates_S2x4096x64_S2x4096x12_S2x4096x52_S2x4096x128_d2) (ix3 (batch i) (pos i) e) 2 (by simp)
      S2x4096x52 _ rfl rfl 76 rfl (ix3 (batch i) (pos i) ⟨e.val - 76, by omega⟩) (fun b hb => ?_) ?_).trans ?_
    · match b with
      | ⟨0, _⟩ => rfl
      | ⟨1, _⟩ => rfl
      | ⟨2, _⟩ => exact absurd rfl hb
    · show 76 + (e.val - 76) = e.val
      omega
    · refine ((broadcastInDim_scalar_apply _ _ _).trans Ideal.ofBits_zero_f32).trans ?_
      unfold entry proj
      refine (Finset.sum_eq_zero fun j _ => ?_).symm
      refine (congrArg (fun a : EReal => _ * a) (laid_zero _ _ (by show 844 ≤ 768 + e.val; omega) (by show 768 + e.val < 896; omega))).trans (mul_zero _)

theorem run_joined (hc : S2x4096x128.ShapeCasts S8192x128) : shapeCast S8192x128 (joined x g w) hc = columns x g w 128 768 (by decide) := by
  funext y
  obtain ⟨i, e, rfl⟩ : ∃ (i : Fin 8192) (e : Fin 128), y = ix2 i e := ⟨y 0, y 1, by funext a; match a with | ⟨0, _⟩ => rfl | ⟨1, _⟩ => rfl⟩
  exact (rows_read (N := 128) _ hc i e).trans (joined_read x g w i e)

end Cert.InProjReferenceIdeal.Project

end
-- ==== Proof.ConvBody.lean ====
/-
  The convolution and output projection kernel's body as a program over (residue, strip, tap, piece) parameters,
  and the equation that says the printed body is that program.

  A grid point forms the block of the result one block of rows behind: the pieces of 256 columns are the rows'
  sum of three products and the input. Between the pieces it forms the gated block of its own rows, the copies of
  it shifted by one to seven rows, the strips of 32 rows of the convolution, and from these the normalised,
  gated and projected block the next grid point multiplies. Every definition takes the program that follows as its
  last argument.
-/
module

public import proofs.«01_k».proof.Proof.Gen.ConvOutIdeal
public import Idealize.ShloMosaic.Lib.Pipeline.Regions

@[expose] public section

noncomputable section

namespace Cert.ConvOutIdeal.Conv

open Idealize.ShloMosaic Idealize.SL.Sem Cert.ConvOutIdeal Cert.ConvOutIdeal.Gen

/-! ## Side conditions at any residue, strip, tap, piece -/

theorem inb_w (k : Fin 31) : ∀ a, (![0, k.val, 0] : Fin 3 → Nat) a + S1x1x512.size a ≤ S1x32x512.size a := by
  revert k; decide

theorem inb_h (j : Fin 16) (k : Fin 31) :
    ∀ a, (![32 * j.val + 8 * ((2 + k.val) / 8), 0] : Fin 2 → Nat) a + S32x512.size a ≤ S544x512.size a := by
  intro a; fin_cases a
  · show 32 * j.val + 8 * ((2 + k.val) / 8) + 32 ≤ 544; omega
  · exact Nat.le_refl 512

theorem inb_sh (j : Fin 16) (k : Fin 31) :
    ∀ a, (![(2 + k.val) % 8 - 1, 32 * j.val + 8 * ((2 + k.val) / 8), 0] : Fin 3 → Nat) a + S1x32x512.size a ≤ S7x544x512.size a := by
  intro a; fin_cases a
  · show (2 + k.val) % 8 - 1 + 1 ≤ 7; omega
  · show 32 * j.val + 8 * ((2 + k.val) / 8) + 32 ≤ 544; omega
  · exact Nat.le_refl 512

theorem inb_y (j : Fin 16) : ∀ a, (![32 * j.val, 0] : Fin 2 → Nat) a + S32x512.size a ≤ S512x512.size a := by
  revert j; decide

theorem inb_hc (r : Fin 7) (j : Fin 16) :
    ∀ a, (![r.val + 1 + 32 * j.val, 0] : Fin 2 → Nat) a + S32x512.size a ≤ S544x512.size a := by
  revert r j; decide

theorem inb_sc (r : Fin 7) (j : Fin 16) :
    ∀ a, (![r.val, 32 * j.val, 0] : Fin 3 → Nat) a + S1x32x512.size a ≤ S7x544x512.size a := by
  revert r j; decide

theorem inb_hl (r : Fin 7) : ∀ a, (![r.val + 513, 0] : Fin 2 → Nat) a + S24x512.size a ≤ S544x512.size a := by
  revert r; decide

theorem inb_sl (r : Fin 7) : ∀ a, (![r.val, 512, 0] : Fin 3 → Nat) a + S1x24x512.size a ≤ S7x544x512.size a := by
  revert r; decide

theorem inb_wb (p : Fin 8) :
    ∀ a, (![0, p.val, 768, 0] : Fin 4 → Nat) a + S1x1x512x256.size a ≤ S1x8x2048x256.size a := by
  revert p; decide

theorem inb_wa (p : Fin 8) :
    ∀ a, (![0, p.val, 0, 0] : Fin 4 → Nat) a + S1x1x768x256.size a ≤ S1x8x2048x256.size a := by
  revert p; decide

theorem inb_wc (p : Fin 8) :
    ∀ a, (![0, p.val, 1280, 0] : Fin 4 → Nat) a + S1x1x768x256.size a ≤ S1x8x2048x256.size a := by
  revert p; decide

theorem inb_o (p : Fin 8) : ∀ a, (![0, 256 * p.val] : Fin 2 → Nat) a + S512x256.size a ≤ S512x2048.size a := by
  revert p; decide

theorem sl512 (k : Fin 32) : S512x512.Slices ![16 * k.val, 0] S16x512 := by
  revert k; decide

theorem sl32 (k : Fin 2) : S32x512.Slices ![16 * k.val, 0] S16x512 := by
  revert k; decide

theorem sl128 (k : Fin 4) : S16x512.Slices ![0, 128 * k.val] S16x128 := by
  revert k; decide

/-! ## The rectangles the body reads and writes -/

abbrev rW (k : Fin 31) : Rect S1x32x512 := Rect.unit (s := S1x32x512) ![0, k.val, 0] S1x1x512.size (inb_w k)
abbrev rH (j : Fin 16) (k : Fin 31) : Rect S544x512 :=
  Rect.unit (s := S544x512) ![32 * j.val + 8 * ((2 + k.val) / 8), 0] S32x512.size (inb_h j k)
abbrev rSh (j : Fin 16) (k : Fin 31) : Rect S7x544x512 :=
  Rect.unit (s := S7x544x512) ![(2 + k.val) % 8 - 1, 32 * j.val + 8 * ((2 + k.val) / 8), 0] S1x32x512.size (inb_sh j k)
abbrev rY (j : Fin 16) : Rect S512x512 := Rect.unit (s := S512x512) ![32 * j.val, 0] S32x512.size (inb_y j)
abbrev rHC (r : Fin 7) (j : Fin 16) : Rect S544x512 :=
  Rect.unit (s := S544x512) ![r.val + 1 + 32 * j.val, 0] S32x512.size (inb_hc r j)
abbrev rSC (r : Fin 7) (j : Fin 16) : Rect S7x544x512 :=
  Rect.unit (s := S7x544x512) ![r.val, 32 * j.val, 0] S1x32x512.size (inb_sc r j)
abbrev rHL (r : Fin 7) : Rect S544x512 := Rect.unit (s := S544x512) ![r.val + 513, 0] S24x512.size (inb_hl r)
abbrev rSL (r : Fin 7) : Rect S7x544x512 := Rect.unit (s := S7x544x512) ![r.val, 512, 0] S1x24x512.size (inb_sl r)
abbrev rWB (p : Fin 8) : Rect S1x8x2048x256 :=
  Rect.unit (s := S1x8x2048x256) ![0, p.val, 768, 0] S1x1x512x256.size (inb_wb p)
abbrev rWA (p : Fin 8) : Rect S1x8x2048x256 :=
  Rect.unit (s := S1x8x2048x256) ![0, p.val, 0, 0] S1x1x768x256.size (inb_wa p)
abbrev rWC (p : Fin 8) : Rect S1x8x2048x256 :=
  Rect.unit (s := S1x8x2048x256) ![0, p.val, 1280, 0] S1x1x768x256.size (inb_wc p)
abbrev rO (p : Fin 8) : Rect S512x2048 := Rect.unit (s := S512x2048) ![0, 256 * p.val] S512x256.size (inb_o p)
abbrev rOc (i : grid0.Coords) : Rect S528x512 := Rect.unit (s := S528x512) (k0_off1 i) S512x512.size (k0_off1_inb i)
abbrev rMark (i : grid0.Coords) : Rect S528x512 := Rect.unit (s := S528x512) (k0_off2 i) S16x128.size (k0_off2_inb i)

/-! ## The values the body computes -/

variable {F : FTy → Type} [FloatOps F] [Named F]

/-- The logistic function of a block. -/
def sigVal (g : FVec F S512x512 .f32) : FVec F S512x512 .f32 :=
  divf (broadcast S512x512 (Scalar.ofBits .f32 0x3F800000#32 : F .f32))
    (addf (broadcast S512x512 (Scalar.ofBits .f32 0x3F800000#32 : F .f32))
      (exp2 (mulf g (broadcast S512x512 (Named.named κ "neg_log2e" 0xBFB8AA3B#32 : F .f32)))))

/-- The gated block. -/
def gluVal (a b : Vec F S512x512 .f32) : FVec F S512x512 .f32 :=
  mulf (shapeCast S512x512 a shapeCasts_S512x512_S512x512)
    (sigVal (shapeCast S512x512 b shapeCasts_S512x512_S512x512))

/-- A sum from the left. -/
def sumVal {s : Shape} : FVec F s .f32 → List (FVec F s .f32) → FVec F s .f32
  | x, xs => xs.foldl addf x

/-- Sixteen rows added over their four parts of 128 lanes. -/
def lanesVal (v : FVec F S16x512 .f32) : FVec F S16x128 .f32 :=
  sumVal (extractStridedSlice S16x128 ![0, 128 * (0 : Fin 4).val] v (sl128 0))
    [extractStridedSlice S16x128 ![0, 128 * (1 : Fin 4).val] v (sl128 1),
     extractStridedSlice S16x128 ![0, 128 * (2 : Fin 4).val] v (sl128 2),
     extractStridedSlice S16x128 ![0, 128 * (3 : Fin 4).val] v (sl128 3)]

def rows512 (v : FVec F S512x512 .f32) (k : Fin 32) : FVec F S16x512 .f32 :=
  extractStridedSlice S16x512 ![16 * k.val, 0] v (sl512 k)

def rows32 (v : FVec F S32x512 .f32) (k : Fin 2) : FVec F S16x512 .f32 :=
  extractStridedSlice S16x512 ![16 * k.val, 0] v (sl32 k)

/-- A block added up to sixteen rows of 128 lanes. -/
def fold512 (v : FVec F S512x512 .f32) : FVec F S16x128 .f32 :=
  lanesVal (sumVal (rows512 v 0) ([1, 2, 3, 4, 5, 6, 7, 8, 9, 10, 11, 12, 13, 14, 15, 16, 17, 18, 19, 20, 21, 22, 23, 24,
    25, 26, 27, 28, 29, 30, 31].map (rows512 v)))

/-- A strip added up to sixteen rows of 128 lanes. -/
def fold32 (v : FVec F S32x512 .f32) : FVec F S16x128 .f32 :=
  lanesVal (sumVal (rows32 v 0) [rows32 v 1])

/-- The row of weights of a tap, for every row of a strip. -/
def tapRow (w : Vec F S1x1x512 .f32) : FVec F S32x512 .f32 :=
  broadcastTo S32x512 (shapeCast S1x512 w shapeCasts_S1x1x512_S1x512) broadcasts_S1x512_S32x512

/-- The bias, for every row of a strip. -/
def biasRow (b : Vec F S1x512 .f32) : FVec F S32x512 .f32 :=
  broadcastTo S32x512 (shapeCast S1x512 b shapeCasts_S1x512_S1x512) broadcasts_S1x512_S32x512

/-- A piece of the result. -/
def pieceVal (oc : Vec F S512x512 .bf16) (wb : Vec F S1x1x512x256 .bf16) (a : Vec F S512x768 .bf16)
    (wa : Vec F S1x1x768x256 .bf16) (s : Vec F S512x768 .bf16) (wc : Vec F S1x1x768x256 .bf16) (x : Vec F S512x256 .f32) :
    FVec F S512x256 .f32 :=
  addf (shapeCast S512x256 x shapeCasts_S512x256_S512x256)
    (addf
      (addf
        (matmul dot_S512x512_S512x256_S512x256_1_0_0_1_n_n none oc
          (shapeCast S512x256 wb shapeCasts_S1x1x512x256_S512x256 : FVec F S512x256 .bf16)
          (constant S512x256 .f32 0x00000000#32))
        (matmul dot_S512x768_S768x256_S512x256_1_0_0_1_n_n none
          (shapeCast S512x768 a shapeCasts_S512x768_S512x768 : FVec F S512x768 .bf16)
          (shapeCast S768x256 wa shapeCasts_S1x1x768x256_S768x256 : FVec F S768x256 .bf16)
          (constant S512x256 .f32 0x00000000#32)))
      (matmul dot_S512x768_S768x256_S512x256_1_0_0_1_n_n none
        (shapeCast S512x768 s shapeCasts_S512x768_S512x768 : FVec F S512x768 .bf16)
        (shapeCast S768x256 wc shapeCasts_S1x1x768x256_S768x256 : FVec F S768x256 .bf16)
        (constant S512x256 .f32 0x00000000#32)))

/-- The mean of every row, as a column. -/
def meanVal (y : FVec F S512x512 .f32) : FVec F S512x1 .f32 :=
  divf
    (shapeCast S512x1 (multiReduction .add [1] S512 y 0x00000000#32 reduces_S512x512_S512 (.inl rfl) rfl)
      shapeCasts_S512_S512x1)
    (broadcast S512x1 (Scalar.ofBits .f32 0x44000000#32 : F .f32))

/-- Every row less its mean. -/
def centreVal (y : FVec F S512x512 .f32) : FVec F S512x512 .f32 :=
  subf y (broadcastTo S512x512 (meanVal y) broadcasts_S512x1_S512x512)

/-- The normalised rows. -/
def normVal (y : Vec F S512x512 .f32) (g b : Vec F S1x512 .f32) : FVec F S512x512 .f32 :=
  addf
    (mulf
      (mulf (centreVal y)
        (broadcastTo S512x512
          (rsqrt (addf (meanVal (mulf (centreVal y) (centreVal y)))
            (broadcast S512x1 (Scalar.ofBits .f32 0x3727C5AC#32 : F .f32))))
          broadcasts_S512x1_S512x512))
      (broadcastTo S512x512 g broadcasts_S1x512_S512x512))
    (broadcastTo S512x512 b broadcasts_S1x512_S512x512)

/-- A block times its logistic function. -/
def siluVal (v : FVec F S512x512 .f32) : FVec F S512x512 .f32 := mulf v (sigVal v)

/-- The block the next grid point multiplies. -/
def finVal (y : Vec F S512x512 .f32) (g b : Vec F S1x512 .f32) (w : Vec F S1x512x512 .bf16) (gc : Vec F S512x512 .f32) :
    FVec F S512x512 .bf16 :=
  truncf .bf16
    (mulf
      (matmul dot_S512x512_S512x512_S512x512_1_0_0_1_n_n none
        (truncf .bf16 (siluVal (normVal y g b)) bitsLt_bf16_f32)
        (shapeCast S512x512 w shapeCasts_S1x512x512_S512x512 : FVec F S512x512 .bf16)
        (constant S512x512 .f32 0x00000000#32))
      (siluVal (shapeCast S512x512 gc shapeCasts_S512x512_S512x512)))
    bitsLt_bf16_f32

/-! ## The program -/

/-- The buffers the body works on. -/
structure Refs where
  u : Memref sig .tc .vmem S512x1024 .f32
  gc : Memref sig .tc .vmem S512x512 .f32
  x : Memref sig .tc .vmem S512x2048 .f32
  a : Memref sig .tc .vmem S512x768 .bf16
  s : Memref sig .tc .vmem S512x768 .bf16
  wd : Memref sig .tc .vmem S1x32x512 .f32
  bd : Memref sig .tc .vmem S2x512 .f32
  lg : Memref sig .tc .vmem S2x512 .f32
  lb : Memref sig .tc .vmem S2x512 .f32
  wp : Memref sig .tc .vmem S1x512x512 .bf16
  w : Memref sig .tc .vmem S1x8x2048x256 .bf16
  o : Memref sig .tc .vmem S512x2048 .f32
  h : Memref sig .tc .vmem S544x512 .f32
  sh : Memref sig .tc .vmem S7x544x512 .f32
  y : Memref sig .tc .vmem S512x512 .f32
  oc : Memref sig .tc .vmem S528x512 .bf16
  hu : u.IsWhole
  hgc : gc.IsWhole
  hx : x.IsWhole
  ha : a.IsWhole
  hs : s.IsWhole
  hwd : wd.IsWhole
  hbd : bd.IsWhole
  hlg : lg.IsWhole
  hlb : lb.IsWhole
  hwp : wp.IsWhole
  hw : w.IsWhole
  ho : o.IsWhole
  hh : h.IsWhole
  hsh : sh.IsWhole
  hy : y.IsWhole
  hoc : oc.IsWhole

/-- A body's program. -/
abbrev PG (F : FTy → Type) [FloatOps F] := Prog (TpuEff nD τ sig (Elt F) Λ₀ .tc) PUnit

/-- A part of it, with a result. -/
abbrev PA (F : FTy → Type) [FloatOps F] (α : Type) := Prog (TpuEff nD τ sig (Elt F) Λ₀ .tc) α

variable (R : Refs) (i : grid0.Coords)

/-- Piece `p` of the result. -/
def piece (p : Fin 8) (K : PG F) : PG F :=
  .op (.load R.oc (rOc i).toLoadRect (View.loadsAt_vmem h_S512x512)) fun oc =>
  .op (.load R.w (rWB p).toLoadRect (View.loadsAt_vmem h_S1x1x512x256)) fun wb =>
  .op (.load R.a (Rect.unit (s := S512x768) ![0, 0] S512x768.size inb_S512x768_S512x768_0_0).toLoadRect
    (View.loadsAt_vmem h_S512x768)) fun a =>
  .op (.load R.w (rWA p).toLoadRect (View.loadsAt_vmem h_S1x1x768x256)) fun wa =>
  .op (.load R.s (Rect.unit (s := S512x768) ![0, 0] S512x768.size inb_S512x768_S512x768_0_0).toLoadRect
    (View.loadsAt_vmem h_S512x768)) fun s =>
  .op (.load R.w (rWC p).toLoadRect (View.loadsAt_vmem h_S1x1x768x256)) fun wc =>
  .op (.load R.x (rO p).toLoadRect (View.loadsAt_vmem h_S512x256)) fun x =>
  .op (.load R.o (rO p).toLoadRect (View.loadsAt_vmem h_S512x256)) fun _ =>
  .op (.store R.o (rO p) (pieceVal oc wb a wa s wc x) Finset.univ (View.stores_vmem_bits_univ h_S512x256 rfl) (.inl rfl))
    fun _ => K

/-- The rows past the block set to `v`; nothing reads them. -/
def mark (v : FVec F S16x128 .f32) (K : PG F) : PG F :=
  .op (.load R.oc (rMark i).toLoadRect (View.loadsAt_vmem h_S16x128)) fun _ =>
  .op (.store R.oc (rMark i) (shapeCast S16x128 (truncf .bf16 v bitsLt_bf16_f32 : FVec F S16x128 .bf16) shapeCasts_S16x128_S16x128)
    Finset.univ
    (View.stores_vmem h_S16x128 (R.hoc.storeExact_slice rfl _ (k0_off2_packedbf16 i)) (fun _ => rfl)) (.inl rfl)) fun _ => K

/-- The gated block, below the 32 rows before it. -/
def glu (K : PG F) : PG F :=
  .op (.load R.u (Rect.unit (s := S512x1024) ![0, 0] S512x512.size inb_S512x1024_S512x512_0_0).toLoadRect
    (View.loadsAt_vmem h_S512x512)) fun a =>
  .op (.load R.u (Rect.unit (s := S512x1024) ![0, 512] S512x512.size inb_S512x1024_S512x512_0_512).toLoadRect
    (View.loadsAt_vmem h_S512x512)) fun b =>
  .op (.load R.h (Rect.unit (s := S544x512) ![32, 0] S512x512.size inb_S544x512_S512x512_32_0).toLoadRect
    (View.loadsAt_vmem h_S512x512)) fun _ =>
  .op (.store R.h (Rect.unit (s := S544x512) ![32, 0] S512x512.size inb_S544x512_S512x512_32_0)
    (shapeCast S512x512 (gluVal a b) shapeCasts_S512x512_S512x512) Finset.univ
    (View.stores_vmem_bits_univ h_S512x512 rfl) (.inl rfl)) fun _ =>
  mark R i (fold512 (gluVal a b)) K

/-- 32 rows of the copy shifted by `r + 1` rows. -/
def copy (r : Fin 7) (j : Fin 16) (K : PG F) : PG F :=
  .op (.load R.h (rHC r j).toLoadRect (View.loadsAt_vmem h_S32x512)) fun v =>
  .op (.load R.sh (rSC r j).toLoadRect (View.loadsAt_vmem h_S1x32x512)) fun _ =>
  .op (.store R.sh (rSC r j) (shapeCast S1x32x512 v shapeCasts_S32x512_S1x32x512) Finset.univ
    (View.stores_vmem_bits_univ h_S1x32x512 rfl) (.inl rfl)) fun _ => K

/-- Its last 24 rows. -/
def copyLast (r : Fin 7) (K : PG F) : PG F :=
  .op (.load R.h (rHL r).toLoadRect (View.loadsAt_vmem h_S24x512)) fun v =>
  .op (.load R.sh (rSL r).toLoadRect (View.loadsAt_vmem h_S1x24x512)) fun _ =>
  .op (.store R.sh (rSL r) (shapeCast S1x24x512 v shapeCasts_S24x512_S1x24x512) Finset.univ
    (View.stores_vmem_bits_univ h_S1x24x512 rfl) (.inl rfl)) fun _ => K

/-- The copies of 32 rows of a residue. -/
def copies (r : Fin 7) : List (Fin 16) → PG F → PG F
  | [], K => K
  | j :: js, K => copy R r j (copies r js K)

/-- The strips, in order. -/
abbrev allStrips : List (Fin 16) := [0, 1, 2, 3, 4, 5, 6, 7, 8, 9, 10, 11, 12, 13, 14, 15]

/-- The copies of the residues. -/
def shifts : List (Fin 7) → PG F → PG F
  | [], K => K
  | r :: rs, K => copies R r allStrips (copyLast R r (shifts rs K))

/-- The taps added to `acc`. -/
def taps (j : Fin 16) : List (Fin 31) → FVec F S32x512 .f32 → (FVec F S32x512 .f32 → PG F) → PG F
  | [], acc, K => K acc
  | k :: ks, acc, K =>
    bif Nat.beq ((2 + k.val) % 8) 0 then
      .op (.load R.h (rH j k).toLoadRect (View.loadsAt_vmem h_S32x512)) fun (t : Vec F S32x512 .f32) =>
      .op (.load R.wd (rW k).toLoadRect (View.loadsAt_vmem h_S1x1x512)) fun w =>
      taps j ks (addf acc (mulf (tapRow w) t)) K
    else
      .op (.load R.sh (rSh j k).toLoadRect (View.loadsAt_vmem h_S1x32x512)) fun t =>
      .op (.load R.wd (rW k).toLoadRect (View.loadsAt_vmem h_S1x1x512)) fun w =>
      taps j ks (addf acc (mulf (tapRow w) (shapeCast S32x512 t shapeCasts_S1x32x512_S32x512))) K

/-- The taps, in order. -/
abbrev allTaps : List (Fin 31) :=
  [0, 1, 2, 3, 4, 5, 6, 7, 8, 9, 10, 11, 12, 13, 14, 15, 16, 17, 18, 19, 20, 21, 22, 23, 24, 25, 26, 27, 28, 29, 30]

/-- Strip `j` of the convolution. -/
def strip (j : Fin 16) (K : FVec F S32x512 .f32 → PG F) : PG F :=
  .op (.load R.bd (Rect.unit (s := S2x512) ![1, 0] S1x512.size inb_S2x512_S1x512_1_0).toLoadRect
    (View.loadsAt_vmem h_S1x512)) fun b =>
  taps R j allTaps (biasRow b) fun acc =>
  .op (.load R.y (rY j).toLoadRect (View.loadsAt_vmem h_S32x512)) fun _ =>
  .op (.store R.y (rY j) (shapeCast S32x512 acc shapeCasts_S32x512_S32x512) Finset.univ
    (View.stores_vmem_bits_univ h_S32x512 rfl) (.inl rfl)) fun _ => K acc

/-- Four strips, then piece `p`. -/
def group (j0 j1 j2 j3 : Fin 16) (p : Fin 8) (K : PG F) : PG F :=
  strip R j0 fun a0 => strip R j1 fun a1 => strip R j2 fun a2 => strip R j3 fun a3 =>
  mark R i (sumVal (fold32 a0) [fold32 a1, fold32 a2, fold32 a3]) (piece R i p K)

/-- The block the next grid point multiplies. -/
def fin (K : PG F) : PG F :=
  .op (.load R.y (Rect.unit (s := S512x512) ![0, 0] S512x512.size inb_S512x512_S512x512_0_0).toLoadRect
    (View.loadsAt_vmem h_S512x512)) fun y =>
  .op (.load R.lg (Rect.unit (s := S2x512) ![1, 0] S1x512.size inb_S2x512_S1x512_1_0).toLoadRect
    (View.loadsAt_vmem h_S1x512)) fun g =>
  .op (.load R.lb (Rect.unit (s := S2x512) ![1, 0] S1x512.size inb_S2x512_S1x512_1_0).toLoadRect
    (View.loadsAt_vmem h_S1x512)) fun b =>
  .op (.load R.wp (Rect.unit (s := S1x512x512) ![0, 0, 0] S1x512x512.size inb_S1x512x512_S1x512x512_0_0_0).toLoadRect
    (View.loadsAt_vmem h_S1x512x512)) fun w =>
  .op (.load R.gc (Rect.unit (s := S512x512) ![0, 0] S512x512.size inb_S512x512_S512x512_0_0).toLoadRect
    (View.loadsAt_vmem h_S512x512)) fun gc =>
  .op (.load R.oc (Rect.unit (s := S528x512) ![0, 0] S512x512.size inb_S528x512_S512x512_0_0).toLoadRect
    (View.loadsAt_vmem h_S512x512)) fun _ =>
  .op (.store R.oc (Rect.unit (s := S528x512) ![0, 0] S512x512.size inb_S528x512_S512x512_0_0)
    (shapeCast S512x512 (finVal y g b w gc) shapeCasts_S512x512_S512x512) Finset.univ
    (View.stores_vmem h_S512x512 (R.hoc.storeExact_slice rfl _ packedbf16_S528x512_S512x512_0_0) (fun _ => rfl)) (.inl rfl))
    fun _ => K

/-- The work of every grid point. -/
def work (K : PG F) : PG F :=
  piece R i 0 (glu R i (piece R i 1 (shifts R [0, 1, 2, 3, 4, 5, 6] (piece R i 2 (piece R i 3 (
  group R i 0 1 2 3 4 (group R i 4 5 6 7 5 (group R i 8 9 10 11 6 (group R i 12 13 14 15 7 (fin R K))))))))))

/-- The first grid point's block to multiply is zero. -/
def zeroOc {α : Type} (K : PA F α) : PA F α :=
  .op (.load R.oc (Rect.unit (s := S528x512) ![0, 0] S528x512.size inb_S528x512_S528x512_0_0).toLoadRect
    (View.loadsAt_vmem h_S528x512)) fun _ =>
  .op (.store R.oc (Rect.unit (s := S528x512) ![0, 0] S528x512.size inb_S528x512_S528x512_0_0)
    (shapeCast S528x512 (broadcast S528x512 (Scalar.ofBits .bf16 0x0000#16 : F .bf16) : FVec F S528x512 .bf16)
      shapeCasts_S528x512_S528x512) Finset.univ
    (View.stores_vmem h_S528x512 (R.hoc.storeExact_slice rfl _ packedbf16_S528x512_S528x512_0_0) (fun _ => rfl)) (.inl rfl))
    fun _ => K

/-- The rows before a sequence are zero. -/
def zeroHead {α : Type} (K : PA F α) : PA F α :=
  .op (.load R.h (Rect.unit (s := S544x512) ![0, 0] S32x512.size inb_S544x512_S32x512_0_0).toLoadRect
    (View.loadsAt_vmem h_S32x512)) fun _ =>
  .op (.store R.h (Rect.unit (s := S544x512) ![0, 0] S32x512.size inb_S544x512_S32x512_0_0)
    (shapeCast S32x512 (broadcast S32x512 (Scalar.ofBits .f32 0x00000000#32 : F .f32) : FVec F S32x512 .f32)
      shapeCasts_S32x512_S32x512) Finset.univ
    (View.stores_vmem_bits_univ h_S32x512 rfl) (.inl rfl)) fun _ => K

/-- The rows before a block are the last of the block before. -/
def carryHead {α : Type} (K : PA F α) : PA F α :=
  .op (.load R.h (Rect.unit (s := S544x512) ![512, 0] S32x512.size inb_S544x512_S32x512_512_0).toLoadRect
    (View.loadsAt_vmem h_S32x512)) fun v =>
  .op (.load R.h (Rect.unit (s := S544x512) ![0, 0] S32x512.size inb_S544x512_S32x512_0_0).toLoadRect
    (View.loadsAt_vmem h_S32x512)) fun _ =>
  .op (.store R.h (Rect.unit (s := S544x512) ![0, 0] S32x512.size inb_S544x512_S32x512_0_0)
    (shapeCast S32x512 v shapeCasts_S32x512_S32x512) Finset.univ
    (View.stores_vmem_bits_univ h_S32x512 rfl) (.inl rfl)) fun _ => K

/-- The first grid point. -/
abbrev isFirst : BitVec 1 :=
  Scalar.cmpi .ne (Scalar.extui (Scalar.cmpi .eq (BitVec.ofNat 32 (i 0).val) 0#32) : BitVec 32) 0#32

/-- The grid point starts a sequence. -/
abbrev startBit : BitVec 1 := Scalar.cmpi .eq (Scalar.remsi (BitVec.ofNat 32 (i 0).val) 8#32) 0#32
abbrev isStart : BitVec 1 := Scalar.cmpi .ne (Scalar.extui (startBit i) : BitVec 32) 0#32
abbrev isNext : BitVec 1 := Scalar.cmpi .ne (Scalar.extui (Scalar.xori (startBit i) 1#1) : BitVec 32) 0#32

/-- What a grid point sets up before its work. -/
def pre {α : Type} (P : PA F α) : PA F α :=
  let r2 : PA F α := if isNext i = 1#1 then carryHead R P else P
  let r1 : PA F α := if isStart i = 1#1 then zeroHead R r2 else r2
  if isFirst i = 1#1 then zeroOc R r1 else r1

theorem pre_bind {α β : Type} (P : PA F α) (K : α → PA F β) : pre R i P >>= K = pre R i (P >>= K) := by
  unfold pre
  dsimp only
  split <;> split <;> split <;> rfl

/-- The body. -/
def conv : PG F := pre R i (work R i (.ret ⟨⟩))

/-- The first two products of piece 0 added, and the third. -/
def opening : PA F (Σ' (v11 : BitVec 32) (v22 : FVec F S512x256 .f32), FVec F S512x256 .f32) :=
  .op (.load R.oc (rOc i).toLoadRect (View.loadsAt_vmem h_S512x512)) fun (oc : Vec F S512x512 .bf16) =>
  .op (.load R.w (rWB 0).toLoadRect (View.loadsAt_vmem h_S1x1x512x256)) fun wb =>
  .op (.load R.a (Rect.unit (s := S512x768) ![0, 0] S512x768.size inb_S512x768_S512x768_0_0).toLoadRect
    (View.loadsAt_vmem h_S512x768)) fun a =>
  .op (.load R.w (rWA 0).toLoadRect (View.loadsAt_vmem h_S1x1x768x256)) fun wa =>
  .op (.load R.s (Rect.unit (s := S512x768) ![0, 0] S512x768.size inb_S512x768_S512x768_0_0).toLoadRect
    (View.loadsAt_vmem h_S512x768)) fun s =>
  .op (.load R.w (rWC 0).toLoadRect (View.loadsAt_vmem h_S1x1x768x256)) fun wc =>
  .ret ⟨Scalar.minsi (BitVec.ofNat 32 (i 0).val) 0#32,
    addf
      (matmul dot_S512x512_S512x256_S512x256_1_0_0_1_n_n none oc
        (shapeCast S512x256 wb shapeCasts_S1x1x512x256_S512x256 : FVec F S512x256 .bf16)
        (constant S512x256 .f32 0x00000000#32))
      (matmul dot_S512x768_S768x256_S512x256_1_0_0_1_n_n none
        (shapeCast S512x768 a shapeCasts_S512x768_S512x768 : FVec F S512x768 .bf16)
        (shapeCast S768x256 wa shapeCasts_S1x1x768x256_S768x256 : FVec F S768x256 .bf16)
        (constant S512x256 .f32 0x00000000#32)),
    matmul dot_S512x768_S768x256_S512x256_1_0_0_1_n_n none
      (shapeCast S512x768 s shapeCasts_S512x768_S512x768 : FVec F S512x768 .bf16)
      (shapeCast S768x256 wc shapeCasts_S1x1x768x256_S768x256 : FVec F S768x256 .bf16)
      (constant S512x256 .f32 0x00000000#32)⟩

theorem opening_eq :
    k0_part1 (F := F) i R.u R.hu R.gc R.hgc R.x R.hx R.a R.ha R.s R.hs R.wd R.hwd R.bd R.hbd R.lg R.hlg
      R.lb R.hlb R.wp R.hwp R.w R.hw R.o R.ho R.h R.hh R.sh R.hsh R.y R.hy R.oc R.hoc = pre R i (opening R i) := by
  chain_rfl

/-- The printed body is this program. -/
theorem body_eq :
    cc0_conv_out_proj (F := F) i R.u R.hu R.gc R.hgc R.x R.hx R.a R.ha R.s R.hs R.wd R.hwd R.bd R.hbd R.lg R.hlg
      R.lb R.hlb R.wp R.hwp R.w R.hw R.o R.ho R.h R.hh R.sh R.hsh R.y R.hy R.oc R.hoc = conv R i := by
  unfold cc0_conv_out_proj k0_part142 conv
  rw [opening_eq, pre_bind, pre_bind]
  refine congrArg (pre R i) ?_
  chain_rfl

end Cert.ConvOutIdeal.Conv

end
-- ==== Proof.ConvExec.lean ====
/-
  The convolution and output projection kernel's body run: each part of the program takes the buffers' contents
  to the contents its value functions name.
-/
module

public import proofs.«01_k».proof.Proof.ConvBody
public import Idealize.ShloMosaic.Lib.VecWindow
public import Idealize.ShloMosaic.Lib.Memref
public import Idealize.ShloMosaic.Rules.Step

@[expose] public section

noncomputable section

namespace Cert.ConvOutIdeal.Conv

open Idealize.ShloMosaic Idealize.ShloMosaic.TcCoe Cert.ConvOutIdeal Cert.ConvOutIdeal.Gen
open Idealize.SL Idealize.SL.RA Idealize.SL.BI
open scoped Idealize.SL.BI
open Idealize.SL.BI.BIBase Idealize.SL.BI.Laws Idealize.SL.ProofMode Idealize.SL.Sem
open VecWindow

variable {F : FTy → Type} [FloatOps F] [Named F]
variable {Name : Type} [DecidableEq Name] {U : Type} [URA U]

local notation "𝕄" => MT nD τ sig Unit (Elt F) Name U ℕ

/-! ## A load and a store of a window -/

section Rules

variable {defs₀' : Defs nD τ sig (Elt F) Λ₀} {𝒱 : Variants} {c : Dev nD} {bd : Option 𝒱.V}
  {Γ : PendingWaitsCtx sig Unit} {E : Set Name}
variable {s : Shape} {e : EltTy}

/-- A load of a window reads the window of the contents. -/
theorem load_owns {Q : PUnit.{1} → sProp 𝕄} {m : Memref sig .tc .vmem s e} {off size : Fin s.rank → ℕ} {inb : ∀ a, off a + size a ≤ s.size a}
    {h : m.view.LoadsAt (Rect.unit off size inb).toLoadRect} {X : s.Idx → Elt F e} {q : PosShare TreeShare}
    {K : ((Rect.unit off size inb).shape.Idx → Elt F e) → PG F} :
    (owns c m q X : sProp 𝕄)
      ⊢ iprop((owns c m q X -∗ wp frame (wpE' defs₀' 𝒱 c.tc bd Γ) E (K (window X off size inb)) Q)
        -∗ wp frame (wpE' defs₀' 𝒱 c.tc bd Γ) E (.op (.load m (Rect.unit off size inb).toLoadRect h) K) Q) := by
  unfold owns
  iintro ⟨%f, %hf, Hp⟩ HK
  iapply (wp_load (c := c.tc) 𝒱 bd E (m := m) (k := K) (q := q) (f := f) (S := m.view.set)
    (View.setOn_subset_set _ _)) $$ Hp
  iintro Hp
  have e1 : m.view.readAt (Elt F) (Rect.unit off size inb).toLoadRect f = window X off size inb := by
    rw [View.readAt_unit m.view f inb rfl inb, hf]
  rw [e1]
  iapply HK
  iexists f
  isplitl []
  · ipureintro; exact hf
  · iexact Hp

/-- A store to a window puts the payload there. -/
theorem store_owns {Q : PUnit.{1} → sProp 𝕄} {m : Memref sig .tc .vmem s e} {off size : Fin s.rank → ℕ} {inb : ∀ a, off a + size a ≤ s.size a}
    {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {X : s.Idx → Elt F e}
    {K : PUnit → PG F} :
    (owns c m fullShare X : sProp 𝕄)
      ⊢ iprop((owns c m fullShare (put X off size w) -∗ wp frame (wpE' defs₀' 𝒱 c.tc bd Γ) E (K ⟨⟩) Q)
        -∗ wp frame (wpE' defs₀' 𝒱 c.tc bd Γ) E (.op (.store m (Rect.unit off size inb) w Finset.univ hx hm) K) Q) := by
  unfold owns
  iintro ⟨%f, %hf, Hp⟩ HK
  iapply (wp_store (c := c.tc) 𝒱 bd E (m := m) (r := Rect.unit off size inb) (k := K) (f := f)
    (S := (show Finset (Idx ((m.access (Rect.unit off size inb)).loc c.tc)) from m.view.set))
    ((View.setOn_subset_set _ _).trans (View.set_slice_subset _ _))) $$ Hp
  iintro Hp
  iapply HK
  iexists _
  isplitl []
  · ipureintro
    have := View.read_writes_cons_put (Val := Elt F) m.view f inb w [] rfl
    rw [View.writes_nil, hf] at this
    exact this
  · iexact Hp

end Rules

/-! ## The contents the body works on -/

/-- The blocks the body reads. -/
structure Env (F : FTy → Type) where
  u : S512x1024.Idx → Elt F .f32
  gc : S512x512.Idx → Elt F .f32
  x : S512x2048.Idx → Elt F .f32
  a : S512x768.Idx → Elt F .bf16
  s : S512x768.Idx → Elt F .bf16
  wd : S1x32x512.Idx → Elt F .f32
  bd : S2x512.Idx → Elt F .f32
  lg : S2x512.Idx → Elt F .f32
  lb : S2x512.Idx → Elt F .f32
  wp : S1x512x512.Idx → Elt F .bf16
  w : S1x8x2048x256.Idx → Elt F .bf16

/-- The contents the body changes. -/
structure St (F : FTy → Type) where
  o : S512x2048.Idx → Elt F .f32
  h : S544x512.Idx → Elt F .f32
  sh : S7x544x512.Idx → Elt F .f32
  y : S512x512.Idx → Elt F .f32
  oc : S528x512.Idx → Elt F .bf16

/-- The core holds every buffer of the body, at these contents. -/
def Own (c : Dev nD) (R : Refs) (ε : Env F) (σ : St F) : sProp 𝕄 :=
  iprop(owns c R.u fullShare ε.u ∗ owns c R.gc fullShare ε.gc ∗ owns c R.x fullShare ε.x ∗ owns c R.a fullShare ε.a
    ∗ owns c R.s fullShare ε.s ∗ owns c R.wd fullShare ε.wd ∗ owns c R.bd fullShare ε.bd ∗ owns c R.lg fullShare ε.lg
    ∗ owns c R.lb fullShare ε.lb ∗ owns c R.wp fullShare ε.wp ∗ owns c R.w fullShare ε.w
    ∗ owns c R.o fullShare σ.o ∗ owns c R.h fullShare σ.h ∗ owns c R.sh fullShare σ.sh ∗ owns c R.y fullShare σ.y ∗ owns c R.oc fullShare σ.oc)

/-- Piece `p` of the result, from the block to multiply. -/
def pieceOf (ε : Env F) (p : Fin 8) (oc : Vec F S512x512 .bf16) : FVec F S512x256 .f32 :=
  pieceVal oc (window ε.w ![0, p.val, 768, 0] S1x1x512x256.size (inb_wb p))
    (window ε.a ![0, 0] S512x768.size inb_S512x768_S512x768_0_0)
    (window ε.w ![0, p.val, 0, 0] S1x1x768x256.size (inb_wa p))
    (window ε.s ![0, 0] S512x768.size inb_S512x768_S512x768_0_0)
    (window ε.w ![0, p.val, 1280, 0] S1x1x768x256.size (inb_wc p))
    (window ε.x ![0, 256 * p.val] S512x256.size (inb_o p))

/-- After piece `p`. -/
def pieceSt (ε : Env F) (i : grid0.Coords) (p : Fin 8) (σ : St F) : St F :=
  { σ with o := put σ.o ![0, 256 * p.val] S512x256.size (pieceOf ε p (window σ.oc (k0_off1 i) S512x512.size (k0_off1_inb i))) }

/-- After the rows past the block. -/
def markSt (i : grid0.Coords) (v : FVec F S16x128 .f32) (σ : St F) : St F :=
  { σ with
    oc := put σ.oc (k0_off2 i) S16x128.size
      (shapeCast S16x128 (truncf .bf16 v bitsLt_bf16_f32 : FVec F S16x128 .bf16) shapeCasts_S16x128_S16x128) }

/-- The gated block of a grid point. -/
def gluOf (ε : Env F) : FVec F S512x512 .f32 :=
  gluVal (window ε.u ![0, 0] S512x512.size inb_S512x1024_S512x512_0_0)
    (window ε.u ![0, 512] S512x512.size inb_S512x1024_S512x512_0_512)

/-- After the gated block. -/
def gluSt (ε : Env F) (i : grid0.Coords) (σ : St F) : St F :=
  markSt i (fold512 (gluOf ε))
    { σ with h := put σ.h ![32, 0] S512x512.size (shapeCast S512x512 (gluOf ε) shapeCasts_S512x512_S512x512) }

/-- A copy of 32 rows. -/
def copySt (r : Fin 7) (j : Fin 16) (σ : St F) : St F :=
  { σ with
    sh := put σ.sh ![r.val, 32 * j.val, 0] S1x32x512.size
      (shapeCast S1x32x512 (window σ.h ![r.val + 1 + 32 * j.val, 0] S32x512.size (inb_hc r j)) shapeCasts_S32x512_S1x32x512) }

/-- The copy of the last 24 rows. -/
def copyLastSt (r : Fin 7) (σ : St F) : St F :=
  { σ with
    sh := put σ.sh ![r.val, 512, 0] S1x24x512.size
      (shapeCast S1x24x512 (window σ.h ![r.val + 513, 0] S24x512.size (inb_hl r)) shapeCasts_S24x512_S1x24x512) }

/-- The copies of a residue. -/
def copiesSt (r : Fin 7) (js : List (Fin 16)) (σ : St F) : St F := js.foldl (fun σ j => copySt r j σ) σ

/-- The copies of the residues. -/
def shiftsSt (rs : List (Fin 7)) (σ : St F) : St F := rs.foldl (fun σ r => copyLastSt r (copiesSt r allStrips σ)) σ

/-- Tap `k` of strip `j`. -/
def tapOf (h : S544x512.Idx → Elt F .f32) (sh : S7x544x512.Idx → Elt F .f32) (j : Fin 16) (k : Fin 31) : FVec F S32x512 .f32 :=
  bif Nat.beq ((2 + k.val) % 8) 0 then
    (window h ![32 * j.val + 8 * ((2 + k.val) / 8), 0] S32x512.size (inb_h j k) : Vec F S32x512 .f32)
  else
    shapeCast S32x512
      (window sh ![(2 + k.val) % 8 - 1, 32 * j.val + 8 * ((2 + k.val) / 8), 0] S1x32x512.size (inb_sh j k) : Vec F S1x32x512 .f32)
      shapeCasts_S1x32x512_S32x512

/-- The taps `ks` added to `acc`. -/
def tapsOf (ε : Env F) (h : S544x512.Idx → Elt F .f32) (sh : S7x544x512.Idx → Elt F .f32) (j : Fin 16) (ks : List (Fin 31))
    (acc : FVec F S32x512 .f32) : FVec F S32x512 .f32 :=
  ks.foldl (fun acc k => addf acc (mulf (tapRow (window ε.wd ![0, k.val, 0] S1x1x512.size (inb_w k))) (tapOf h sh j k))) acc

/-- Strip `j` of the convolution. -/
def stripOf (ε : Env F) (h : S544x512.Idx → Elt F .f32) (sh : S7x544x512.Idx → Elt F .f32) (j : Fin 16) : FVec F S32x512 .f32 :=
  tapsOf ε h sh j allTaps (biasRow (window ε.bd ![1, 0] S1x512.size inb_S2x512_S1x512_1_0))

/-- After strip `j`. -/
def stripSt (ε : Env F) (j : Fin 16) (σ : St F) : St F :=
  { σ with
    y := put σ.y ![32 * j.val, 0] S32x512.size (shapeCast S32x512 (stripOf ε σ.h σ.sh j) shapeCasts_S32x512_S32x512) }

/-- After four strips and a piece. -/
def groupSt (ε : Env F) (i : grid0.Coords) (j0 j1 j2 j3 : Fin 16) (p : Fin 8) (σ : St F) : St F :=
  pieceSt ε i p
    (markSt i (sumVal (fold32 (stripOf ε σ.h σ.sh j0)) [fold32 (stripOf ε σ.h σ.sh j1), fold32 (stripOf ε σ.h σ.sh j2),
      fold32 (stripOf ε σ.h σ.sh j3)])
      (stripSt ε j3 (stripSt ε j2 (stripSt ε j1 (stripSt ε j0 σ)))))

/-- The block the next grid point multiplies, from the convolution. -/
def finOf (ε : Env F) (y : S512x512.Idx → Elt F .f32) : FVec F S512x512 .bf16 :=
  finVal (window y ![0, 0] S512x512.size inb_S512x512_S512x512_0_0)
    (window ε.lg ![1, 0] S1x512.size inb_S2x512_S1x512_1_0) (window ε.lb ![1, 0] S1x512.size inb_S2x512_S1x512_1_0)
    (window ε.wp ![0, 0, 0] S1x512x512.size inb_S1x512x512_S1x512x512_0_0_0)
    (window ε.gc ![0, 0] S512x512.size inb_S512x512_S512x512_0_0)

/-- After that block. -/
def finSt (ε : Env F) (σ : St F) : St F :=
  { σ with oc := put σ.oc ![0, 0] S512x512.size (shapeCast S512x512 (finOf ε σ.y) shapeCasts_S512x512_S512x512) }

/-- After the work of a grid point. -/
def workSt (ε : Env F) (i : grid0.Coords) (σ : St F) : St F :=
  finSt ε (groupSt ε i 12 13 14 15 7 (groupSt ε i 8 9 10 11 6 (groupSt ε i 4 5 6 7 5 (groupSt ε i 0 1 2 3 4
    (pieceSt ε i 3 (pieceSt ε i 2 (shiftsSt [0, 1, 2, 3, 4, 5, 6] (pieceSt ε i 1 (gluSt ε i (pieceSt ε i 0 σ))))))))))

/-- After the first grid point's zero. -/
def zeroOcSt (σ : St F) : St F :=
  { σ with
    oc := put σ.oc ![0, 0] S528x512.size
      (shapeCast S528x512 (broadcast S528x512 (Scalar.ofBits .bf16 0x0000#16 : F .bf16) : FVec F S528x512 .bf16)
        shapeCasts_S528x512_S528x512) }

/-- After the zero before a sequence. -/
def zeroHeadSt (σ : St F) : St F :=
  { σ with
    h := put σ.h ![0, 0] S32x512.size
      (shapeCast S32x512 (broadcast S32x512 (Scalar.ofBits .f32 0x00000000#32 : F .f32) : FVec F S32x512 .f32)
        shapeCasts_S32x512_S32x512) }

/-- After the last rows moved to the first. -/
def carryHeadSt (σ : St F) : St F :=
  { σ with
    h := put σ.h ![0, 0] S32x512.size
      (shapeCast S32x512 (window σ.h ![512, 0] S32x512.size inb_S544x512_S32x512_512_0) shapeCasts_S32x512_S32x512) }

/-- After what a grid point sets up. -/
def preSt (i : grid0.Coords) (σ : St F) : St F :=
  let σ1 := if isFirst i = 1#1 then zeroOcSt σ else σ
  let σ2 := if isStart i = 1#1 then zeroHeadSt σ1 else σ1
  if isNext i = 1#1 then carryHeadSt σ2 else σ2

/-! ## The parts of the program run -/

section Run

variable {defs₀' : Defs nD τ sig (Elt F) Λ₀} {𝒱 : Variants} {c : Dev nD} {bd : Option 𝒱.V}
  {Γ : PendingWaitsCtx sig Unit} {E : Set Name} {R : Refs} {ε : Env F} {σ : St F} {i : grid0.Coords}

theorem piece_run {Q : PUnit.{1} → sProp 𝕄} (p : Fin 8) (K : PG F) :
    (Own c R ε σ : sProp 𝕄)
      ⊢ iprop((Own c R ε (pieceSt ε i p σ) -∗ wp frame (wpE' defs₀' 𝒱 c.tc bd Γ) E K Q)
        -∗ wp frame (wpE' defs₀' 𝒱 c.tc bd Γ) E (piece R i p K) Q) := by
  unfold Own piece pieceSt pieceOf
  iintro ⟨Hu, Hgc, Hx, Ha, Hs, Hwd, Hbd, Hlg, Hlb, Hwp, Hw, Ho, Hh, Hsh, Hy, Hoc⟩ HK
  iapply load_owns $$ Hoc
  iintro Hoc
  iapply load_owns $$ Hw
  iintro Hw
  iapply load_owns $$ Ha
  iintro Ha
  iapply load_owns $$ Hw
  iintro Hw
  iapply load_owns $$ Hs
  iintro Hs
  iapply load_owns $$ Hw
  iintro Hw
  iapply load_owns $$ Hx
  iintro Hx
  iapply load_owns $$ Ho
  iintro Ho
  iapply store_owns $$ Ho
  iintro Ho
  iapply HK
  iframe

theorem mark_run {Q : PUnit.{1} → sProp 𝕄} (v : FVec F S16x128 .f32) (K : PG F) :
    (Own c R ε σ : sProp 𝕄)
      ⊢ iprop((Own c R ε (markSt i v σ) -∗ wp frame (wpE' defs₀' 𝒱 c.tc bd Γ) E K Q)
        -∗ wp frame (wpE' defs₀' 𝒱 c.tc bd Γ) E (mark R i v K) Q) := by
  unfold Own mark markSt
  iintro ⟨Hu, Hgc, Hx, Ha, Hs, Hwd, Hbd, Hlg, Hlb, Hwp, Hw, Ho, Hh, Hsh, Hy, Hoc⟩ HK
  iapply load_owns $$ Hoc
  iintro Hoc
  iapply store_owns $$ Hoc
  iintro Hoc
  iapply HK
  iframe

theorem glu_run {Q : PUnit.{1} → sProp 𝕄} (K : PG F) :
    (Own c R ε σ : sProp 𝕄)
      ⊢ iprop((Own c R ε (gluSt ε i σ) -∗ wp frame (wpE' defs₀' 𝒱 c.tc bd Γ) E K Q)
        -∗ wp frame (wpE' defs₀' 𝒱 c.tc bd Γ) E (glu R i K) Q) := by
  unfold Own glu gluSt markSt mark gluOf
  dsimp only
  iintro ⟨Hu, Hgc, Hx, Ha, Hs, Hwd, Hbd, Hlg, Hlb, Hwp, Hw, Ho, Hh, Hsh, Hy, Hoc⟩ HK
  iapply load_owns $$ Hu
  iintro Hu
  iapply load_owns $$ Hu
  iintro Hu
  iapply load_owns $$ Hh
  iintro Hh
  iapply store_owns $$ Hh
  iintro Hh
  iapply load_owns $$ Hoc
  iintro Hoc
  iapply store_owns $$ Hoc
  iintro Hoc
  iapply HK
  iframe

theorem copy_run {Q : PUnit.{1} → sProp 𝕄} (r : Fin 7) (j : Fin 16) (K : PG F) :
    (Own c R ε σ : sProp 𝕄)
      ⊢ iprop((Own c R ε (copySt r j σ) -∗ wp frame (wpE' defs₀' 𝒱 c.tc bd Γ) E K Q)
        -∗ wp frame (wpE' defs₀' 𝒱 c.tc bd Γ) E (copy R r j K) Q) := by
  unfold Own copy copySt
  iintro ⟨Hu, Hgc, Hx, Ha, Hs, Hwd, Hbd, Hlg, Hlb, Hwp, Hw, Ho, Hh, Hsh, Hy, Hoc⟩ HK
  iapply load_owns $$ Hh
  iintro Hh
  iapply load_owns $$ Hsh
  iintro Hsh
  iapply store_owns $$ Hsh
  iintro Hsh
  iapply HK
  iframe

theorem copyLast_run {Q : PUnit.{1} → sProp 𝕄} (r : Fin 7) (K : PG F) :
    (Own c R ε σ : sProp 𝕄)
      ⊢ iprop((Own c R ε (copyLastSt r σ) -∗ wp frame (wpE' defs₀' 𝒱 c.tc bd Γ) E K Q)
        -∗ wp frame (wpE' defs₀' 𝒱 c.tc bd Γ) E (copyLast R r K) Q) := by
  unfold Own copyLast copyLastSt
  iintro ⟨Hu, Hgc, Hx, Ha, Hs, Hwd, Hbd, Hlg, Hlb, Hwp, Hw, Ho, Hh, Hsh, Hy, Hoc⟩ HK
  iapply load_owns $$ Hh
  iintro Hh
  iapply load_owns $$ Hsh
  iintro Hsh
  iapply store_owns $$ Hsh
  iintro Hsh
  iapply HK
  iframe

theorem copies_run {Q : PUnit.{1} → sProp 𝕄} (r : Fin 7) (js : List (Fin 16)) (K : PG F) :
    (Own c R ε σ : sProp 𝕄)
      ⊢ iprop((Own c R ε (copiesSt r js σ) -∗ wp frame (wpE' defs₀' 𝒱 c.tc bd Γ) E K Q)
        -∗ wp frame (wpE' defs₀' 𝒱 c.tc bd Γ) E (copies R r js K) Q) := by
  induction js generalizing σ with
  | nil =>
    unfold copies copiesSt
    iintro H HK
    iapply HK
    iexact H
  | cons j js ih =>
    unfold copies
    iintro H HK
    iapply copy_run $$ H
    iintro H
    iapply ih $$ H
    iexact HK

theorem shifts_run {Q : PUnit.{1} → sProp 𝕄} (rs : List (Fin 7)) (K : PG F) :
    (Own c R ε σ : sProp 𝕄)
      ⊢ iprop((Own c R ε (shiftsSt rs σ) -∗ wp frame (wpE' defs₀' 𝒱 c.tc bd Γ) E K Q)
        -∗ wp frame (wpE' defs₀' 𝒱 c.tc bd Γ) E (shifts R rs K) Q) := by
  induction rs generalizing σ with
  | nil =>
    unfold shifts shiftsSt
    iintro H HK
    iapply HK
    iexact H
  | cons r rs ih =>
    have e : shiftsSt (r :: rs) σ = shiftsSt rs (copyLastSt r (copiesSt r allStrips σ)) := List.foldl_cons ..
    rw [e]
    unfold shifts
    iintro H HK
    iapply copies_run $$ H
    iintro H
    iapply copyLast_run $$ H
    iintro H
    iapply ih $$ H
    iexact HK

theorem taps_run {Q : PUnit.{1} → sProp 𝕄} (j : Fin 16) (h : S544x512.Idx → Elt F .f32) (sh : S7x544x512.Idx → Elt F .f32)
    (ks : List (Fin 31)) (acc : FVec F S32x512 .f32) (K : FVec F S32x512 .f32 → PG F) :
    (iprop(owns c R.h fullShare h ∗ owns c R.sh fullShare sh ∗ owns c R.wd fullShare ε.wd) : sProp 𝕄)
      ⊢ iprop((iprop(owns c R.h fullShare h ∗ owns c R.sh fullShare sh ∗ owns c R.wd fullShare ε.wd)
          -∗ wp frame (wpE' defs₀' 𝒱 c.tc bd Γ) E (K (tapsOf ε h sh j ks acc)) Q)
        -∗ wp frame (wpE' defs₀' 𝒱 c.tc bd Γ) E (taps R j ks acc K) Q) := by
  induction ks generalizing acc with
  | nil =>
    unfold taps tapsOf
    iintro H HK
    iapply HK
    iexact H
  | cons k ks ih =>
    have e2 : tapsOf ε h sh j (k :: ks) acc = tapsOf ε h sh j ks
        (addf acc (mulf (tapRow (window ε.wd ![0, k.val, 0] S1x1x512.size (inb_w k))) (tapOf h sh j k))) := List.foldl_cons ..
    rw [e2]
    unfold taps
    cases hb : Nat.beq ((2 + k.val) % 8) 0
    · have e : tapOf h sh j k = shapeCast S32x512
          (window sh ![(2 + k.val) % 8 - 1, 32 * j.val + 8 * ((2 + k.val) / 8), 0] S1x32x512.size (inb_sh j k) : Vec F S1x32x512 .f32)
          shapeCasts_S1x32x512_S32x512 := by unfold tapOf; rw [hb]; rfl
      rw [e, cond_false]
      iintro ⟨Hh, Hsh, Hwd⟩ HK
      iapply load_owns $$ Hsh
      iintro Hsh
      iapply load_owns $$ Hwd
      iintro Hwd
      iapply ih $$ [Hh Hsh Hwd]
      · iframe
      iexact HK
    · have e : tapOf h sh j k =
          (window h ![32 * j.val + 8 * ((2 + k.val) / 8), 0] S32x512.size (inb_h j k) : Vec F S32x512 .f32) := by
        unfold tapOf; rw [hb]; rfl
      rw [e, cond_true]
      iintro ⟨Hh, Hsh, Hwd⟩ HK
      iapply load_owns $$ Hh
      iintro Hh
      iapply load_owns $$ Hwd
      iintro Hwd
      iapply ih $$ [Hh Hsh Hwd]
      · iframe
      iexact HK

theorem strip_run {Q : PUnit.{1} → sProp 𝕄} (j : Fin 16) (K : FVec F S32x512 .f32 → PG F) :
    (Own c R ε σ : sProp 𝕄)
      ⊢ iprop((Own c R ε (stripSt ε j σ) -∗ wp frame (wpE' defs₀' 𝒱 c.tc bd Γ) E (K (stripOf ε σ.h σ.sh j)) Q)
        -∗ wp frame (wpE' defs₀' 𝒱 c.tc bd Γ) E (strip R j K) Q) := by
  unfold Own strip stripSt stripOf
  iintro ⟨Hu, Hgc, Hx, Ha, Hs, Hwd, Hbd, Hlg, Hlb, Hwp, Hw, Ho, Hh, Hsh, Hy, Hoc⟩ HK
  iapply load_owns $$ Hbd
  iintro Hbd
  iapply (taps_run (ε := ε) j σ.h σ.sh) $$ [Hh Hsh Hwd]
  · iframe
  iintro ⟨Hh, Hsh, Hwd⟩
  iapply load_owns $$ Hy
  iintro Hy
  iapply store_owns $$ Hy
  iintro Hy
  iapply HK
  iframe

theorem group_run {Q : PUnit.{1} → sProp 𝕄} (j0 j1 j2 j3 : Fin 16) (p : Fin 8) (K : PG F) :
    (Own c R ε σ : sProp 𝕄)
      ⊢ iprop((Own c R ε (groupSt ε i j0 j1 j2 j3 p σ) -∗ wp frame (wpE' defs₀' 𝒱 c.tc bd Γ) E K Q)
        -∗ wp frame (wpE' defs₀' 𝒱 c.tc bd Γ) E (group R i j0 j1 j2 j3 p K) Q) := by
  unfold group groupSt
  iintro H HK
  iapply strip_run $$ H
  iintro H
  iapply strip_run $$ H
  iintro H
  iapply strip_run $$ H
  iintro H
  iapply strip_run $$ H
  iintro H
  iapply mark_run $$ H
  iintro H
  iapply piece_run $$ H
  iintro H
  iapply HK
  iexact H

theorem fin_run {Q : PUnit.{1} → sProp 𝕄} (K : PG F) :
    (Own c R ε σ : sProp 𝕄)
      ⊢ iprop((Own c R ε (finSt ε σ) -∗ wp frame (wpE' defs₀' 𝒱 c.tc bd Γ) E K Q)
        -∗ wp frame (wpE' defs₀' 𝒱 c.tc bd Γ) E (fin R K) Q) := by
  unfold Own fin finSt finOf
  iintro ⟨Hu, Hgc, Hx, Ha, Hs, Hwd, Hbd, Hlg, Hlb, Hwp, Hw, Ho, Hh, Hsh, Hy, Hoc⟩ HK
  iapply load_owns $$ Hy
  iintro Hy
  iapply load_owns $$ Hlg
  iintro Hlg
  iapply load_owns $$ Hlb
  iintro Hlb
  iapply load_owns $$ Hwp
  iintro Hwp
  iapply load_owns $$ Hgc
  iintro Hgc
  iapply load_owns $$ Hoc
  iintro Hoc
  iapply store_owns $$ Hoc
  iintro Hoc
  iapply HK
  iframe

theorem zeroOc_run {Q : PUnit.{1} → sProp 𝕄} (K : PG F) :
    (Own c R ε σ : sProp 𝕄)
      ⊢ iprop((Own c R ε (zeroOcSt σ) -∗ wp frame (wpE' defs₀' 𝒱 c.tc bd Γ) E K Q)
        -∗ wp frame (wpE' defs₀' 𝒱 c.tc bd Γ) E (zeroOc R K) Q) := by
  unfold Own zeroOc zeroOcSt
  iintro ⟨Hu, Hgc, Hx, Ha, Hs, Hwd, Hbd, Hlg, Hlb, Hwp, Hw, Ho, Hh, Hsh, Hy, Hoc⟩ HK
  iapply load_owns $$ Hoc
  iintro Hoc
  iapply store_owns $$ Hoc
  iintro Hoc
  iapply HK
  iframe

theorem zeroHead_run {Q : PUnit.{1} → sProp 𝕄} (K : PG F) :
    (Own c R ε σ : sProp 𝕄)
      ⊢ iprop((Own c R ε (zeroHeadSt σ) -∗ wp frame (wpE' defs₀' 𝒱 c.tc bd Γ) E K Q)
        -∗ wp frame (wpE' defs₀' 𝒱 c.tc bd Γ) E (zeroHead R K) Q) := by
  unfold Own zeroHead zeroHeadSt
  iintro ⟨Hu, Hgc, Hx, Ha, Hs, Hwd, Hbd, Hlg, Hlb, Hwp, Hw, Ho, Hh, Hsh, Hy, Hoc⟩ HK
  iapply load_owns $$ Hh
  iintro Hh
  iapply store_owns $$ Hh
  iintro Hh
  iapply HK
  iframe

theorem carryHead_run {Q : PUnit.{1} → sProp 𝕄} (K : PG F) :
    (Own c R ε σ : sProp 𝕄)
      ⊢ iprop((Own c R ε (carryHeadSt σ) -∗ wp frame (wpE' defs₀' 𝒱 c.tc bd Γ) E K Q)
        -∗ wp frame (wpE' defs₀' 𝒱 c.tc bd Γ) E (carryHead R K) Q) := by
  unfold Own carryHead carryHeadSt
  iintro ⟨Hu, Hgc, Hx, Ha, Hs, Hwd, Hbd, Hlg, Hlb, Hwp, Hw, Ho, Hh, Hsh, Hy, Hoc⟩ HK
  iapply load_owns $$ Hh
  iintro Hh
  iapply load_owns $$ Hh
  iintro Hh
  iapply store_owns $$ Hh
  iintro Hh
  iapply HK
  iframe

theorem work_run {Q : PUnit.{1} → sProp 𝕄} (K : PG F) :
    (Own c R ε σ : sProp 𝕄)
      ⊢ iprop((Own c R ε (workSt ε i σ) -∗ wp frame (wpE' defs₀' 𝒱 c.tc bd Γ) E K Q)
        -∗ wp frame (wpE' defs₀' 𝒱 c.tc bd Γ) E (work R i K) Q) := by
  unfold work workSt
  iintro H HK
  iapply piece_run $$ H
  iintro H
  iapply glu_run $$ H
  iintro H
  iapply piece_run $$ H
  iintro H
  iapply shifts_run $$ H
  iintro H
  iapply piece_run $$ H
  iintro H
  iapply piece_run $$ H
  iintro H
  iapply group_run $$ H
  iintro H
  iapply group_run $$ H
  iintro H
  iapply group_run $$ H
  iintro H
  iapply group_run $$ H
  iintro H
  iapply fin_run $$ H
  iintro H
  iapply HK
  iexact H

/-- The whole body. -/
theorem body_run {Q : PUnit.{1} → sProp 𝕄} :
    (Own c R ε σ : sProp 𝕄)
      ⊢ iprop((Own c R ε (workSt ε i (preSt i σ)) -∗ Q ⟨⟩) -∗ wp frame (wpE' defs₀' 𝒱 c.tc bd Γ) E (conv R i : PG F) Q) := by
  have h0 : ∀ σ : St F, (Own c R ε σ : sProp 𝕄)
      ⊢ iprop((Own c R ε (workSt ε i σ) -∗ Q ⟨⟩) -∗ wp frame (wpE' defs₀' 𝒱 c.tc bd Γ) E (work R i (.ret ⟨⟩) : PG F) Q) := by
    intro σ
    iintro H HK
    iapply work_run $$ H
    iintro H
    rw [wp_ret]
    imodintro
    iapply HK
    iexact H
  have h1 : ∀ σ : St F, (Own c R ε σ : sProp 𝕄)
      ⊢ iprop((Own c R ε (workSt ε i (if isNext i = 1#1 then carryHeadSt σ else σ)) -∗ Q ⟨⟩)
        -∗ wp frame (wpE' defs₀' 𝒱 c.tc bd Γ) E (if isNext i = 1#1 then carryHead R (work R i (.ret ⟨⟩)) else work R i (.ret ⟨⟩) : PG F) Q) := by
    intro σ
    split
    · iintro H HK
      iapply carryHead_run $$ H
      iintro H
      iapply h0 $$ H
      iexact HK
    · exact h0 σ
  unfold conv pre preSt
  dsimp only
  by_cases hf : isFirst i = 1#1
  · rw [if_pos hf, if_pos hf]
    by_cases hs : isStart i = 1#1
    · rw [if_pos hs, if_pos hs]
      iintro H HK
      iapply zeroOc_run $$ H
      iintro H
      iapply zeroHead_run $$ H
      iintro H
      iapply h1 $$ H
      iexact HK
    · rw [if_neg hs, if_neg hs]
      iintro H HK
      iapply zeroOc_run $$ H
      iintro H
      iapply h1 $$ H
      iexact HK
  · rw [if_neg hf, if_neg hf]
    by_cases hs : isStart i = 1#1
    · rw [if_pos hs, if_pos hs]
      iintro H HK
      iapply zeroHead_run $$ H
      iintro H
      iapply h1 $$ H
      iexact HK
    · rw [if_neg hs, if_neg hs]
      exact h1 σ

end Run

end Cert.ConvOutIdeal.Conv

end
-- ==== Proof.ConvState.lean ====
/-
  What a grid point of the convolution and output projection kernel leaves: the block of the result from the block
  found, the last 32 rows of its gated block, and the block the next grid point multiplies. The shifted copies and
  the convolution are written before they are read, so nothing depends on what they held.
-/
module

public import proofs.«01_k».proof.Proof.ConvExec
public import Idealize.ShloMosaic.Lib.ValueIdx
public import Idealize.ShloMosaic.Lib.ValueIdxCoords
public import Idealize.ShloMosaic.Lib.Pipeline.Value

@[expose] public section

noncomputable section

namespace Cert.ConvOutIdeal.Conv

open Idealize.ShloMosaic Cert.ConvOutIdeal Cert.ConvOutIdeal.Gen
open VecWindow ValueIdx

/-! ## Windows and stores, element by element -/

section Elem

variable {α : Type} {s : Shape}

/-- A window at an element. -/
theorem window_at (x : s.Idx → α) (off size : Fin s.rank → ℕ) (inb : ∀ a, off a + size a ≤ s.size a)
    (z : (Rect.unit off size inb).shape.Idx) (y : s.Idx) (h : ∀ a, (y a).val = off a + (z a).val) :
    window x off size inb z = x y := by
  unfold window
  congr 1
  funext a
  apply Fin.ext
  have e : ((Rect.unit off size inb).emb z a).val = off a + 1 * (z a).val := rfl
  rw [e, h a]
  omega

/-- A store at an element of its window. -/
theorem put_in (x : s.Idx → α) (off size : Fin s.rank → ℕ) (w : ((a : Fin s.rank) → Fin (size a)) → α)
    (y : s.Idx) (z : (a : Fin s.rank) → Fin (size a)) (h : ∀ a, (y a).val = off a + (z a).val) :
    put x off size w y = w z := by
  have h' : ∀ a, off a ≤ (y a).val ∧ (y a).val < off a + size a := fun a => by
    have := h a
    have := (z a).isLt
    omega
  unfold put
  rw [dif_pos h']
  congr 1
  funext a
  apply Fin.ext
  have e : (Rect.unitLocal (s := s) (off := off) (size := size) y h' a).val = (y a).val - off a := rfl
  rw [e, h a]
  omega

/-- A store at an element outside its window. -/
theorem put_out (x : s.Idx → α) (off size : Fin s.rank → ℕ) (w : ((a : Fin s.rank) → Fin (size a)) → α)
    (y : s.Idx) (a : Fin s.rank) (h : (y a).val < off a ∨ off a + size a ≤ (y a).val) :
    put x off size w y = x y := by
  unfold put
  rw [dif_neg]
  intro h'
  have := h' a
  omega

end Elem

/-- What every step of a list keeps. -/
theorem foldl_keep {α β : Type} (P : β → Prop) (f : β → α → β) (hk : ∀ b a, P b → P (f b a)) :
    ∀ (l : List α) (b : β), P b → P (l.foldl f b)
  | [], _, h => h
  | a :: l, b, h => foldl_keep P f hk l (f b a) (hk b a h)

/-- What a step of the list makes and every step keeps. -/
theorem foldl_made {α β : Type} (P : β → Prop) (f : β → α → β) (hk : ∀ b a, P b → P (f b a)) (a0 : α) (hm : ∀ b, P (f b a0)) :
    ∀ (l : List α) (b : β), a0 ∈ l → P (l.foldl f b)
  | a :: l, b, h => by
    rcases List.mem_cons.1 h with h | h
    · subst h
      exact foldl_keep P f hk l _ (hm b)
    · exact foldl_made P f hk a0 hm l (f b a) h

variable {F : FTy → Type} [FloatOps F] [Named F]

/-! ## The values, as functions of what is found -/

/-- The gated rows of a grid point below the 32 rows before them. -/
def hOf (ε : Env F) (hd : S32x512.Idx → Elt F .f32) : S544x512.Idx → Elt F .f32 := fun y =>
  if h : (y 0).val < 32 then hd (ix2 ⟨(y 0).val, h⟩ (y 1))
  else gluOf ε (ix2 ⟨(y 0).val - 32, by have := (y 0).isLt; have e : S544x512.size 0 = 544 := rfl; omega⟩ (y 1))

theorem inb_t (j : Fin 16) (k : Fin 31) :
    ∀ a, (![32 * j.val + (2 + k.val), 0] : Fin 2 → Nat) a + S32x512.size a ≤ S544x512.size a := by
  intro a; fin_cases a
  · show 32 * j.val + (2 + k.val) + 32 ≤ 544; omega
  · exact Nat.le_refl 512

/-- The rows tap `k` of strip `j` weighs. -/
def tapH (h : S544x512.Idx → Elt F .f32) (j : Fin 16) (k : Fin 31) : FVec F S32x512 .f32 :=
  (window h ![32 * j.val + (2 + k.val), 0] S32x512.size (inb_t j k) : Vec F S32x512 .f32)

/-- Strip `j` of the convolution. -/
def stripH (ε : Env F) (h : S544x512.Idx → Elt F .f32) (j : Fin 16) : FVec F S32x512 .f32 :=
  allTaps.foldl (fun acc k => addf acc (mulf (tapRow (window ε.wd ![0, k.val, 0] S1x1x512.size (inb_w k))) (tapH h j k)))
    (biasRow (window ε.bd ![1, 0] S1x512.size inb_S2x512_S1x512_1_0))

/-- The strip of a row, and the row in its strip. -/
abbrev strOf (r : Fin 512) : Fin 16 := ⟨r.val / 32, by omega⟩
abbrev inStr (r : Fin 512) : Fin 32 := ⟨r.val % 32, by omega⟩

/-- The convolution. -/
def yOf (ε : Env F) (h : S544x512.Idx → Elt F .f32) : S512x512.Idx → Elt F .f32 := fun y =>
  stripH ε h (strOf (y 0)) (ix2 (inStr (y 0)) (y 1))

/-- The block the next grid point multiplies. -/
def ocNext (ε : Env F) (hd : S32x512.Idx → Elt F .f32) : S512x512.Idx → Elt F .bf16 := finOf ε (yOf ε (hOf ε hd))

theorem inb_tail : ∀ a, (![480, 0] : Fin 2 → Nat) a + S32x512.size a ≤ S512x512.size a := by decide

/-- The last 32 gated rows of a grid point. -/
def tailOf (ε : Env F) : S32x512.Idx → Elt F .f32 := window (gluOf ε) ![480, 0] S32x512.size inb_tail

/-- The piece of a column, and the column in its piece. -/
abbrev pcOf (e : Fin 2048) : Fin 8 := ⟨e.val / 256, by omega⟩
abbrev inPc (e : Fin 2048) : Fin 256 := ⟨e.val % 256, by omega⟩

/-- The block of the result. -/
def outOf (ε : Env F) (oc : S512x512.Idx → Elt F .bf16) : S512x2048.Idx → Elt F .f32 := fun y =>
  pieceOf ε (pcOf (y 1)) oc (ix2 (y 0) (inPc (y 1)))

/-- The block found. -/
def ocIn (σ : St F) : S512x512.Idx → Elt F .bf16 := window σ.oc ![0, 0] S512x512.size (by decide)

/-- The first 32 rows, and the last. -/
def headIn (σ : St F) : S32x512.Idx → Elt F .f32 := window σ.h ![0, 0] S32x512.size (by decide)
def tailIn (σ : St F) : S32x512.Idx → Elt F .f32 := window σ.h ![512, 0] S32x512.size (by decide)

/-! ## The pieces of the result -/

theorem off1 (i : grid0.Coords) : k0_off1 i = ![0, 0] := by
  have h : ∀ n : Fin 17, (![(Scalar.indexCast (Scalar.minsi (BitVec.ofNat 32 n.val) 0#32) : Index).toNat, 0] : Fin 2 → ℕ) = ![0, 0] := by
    decide
  exact h (i 0)
theorem off2 (i : grid0.Coords) : k0_off2 i = ![512, 0] := by
  have h : ∀ n : Fin 17, (![(Scalar.indexCast (Scalar.addi 512#32 (Scalar.minsi (BitVec.ofNat 32 n.val) 0#32)) : Index).toNat, 0] :
      Fin 2 → ℕ) = ![512, 0] := by
    decide
  exact h (i 0)

variable (ε : Env F) (i : grid0.Coords)

theorem window_off {s : Shape} {α : Type} (x : s.Idx → α) (off off' size : Fin s.rank → ℕ) (inb : ∀ a, off a + size a ≤ s.size a)
    (inb' : ∀ a, off' a + size a ≤ s.size a) (h : off = off') : window x off size inb = window x off' size inb' := by
  subst h; rfl

theorem piece_at (p : Fin 8) (σ : St F) (y : S512x2048.Idx) :
    (pieceSt ε i p σ).o y = if pcOf (y 1) = p then outOf ε (ocIn σ) y else σ.o y := by
  have e : window σ.oc (k0_off1 i) S512x512.size (k0_off1_inb i) = ocIn σ := window_off _ _ _ _ _ _ (off1 i)
  unfold pieceSt
  dsimp only
  rw [e]
  have hy : (y 1).val < 2048 := (y 1).isLt
  by_cases h : pcOf (y 1) = p
  · rw [if_pos h]
    subst h
    refine put_in _ _ _ _ y (show S512x256.Idx from ix2 (y 0) (inPc (y 1))) ?_
    intro a
    fin_cases a
    · show (y 0).val = 0 + (y 0).val; omega
    · show (y 1).val = 256 * ((y 1).val / 256) + (y 1).val % 256; omega
  · rw [if_neg h]
    refine put_out _ _ _ _ y 1 ?_
    show (y 1).val < 256 * p.val ∨ 256 * p.val + 256 ≤ (y 1).val
    have : (y 1).val / 256 ≠ p.val := fun h' => h (Fin.ext h')
    omega

/-- The rows past the block are not in it. -/
theorem mark_oc (v : FVec F S16x128 .f32) (σ : St F) : ocIn (markSt i v σ) = ocIn σ := by
  unfold markSt ocIn
  dsimp only
  refine window_put_of_disjoint _ _ _ _ _ _ _ 0 (Or.inl ?_)
  rw [off2 i]
  exact Nat.le_refl 512

/-! A part that writes elsewhere leaves these alone. -/

theorem piece_ocIn (p : Fin 8) (σ : St F) : ocIn (pieceSt ε i p σ) = ocIn σ := by
  unfold ocIn; rfl
theorem piece_headIn (p : Fin 8) (σ : St F) : headIn (pieceSt ε i p σ) = headIn σ := by
  unfold headIn; rfl
theorem glu_ocIn (σ : St F) : ocIn (gluSt ε i σ) = ocIn σ := by
  unfold gluSt
  exact (mark_oc i _ _).trans (by unfold ocIn; rfl)
theorem zeroHead_ocIn (σ : St F) : ocIn (zeroHeadSt σ) = ocIn σ := by
  unfold ocIn; rfl
theorem carryHead_ocIn (σ : St F) : ocIn (carryHeadSt σ) = ocIn σ := by
  unfold ocIn; rfl
theorem zeroOc_tailIn (σ : St F) : tailIn (zeroOcSt σ) = tailIn σ := by
  unfold tailIn; rfl

/-! ## The gated rows -/

theorem glu_h (σ : St F) : (gluSt ε i σ).h = hOf ε (headIn σ) := by
  funext y
  have e : (gluSt ε i σ).h = put σ.h ![32, 0] S512x512.size (gluOf ε) := by
    unfold gluSt markSt
    dsimp only
    rw [shapeCast_self]
  rw [e]
  have hy : (y 0).val < 544 := (y 0).isLt
  unfold hOf
  by_cases h : (y 0).val < 32
  · rw [dif_pos h]
    refine (put_out _ _ _ _ y 0 (Or.inl h)).trans (window_at _ _ _ _ _ y ?_).symm
    intro a
    fin_cases a
    · show (y 0).val = 0 + (y 0).val; omega
    · show (y 1).val = 0 + (y 1).val; omega
  · rw [dif_neg h]
    refine put_in _ _ _ _ y _ ?_
    intro a
    fin_cases a
    · show (y 0).val = 32 + ((y 0).val - 32); omega
    · show (y 1).val = 0 + (y 1).val; omega

theorem hOf_tail (hd : S32x512.Idx → Elt F .f32) :
    window (hOf ε hd) ![512, 0] S32x512.size (by decide) = tailOf ε := by
  funext z
  have hz : (z 0).val < 32 := (z 0).isLt
  refine (window_at _ _ _ _ z (ix2 ⟨512 + (z 0).val, by omega⟩ (z 1)) ?_).trans ?_
  · intro a
    fin_cases a
    · rfl
    · show (z 1).val = 0 + (z 1).val; omega
  · unfold hOf tailOf
    rw [dif_neg (by show ¬ (512 + (z 0).val < 32); omega)]
    refine Eq.trans ?_ (window_at (gluOf ε) ![480, 0] S32x512.size inb_tail z (ix2 ⟨480 + (z 0).val, by omega⟩ (z 1)) ?_).symm
    · exact congrArg (fun t : Fin 512 => gluOf ε (ix2 t (z 1))) (Fin.ext (show 512 + (z 0).val - 32 = 480 + (z 0).val by omega))
    intro a
    fin_cases a
    · rfl
    · show (z 1).val = 0 + (z 1).val; omega

/-! ## The shifted copies -/

/-- Entry `y` of the copies holds the row it should. -/
def ShGood (h : S544x512.Idx → Elt F .f32) (sh : S7x544x512.Idx → Elt F .f32) (y : S7x544x512.Idx) : Prop :=
  ∀ x : S544x512.Idx, (x 0).val = (y 0).val + 1 + (y 1).val → (x 1).val = (y 2).val → sh y = h x

/-- A copy's entry: made by it, or left alone. -/
theorem copy_entry {n : ℕ} (h : S544x512.Idx → Elt F .f32) (sh : S7x544x512.Idx → Elt F .f32) (r : Fin 7) (b : ℕ)
    (inb : ∀ a, (![r.val + 1 + b, 0] : Fin 2 → Nat) a + (![n, 512] : Fin 2 → ℕ) a ≤ S544x512.size a)
    (w : (⟨3, ![1, n, 512]⟩ : Shape).Idx → Elt F .f32)
    (hw : ∀ (q : Fin n) (e : Fin 512), w (ix3 0 q e) = window h ![r.val + 1 + b, 0] ![n, 512] inb (ix2 q e))
    (y : S7x544x512.Idx) :
    (ShGood h sh y → ShGood h (put sh ![r.val, b, 0] ![1, n, 512] w) y)
      ∧ (y 0 = r → b ≤ (y 1).val → (y 1).val < b + n → ShGood h (put sh ![r.val, b, 0] ![1, n, 512] w) y) := by
  have made : y 0 = r → b ≤ (y 1).val → (y 1).val < b + n → ShGood h (put sh ![r.val, b, 0] ![1, n, 512] w) y := by
    intro hr h1 h2 x hx0 hx1
    refine (put_in _ _ _ _ y (show (⟨3, ![1, n, 512]⟩ : Shape).Idx from ix3 0 ⟨(y 1).val - b, by omega⟩ (y 2)) ?_).trans ?_
    · intro a
      fin_cases a
      · show (y 0).val = r.val + 0; rw [hr]; rfl
      · show (y 1).val = b + ((y 1).val - b); omega
      · show (y 2).val = 0 + (y 2).val; omega
    · refine (hw _ _).trans (window_at _ _ _ _ _ x ?_)
      intro a
      fin_cases a
      · show (x 0).val = r.val + 1 + b + ((y 1).val - b)
        rw [hx0, hr]; omega
      · show (x 1).val = 0 + (y 2).val
        rw [hx1]; omega
  refine ⟨fun hg => ?_, made⟩
  by_cases hr : y 0 = r
  · by_cases h1 : b ≤ (y 1).val
    · by_cases h2 : (y 1).val < b + n
      · exact made hr h1 h2
      · intro x hx0 hx1
        exact (put_out _ _ _ _ y 1 (Or.inr (Nat.le_of_not_lt h2))).trans (hg x hx0 hx1)
    · intro x hx0 hx1
      exact (put_out _ _ _ _ y 1 (Or.inl (Nat.lt_of_not_le h1))).trans (hg x hx0 hx1)
  · intro x hx0 hx1
    refine (put_out _ _ _ _ y 0 ?_).trans (hg x hx0 hx1)
    show (y 0).val < r.val ∨ r.val + 1 ≤ (y 0).val
    have : (y 0).val ≠ r.val := fun h' => hr (Fin.ext h')
    omega

/-- The buffers but the copies are the same. -/
def SameBut (σ σ' : St F) : Prop := σ'.o = σ.o ∧ σ'.h = σ.h ∧ σ'.y = σ.y ∧ σ'.oc = σ.oc

theorem copies_same (r : Fin 7) (js : List (Fin 16)) (σ : St F) : SameBut σ (copiesSt r js σ) := by
  unfold copiesSt
  exact foldl_keep (SameBut σ) (fun σ j => copySt r j σ) (fun b a h => by unfold SameBut at h ⊢; exact h) js σ ⟨rfl, rfl, rfl, rfl⟩

theorem SameBut.last {σ b b' : St F} (r : Fin 7) (h : SameBut b b') (h' : SameBut σ b) : SameBut σ (copyLastSt r b') := by
  unfold SameBut at h h' ⊢
  exact ⟨h.1.trans h'.1, h.2.1.trans h'.2.1, h.2.2.1.trans h'.2.2.1, h.2.2.2.trans h'.2.2.2⟩

theorem shifts_same (rs : List (Fin 7)) (σ : St F) : SameBut σ (shiftsSt rs σ) := by
  unfold shiftsSt
  exact foldl_keep (SameBut σ) (fun σ r => copyLastSt r (copiesSt r allStrips σ))
    (fun b a h => SameBut.last a (copies_same a allStrips b) h) rs σ ⟨rfl, rfl, rfl, rfl⟩

theorem cast_32 (v : FVec F S32x512 .f32) (q : Fin 32) (e : Fin 512) :
    (shapeCast S1x32x512 v shapeCasts_S32x512_S1x32x512 : FVec F S1x32x512 .f32) (ix3 0 q e) = v (ix2 q e) := by
  refine shapeCast_apply _ _ _ _ ?_
  rw [Shape.rowMajor_val_two, Shape.rowMajor_val_three]
  show q.val * 512 + e.val = (0 * 32 + q.val) * 512 + e.val
  omega

theorem cast_24 (v : FVec F S24x512 .f32) (q : Fin 24) (e : Fin 512) :
    (shapeCast S1x24x512 v shapeCasts_S24x512_S1x24x512 : FVec F S1x24x512 .f32) (ix3 0 q e) = v (ix2 q e) := by
  refine shapeCast_apply _ _ _ _ ?_
  rw [Shape.rowMajor_val_two, Shape.rowMajor_val_three]
  show q.val * 512 + e.val = (0 * 24 + q.val) * 512 + e.val
  omega

theorem copySt_entry (r : Fin 7) (j : Fin 16) (σ : St F) (y : S7x544x512.Idx) :
    (ShGood σ.h σ.sh y → ShGood σ.h (copySt r j σ).sh y)
      ∧ (y 0 = r → 32 * j.val ≤ (y 1).val → (y 1).val < 32 * j.val + 32 → ShGood σ.h (copySt r j σ).sh y) :=
  copy_entry (n := 32) σ.h σ.sh r (32 * j.val) (inb_hc r j) _ (fun q e => cast_32 _ q e) y

theorem copyLastSt_entry (r : Fin 7) (σ : St F) (y : S7x544x512.Idx) :
    (ShGood σ.h σ.sh y → ShGood σ.h (copyLastSt r σ).sh y)
      ∧ (y 0 = r → 512 ≤ (y 1).val → (y 1).val < 512 + 24 → ShGood σ.h (copyLastSt r σ).sh y) :=
  copy_entry (n := 24) σ.h σ.sh r 512 (inb_hl r) _ (fun q e => cast_24 _ q e) y

/-- The copies of a residue keep an entry, and make those of its rows. -/
theorem copies_entry (r : Fin 7) (σ : St F) (y : S7x544x512.Idx) :
    (ShGood σ.h σ.sh y → ShGood σ.h (copiesSt r allStrips σ).sh y)
      ∧ (y 0 = r → (y 1).val < 512 → ShGood σ.h (copiesSt r allStrips σ).sh y) := by
  have keep : ∀ (b : St F) (a : Fin 16), (b.h = σ.h → ShGood σ.h b.sh y) → ((copySt r a b).h = σ.h → ShGood σ.h (copySt r a b).sh y) := by
    intro b a hb hh
    have hh : b.h = σ.h := hh
    have h := (copySt_entry r a b y).1
    rw [hh] at h
    exact h (hb hh)
  have hh := (copies_same r allStrips σ).2.1
  unfold copiesSt at hh ⊢
  refine ⟨fun h => ?_, fun h0 h1 => ?_⟩
  · exact foldl_keep (fun b => b.h = σ.h → ShGood σ.h b.sh y) (fun σ j => copySt r j σ) keep allStrips σ (fun _ => h) hh
  · refine foldl_made (fun b => b.h = σ.h → ShGood σ.h b.sh y) (fun σ j => copySt r j σ) keep ⟨(y 1).val / 32, by omega⟩ ?_ allStrips σ ?_ hh
    · intro b hb
      have hb : b.h = σ.h := hb
      have h := (copySt_entry r ⟨(y 1).val / 32, by omega⟩ b y).2
      rw [hb] at h
      exact h h0 (by show 32 * ((y 1).val / 32) ≤ (y 1).val; omega) (by show (y 1).val < 32 * ((y 1).val / 32) + 32; omega)
    · have : ∀ a : Fin 16, a ∈ allStrips := by decide
      exact this _

/-- The last copy of a residue keeps an entry, and makes those of its rows. -/
theorem last_entry {hv : S544x512.Idx → Elt F .f32} {b b' : St F} {r : Fin 7} {y : S7x544x512.Idx} (hs : SameBut b b')
    (hc : (ShGood b.h b.sh y → ShGood b.h b'.sh y) ∧ (y 0 = r → (y 1).val < 512 → ShGood b.h b'.sh y)) :
    ((b.h = hv → ShGood hv b.sh y) → (copyLastSt r b').h = hv → ShGood hv (copyLastSt r b').sh y)
      ∧ (y 0 = r → (y 1).val < 536 → (copyLastSt r b').h = hv → ShGood hv (copyLastSt r b').sh y) := by
  have hl := copyLastSt_entry r b' y
  have e : (copyLastSt r b').h = b'.h := rfl
  rw [hs.2.1] at hl e
  rw [e]
  refine ⟨fun hb hh => ?_, fun h0 h1 hh => ?_⟩
  · subst hh
    exact hl.1 (hc.1 (hb rfl))
  · subst hh
    by_cases h2 : (y 1).val < 512
    · exact hl.1 (hc.2 h0 h2)
    · exact hl.2 h0 (by omega) (by omega)

/-- After the copies every entry of the first 536 rows holds the row it should. -/
theorem shifts_good (σ : St F) (y : S7x544x512.Idx) (hy : (y 1).val < 536) :
    ShGood σ.h (shiftsSt [0, 1, 2, 3, 4, 5, 6] σ).sh y := by
  have hh := (shifts_same [0, 1, 2, 3, 4, 5, 6] σ).2.1
  unfold shiftsSt at hh ⊢
  refine foldl_made (fun b => b.h = σ.h → ShGood σ.h b.sh y) (fun σ r => copyLastSt r (copiesSt r allStrips σ)) ?_ (show Fin 7 from y 0) ?_ _ σ ?_ hh
  · intro b a
    exact (last_entry (copies_same a allStrips b) (copies_entry a b y)).1
  · intro b
    exact (last_entry (copies_same (show Fin 7 from y 0) allStrips b) (copies_entry (show Fin 7 from y 0) b y)).2 rfl hy
  · have : ∀ a : Fin 7, a ∈ ([0, 1, 2, 3, 4, 5, 6] : List (Fin 7)) := by decide
    exact this _

/-! ## The strips of the convolution -/

/-- A tap read from the copies is the rows it should weigh. -/
theorem tapOf_eq (h : S544x512.Idx → Elt F .f32) (sh : S7x544x512.Idx → Elt F .f32)
    (hg : ∀ y : S7x544x512.Idx, (y 1).val < 536 → ShGood h sh y) (j : Fin 16) (k : Fin 31) : tapOf h sh j k = tapH h j k := by
  unfold tapOf tapH
  have hk := k.isLt
  have hj := j.isLt
  cases hb : Nat.beq ((2 + k.val) % 8) 0
  · have hne : (2 + k.val) % 8 ≠ 0 := fun h' => by rw [h'] at hb; cases hb
    rw [cond_false]
    funext z
    have hz : (z 0).val < 32 := (z 0).isLt
    refine (shapeCast_apply _ _ z (ix3 0 (z 0) (z 1)) ?_).trans ?_
    · rw [Shape.rowMajor_val_two, Shape.rowMajor_val_three]
      show (0 * 32 + (z 0).val) * 512 + (z 1).val = (z 0).val * 512 + (z 1).val
      omega
    refine (window_at _ _ _ _ _ (ix3 ⟨(2 + k.val) % 8 - 1, by omega⟩
      ⟨32 * j.val + 8 * ((2 + k.val) / 8) + (z 0).val, by omega⟩ (z 1)) ?_).trans ?_
    · intro a
      fin_cases a
      · rfl
      · rfl
      · show (z 1).val = 0 + (z 1).val; omega
    refine (hg _ ?_ (ix2 ⟨32 * j.val + (2 + k.val) + (z 0).val, by omega⟩ (z 1)) ?_ rfl).trans ?_
    · show 32 * j.val + 8 * ((2 + k.val) / 8) + (z 0).val < 536
      omega
    · show 32 * j.val + (2 + k.val) + (z 0).val = (2 + k.val) % 8 - 1 + 1 + (32 * j.val + 8 * ((2 + k.val) / 8) + (z 0).val)
      omega
    · refine (window_at h ![32 * j.val + (2 + k.val), 0] S32x512.size (inb_t j k) z _ ?_).symm
      intro a
      fin_cases a
      · rfl
      · show (z 1).val = 0 + (z 1).val; omega
  · have h0 : (2 + k.val) % 8 = 0 := Nat.eq_of_beq_eq_true hb
    rw [cond_true]
    refine window_off _ _ _ _ _ _ ?_
    rw [show 32 * j.val + 8 * ((2 + k.val) / 8) = 32 * j.val + (2 + k.val) by omega]

theorem stripOf_eq (h : S544x512.Idx → Elt F .f32) (sh : S7x544x512.Idx → Elt F .f32)
    (hg : ∀ y : S7x544x512.Idx, (y 1).val < 536 → ShGood h sh y) (j : Fin 16) : stripOf ε h sh j = stripH ε h j := by
  have e : tapOf h sh j = tapH h j := funext (tapOf_eq h sh hg j)
  unfold stripOf tapsOf stripH
  rw [e]

theorem strip_at (j : Fin 16) (σ : St F) (y : S512x512.Idx) :
    (stripSt ε j σ).y y = if strOf (y 0) = j then stripOf ε σ.h σ.sh (strOf (y 0)) (ix2 (inStr (y 0)) (y 1)) else σ.y y := by
  have hy : (y 0).val < 512 := (y 0).isLt
  unfold stripSt
  dsimp only
  rw [shapeCast_self]
  by_cases h : strOf (y 0) = j
  · rw [if_pos h]
    subst h
    refine put_in _ _ _ _ y (show S32x512.Idx from ix2 (inStr (y 0)) (y 1)) ?_
    intro a
    fin_cases a
    · show (y 0).val = 32 * ((y 0).val / 32) + (y 0).val % 32; omega
    · show (y 1).val = 0 + (y 1).val; omega
  · rw [if_neg h]
    refine put_out _ _ _ _ y 0 ?_
    show (y 0).val < 32 * j.val ∨ 32 * j.val + 32 ≤ (y 0).val
    have : (y 0).val / 32 ≠ j.val := fun h' => h (Fin.ext h')
    omega

/-! ## A grid point's work -/

/-- The pieces below `p` are those of the block found, which is still there. -/
def AtO (oc : S512x512.Idx → Elt F .bf16) (p : ℕ) (σ : St F) : Prop :=
  ocIn σ = oc ∧ ∀ y : S512x2048.Idx, (pcOf (y 1)).val < p → σ.o y = outOf ε oc y

/-- The strips below `n` are those of the rows `hv`, which are there with their copies. -/
def AtY (hv : S544x512.Idx → Elt F .f32) (n : ℕ) (σ : St F) : Prop :=
  σ.h = hv ∧ (∀ y : S7x544x512.Idx, (y 1).val < 536 → ShGood hv σ.sh y)
    ∧ ∀ y : S512x512.Idx, (strOf (y 0)).val < n → σ.y y = yOf ε hv y

variable {ε i} {oc : S512x512.Idx → Elt F .bf16} {hv : S544x512.Idx → Elt F .f32}

theorem AtO.piece {n : ℕ} (p : Fin 8) {σ : St F} (h : AtO ε oc n σ) (e : p.val = n) : AtO ε oc (n + 1) (pieceSt ε i p σ) := by
  subst e
  refine ⟨(piece_ocIn ε i p σ).trans h.1, fun y hy => ?_⟩
  rw [piece_at, h.1]
  by_cases he : pcOf (y 1) = p
  · rw [if_pos he]
  · rw [if_neg he]
    have : (pcOf (y 1)).val ≠ p.val := fun h' => he (Fin.ext h')
    exact h.2 y (by omega)

theorem AtO.mark {p : ℕ} {σ : St F} (v : FVec F S16x128 .f32) (h : AtO ε oc p σ) : AtO ε oc p (markSt i v σ) :=
  ⟨(mark_oc i v σ).trans h.1, h.2⟩

theorem AtO.glu {p : ℕ} {σ : St F} (h : AtO ε oc p σ) : AtO ε oc p (gluSt ε i σ) :=
  ⟨(glu_ocIn ε i σ).trans h.1, h.2⟩

theorem AtO.shifts {p : ℕ} {σ : St F} (h : AtO ε oc p σ) : AtO ε oc p (shiftsSt [0, 1, 2, 3, 4, 5, 6] σ) := by
  have e := shifts_same [0, 1, 2, 3, 4, 5, 6] σ
  unfold AtO ocIn
  rw [e.1, e.2.2.2]
  exact h

theorem AtO.strip {p : ℕ} {j : Fin 16} {σ : St F} (h : AtO ε oc p σ) : AtO ε oc p (stripSt ε j σ) := by
  unfold AtO ocIn at h ⊢; exact h

theorem AtY.piece {n : ℕ} {p : Fin 8} {σ : St F} (h : AtY ε hv n σ) : AtY ε hv n (pieceSt ε i p σ) := by
  unfold AtY at h ⊢; exact h

theorem AtY.mark {n : ℕ} {σ : St F} (v : FVec F S16x128 .f32) (h : AtY ε hv n σ) : AtY ε hv n (markSt i v σ) := by
  unfold AtY at h ⊢; exact h

theorem AtY.strip {j : Fin 16} {σ : St F} (h : AtY ε hv j.val σ) : AtY ε hv (j.val + 1) (stripSt ε j σ) := by
  refine ⟨h.1, h.2.1, fun y hy => ?_⟩
  rw [strip_at, h.1]
  by_cases he : strOf (y 0) = j
  · rw [if_pos he, stripOf_eq ε hv σ.sh h.2.1]
    rfl
  · rw [if_neg he]
    have : (strOf (y 0)).val ≠ j.val := fun h' => he (Fin.ext h')
    exact h.2.2 y (by omega)

theorem AtO.group {n : ℕ} (j0 j1 j2 j3 : Fin 16) (p : Fin 8) {σ : St F} (h : AtO ε oc n σ) (e : p.val = n) :
    AtO ε oc (n + 1) (groupSt ε i j0 j1 j2 j3 p σ) :=
  (AtO.mark _ h.strip.strip.strip.strip).piece p e

theorem AtY.group {n : ℕ} (j0 j1 j2 j3 : Fin 16) {p : Fin 8} {σ : St F} (h : AtY ε hv n σ) (e0 : j0.val = n)
    (e1 : j1.val = n + 1) (e2 : j2.val = n + 2) (e3 : j3.val = n + 3) : AtY ε hv (n + 4) (groupSt ε i j0 j1 j2 j3 p σ) := by
  subst e0
  have h1 := h.strip
  rw [← e1] at h1
  have h2 := h1.strip
  rw [e1, show j0.val + 1 + 1 = j0.val + 2 from rfl, ← e2] at h2
  have h3 := h2.strip
  rw [e2, show j0.val + 2 + 1 = j0.val + 3 from rfl, ← e3] at h3
  have h4 := h3.strip
  rw [e3] at h4
  exact (AtY.mark _ h4).piece

theorem fin_ocIn (σ : St F) : ocIn (finSt ε σ) = finOf ε σ.y := by
  unfold finSt ocIn
  dsimp only
  rw [shapeCast_self]
  exact window_put_same _ _ _ _ _

variable (ε i)

/-- From the gated rows on, all pieces and all strips are made. -/
theorem groups_leave {oc : S512x512.Idx → Elt F .bf16} {hv : S544x512.Idx → Elt F .f32} (σ : St F)
    (ho : AtO ε oc 4 σ) (hy : AtY ε hv 0 σ) :
    AtO ε oc 8 (groupSt ε i 12 13 14 15 7 (groupSt ε i 8 9 10 11 6 (groupSt ε i 4 5 6 7 5 (groupSt ε i 0 1 2 3 4 σ))))
      ∧ AtY ε hv 16 (groupSt ε i 12 13 14 15 7 (groupSt ε i 8 9 10 11 6 (groupSt ε i 4 5 6 7 5 (groupSt ε i 0 1 2 3 4 σ)))) := by
  have o5 : AtO ε oc 5 _ := ho.group (i := i) 0 1 2 3 4 rfl
  have y4 : AtY ε hv 4 _ := AtY.group (i := i) 0 1 2 3 (p := 4) hy rfl rfl rfl rfl
  generalize groupSt ε i 0 1 2 3 4 σ = σ1 at o5 y4 ⊢
  have o6 : AtO ε oc 6 _ := o5.group (i := i) 4 5 6 7 5 rfl
  have y5 : AtY ε hv 8 _ := AtY.group (i := i) 4 5 6 7 (p := 5) y4 rfl rfl rfl rfl
  generalize groupSt ε i 4 5 6 7 5 σ1 = σ2 at o6 y5 ⊢
  have o7 : AtO ε oc 7 _ := o6.group (i := i) 8 9 10 11 6 rfl
  have y6 : AtY ε hv 12 _ := AtY.group (i := i) 8 9 10 11 (p := 6) y5 rfl rfl rfl rfl
  generalize groupSt ε i 8 9 10 11 6 σ2 = σ3 at o7 y6 ⊢
  exact ⟨o7.group (i := i) 12 13 14 15 7 rfl, AtY.group (i := i) 12 13 14 15 (p := 7) y6 rfl rfl rfl rfl⟩

theorem fin_leaves {oc : S512x512.Idx → Elt F .bf16} {hd : S32x512.Idx → Elt F .f32} (σ : St F)
    (ho : AtO ε oc 8 σ) (hy : AtY ε (hOf ε hd) 16 σ) :
    (finSt ε σ).o = outOf ε oc ∧ tailIn (finSt ε σ) = tailOf ε ∧ ocIn (finSt ε σ) = ocNext ε hd := by
  have e1 : (finSt ε σ).o = σ.o := rfl
  have e2 : tailIn (finSt ε σ) = tailIn σ := by unfold tailIn; rfl
  rw [e1, e2, fin_ocIn]
  refine ⟨funext fun y => ho.2 y (pcOf (y 1)).isLt, ?_, ?_⟩
  · unfold tailIn
    rw [hy.1]
    exact hOf_tail ε hd
  · have e : σ.y = yOf ε (hOf ε hd) := funext fun y => hy.2.2 y (strOf (y 0)).isLt
    rw [e]
    rfl

/-- Up to the strips. -/
theorem start_leaves (σ : St F) :
    AtO ε (ocIn σ) 4 (pieceSt ε i 3 (pieceSt ε i 2 (shiftsSt [0, 1, 2, 3, 4, 5, 6] (pieceSt ε i 1 (gluSt ε i (pieceSt ε i 0 σ))))))
      ∧ AtY ε (hOf ε (headIn σ)) 0
        (pieceSt ε i 3 (pieceSt ε i 2 (shiftsSt [0, 1, 2, 3, 4, 5, 6] (pieceSt ε i 1 (gluSt ε i (pieceSt ε i 0 σ)))))) := by
  have o0 : AtO ε (ocIn σ) 0 σ := ⟨rfl, fun y hy => absurd hy (Nat.not_lt_zero _)⟩
  have o1 : AtO ε (ocIn σ) 1 (pieceSt ε i 0 σ) := o0.piece 0 rfl
  have e1 := piece_headIn ε i 0 σ
  generalize pieceSt ε i 0 σ = σ1 at o1 e1 ⊢
  have o2 : AtO ε (ocIn σ) 1 (gluSt ε i σ1) := o1.glu
  have y1 := glu_h ε i σ1
  rw [e1] at y1
  generalize gluSt ε i σ1 = σ2 at o2 y1 ⊢
  have o3 : AtO ε (ocIn σ) 2 (pieceSt ε i 1 σ2) := o2.piece 1 rfl
  have y2 : (pieceSt ε i 1 σ2).h = σ2.h := rfl
  rw [y1] at y2
  generalize pieceSt ε i 1 σ2 = σ3 at o3 y2 ⊢
  generalize hOf ε (headIn σ) = hv at y2 ⊢
  subst y2
  have o4 : AtO ε (ocIn σ) 2 (shiftsSt [0, 1, 2, 3, 4, 5, 6] σ3) := o3.shifts
  have y3 : AtY ε σ3.h 0 (shiftsSt [0, 1, 2, 3, 4, 5, 6] σ3) :=
    ⟨(shifts_same _ σ3).2.1, fun y hy => shifts_good σ3 y hy, fun y hy => absurd hy (Nat.not_lt_zero _)⟩
  generalize σ3.h = hv at y3 ⊢
  generalize shiftsSt [0, 1, 2, 3, 4, 5, 6] σ3 = σ4 at o4 y3 ⊢
  have o5 : AtO ε (ocIn σ) 3 (pieceSt ε i 2 σ4) := o4.piece 2 rfl
  have y4 : AtY ε hv 0 (pieceSt ε i 2 σ4) := y3.piece
  generalize pieceSt ε i 2 σ4 = σ5 at o5 y4 ⊢
  exact ⟨o5.piece 3 rfl, y4.piece⟩

/-- What a grid point's work leaves. -/
theorem work_leaves (σ : St F) :
    (workSt ε i σ).o = outOf ε (ocIn σ) ∧ tailIn (workSt ε i σ) = tailOf ε
      ∧ ocIn (workSt ε i σ) = ocNext ε (headIn σ) := by
  have h := start_leaves ε i σ
  unfold workSt
  generalize pieceSt ε i 3 (pieceSt ε i 2 (shiftsSt [0, 1, 2, 3, 4, 5, 6] (pieceSt ε i 1 (gluSt ε i (pieceSt ε i 0 σ))))) = σ' at h ⊢
  have h2 := groups_leave ε i σ' h.1 h.2
  exact fin_leaves ε _ h2.1 h2.2

/-- The zero block, and the zero rows. -/
def ocZero : S512x512.Idx → Elt F .bf16 := fun _ => Scalar.ofBits .bf16 0x0000#16
def headZero : S32x512.Idx → Elt F .f32 := fun _ => Scalar.ofBits .f32 0x00000000#32

theorem zero_ocIn (σ : St F) : ocIn (zeroOcSt σ) = ocZero := by
  unfold zeroOcSt ocIn
  dsimp only
  rw [shapeCast_self, window_put_of_inside _ _ _ _ _ _ _ (by decide)]
  rfl

theorem zero_headIn (σ : St F) : headIn (zeroHeadSt σ) = headZero := by
  unfold zeroHeadSt headIn
  dsimp only
  rw [shapeCast_self, window_put_same]
  rfl

theorem carry_headIn (σ : St F) : headIn (carryHeadSt σ) = tailIn σ := by
  unfold carryHeadSt headIn tailIn
  exact (window_put_same _ _ _ _ _).trans (shapeCast_self _ _)

theorem first_iff : ∀ i : grid0.Coords, isFirst i = 1#1 ↔ (i 0).val = 0 := by
  have h : ∀ n : Fin 17, isFirst (fun | ⟨0, _⟩ => n) = 1#1 ↔ n.val = 0 := by decide
  exact fun i => h (i 0)
theorem start_iff : ∀ i : grid0.Coords, isStart i = 1#1 ↔ (i 0).val % 8 = 0 := by
  have h : ∀ n : Fin 17, isStart (fun | ⟨0, _⟩ => n) = 1#1 ↔ n.val % 8 = 0 := by decide
  exact fun i => h (i 0)
theorem next_iff : ∀ i : grid0.Coords, isNext i = 1#1 ↔ ¬ (i 0).val % 8 = 0 := by
  have h : ∀ n : Fin 17, isNext (fun | ⟨0, _⟩ => n) = 1#1 ↔ ¬ n.val % 8 = 0 := by decide
  exact fun i => h (i 0)

/-- What a grid point sets up: at the first point a zero block; zero rows before a sequence and the last rows elsewhere. -/
theorem pre_leaves (σ : St F) :
    ocIn (preSt i σ) = (if (i 0).val = 0 then ocZero else ocIn σ)
      ∧ headIn (preSt i σ) = (if (i 0).val % 8 = 0 then headZero else tailIn σ) := by
  unfold preSt
  dsimp only
  simp only [first_iff, start_iff, next_iff]
  by_cases h0 : (i 0).val = 0
  · rw [if_pos h0, if_pos h0]
    have h8 : (i 0).val % 8 = 0 := by rw [h0]
    rw [if_pos h8, if_pos h8, if_neg (not_not.2 h8)]
    exact ⟨(zeroHead_ocIn _).trans (zero_ocIn σ), zero_headIn _⟩
  · rw [if_neg h0, if_neg h0]
    by_cases h8 : (i 0).val % 8 = 0
    · rw [if_pos h8, if_pos h8, if_neg (not_not.2 h8)]
      exact ⟨zeroHead_ocIn _, zero_headIn _⟩
    · rw [if_neg h8, if_neg h8, if_pos h8]
      exact ⟨carryHead_ocIn _, carry_headIn _⟩

/-- What a grid point leaves. -/
theorem body_leaves (σ : St F) :
    (workSt ε i (preSt i σ)).o = outOf ε (if (i 0).val = 0 then ocZero else ocIn σ)
      ∧ tailIn (workSt ε i (preSt i σ)) = tailOf ε
      ∧ ocIn (workSt ε i (preSt i σ)) = ocNext ε (if (i 0).val % 8 = 0 then headZero else tailIn σ) := by
  have h := work_leaves ε i (preSt i σ)
  rw [(pre_leaves i σ).1, (pre_leaves i σ).2] at h
  exact h

end Cert.ConvOutIdeal.Conv

end
-- ==== Proof.ConvRun.lean ====
/-
  The run: from any memory the program ends, every block of the result being what its last grid point leaves.
-/
module

public import proofs.«01_k».proof.Proof.ConvState
public import proofs.«01_k».proof.Proof.Gen.ConvOutIdeal.Frame
public import proofs.«01_k».proof.Proof.Gen.ConvOutIdeal.Points

@[expose] public section

noncomputable section

namespace Cert.ConvOutIdeal.Conv

open Idealize.ShloMosaic Idealize.ShloMosaic.TcCoe Cert.ConvOutIdeal Cert.ConvOutIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ)

local notation "𝕄" => MT nD τ sig Unit (Elt F) ℕ (UR sig nD τ) ℕ

/-! ## What is read, and what is carried from point to point -/

/-- The blocks a grid point reads. -/
def envAt (c : Dev nD) (t : Fin grid0.N) : Env F where
  u := iblk m c 0 t
  gc := iblk m c 1 t
  x := iblk m c 2 t
  a := iblk m c 3 t
  s := iblk m c 4 t
  wd := iblk m c 5 t
  bd := iblk m c 6 t
  lg := iblk m c 7 t
  lb := iblk m c 8 t
  wp := iblk m c 9 t
  w := iblk m c 10 t

/-- The `n`-th grid point. -/
def pt (n : ℕ) : Fin grid0.N := ⟨n % 17, by rw [N_0]; exact Nat.mod_lt _ (by norm_num)⟩

theorem pt_val (t : Fin grid0.N) : pt t.val = t := Fin.ext (Nat.mod_eq_of_lt (lt_of_lt_of_eq t.isLt N_0))

theorem coords_val (t : Fin grid0.N) : (grid0.coords t 0).val = t.val := by
  have h : ∀ t : Fin grid0.N, (grid0.coords t 0).val = t.val := by decide
  exact h t

/-- The rows before the `n`-th point's. -/
def headAt (c : Dev nD) (n : ℕ) : S32x512.Idx → Elt F .f32 :=
  if n % 8 = 0 then headZero else tailOf (envAt m c (pt (n - 1)))

/-- The block the `n`-th point finds. -/
def ocAt (c : Dev nD) (n : ℕ) : S512x512.Idx → Elt F .bf16 :=
  if n = 0 then ocZero else ocNext (envAt m c (pt (n - 1))) (headAt m c (n - 1))

/-- The scratch buffers before the `n`-th point, but at the first: the last rows and the block found. -/
def Carried (c : Dev nD) (n : ℕ) (h : S544x512.Idx → Elt F .f32) (oc : S528x512.Idx → Elt F .bf16) : Prop :=
  n ≠ 0 → VecWindow.window h ![512, 0] S32x512.size (by decide) = tailOf (envAt m c (pt (n - 1)))
    ∧ VecWindow.window oc ![0, 0] S512x512.size (by decide) = ocAt m c n

/-- The invariant before the `n`-th point. -/
def Inv (c : Dev nD) (n : ℕ) : sProp 𝕄 :=
  iprop((∃ (h : S544x512.Idx → Elt F .f32) (oc : S528x512.Idx → Elt F .bf16), ⌜Carried m c n h oc⌝
      ∗ owns (c : Thread nD τ) (Memref.whole cc0_scratch0) fullShare h
      ∗ owns (c : Thread nD τ) (Memref.whole cc0_scratch3) fullShare oc)
    ∗ (∃ sh, owns (c : Thread nD τ) (Memref.whole cc0_scratch1) fullShare sh)
    ∗ (∃ y, owns (c : Thread nD τ) (Memref.whole cc0_scratch2) fullShare y)
    ∗ (∃ r, prngReg c r))

/-- The proof's data. -/
def dats (_ : Fin 1) (c : Dev nD) : Pipeline.Dat τ (Elt F) Unit ℕ (UR sig nD τ) ℕ cfg0 c where
  A w := V m c (Pipeline.arrRef spec0 w)
  after w t := match w with
    | ⟨0, _⟩ => (envAt m c t).u
    | ⟨1, _⟩ => (envAt m c t).gc
    | ⟨2, _⟩ => (envAt m c t).x
    | ⟨3, _⟩ => (envAt m c t).a
    | ⟨4, _⟩ => (envAt m c t).s
    | ⟨5, _⟩ => (envAt m c t).wd
    | ⟨6, _⟩ => (envAt m c t).bd
    | ⟨7, _⟩ => (envAt m c t).lg
    | ⟨8, _⟩ => (envAt m c t).lb
    | ⟨9, _⟩ => (envAt m c t).wp
    | ⟨10, _⟩ => (envAt m c t).w
    | ⟨11, _⟩ => outOf (envAt m c t) (ocAt m c t.val)
  Φ t := Inv m c t.val
  q _ := fullShare
  owed _ := 0

abbrev 𝒱₀ : Variants := Variants.none

/-- The buffers the body works on at a grid point. -/
def refsAt (t : Fin grid0.N) : Refs where
  u := win0_0.stage (cfg0.slots t 0)
  gc := win0_1.stage (cfg0.slots t 1)
  x := win0_2.stage (cfg0.slots t 2)
  a := win0_3.stage (cfg0.slots t 3)
  s := win0_4.stage (cfg0.slots t 4)
  wd := win0_5.stage (cfg0.slots t 5)
  bd := win0_6.stage (cfg0.slots t 6)
  lg := win0_7.stage (cfg0.slots t 7)
  lb := win0_8.stage (cfg0.slots t 8)
  wp := win0_9.stage (cfg0.slots t 9)
  w := win0_10.stage (cfg0.slots t 10)
  o := win0_11.stage (cfg0.slots t 11)
  h := Memref.whole cc0_scratch0
  sh := Memref.whole cc0_scratch1
  y := Memref.whole cc0_scratch2
  oc := Memref.whole cc0_scratch3
  hu := hstage0_0 ((cfg0.slots t 0).cast nbuf0_0)
  hgc := hstage0_1 ((cfg0.slots t 1).cast nbuf0_1)
  hx := hstage0_2 ((cfg0.slots t 2).cast nbuf0_2)
  ha := hstage0_3 ((cfg0.slots t 3).cast nbuf0_3)
  hs := hstage0_4 ((cfg0.slots t 4).cast nbuf0_4)
  hwd := hstage0_5 ((cfg0.slots t 5).cast nbuf0_5)
  hbd := hstage0_6 ((cfg0.slots t 6).cast nbuf0_6)
  hlg := hstage0_7 ((cfg0.slots t 7).cast nbuf0_7)
  hlb := hstage0_8 ((cfg0.slots t 8).cast nbuf0_8)
  hwp := hstage0_9 ((cfg0.slots t 9).cast nbuf0_9)
  hw := hstage0_10 ((cfg0.slots t 10).cast nbuf0_10)
  ho := hstage0_11 ((cfg0.slots t 11).cast nbuf0_11)
  hh := Memref.isWhole_whole _
  hsh := Memref.isWhole_whole _
  hy := Memref.isWhole_whole _
  hoc := Memref.isWhole_whole _

theorem body_at (t : Fin grid0.N) :
    defs₀ (F := F) .tc cfg0.body (cfg0.bodyArgs t (cfg0.slots t)) = conv (refsAt t) (grid0.coords t) :=
  body_eq (refsAt t) (grid0.coords t)

/-! The blocks the body reads, as it finds them. -/

theorem found_u (c : Dev nD) (t : Fin grid0.N) (d) :
    (owns (c : Thread nD τ) ((cfg0.win 0).stage (cfg0.slots t 0)) fullShare ((dats m 0 c).before 0 t d) : sProp 𝕄)
      ⊢ owns (c : Thread nD τ) (refsAt t).u fullShare (envAt m c t).u := by
  rw [before0_0_of m (dats m 0 c) rfl (fun _ => rfl)]; exact .rfl
theorem found_gc (c : Dev nD) (t : Fin grid0.N) (d) :
    (owns (c : Thread nD τ) ((cfg0.win 1).stage (cfg0.slots t 1)) fullShare ((dats m 0 c).before 1 t d) : sProp 𝕄)
      ⊢ owns (c : Thread nD τ) (refsAt t).gc fullShare (envAt m c t).gc := by
  rw [before0_1_of m (dats m 0 c) rfl (fun _ => rfl)]; exact .rfl
theorem found_x (c : Dev nD) (t : Fin grid0.N) (d) :
    (owns (c : Thread nD τ) ((cfg0.win 2).stage (cfg0.slots t 2)) fullShare ((dats m 0 c).before 2 t d) : sProp 𝕄)
      ⊢ owns (c : Thread nD τ) (refsAt t).x fullShare (envAt m c t).x := by
  rw [before0_2_of m (dats m 0 c) rfl (fun _ => rfl)]; exact .rfl
theorem found_a (c : Dev nD) (t : Fin grid0.N) (d) :
    (owns (c : Thread nD τ) ((cfg0.win 3).stage (cfg0.slots t 3)) fullShare ((dats m 0 c).before 3 t d) : sProp 𝕄)
      ⊢ owns (c : Thread nD τ) (refsAt t).a fullShare (envAt m c t).a := by
  rw [before0_3_of m (dats m 0 c) rfl (fun _ => rfl)]; exact .rfl
theorem found_s (c : Dev nD) (t : Fin grid0.N) (d) :
    (owns (c : Thread nD τ) ((cfg0.win 4).stage (cfg0.slots t 4)) fullShare ((dats m 0 c).before 4 t d) : sProp 𝕄)
      ⊢ owns (c : Thread nD τ) (refsAt t).s fullShare (envAt m c t).s := by
  rw [before0_4_of m (dats m 0 c) rfl (fun _ => rfl)]; exact .rfl
theorem found_wd (c : Dev nD) (t : Fin grid0.N) (d) :
    (owns (c : Thread nD τ) ((cfg0.win 5).stage (cfg0.slots t 5)) fullShare ((dats m 0 c).before 5 t d) : sProp 𝕄)
      ⊢ owns (c : Thread nD τ) (refsAt t).wd fullShare (envAt m c t).wd := by
  rw [before0_5_of m (dats m 0 c) rfl (fun _ => rfl)]; exact .rfl
theorem found_bd (c : Dev nD) (t : Fin grid0.N) (d) :
    (owns (c : Thread nD τ) ((cfg0.win 6).stage (cfg0.slots t 6)) fullShare ((dats m 0 c).before 6 t d) : sProp 𝕄)
      ⊢ owns (c : Thread nD τ) (refsAt t).bd fullShare (envAt m c t).bd := by
  rw [before0_6_of m (dats m 0 c) rfl (fun _ => rfl)]; exact .rfl
theorem found_lg (c : Dev nD) (t : Fin grid0.N) (d) :
    (owns (c : Thread nD τ) ((cfg0.win 7).stage (cfg0.slots t 7)) fullShare ((dats m 0 c).before 7 t d) : sProp 𝕄)
      ⊢ owns (c : Thread nD τ) (refsAt t).lg fullShare (envAt m c t).lg := by
  rw [before0_7_of m (dats m 0 c) rfl (fun _ => rfl)]; exact .rfl
theorem found_lb (c : Dev nD) (t : Fin grid0.N) (d) :
    (owns (c : Thread nD τ) ((cfg0.win 8).stage (cfg0.slots t 8)) fullShare ((dats m 0 c).before 8 t d) : sProp 𝕄)
      ⊢ owns (c : Thread nD τ) (refsAt t).lb fullShare (envAt m c t).lb := by
  rw [before0_8_of m (dats m 0 c) rfl (fun _ => rfl)]; exact .rfl
theorem found_wp (c : Dev nD) (t : Fin grid0.N) (d) :
    (owns (c : Thread nD τ) ((cfg0.win 9).stage (cfg0.slots t 9)) fullShare ((dats m 0 c).before 9 t d) : sProp 𝕄)
      ⊢ owns (c : Thread nD τ) (refsAt t).wp fullShare (envAt m c t).wp := by
  rw [before0_9_of m (dats m 0 c) rfl (fun _ => rfl)]; exact .rfl
theorem found_w (c : Dev nD) (t : Fin grid0.N) (d) :
    (owns (c : Thread nD τ) ((cfg0.win 10).stage (cfg0.slots t 10)) fullShare ((dats m 0 c).before 10 t d) : sProp 𝕄)
      ⊢ owns (c : Thread nD τ) (refsAt t).w fullShare (envAt m c t).w := by
  rw [before0_10_of m (dats m 0 c) rfl (fun _ => rfl)]; exact .rfl

/-- The carried part after a grid point. -/
theorem carried_step (c : Dev nD) (t : Fin grid0.N) (σ : St F) (hc : Carried m c t.val σ.h σ.oc) :
    (workSt (envAt m c t) (grid0.coords t) (preSt (grid0.coords t) σ)).o = outOf (envAt m c t) (ocAt m c t.val)
      ∧ Carried m c (t.val + 1) (workSt (envAt m c t) (grid0.coords t) (preSt (grid0.coords t) σ)).h
        (workSt (envAt m c t) (grid0.coords t) (preSt (grid0.coords t) σ)).oc := by
  have hb := body_leaves (envAt m c t) (grid0.coords t) σ
  rw [coords_val] at hb
  have h1 : (if t.val = 0 then ocZero else ocIn σ) = ocAt m c t.val := by
    unfold ocAt
    by_cases h : t.val = 0
    · rw [if_pos h, if_pos h]
    · rw [if_neg h, if_neg h]
      refine (hc h).2.trans ?_
      unfold ocAt
      rw [if_neg h]
  have h2 : (if t.val % 8 = 0 then headZero else tailIn σ) = headAt m c t.val := by
    unfold headAt
    by_cases h : t.val % 8 = 0
    · rw [if_pos h, if_pos h]
    · rw [if_neg h, if_neg h]
      exact (hc (fun h' => h (by rw [h']))).1
  rw [h1, h2] at hb
  refine ⟨hb.1, fun _ => ⟨?_, ?_⟩⟩
  · rw [Nat.add_sub_cancel, pt_val]
    exact hb.2.1
  · refine hb.2.2.trans ?_
    unfold ocAt
    rw [if_neg (Nat.succ_ne_zero _), Nat.add_sub_cancel, pt_val]

/-- The body at a grid point keeps the invariant and leaves the result's block. -/
theorem body_pt (c : Dev nD) (t : Fin cfg0.N) :
    (iprop(Inv m c t.val ∗ (dats m 0 c).owesAt () t.castSucc
          ∗ owns (c : Thread nD τ) (refsAt t).u fullShare (envAt m c t).u
          ∗ owns (c : Thread nD τ) (refsAt t).gc fullShare (envAt m c t).gc
          ∗ owns (c : Thread nD τ) (refsAt t).x fullShare (envAt m c t).x
          ∗ owns (c : Thread nD τ) (refsAt t).a fullShare (envAt m c t).a
          ∗ owns (c : Thread nD τ) (refsAt t).s fullShare (envAt m c t).s
          ∗ owns (c : Thread nD τ) (refsAt t).wd fullShare (envAt m c t).wd
          ∗ owns (c : Thread nD τ) (refsAt t).bd fullShare (envAt m c t).bd
          ∗ owns (c : Thread nD τ) (refsAt t).lg fullShare (envAt m c t).lg
          ∗ owns (c : Thread nD τ) (refsAt t).lb fullShare (envAt m c t).lb
          ∗ owns (c : Thread nD τ) (refsAt t).wp fullShare (envAt m c t).wp
          ∗ owns (c : Thread nD τ) (refsAt t).w fullShare (envAt m c t).w
          ∗ (∃ d, owns (c : Thread nD τ) (refsAt t).o fullShare ((dats m 0 c).before 11 t d))) : sProp 𝕄)
      ⊢ wp frame (wpE (defs₀ (F := F)) 𝒱₀ c none) Set.univ (conv (refsAt t) (grid0.coords t)) fun _ =>
        iprop(Inv m c (t.val + 1) ∗ (dats m 0 c).owesAt () t.succ
          ∗ owns (c : Thread nD τ) (refsAt t).u fullShare (envAt m c t).u
          ∗ owns (c : Thread nD τ) (refsAt t).gc fullShare (envAt m c t).gc
          ∗ owns (c : Thread nD τ) (refsAt t).x fullShare (envAt m c t).x
          ∗ owns (c : Thread nD τ) (refsAt t).a fullShare (envAt m c t).a
          ∗ owns (c : Thread nD τ) (refsAt t).s fullShare (envAt m c t).s
          ∗ owns (c : Thread nD τ) (refsAt t).wd fullShare (envAt m c t).wd
          ∗ owns (c : Thread nD τ) (refsAt t).bd fullShare (envAt m c t).bd
          ∗ owns (c : Thread nD τ) (refsAt t).lg fullShare (envAt m c t).lg
          ∗ owns (c : Thread nD τ) (refsAt t).lb fullShare (envAt m c t).lb
          ∗ owns (c : Thread nD τ) (refsAt t).wp fullShare (envAt m c t).wp
          ∗ owns (c : Thread nD τ) (refsAt t).w fullShare (envAt m c t).w
          ∗ (dats m 0 c).leaves 11 t) := by
  have hl : ∀ o, o = outOf (envAt m c t) (ocAt m c t.val) →
      ((owns (c : Thread nD τ) (refsAt t).o fullShare o : sProp 𝕄) ⊢ (dats m 0 c).leaves 11 t) := by
    rintro o rfl
    exact .rfl
  unfold Inv
  iintro ⟨HI, Hw_, Hu, Hgc, Hx, Ha, Hs, Hwd, Hbd, Hlg, Hlb, Hwp, Hw, ⟨%d, Ho⟩⟩
  icases HI with ⟨⟨%h, %oc, %hc, Hh, Hoc⟩, ⟨%sh, Hsh⟩, ⟨%y, Hy⟩, Hr⟩
  have hs := carried_step m c t ⟨(dats m 0 c).before 11 t d, h, sh, y, oc⟩ hc
  iapply (body_run (R := refsAt t) (ε := envAt m c t) (σ := ⟨(dats m 0 c).before 11 t d, h, sh, y, oc⟩) (i := grid0.coords t)) $$ [Hu Hgc Hx Ha Hs Hwd Hbd Hlg Hlb Hwp Hw Ho Hh Hsh Hy Hoc]
  · unfold Own
    isplitl [Hu]
    · iexact Hu
    isplitl [Hgc]
    · iexact Hgc
    isplitl [Hx]
    · iexact Hx
    isplitl [Ha]
    · iexact Ha
    isplitl [Hs]
    · iexact Hs
    isplitl [Hwd]
    · iexact Hwd
    isplitl [Hbd]
    · iexact Hbd
    isplitl [Hlg]
    · iexact Hlg
    isplitl [Hlb]
    · iexact Hlb
    isplitl [Hwp]
    · iexact Hwp
    isplitl [Hw]
    · iexact Hw
    isplitl [Ho]
    · iexact Ho
    isplitl [Hh]
    · iexact Hh
    isplitl [Hsh]
    · iexact Hsh
    isplitl [Hy]
    · iexact Hy
    iexact Hoc
  iintro HO
  generalize workSt (envAt m c t) (grid0.coords t) (preSt (grid0.coords t) ⟨(dats m 0 c).before 11 t d, h, sh, y, oc⟩) = σ at hs
  unfold Own
  icases HO with ⟨Hu, Hgc, Hx, Ha, Hs, Hwd, Hbd, Hlg, Hlb, Hwp, Hw, Ho, Hh, Hsh, Hy, Hoc⟩
  isplitl [Hh Hsh Hy Hoc Hr]
  · isplitl [Hh Hoc]
    · iexists σ.h
      iexists σ.oc
      isplitr
      · ipureintro; exact hs.2
      isplitl [Hh]
      · iexact Hh
      iexact Hoc
    isplitl [Hsh]
    · iexists σ.sh; iexact Hsh
    isplitl [Hy]
    · iexists σ.y; iexact Hy
    iexact Hr
  isplitl [Hw_]
  · iexact Hw_
  isplitl [Hu]
  · iexact Hu
  isplitl [Hgc]
  · iexact Hgc
  isplitl [Hx]
  · iexact Hx
  isplitl [Ha]
  · iexact Ha
  isplitl [Hs]
  · iexact Hs
  isplitl [Hwd]
  · iexact Hwd
  isplitl [Hbd]
  · iexact Hbd
  isplitl [Hlg]
  · iexact Hlg
  isplitl [Hlb]
  · iexact Hlb
  isplitl [Hwp]
  · iexact Hwp
  isplitl [Hw]
  · iexact Hw
  have hl := hl σ.o hs.1
  ihave Ho := hl $$ Ho
  iexact Ho

theorem body (c : Dev nD) : Pipeline.BodyObligationLoose (dats m 0 c) (defs₀ (F := F)) 𝒱₀ () Set.univ := by
  intro t
  rw [bigSep_W0, bigSep_W0, body_at]
  have hΦ0 : (dats m 0 c).Φ t.castSucc = Inv m c t.val := by
    dsimp only [dats]; exact Pipeline.Dat.Φ_castSucc (fun n _ => Inv m c n) t
  have hΦ1 : (dats m 0 c).Φ t.succ = Inv m c (t.val + 1) := rfl
  rw [hΦ0, hΦ1]
  exact (BIClass.sep_mono .rfl (BIClass.sep_mono .rfl (BIClass.sep_mono (exists_elim fun d => found_u m c t d)
    (BIClass.sep_mono (exists_elim fun d => found_gc m c t d)
    (BIClass.sep_mono (exists_elim fun d => found_x m c t d)
    (BIClass.sep_mono (exists_elim fun d => found_a m c t d)
    (BIClass.sep_mono (exists_elim fun d => found_s m c t d)
    (BIClass.sep_mono (exists_elim fun d => found_wd m c t d)
    (BIClass.sep_mono (exists_elim fun d => found_bd m c t d)
    (BIClass.sep_mono (exists_elim fun d => found_lg m c t d)
    (BIClass.sep_mono (exists_elim fun d => found_lb m c t d)
    (BIClass.sep_mono (exists_elim fun d => found_wp m c t d)
    (BIClass.sep_mono (exists_elim fun d => found_w m c t d)
    .rfl))))))))))))).trans (body_pt m c t)

/-! ## The run -/

/-- The scratch buffers, at some contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

theorem scr_eq (c : Dev nD) :
    (Pipeline.scopedRest (Ix := Unit) (Name := ℕ) (U := UR sig nD τ) (Lvl := ℕ) (Val := Elt F) spec0 c : sProp 𝕄) = Scr c :=
  scopedRest0_eq c

theorem scr_in (c : Dev nD) : iprop(Scr (F := F) c ∗ ∃ r, prngReg c r) ⊢ (Inv m c 0 : sProp 𝕄) := by
  unfold Scr Inv
  simp only [owns_whole]
  iintro ⟨⟨⟨%f0, H0⟩, ⟨%f1, H1⟩, ⟨%f2, H2⟩, ⟨%f3, H3⟩⟩, Hr⟩
  isplitl [H0 H3]
  · iexists f0
    iexists f3
    isplitr
    · ipureintro; exact fun h => absurd rfl h
    isplitl [H0]
    · iexact H0
    iexact H3
  isplitl [H1]
  · iexists f1; iexact H1
  isplitl [H2]
  · iexists f2; iexact H2
  iexact Hr

theorem scr_out (c : Dev nD) (n : ℕ) : (Inv m c n : sProp 𝕄) ⊢ iprop(Scr (F := F) c ∗ ∃ r, prngReg c r) := by
  unfold Scr Inv
  simp only [owns_whole]
  iintro ⟨⟨%h, %oc, -, H0, H3⟩, ⟨%sh, H1⟩, ⟨%y, H2⟩, Hr⟩
  isplitl [H0 H1 H2 H3]
  · isplitl [H0]
    · iexists h; iexact H0
    isplitl [H1]
    · iexists sh; iexact H1
    isplitl [H2]
    · iexists y; iexact H2
    iexists oc; iexact H3
  iexact Hr

theorem phi_in (c : Dev nD) : Pipeline.ΦA spec0 c ⊢ ((dats m 0 c).Φ 0 : sProp 𝕄) := by
  unfold Pipeline.ΦA
  rw [scr_eq]
  exact scr_in m c

theorem phi_out (c : Dev nD) : ((dats m 0 c).Φ (Fin.last cfg0.N) : sProp 𝕄) ⊢ Pipeline.ΦA spec0 c := by
  unfold Pipeline.ΦA
  rw [scr_eq]
  exact scr_out m c _

/-- Every run ends, the result's array holding its blocks, every other array what it held at entry. -/
theorem run_main (g : Dev nD → PrngReg) :
    θ_run (defs (F := F)) (onTc (τ := τ) (main (F := F))) ⟨m, fun _ => 0, g⟩ (fun r =>
      Pipeline.FramePost cfgs (dats m) 0 (V m) r ∧ r.2.sem = fun _ => 0) :=
  Pipeline.θ_run_frame_track cfgs (dats m) 0 launch0 (defs₀ (F := F)) 𝒱₀ m g (main (F := F))
    (body m) (fun c w => by unfold Pipeline.Dat.share; split <;> rfl) (fun _ _ => rfl) (V m) (hmain m 𝒱₀) (fun _ _ => rfl)
    (phi_in m) (phi_out m) _ (fun _ h => h)

/-- What the result's array holds at the end. -/
def res (c : Dev nD) : Buf (Elt F) ((c.tc : Thread nD τ).loc main_v12) := (dats m 0 c).arrAt 11 grid0.N

end Cert.ConvOutIdeal.Conv

end
-- ==== Proof.ConvFrames.lean ====
/-
  The frames of the convolution and output projection: its run leaves the arguments alone, at the ideal values and at
  the machine's.
-/
module

public import proofs.«01_k».proof.Defs
public import proofs.«01_k».proof.Proof.ConvRun
public import proofs.«01_k».proof.Proof.Gen.ConvOut

@[expose] public section

noncomputable section

namespace Cert.ConvOutIdeal.Conv

open Idealize.ShloMosaic Idealize.ShloMosaic.TcCoe Cert.ConvOutIdeal Cert.ConvOutIdeal.Gen Idealize.SL.Sem

variable {F : FTy → Type} [FloatOps F] [Named F]
variable (m : (ℓ : Loc nD τ sig) → Buf (Elt F) ℓ)

/-- Every run ends with the result's array at `res`, the arguments unchanged and every counter at zero. -/
theorem run_frame (g : Dev nD → PrngReg) :
    θ_run (defs (F := F)) (onTc (τ := τ) (main (F := F))) ⟨m, fun _ => 0, g⟩ (fun r => (∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r ⟨h, hz⟩ => ⟨fun c =>
    ⟨(h c).1 11,
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).1 6).trans (((dats m 0 c).arrAt_in 6 rfl _).trans (V_main_arg6 m c)),
     ((h c).1 7).trans (((dats m 0 c).arrAt_in 7 rfl _).trans (V_main_arg7 m c)),
     ((h c).1 8).trans (((dats m 0 c).arrAt_in 8 rfl _).trans (V_main_arg8 m c)),
     ((h c).2 main_arg9 (Pipeline.mem_restRefs_of main_arg9 (by decide) (by decide))).trans (V_main_arg9 m c),
     ((h c).2 main_arg10 (Pipeline.mem_restRefs_of main_arg10 (by decide) (by decide))).trans (V_main_arg10 m c)⟩, hz⟩)
    (run_main m g)

end Cert.ConvOutIdeal.Conv

namespace Cert.Proof

open Idealize.ShloMosaic Idealize.ShloMosaic.TcCoe Idealize.SL.Sem

/-- At the machine's values a named constant is the literal it names. -/
local instance conv_named_bits : Named Bits where
  named _ _ {φ} b := FloatOps.ofBits φ b

theorem run_bits_conv (m : (ℓ : Loc Cert.ConvOut.nD Cert.ConvOut.τ Cert.ConvOut.sig) → Buf (Elt Bits) ℓ) (g : Dev Cert.ConvOut.nD → PrngReg) :
    θ_run (Cert.ConvOut.defs (F := Bits)) (onTc (τ := Cert.ConvOut.τ) (Cert.ConvOut.main (F := Bits))) ⟨m, fun _ => 0, g⟩ =
    θ_run (Cert.ConvOutIdeal.defs (F := Bits)) (onTc (τ := Cert.ConvOutIdeal.τ) (Cert.ConvOutIdeal.main (F := Bits))) ⟨m, fun _ => 0, g⟩ := by
  chain_rfl

theorem frame_conv : Cert.quiescent_ConvOut := fun m g _ => by
  rw [run_bits_conv]
  exact (θ_run (Cert.ConvOutIdeal.defs (F := Bits)) _ _).mono (fun _ h => ⟨fun c => (h.1 c).2, h.2⟩)
    (Cert.ConvOutIdeal.Conv.run_frame (F := Bits) m g)

theorem frame_conv_ideal : Cert.quiescent_ConvOutIdeal := fun m g _ =>
  (θ_run (Cert.ConvOutIdeal.defs (F := Ideal)) _ _).mono (fun _ h => ⟨fun c => (h.1 c).2, h.2⟩)
    (Cert.ConvOutIdeal.Conv.run_frame m g)

end Cert.Proof

end
-- ==== Proof.ConvSpec.lean ====
/-
  What the convolution and output projection computes of a row, over the extended reals: the gated rows convolved with
  the taps, normalised, gated and projected, set between the two other branches and projected onto the input.
-/
module

public import Idealize.ShloMosaic.PureOps.Ideal
public import Idealize.ShloMosaic.PureOps.Ideal.Laws
public import Idealize.ShloMosaic.Lib.ValueIdxCore

@[expose] public section

noncomputable section

namespace Cert.Conv

open Idealize.ShloMosaic ValueIdx

/-- The logistic function, and a number times it. -/
def sig (x : EReal) : EReal := Ideal.div 1 (1 + Ideal.exp (-x))
def silu (x : EReal) : EReal := x * sig x

/-- The mean of a row of 512. -/
def mean (y : Fin 512 → EReal) : EReal := Ideal.div (∑ k : Fin 512, y k) (Ideal.ofBits .f32 0x44000000#32)

/-- A row, normalised, times the gains and plus the shifts. -/
def normed (y g b : Fin 512 → EReal) (d : Fin 512) : EReal :=
  (y d - mean y) * Ideal.rsqrt (mean (fun e => (y e - mean y) * (y e - mean y)) + Ideal.ofBits .f32 0x3727C5AC#32) * g d + b d

/-- The normalised row against one column, gated. -/
def mixed (y g b w : Fin 512 → EReal) (c : EReal) : EReal := (∑ d : Fin 512, silu (normed y g b d) * w d) * silu c

/-- The taps' sum. -/
def taps (b : EReal) (w h : Fin 31 → EReal) : EReal := b + ∑ k : Fin 31, w k * h k

/-- The row that tap `k` meets at row `i`: up to thirty rows back, zero before the batch's first row. -/
def back (g : Fin 8192 → EReal) (i : Fin 8192) (k : Fin 31) : EReal :=
  if i.val % 4096 + k.val < 30 then 0 else g ⟨i.val + k.val - 30, by omega⟩

/-- The three branches side by side. -/
def side (a : Fin 768 → EReal) (o : Fin 512 → EReal) (s : Fin 768 → EReal) (k : Fin 2048) : EReal :=
  if h : k.val < 768 then a ⟨k.val, h⟩
  else if h2 : k.val < 1280 then o ⟨k.val - 768, by omega⟩
  else s ⟨k.val - 1280, by omega⟩

/-- A row and position of the rows of both batches. -/
def batch (i : Fin 8192) : Fin 2 := ⟨i.val / 4096, by omega⟩
def pos (i : Fin 8192) : Fin 4096 := ⟨i.val % 4096, by omega⟩

/-- The arguments. -/
structure Args where
  x : (⟨3, ![2, 4096, 2048]⟩ : Shape).Idx → EReal
  u : (⟨3, ![2, 4096, 1024]⟩ : Shape).Idx → EReal
  gc : (⟨3, ![2, 4096, 512]⟩ : Shape).Idx → EReal
  a : (⟨3, ![2, 4096, 768]⟩ : Shape).Idx → EReal
  s : (⟨3, ![2, 4096, 768]⟩ : Shape).Idx → EReal
  wd : (⟨3, ![2, 31, 512]⟩ : Shape).Idx → EReal
  bd : (⟨2, ![2, 512]⟩ : Shape).Idx → EReal
  lg : (⟨2, ![2, 512]⟩ : Shape).Idx → EReal
  lb : (⟨2, ![2, 512]⟩ : Shape).Idx → EReal
  wp : (⟨3, ![2, 512, 512]⟩ : Shape).Idx → EReal
  w : (⟨3, ![2, 2048, 2048]⟩ : Shape).Idx → EReal

namespace Args

variable (A : Args)

/-- A gated row. -/
def glu (d : Fin 512) (i : Fin 8192) : EReal :=
  A.u (ix3 (batch i) (pos i) ⟨d.val, by omega⟩) * sig (A.u (ix3 (batch i) (pos i) ⟨512 + d.val, by omega⟩))

/-- A row of the convolution. -/
def conv (i : Fin 8192) (d : Fin 512) : EReal := taps (A.bd (ix2 1 d)) (fun k => A.wd (ix3 1 k d)) (back (A.glu d) i)

/-- A row of the convolution's branch. -/
def branch (i : Fin 8192) (e : Fin 512) : EReal :=
  mixed (A.conv i) (fun d => A.lg (ix2 1 d)) (fun d => A.lb (ix2 1 d)) (fun d => A.wp (ix3 1 d e)) (A.gc (ix3 (batch i) (pos i) e))

/-- An element of the result. -/
def entry (i : Fin 8192) (e : Fin 2048) : EReal :=
  A.x (ix3 (batch i) (pos i) e)
    + ∑ k : Fin 2048, side (fun k => A.a (ix3 (batch i) (pos i) k)) (A.branch i) (fun k => A.s (ix3 (batch i) (pos i) k)) k * A.w (ix3 1 k e)

/-- The result. -/
def want : (⟨2, ![8192, 2048]⟩ : Shape).Idx → EReal := fun y => A.entry (y 0) (y 1)

end Args

/-! ## Sums -/

/-- The product over the three branches, the middle one first. -/
theorem side_sum (a : Fin 768 → EReal) (o : Fin 512 → EReal) (s : Fin 768 → EReal) (w : Fin 2048 → EReal) :
    (∑ k : Fin 2048, side a o s k * w k)
      = ((∑ k : Fin 512, o k * w ⟨768 + k.val, by omega⟩) + ∑ k : Fin 768, a k * w ⟨k.val, by omega⟩)
        + ∑ k : Fin 768, s k * w ⟨1280 + k.val, by omega⟩ := by
  have h := Fin.sum_univ_add (M := EReal) (a := 1280) (b := 768) fun k => side a o s k * w k
  have h' := Fin.sum_univ_add (M := EReal) (a := 768) (b := 512) fun k => side a o s (Fin.castAdd 768 k) * w (Fin.castAdd 768 k)
  refine h.trans (congrArg₂ (fun x y : EReal => x + y) (h'.trans ((add_comm _ _).trans (congrArg₂ (fun x y : EReal => x + y) ?_ ?_))) ?_)
  · refine Finset.sum_congr rfl fun k _ => congrArg₂ (fun x y : EReal => x * y) ?_ rfl
    unfold side
    rw [dif_neg (by show ¬ (768 + k.val < 768); omega), dif_pos (by show 768 + k.val < 1280; omega)]
    exact congrArg o (Fin.ext (by show 768 + k.val - 768 = k.val; omega))
  · refine Finset.sum_congr rfl fun k _ => congrArg₂ (fun x y : EReal => x * y) ?_ rfl
    unfold side
    exact dif_pos k.isLt
  · refine Finset.sum_congr rfl fun k _ => congrArg₂ (fun x y : EReal => x * y) ?_ rfl
    unfold side
    rw [dif_neg (by show ¬ (1280 + k.val < 768); omega), dif_neg (by show ¬ (1280 + k.val < 1280); omega)]
    exact congrArg s (Fin.ext (by show 1280 + k.val - 1280 = k.val; omega))

/-- A sum of blocks from the left, at an element. -/
theorem foldl_read {s : Shape} {ι : Type} (f : ι → FVec Ideal s .f32) (y : s.Idx) : ∀ (l : List ι) (z : FVec Ideal s .f32),
    (l.foldl (fun acc k => addf acc (f k)) z y : EReal) = z y + (l.map fun k => (f k y : EReal)).sum
  | [], z => (add_zero _).symm
  | k :: l, z => by
    have h := foldl_read f y l (addf z (f k))
    rw [List.foldl_cons, List.map_cons, List.sum_cons, ← add_assoc]
    exact h

theorem sum_taps (f : Fin 31 → EReal) :
    ((([0, 1, 2, 3, 4, 5, 6, 7, 8, 9, 10, 11, 12, 13, 14, 15, 16, 17, 18, 19, 20, 21, 22, 23, 24, 25, 26, 27, 28, 29, 30] : List (Fin 31)).map f).sum)
      = ∑ k : Fin 31, f k := by
  have e : ([0, 1, 2, 3, 4, 5, 6, 7, 8, 9, 10, 11, 12, 13, 14, 15, 16, 17, 18, 19, 20, 21, 22, 23, 24, 25, 26, 27, 28, 29, 30] : List (Fin 31))
      = List.finRange 31 := by decide
  rw [e, ← List.ofFn_eq_map, List.sum_ofFn]

end Cert.Conv

end
-- ==== Proof.ConvValues.lean ====
/-
  What a grid point of the convolution and output projection kernel computes, element by element over the extended
  reals.
-/
module

public import proofs.«01_k».proof.Proof.ConvState
public import proofs.«01_k».proof.Proof.ConvSpec
public import proofs.«01_k».proof.Proof.Rows
public import proofs.«01_k».proof.Proof.Result
public import Idealize.ShloMosaic.Lib.KernelVsHost
public import Idealize.ShloMosaic.Lib.MatmulPlain
public import Idealize.ShloMosaic.PureOps.IdealRules

@[expose] public section

noncomputable section

namespace Cert.ConvOutIdeal.Conv

open Idealize.ShloMosaic Cert.ConvOutIdeal Cert.ConvOutIdeal.Gen
open Cert.KernelIdeal.Attn (cast_drop cast_drop2 cast_col spread_col gate_exp)
open VecWindow ValueIdx

/-! ## Rows -/

theorem sig_read (g : FVec Ideal S512x512 .f32) (y : S512x512.Idx) : (sigVal g y : EReal) = Cert.Conv.sig (g y) := by
  have hn : (Named.named κ "neg_log2e" 0xBFB8AA3B#32 : Ideal .f32) = ((-((Real.log 2)⁻¹) : ℝ) : EReal) :=
    IdealRules.named_const.ideal_named_scalar _ _ _ _ rfl
  unfold sigVal
  show Ideal.div (Ideal.ofBits .f32 0x3F800000#32)
    (Ideal.ofBits .f32 0x3F800000#32 + Ideal.exp2 (g y * (Named.named κ "neg_log2e" 0xBFB8AA3B#32 : Ideal .f32))) = _
  rw [hn, gate_exp, Ideal.ofBits_one_f32]
  rfl

theorem silu_read (g : FVec Ideal S512x512 .f32) (y : S512x512.Idx) : (siluVal g y : EReal) = Cert.Conv.silu (g y) :=
  congrArg (fun a : EReal => g y * a) (sig_read g y)

theorem lift_row {A B : ℕ} (hd : (⟨2, ![A, B]⟩ : Shape).Reduces [1] ⟨1, ![A]⟩) (r : Fin A) (j : Fin B) : hd.lift (ix1 r) j = ix2 r j := by
  funext a
  match a with
  | ⟨0, _⟩ => rfl
  | ⟨1, _⟩ => rfl

theorem mean_read (y : FVec Ideal S512x512 .f32) (r : Fin 512) : (meanVal y (ix2 r 0) : EReal) = Cert.Conv.mean fun k => y (ix2 r k) := by
  unfold meanVal Cert.Conv.mean
  refine congrArg (fun a : EReal => Ideal.div a (Ideal.ofBits .f32 0x44000000#32)) ?_
  refine (cast_col (A := 512) _ _ r).trans ?_
  refine (Ideal.multiReduction_add_single _ _ reduces_S512x512_S512 _ _ _).trans ?_
  exact Finset.sum_congr rfl fun k _ => congrArg y (lift_row reduces_S512x512_S512 r k)

theorem centre_read (y : FVec Ideal S512x512 .f32) (r d : Fin 512) :
    (centreVal y (ix2 r d) : EReal) = y (ix2 r d) - Cert.Conv.mean fun k => y (ix2 r k) := by
  unfold centreVal
  exact congrArg (fun a : EReal => y (ix2 r d) - a) ((spread_col (A := 512) (B := 512) (by norm_num) _ _ r d).trans (mean_read y r))

/-- A row for every row of a block. -/
theorem spread_row {A : ℕ} (g : (⟨2, ![1, 512]⟩ : Shape).Idx → EReal) (h : (⟨2, ![1, 512]⟩ : Shape).Broadcasts ⟨2, ![A, 512]⟩) (r : Fin A) (d : Fin 512) :
    broadcastTo ⟨2, ![A, 512]⟩ g h (ix2 r d) = g (ix2 0 d) := by
  refine broadcastTo_apply _ _ _ _ fun x => ?_
  match x with
  | ⟨0, _⟩ => exact (if_pos rfl).symm
  | ⟨1, _⟩ => exact (if_neg (by norm_num)).symm

theorem norm_read (y : FVec Ideal S512x512 .f32) (g b : FVec Ideal S1x512 .f32) (r d : Fin 512) :
    (normVal (F := Ideal) y g b (ix2 r d) : EReal)
      = Cert.Conv.normed (fun k => y (ix2 r k)) (fun k => g (ix2 0 k)) (fun k => b (ix2 0 k)) d := by
  unfold normVal Cert.Conv.normed
  refine congrArg₂ (fun a b : EReal => a + b) (congrArg₂ (fun a b : EReal => a * b) (congrArg₂ (fun a b : EReal => a * b) (centre_read y r d)
    ((spread_col (A := 512) (B := 512) (by norm_num) _ _ r d).trans
      (congrArg (fun a : EReal => Ideal.rsqrt (a + Ideal.ofBits .f32 0x3727C5AC#32)) ((mean_read _ r).trans (congrArg Cert.Conv.mean ?_)))))
    (spread_row g _ r d)) (spread_row b _ r d)
  exact funext fun k => congrArg₂ (fun a b : EReal => a * b) (centre_read y r k) (centre_read y r k)

/-- A product of blocks. -/
theorem product {K N : ℕ} (h : FVec Ideal ⟨2, ![512, K]⟩ .bf16) (w : FVec Ideal ⟨2, ![K, N]⟩ .bf16) (r : Fin 512) (e : Fin N) :
    (matmul (DotDims.plain 512 K N) none h w (constant ⟨2, ![512, N]⟩ .f32 0x00000000#32) (ix2 r e) : EReal)
      = ∑ j : Fin K, h (ix2 r j) * w (ix2 j e) := by
  refine (Ideal.matmul_plain_apply none _ _ _ r e).trans ?_
  have e0 : (constant (F := Ideal) ⟨2, ![512, N]⟩ .f32 0x00000000#32 (ix2 r e) : EReal) = 0 := Ideal.ofBits_zero_f32
  rw [e0, zero_add]

theorem fin_val_read (y : Vec Ideal S512x512 .f32) (g b : Vec Ideal S1x512 .f32) (w : Vec Ideal S1x512x512 .bf16) (gc : Vec Ideal S512x512 .f32)
    (r e : Fin 512) : (finVal y g b w gc (ix2 r e) : EReal)
      = Cert.Conv.mixed (fun k => y (ix2 r k)) (fun k => g (ix2 0 k)) (fun k => b (ix2 0 k)) (fun k => w (ix3 0 k e)) (gc (ix2 r e)) := by
  unfold finVal Cert.Conv.mixed
  refine congrArg₂ (fun a b : EReal => a * b) ((product (K := 512) (N := 512) _ _ r e).trans ?_)
    ((silu_read _ _).trans (congrArg Cert.Conv.silu (shapeCast_apply _ _ _ _ rfl)))
  refine Finset.sum_congr rfl fun k _ => congrArg₂ (fun a b : EReal => a * b) ?_ (cast_drop (A := 512) (B := 512) _ _ k e)
  exact (silu_read _ _).trans (congrArg Cert.Conv.silu (norm_read y g b r k))

/-! ## The blocks -/

variable (ε : Env Ideal)

theorem glu_read (r d : Fin 512) : (gluOf ε (ix2 r d) : EReal)
    = ε.u (ix2 r ⟨d.val, by omega⟩) * Cert.Conv.sig (ε.u (ix2 r ⟨512 + d.val, by omega⟩)) := by
  unfold gluOf gluVal
  refine congrArg₂ (fun a b : EReal => a * b) ((shapeCast_apply _ _ _ _ rfl).trans ?_)
    ((sig_read _ _).trans (congrArg Cert.Conv.sig ((shapeCast_apply _ _ _ _ rfl).trans ?_)))
  · refine window_at _ _ _ _ _ _ fun a => ?_
    match a with
    | ⟨0, _⟩ => show r.val = 0 + r.val; omega
    | ⟨1, _⟩ => show d.val = 0 + d.val; omega
  · refine window_at _ _ _ _ _ _ fun a => ?_
    match a with
    | ⟨0, _⟩ => show r.val = 0 + r.val; omega
    | ⟨1, _⟩ => rfl

theorem y_read (h : S544x512.Idx → Elt Ideal .f32) (r d : Fin 512) : (yOf ε h (ix2 r d) : EReal)
    = Cert.Conv.taps (ε.bd (ix2 1 d)) (fun k => ε.wd (ix3 0 ⟨k.val, by omega⟩ d)) (fun k => h (ix2 ⟨r.val + (2 + k.val), by omega⟩ d)) := by
  unfold yOf stripH Cert.Conv.taps
  refine (Cert.Conv.foldl_read _ _ _ _).trans ?_
  unfold allTaps
  rw [Cert.Conv.sum_taps]
  refine congrArg₂ (fun a b : EReal => a + b) ?_ (Finset.sum_congr rfl fun k _ => congrArg₂ (fun a b : EReal => a * b) ?_ ?_)
  · unfold biasRow
    refine (spread_row (A := 32) _ _ _ _).trans ((shapeCast_apply _ _ _ _ rfl).trans ?_)
    refine window_at _ _ _ _ _ _ fun a => ?_
    match a with
    | ⟨0, _⟩ => rfl
    | ⟨1, _⟩ => show d.val = 0 + d.val; omega
  · unfold tapRow
    refine (spread_row (A := 32) _ _ _ _).trans ((cast_drop (A := 1) (B := 512) _ _ 0 d).trans ?_)
    refine window_at _ _ _ _ _ _ fun a => ?_
    match a with
    | ⟨0, _⟩ => rfl
    | ⟨1, _⟩ => rfl
    | ⟨2, _⟩ => show d.val = 0 + d.val; omega
  · unfold tapH
    refine window_at _ _ _ _ _ _ fun a => ?_
    match a with
    | ⟨0, _⟩ => show r.val + (2 + k.val) = 32 * (r.val / 32) + (2 + k.val) + r.val % 32; omega
    | ⟨1, _⟩ => show d.val = 0 + d.val; omega

theorem fin_read (y : S512x512.Idx → Elt Ideal .f32) (r e : Fin 512) : (finOf ε y (ix2 r e) : EReal)
    = Cert.Conv.mixed (fun k => y (ix2 r k)) (fun k => ε.lg (ix2 1 k)) (fun k => ε.lb (ix2 1 k)) (fun k => ε.wp (ix3 0 k e)) (ε.gc (ix2 r e)) := by
  unfold finOf
  refine (fin_val_read _ _ _ _ _ r e).trans ?_
  have e1 : ∀ a b : Fin 512, window y ![0, 0] S512x512.size inb_S512x512_S512x512_0_0 (ix2 a b) = y (ix2 a b) := fun a b => by
    refine window_at _ _ _ _ _ _ fun x => ?_
    match x with
    | ⟨0, _⟩ => show a.val = 0 + a.val; omega
    | ⟨1, _⟩ => show b.val = 0 + b.val; omega
  have e2 : ∀ (v : S2x512.Idx → Elt Ideal .f32) (b : Fin 512), window v ![1, 0] S1x512.size inb_S2x512_S1x512_1_0 (ix2 0 b) = v (ix2 1 b) := fun v b => by
    refine window_at _ _ _ _ _ _ fun x => ?_
    match x with
    | ⟨0, _⟩ => rfl
    | ⟨1, _⟩ => show b.val = 0 + b.val; omega
  have e3 : ∀ a : Fin 512, window ε.wp ![0, 0, 0] S1x512x512.size inb_S1x512x512_S1x512x512_0_0_0 (ix3 0 a e) = ε.wp (ix3 0 a e) := fun a => by
    refine window_at _ _ _ _ _ _ fun x => ?_
    match x with
    | ⟨0, _⟩ => rfl
    | ⟨1, _⟩ => show a.val = 0 + a.val; omega
    | ⟨2, _⟩ => show e.val = 0 + e.val; omega
  have e4 : window ε.gc ![0, 0] S512x512.size inb_S512x512_S512x512_0_0 (ix2 r e) = ε.gc (ix2 r e) := by
    refine window_at _ _ _ _ _ _ fun x => ?_
    match x with
    | ⟨0, _⟩ => show r.val = 0 + r.val; omega
    | ⟨1, _⟩ => show e.val = 0 + e.val; omega
  exact congr (congr (congr (congr (congrArg Cert.Conv.mixed (funext fun k => e1 r k)) (funext fun k => e2 ε.lg k)) (funext fun k => e2 ε.lb k))
    (funext fun k => e3 k)) e4

theorem out_read (oc : S512x512.Idx → Elt Ideal .bf16) (r : Fin 512) (e : Fin 2048) : (outOf ε oc (ix2 r e) : EReal)
    = ε.x (ix2 r e) + (((∑ k : Fin 512, oc (ix2 r k) * ε.w (ix4 0 (pcOf e) ⟨768 + k.val, by omega⟩ (inPc e)))
        + ∑ k : Fin 768, ε.a (ix2 r k) * ε.w (ix4 0 (pcOf e) ⟨k.val, by omega⟩ (inPc e)))
        + ∑ k : Fin 768, ε.s (ix2 r k) * ε.w (ix4 0 (pcOf e) ⟨1280 + k.val, by omega⟩ (inPc e))) := by
  unfold outOf pieceOf pieceVal
  refine congrArg₂ (fun a b : EReal => a + b) ((shapeCast_apply _ _ _ _ rfl).trans ?_) (congrArg₂ (fun a b : EReal => a + b)
    (congrArg₂ (fun a b : EReal => a + b) ((product (K := 512) (N := 256) _ _ r (inPc e)).trans ?_) ((product (K := 768) (N := 256) _ _ r (inPc e)).trans ?_))
    ((product (K := 768) (N := 256) _ _ r (inPc e)).trans ?_))
  · refine window_at _ _ _ _ _ _ fun x => ?_
    match x with
    | ⟨0, _⟩ => show r.val = 0 + r.val; omega
    | ⟨1, _⟩ => show e.val = 256 * (e.val / 256) + e.val % 256; omega
  · refine Finset.sum_congr rfl fun k _ => congrArg₂ (fun a b : EReal => a * b) rfl ((cast_drop2 (A := 512) (B := 256) _ _ k (inPc e)).trans ?_)
    refine window_at _ _ _ _ _ _ fun x => ?_
    match x with
    | ⟨0, _⟩ => rfl
    | ⟨1, _⟩ => rfl
    | ⟨2, _⟩ => rfl
    | ⟨3, _⟩ => show e.val % 256 = 0 + e.val % 256; omega
  · refine Finset.sum_congr rfl fun k _ => congrArg₂ (fun a b : EReal => a * b) ((shapeCast_apply _ _ _ _ rfl).trans ?_)
      ((cast_drop2 (A := 768) (B := 256) _ _ k (inPc e)).trans ?_)
    · refine window_at _ _ _ _ _ _ fun x => ?_
      match x with
      | ⟨0, _⟩ => show r.val = 0 + r.val; omega
      | ⟨1, _⟩ => show k.val = 0 + k.val; omega
    · refine window_at _ _ _ _ _ _ fun x => ?_
      match x with
      | ⟨0, _⟩ => rfl
      | ⟨1, _⟩ => rfl
      | ⟨2, _⟩ => show k.val = 0 + k.val; omega
      | ⟨3, _⟩ => show e.val % 256 = 0 + e.val % 256; omega
  · refine Finset.sum_congr rfl fun k _ => congrArg₂ (fun a b : EReal => a * b) ((shapeCast_apply _ _ _ _ rfl).trans ?_)
      ((cast_drop2 (A := 768) (B := 256) _ _ k (inPc e)).trans ?_)
    · refine window_at _ _ _ _ _ _ fun x => ?_
      match x with
      | ⟨0, _⟩ => show r.val = 0 + r.val; omega
      | ⟨1, _⟩ => show k.val = 0 + k.val; omega
    · refine window_at _ _ _ _ _ _ fun x => ?_
      match x with
      | ⟨0, _⟩ => rfl
      | ⟨1, _⟩ => rfl
      | ⟨2, _⟩ => rfl
      | ⟨3, _⟩ => show e.val % 256 = 0 + e.val % 256; omega

end Cert.ConvOutIdeal.Conv

end
-- ==== Proof.ConvResult.lean ====
/-
  What the convolution and output projection kernel leaves in its array: each row of the result, from the rows the grid
  points read and the block each leaves for the next.
-/
module

public import proofs.«01_k».proof.Proof.ConvRun
public import proofs.«01_k».proof.Proof.ConvFrames
public import proofs.«01_k».proof.Proof.ConvValues
public import Idealize.ShloMosaic.Lib.Pipeline.ValueKit

@[expose] public section

noncomputable section

namespace Cert.ConvOutIdeal.Conv

open Idealize.ShloMosaic hiding ix0 ix1 ix2 ix3 ix4 mulf_apply
open Idealize.ShloMosaic.TcCoe Cert.ConvOutIdeal Cert.ConvOutIdeal.Gen
open Cert.Conv (Args batch pos back)
open VecWindow ValueIdx

variable (m : (ℓ : Loc nD τ sig) → Buf (Elt Ideal) ℓ) (c : Dev nD)

/-- The arguments. -/
def args : Args where
  x := m ((c : Thread nD τ).loc main_arg0)
  u := m ((c : Thread nD τ).loc main_arg1)
  gc := m ((c : Thread nD τ).loc main_arg2)
  a := m ((c : Thread nD τ).loc main_arg3)
  s := m ((c : Thread nD τ).loc main_arg4)
  wd := m ((c : Thread nD τ).loc main_arg5)
  bd := m ((c : Thread nD τ).loc main_arg6)
  lg := m ((c : Thread nD τ).loc main_arg7)
  lb := m ((c : Thread nD τ).loc main_arg8)
  wp := m ((c : Thread nD τ).loc main_arg9)
  w := m ((c : Thread nD τ).loc main_arg10)

/-- Row `r` of block `b`. -/
def at_ (b : Fin 16) (r : Fin 512) : Fin 8192 := ⟨512 * b.val + r.val, by omega⟩

/-! ## The arrays -/

/-- The rows of both batches, one after the other. -/
theorem rows_read {N : ℕ} (v : (⟨3, ![2, 4096, N]⟩ : Shape).Idx → EReal) (h : (⟨3, ![2, 4096, N]⟩ : Shape).ShapeCasts ⟨2, ![8192, N]⟩)
    (i : Fin 8192) (j : Fin N) : shapeCast ⟨2, ![8192, N]⟩ v h (ix2 i j) = v (ix3 (batch i) (pos i) j) := by
  refine shapeCast_apply _ _ _ _ ?_
  rw [Shape.rowMajor_val_three, Shape.rowMajor_val_two]
  show (i.val / 4096 * 4096 + i.val % 4096) * N + j.val = i.val * N + j.val
  rw [show i.val / 4096 * 4096 + i.val % 4096 = i.val by omega]

theorem V_u (i : Fin 8192) (j : Fin 1024) : (V m c main_v4 (ix2 i j) : EReal) = (args m c).u (ix3 (batch i) (pos i) j) :=
  rows_read (N := 1024) (args m c).u shapeCasts_S2x4096x1024_S8192x1024 i j
theorem V_gc (i : Fin 8192) (j : Fin 512) : (V m c main_v5 (ix2 i j) : EReal) = (args m c).gc (ix3 (batch i) (pos i) j) :=
  rows_read (N := 512) (args m c).gc shapeCasts_S2x4096x512_S8192x512 i j
theorem V_x (i : Fin 8192) (j : Fin 2048) : (V m c main_v6 (ix2 i j) : EReal) = (args m c).x (ix3 (batch i) (pos i) j) :=
  rows_read (N := 2048) (args m c).x shapeCasts_S2x4096x2048_S8192x2048 i j
theorem V_a (i : Fin 8192) (j : Fin 768) : (V m c main_v8 (ix2 i j) : EReal) = (args m c).a (ix3 (batch i) (pos i) j) :=
  rows_read (N := 768) (args m c).a shapeCasts_S2x4096x768_S8192x768 i j
theorem V_s (i : Fin 8192) (j : Fin 768) : (V m c main_v10 (ix2 i j) : EReal) = (args m c).s (ix3 (batch i) (pos i) j) :=
  rows_read (N := 768) (args m c).s shapeCasts_S2x4096x768_S8192x768 i j
theorem V_wp (k e : Fin 512) : (V m c main_v11 (ix3 1 k e) : EReal) = (args m c).wp (ix3 1 k e) := rfl

theorem V_wd (k : Fin 31) (d : Fin 512) : (V m c main_v0 (ix3 1 ⟨k.val, by omega⟩ d) : EReal) = (args m c).wd (ix3 1 k d) := by
  have e : V m c main_v0 = pad S2x32x512 ![0, 0, 0] ![0, 1, 0] ![0, 0, 0] ((args m c).wd : FVec Ideal S2x31x512 .f32)
      (sitofp (F := Ideal) .f32 (constantI S_ 32 0#32)) pads_S2x31x512_S2x32x512_000_010_000 h_S_ := rfl
  rw [e]
  refine pad_apply_of_inside _ _ _ _ _ _ _ _ (ix3 1 k d) fun a => ?_
  match a with
  | ⟨0, _⟩ => rfl
  | ⟨1, _⟩ => show k.val = 0 + k.val * 1; omega
  | ⟨2, _⟩ => show d.val = 0 + d.val * 1; omega

theorem V_w (k e : Fin 2048) : (V m c main_v3 (ix4 1 (pcOf e) k (inPc e)) : EReal) = (args m c).w (ix3 1 k e) := by
  have e1 : V m c main_v3 = (truncf .bf16 (transpose S2x8x2048x256 [0, 2, 1, 3]
      (shapeCast S2x2048x8x256 ((args m c).w : FVec Ideal S2x2048x2048 .f32) shapeCasts_S2x2048x2048_S2x2048x8x256 : FVec Ideal S2x2048x8x256 .f32)
      transposes_S2x2048x8x256_S2x8x2048x256_0_2_1_3 : FVec Ideal S2x8x2048x256 .f32) bitsLt_bf16_f32 : FVec Ideal S2x8x2048x256 .bf16) := rfl
  rw [e1]
  refine (transpose_apply _ _ _ _ (ix4 1 k (pcOf e) (inPc e)) fun b => ?_).trans (shapeCast_apply _ _ _ (ix3 1 k e) ?_)
  · match b with
    | ⟨0, _⟩ => rfl
    | ⟨1, _⟩ => rfl
    | ⟨2, _⟩ => rfl
    | ⟨3, _⟩ => rfl
  · rw [Shape.rowMajor_val_three, Shape.rowMajor_val_four]
    show (1 * 2048 + k.val) * 2048 + e.val = ((1 * 2048 + k.val) * 8 + e.val / 256) * 256 + e.val % 256
    omega

/-! ## The blocks a grid point reads -/

theorem index_u : ∀ t : Fin cfg0.N, win0_0.index t = ![min t.val 15, 0] := (by decide +kernel : ∀ t : Fin grid0.N, win0_0.index t = ![min t.val 15, 0])
theorem index_gc : ∀ t : Fin cfg0.N, win0_1.index t = ![min t.val 15, 0] := (by decide +kernel : ∀ t : Fin grid0.N, win0_1.index t = ![min t.val 15, 0])
theorem index_x : ∀ t : Fin cfg0.N, win0_2.index t = ![t.val - 1, 0] := (by decide +kernel : ∀ t : Fin grid0.N, win0_2.index t = ![t.val - 1, 0])
theorem index_a : ∀ t : Fin cfg0.N, win0_3.index t = ![t.val - 1, 0] := (by decide +kernel : ∀ t : Fin grid0.N, win0_3.index t = ![t.val - 1, 0])
theorem index_s : ∀ t : Fin cfg0.N, win0_4.index t = ![t.val - 1, 0] := (by decide +kernel : ∀ t : Fin grid0.N, win0_4.index t = ![t.val - 1, 0])
theorem index_wd : ∀ t : Fin cfg0.N, win0_5.index t = ![1, 0, 0] := (by decide +kernel : ∀ t : Fin grid0.N, win0_5.index t = ![1, 0, 0])
theorem index_bd : ∀ t : Fin cfg0.N, win0_6.index t = ![0, 0] := (by decide +kernel : ∀ t : Fin grid0.N, win0_6.index t = ![0, 0])
theorem index_lg : ∀ t : Fin cfg0.N, win0_7.index t = ![0, 0] := (by decide +kernel : ∀ t : Fin grid0.N, win0_7.index t = ![0, 0])
theorem index_lb : ∀ t : Fin cfg0.N, win0_8.index t = ![0, 0] := (by decide +kernel : ∀ t : Fin grid0.N, win0_8.index t = ![0, 0])
theorem index_wp : ∀ t : Fin cfg0.N, win0_9.index t = ![1, 0, 0] := (by decide +kernel : ∀ t : Fin grid0.N, win0_9.index t = ![1, 0, 0])
theorem index_w : ∀ t : Fin cfg0.N, win0_10.index t = ![1, 0, 0, 0] := (by decide +kernel : ∀ t : Fin grid0.N, win0_10.index t = ![1, 0, 0, 0])
theorem index_o : ∀ t : Fin cfg0.N, win0_11.index t = ![t.val - 1, 0] := (by decide +kernel : ∀ t : Fin grid0.N, win0_11.index t = ![t.val - 1, 0])

variable (t : Fin cfg0.N)

theorem u_read (b : Fin 16) (h : t.val = b.val) (r : Fin 512) (j : Fin 1024) :
    ((envAt m c t).u (ix2 r j) : EReal) = (args m c).u (ix3 (batch (at_ b r)) (pos (at_ b r)) j) := by
  rw [← V_u]
  show (iblk m c 0 t (ix2 r j) : EReal) = _
  blk_simp [iblk]
  refine congrArg (V m c main_v4) ?_
  funext a
  apply Fin.ext
  match a with
  | ⟨0, _⟩ => blk_simp [index_u]; show min t.val 15 * 512 + r.val = 512 * b.val + r.val; omega
  | ⟨1, _⟩ => blk_simp [index_u]

theorem gc_read (b : Fin 16) (h : t.val = b.val) (r j : Fin 512) :
    ((envAt m c t).gc (ix2 r j) : EReal) = (args m c).gc (ix3 (batch (at_ b r)) (pos (at_ b r)) j) := by
  rw [← V_gc]
  show (iblk m c 1 t (ix2 r j) : EReal) = _
  blk_simp [iblk]
  refine congrArg (V m c main_v5) ?_
  funext a
  apply Fin.ext
  match a with
  | ⟨0, _⟩ => blk_simp [index_gc]; show min t.val 15 * 512 + r.val = 512 * b.val + r.val; omega
  | ⟨1, _⟩ => blk_simp [index_gc]

theorem x_read (b : Fin 16) (h : t.val = b.val + 1) (r : Fin 512) (j : Fin 2048) :
    ((envAt m c t).x (ix2 r j) : EReal) = (args m c).x (ix3 (batch (at_ b r)) (pos (at_ b r)) j) := by
  rw [← V_x]
  show (iblk m c 2 t (ix2 r j) : EReal) = _
  blk_simp [iblk]
  refine congrArg (V m c main_v6) ?_
  funext a
  apply Fin.ext
  match a with
  | ⟨0, _⟩ => blk_simp [index_x]; show (t.val - 1) * 512 + r.val = 512 * b.val + r.val; omega
  | ⟨1, _⟩ => blk_simp [index_x]

theorem a_read (b : Fin 16) (h : t.val = b.val + 1) (r : Fin 512) (j : Fin 768) :
    ((envAt m c t).a (ix2 r j) : EReal) = (args m c).a (ix3 (batch (at_ b r)) (pos (at_ b r)) j) := by
  rw [← V_a]
  show (iblk m c 3 t (ix2 r j) : EReal) = _
  blk_simp [iblk]
  refine congrArg (V m c main_v8) ?_
  funext a
  apply Fin.ext
  match a with
  | ⟨0, _⟩ => blk_simp [index_a]; show (t.val - 1) * 512 + r.val = 512 * b.val + r.val; omega
  | ⟨1, _⟩ => blk_simp [index_a]

theorem s_read (b : Fin 16) (h : t.val = b.val + 1) (r : Fin 512) (j : Fin 768) :
    ((envAt m c t).s (ix2 r j) : EReal) = (args m c).s (ix3 (batch (at_ b r)) (pos (at_ b r)) j) := by
  rw [← V_s]
  show (iblk m c 4 t (ix2 r j) : EReal) = _
  blk_simp [iblk]
  refine congrArg (V m c main_v10) ?_
  funext a
  apply Fin.ext
  match a with
  | ⟨0, _⟩ => blk_simp [index_s]; show (t.val - 1) * 512 + r.val = 512 * b.val + r.val; omega
  | ⟨1, _⟩ => blk_simp [index_s]

theorem wd_read (k : Fin 31) (d : Fin 512) : ((envAt m c t).wd (ix3 0 ⟨k.val, by omega⟩ d) : EReal) = (args m c).wd (ix3 1 k d) := by
  rw [← V_wd]
  show (iblk m c 5 t (ix3 0 ⟨k.val, by omega⟩ d) : EReal) = _
  blk_simp [iblk]
  refine congrArg (V m c main_v0) ?_
  funext a
  apply Fin.ext
  match a with
  | ⟨0, _⟩ => blk_simp [index_wd]; rfl
  | ⟨1, _⟩ => blk_simp [index_wd]
  | ⟨2, _⟩ => blk_simp [index_wd]

theorem bd_read (d : Fin 512) : ((envAt m c t).bd (ix2 1 d) : EReal) = (args m c).bd (ix2 1 d) := by
  rw [show ((args m c).bd (ix2 1 d) : EReal) = V m c main_arg6 (ix2 1 d) from (congrFun (V_main_arg6 m c) _).symm]
  show (iblk m c 6 t (ix2 1 d) : EReal) = _
  blk_simp [iblk]
  refine congrArg (V m c main_arg6) ?_
  funext a
  apply Fin.ext
  match a with
  | ⟨0, _⟩ => blk_simp [index_bd]
  | ⟨1, _⟩ => blk_simp [index_bd]

theorem lg_read (d : Fin 512) : ((envAt m c t).lg (ix2 1 d) : EReal) = (args m c).lg (ix2 1 d) := by
  rw [show ((args m c).lg (ix2 1 d) : EReal) = V m c main_arg7 (ix2 1 d) from (congrFun (V_main_arg7 m c) _).symm]
  show (iblk m c 7 t (ix2 1 d) : EReal) = _
  blk_simp [iblk]
  refine congrArg (V m c main_arg7) ?_
  funext a
  apply Fin.ext
  match a with
  | ⟨0, _⟩ => blk_simp [index_lg]
  | ⟨1, _⟩ => blk_simp [index_lg]

theorem lb_read (d : Fin 512) : ((envAt m c t).lb (ix2 1 d) : EReal) = (args m c).lb (ix2 1 d) := by
  rw [show ((args m c).lb (ix2 1 d) : EReal) = V m c main_arg8 (ix2 1 d) from (congrFun (V_main_arg8 m c) _).symm]
  show (iblk m c 8 t (ix2 1 d) : EReal) = _
  blk_simp [iblk]
  refine congrArg (V m c main_arg8) ?_
  funext a
  apply Fin.ext
  match a with
  | ⟨0, _⟩ => blk_simp [index_lb]
  | ⟨1, _⟩ => blk_simp [index_lb]

theorem wp_read (k e : Fin 512) : ((envAt m c t).wp (ix3 0 k e) : EReal) = (args m c).wp (ix3 1 k e) := by
  rw [← V_wp]
  show (iblk m c 9 t (ix3 0 k e) : EReal) = _
  blk_simp [iblk]
  refine congrArg (V m c main_v11) ?_
  funext a
  apply Fin.ext
  match a with
  | ⟨0, _⟩ => blk_simp [index_wp]; rfl
  | ⟨1, _⟩ => blk_simp [index_wp]
  | ⟨2, _⟩ => blk_simp [index_wp]

theorem w_read (k e : Fin 2048) : ((envAt m c t).w (ix4 0 (pcOf e) k (inPc e)) : EReal) = (args m c).w (ix3 1 k e) := by
  rw [← V_w]
  show (iblk m c 10 t (ix4 0 (pcOf e) k (inPc e)) : EReal) = _
  blk_simp [iblk]
  refine congrArg (V m c main_v3) ?_
  funext a
  apply Fin.ext
  match a with
  | ⟨0, _⟩ => blk_simp [index_w]; rfl
  | ⟨1, _⟩ => blk_simp [index_w]
  | ⟨2, _⟩ => blk_simp [index_w]
  | ⟨3, _⟩ => blk_simp [index_w]

/-! ## The rows the taps meet -/

theorem glu_at (b : Fin 16) (h : t.val = b.val) (r d : Fin 512) : (gluOf (envAt m c t) (ix2 r d) : EReal) = (args m c).glu d (at_ b r) := by
  refine (glu_read _ r d).trans ?_
  unfold Args.glu
  exact congrArg₂ (fun a b : EReal => a * Cert.Conv.sig b) (u_read m c t b h r _) (u_read m c t b h r _)

theorem pt_lt (n : ℕ) (h : n < 17) : (pt n).val = n := Nat.mod_eq_of_lt h

/-- The rows before a block's: zero at a batch's first block, otherwise the last of the block before. -/
theorem head_zero (n : ℕ) (h : n % 8 = 0) (y : S32x512.Idx) : (headAt m c n y : EReal) = 0 := by
  unfold headAt
  rw [if_pos h]
  exact Ideal.ofBits_zero_f32

theorem head_tail (b b' : Fin 16) (hb : b.val = b'.val + 1) (h : b.val % 8 ≠ 0) (r : Fin 32) (d : Fin 512) :
    (headAt m c b.val (ix2 r d) : EReal) = (args m c).glu d (at_ b' ⟨480 + r.val, by omega⟩) := by
  unfold headAt tailOf
  rw [if_neg h]
  refine (window_at _ _ _ _ _ (ix2 ⟨480 + r.val, by omega⟩ d) fun a => ?_).trans
    (glu_at m c (pt (b.val - 1)) b' ((pt_lt _ (by omega)).trans (by omega)) _ d)
  match a with
  | ⟨0, _⟩ => rfl
  | ⟨1, _⟩ => show d.val = 0 + d.val; omega

theorem rows_met (b : Fin 16) (h : t.val = b.val) (r : Fin 512) (k : Fin 31) (d : Fin 512) :
    (hOf (envAt m c t) (headAt m c b.val) (ix2 ⟨r.val + (2 + k.val), by omega⟩ d) : EReal)
      = back ((args m c).glu d) (at_ b r) k := by
  have hb := b.isLt
  have hr := r.isLt
  have hk := k.isLt
  unfold hOf back
  by_cases h1 : r.val + (2 + k.val) < 32
  · rw [dif_pos (show ((ix2 (⟨r.val + (2 + k.val), by omega⟩ : Fin 544) d : S544x512.Idx) 0).val < 32 from h1)]
    by_cases h2 : b.val % 8 = 0
    · rw [if_pos (by show (512 * b.val + r.val) % 4096 + k.val < 30; omega)]
      exact head_zero m c b.val h2 _
    · rw [if_neg (by show ¬ ((512 * b.val + r.val) % 4096 + k.val < 30); omega)]
      refine (head_tail m c b ⟨b.val - 1, by omega⟩ (by show b.val = b.val - 1 + 1; omega) h2 ⟨r.val + (2 + k.val), h1⟩ d).trans
        (congrArg ((args m c).glu d) (Fin.ext ?_))
      show 512 * (b.val - 1) + (480 + (r.val + (2 + k.val))) = 512 * b.val + r.val + k.val - 30
      omega
  · rw [dif_neg (show ¬ ((ix2 (⟨r.val + (2 + k.val), by omega⟩ : Fin 544) d : S544x512.Idx) 0).val < 32 from h1),
      if_neg (by show ¬ ((512 * b.val + r.val) % 4096 + k.val < 30); omega)]
    refine (glu_at m c t b h ⟨r.val + (2 + k.val) - 32, by omega⟩ d).trans (congrArg ((args m c).glu d) (Fin.ext ?_))
    show 512 * b.val + (r.val + (2 + k.val) - 32) = 512 * b.val + r.val + k.val - 30
    omega

/-! ## The result -/

/-- The block a point leaves for the next. -/
theorem branch_read (b : Fin 16) (r e : Fin 512) : (ocAt m c (b.val + 1) (ix2 r e) : EReal) = (args m c).branch (at_ b r) e := by
  have h : (pt b.val).val = b.val := pt_lt _ (by omega)
  have e1 : ocAt m c (b.val + 1) = ocNext (envAt m c (pt b.val)) (headAt m c b.val) := if_neg (Nat.succ_ne_zero _)
  rw [e1]
  unfold ocNext Args.branch
  refine (fin_read _ _ r e).trans ?_
  refine congr (congr (congr (congr (congrArg Cert.Conv.mixed (funext fun d => ?_)) (funext fun d => lg_read m c _ d)) (funext fun d => lb_read m c _ d))
    (funext fun d => wp_read m c _ d e)) (gc_read m c _ b h r e)
  refine (y_read _ _ r d).trans ?_
  unfold Args.conv
  exact congr (congr (congrArg Cert.Conv.taps (bd_read m c _ d)) (funext fun k => wd_read m c _ k d)) (funext fun k => rows_met m c _ b h r k d)

theorem entry_read (b : Fin 16) (h : t.val = b.val + 1) (r : Fin 512) (e : Fin 2048) :
    (outOf (envAt m c t) (ocAt m c t.val) (ix2 r e) : EReal) = (args m c).entry (at_ b r) e := by
  rw [h]
  refine (out_read _ _ r e).trans ?_
  unfold Args.entry
  rw [Cert.Conv.side_sum]
  refine congrArg₂ (fun a b : EReal => a + b) (x_read m c t b h r e) (congrArg₂ (fun a b : EReal => a + b) (congrArg₂ (fun a b : EReal => a + b) ?_ ?_) ?_)
  · exact Finset.sum_congr rfl fun k _ => congrArg₂ (fun a b : EReal => a * b) (branch_read m c b r k) (w_read m c t _ e)
  · exact Finset.sum_congr rfl fun k _ => congrArg₂ (fun a b : EReal => a * b) (a_read m c t b h r k) (w_read m c t _ e)
  · exact Finset.sum_congr rfl fun k _ => congrArg₂ (fun a b : EReal => a * b) (s_read m c t b h r k) (w_read m c t _ e)

theorem flushed_after : ∀ t : Fin cfg0.N, (cfg0.win 11).flush t = true → 1 ≤ t.val :=
  (by decide +kernel : ∀ t : Fin grid0.N, win0_11.flush t = true → 1 ≤ t.val)

theorem res_eq : res m c = (args m c).want := by
  refine (dats m 0 c).arrAt_eq_of_covers 11 _ (by decide +kernel) fun t hf y => ?_
  have h1 := flushed_after t hf
  have h2 : t.val < 17 := t.isLt
  blk_simp
  obtain ⟨r, e, rfl⟩ : ∃ (r : Fin 512) (e : Fin 2048), y = ix2 r e := ⟨y 0, y 1, by funext a; match a with | ⟨0, _⟩ => rfl | ⟨1, _⟩ => rfl⟩
  refine (entry_read m c t ⟨t.val - 1, by omega⟩ (by show t.val = t.val - 1 + 1; omega) r e).trans ?_
  refine congrArg (args m c).want (?_ : ix2 (at_ ⟨t.val - 1, by omega⟩ r) e = _)
  funext a
  apply Fin.ext
  match a with
  | ⟨0, _⟩ => blk_simp [index_o]; show 512 * (t.val - 1) + r.val = (t.val - 1) * 512 + r.val; omega
  | ⟨1, _⟩ => blk_simp [index_o]

end Cert.ConvOutIdeal.Conv

end
-- ==== Proof.ConvRef.lean ====
/-
  The convolution and output projection's reference, element by element.
-/
module

public import proofs.«01_k».proof.Proof.Gen.ConvOutReferenceIdeal.Run
public import proofs.«01_k».proof.Proof.ConvSpec
public import Idealize.ShloMosaic.Lib.Pipeline.Value
public import Idealize.ShloMosaic.Lib.ValueIdxCore
public import Idealize.ShloMosaic.Lib.KernelVsHost
public import Idealize.ShloMosaic.Lib.IdealHost
public import Idealize.ShloMosaic.Lib.MatmulPlain

@[expose] public section

noncomputable section

namespace Cert.ConvOutReferenceIdeal.Conv

open Idealize.ShloMosaic Idealize.ShloMosaic.TcCoe Cert.ConvOutReferenceIdeal Cert.ConvOutReferenceIdeal.Gen Cert.Conv
open Cert.ConvOutReferenceIdeal.Value (res_main_v10 res_main_v13 res_main_v91 res_main_v175 res_main_v234 res_main_v242 res_main_v244 res_main_v262)
open ValueIdx

variable (V0 : Valuation τ sig (Elt Ideal))

/-- The arguments. -/
def args : Args where
  x := V0 (Proc.devRef .tc main_arg0)
  u := V0 (Proc.devRef .tc main_arg1)
  gc := V0 (Proc.devRef .tc main_arg2)
  a := V0 (Proc.devRef .tc main_arg3)
  s := V0 (Proc.devRef .tc main_arg4)
  wd := V0 (Proc.devRef .tc main_arg5)
  bd := V0 (Proc.devRef .tc main_arg6)
  lg := V0 (Proc.devRef .tc main_arg7)
  lb := V0 (Proc.devRef .tc main_arg8)
  wp := V0 (Proc.devRef .tc main_arg9)
  w := V0 (Proc.devRef .tc main_arg10)

/-! ## Pieces read at an element -/

/-- One over one plus the exponential of the negated. -/
def sigR (x : FVec Ideal S2x4096x512 .f32) : FVec Ideal S2x4096x512 .f32 :=
  Host.divf (broadcastInDim S2x4096x512 ![] bcast_S_S2x4096x512 (constant S_ .f32 0x3F800000#32))
    (addf (broadcastInDim S2x4096x512 ![] bcast_S_S2x4096x512 (constant S_ .f32 0x3F800000#32)) (Host.exp (Host.negf x)))

theorem sigR_read (x : FVec Ideal S2x4096x512 .f32) (y : S2x4096x512.Idx) : (sigR x y : EReal) = Cert.Conv.sig (x y) := by
  show Ideal.div (Ideal.ofBits .f32 0x3F800000#32) (Ideal.ofBits .f32 0x3F800000#32 + Ideal.exp (-(x y : EReal))) = _
  rw [Ideal.ofBits_one_f32]
  rfl

/-- A row of 512 for every row of the batches. -/
theorem spread_read (g : FVec Ideal S512 .f32) (b : Fin 2) (s : Fin 4096) (d : Fin 512) :
    (broadcastInDim S2x4096x512 ![0, 1, 2] bcast_S1x1x512_S2x4096x512_0_1_2 (broadcastInDim S1x1x512 ![2] bcast_S512_S1x1x512_2 g) (ix3 b s d) : EReal)
      = g (ix1 d) := by
  refine (broadcastInDim_apply _ _ _ _ (ix3 0 0 d) fun a => ?_).trans (broadcastInDim_apply _ _ _ _ (ix1 d) fun a => ?_)
  · match a with
    | ⟨0, _⟩ => rfl
    | ⟨1, _⟩ => rfl
    | ⟨2, _⟩ => rfl
  · match a with
    | ⟨0, _⟩ => rfl

/-- A row of an array of rows. -/
theorem line_read {n : ℕ} (g : FVec Ideal ⟨2, ![n, 512]⟩ .f32) (k : Fin n) (hs : (⟨2, ![n, 512]⟩ : Shape).Slices ![k.val, 0] S1x512) (d : Fin 512) :
    (shapeCast S512 (extractStridedSlice S1x512 ![k.val, 0] g hs) shapeCasts_S1x512_S512 (ix1 d) : EReal) = g (ix2 k d) := by
  refine (shapeCast_apply _ _ _ (ix2 0 d) ?_).trans (extractStridedSlice_apply _ _ _ _ (ix2 k d) fun a => ?_)
  · rw [Shape.rowMajor_val_two, Shape.rowMajor_val_one]
    show 0 * 512 + d.val = d.val
    omega
  · match a with
    | ⟨0, _⟩ => rfl
    | ⟨1, _⟩ => show d.val = 0 + d.val; omega

/-- The second of two rows, for every row of the batches. -/
theorem second_read (g : FVec Ideal S2x512 .f32) (b : Fin 2) (s : Fin 4096) (d : Fin 512) :
    (broadcastInDim S2x4096x512 ![0, 1, 2] bcast_S1x1x512_S2x4096x512_0_1_2 (broadcastInDim S1x1x512 ![2] bcast_S512_S1x1x512_2
      (shapeCast S512 (extractStridedSlice S1x512 ![1, 0] g slices_S2x512_S1x512_1_0) shapeCasts_S1x512_S512)) (ix3 b s d) : EReal)
      = g (ix2 1 d) :=
  (spread_read _ b s d).trans (line_read (n := 2) g 1 slices_S2x512_S1x512_1_0 d)

/-! ## The convolution -/

theorem v10_read (k : Fin 31) (d : Fin 512) : (res_main_v10 V0 (ix2 k d) : EReal) = (args V0).wd (ix3 1 k d) := by
  unfold res_main_v10
  refine (shapeCast_apply _ _ _ (ix3 0 k d) ?_).trans (extractStridedSlice_apply _ _ _ _ (ix3 1 k d) fun a => ?_)
  · show (S1x31x512.rowMajor (ix3 0 k d)).val = (S31x512.rowMajor (ix2 k d)).val
    rw [Shape.rowMajor_val_three, Shape.rowMajor_val_two]
    show (0 * 31 + k.val) * 512 + d.val = k.val * 512 + d.val
    omega
  · match a with
    | ⟨0, _⟩ => rfl
    | ⟨1, _⟩ => show k.val = 0 + k.val; omega
    | ⟨2, _⟩ => show d.val = 0 + d.val; omega

/-- The gated rows. -/
def gluR : FVec Ideal S2x4096x512 .f32 :=
  mulf (extractStridedSlice S2x4096x512 ![0, 0, 0] (args V0).u slices_S2x4096x1024_S2x4096x512_0_0_0)
    (sigR (extractStridedSlice S2x4096x512 ![0, 0, 512] (args V0).u slices_S2x4096x1024_S2x4096x512_0_0_512))

theorem gluR_read (i : Fin 8192) (d : Fin 512) : (gluR V0 (ix3 (batch i) (pos i) d) : EReal) = (args V0).glu d i := by
  unfold gluR Args.glu
  rw [mulf_apply]
  refine congrArg₂ (fun a b : EReal => a * b) ?_ ((sigR_read _ _).trans (congrArg Cert.Conv.sig ?_))
  · refine extractStridedSlice_apply _ _ _ _ (ix3 (batch i) (pos i) ⟨d.val, by omega⟩) fun a => ?_
    match a with
    | ⟨0, _⟩ => show (batch i).val = 0 + (batch i).val; omega
    | ⟨1, _⟩ => show (pos i).val = 0 + (pos i).val; omega
    | ⟨2, _⟩ => show d.val = 0 + d.val; omega
  · refine extractStridedSlice_apply _ _ _ _ (ix3 (batch i) (pos i) ⟨512 + d.val, by omega⟩) fun a => ?_
    match a with
    | ⟨0, _⟩ => show (batch i).val = 0 + (batch i).val; omega
    | ⟨1, _⟩ => show (pos i).val = 0 + (pos i).val; omega
    | ⟨2, _⟩ => rfl

theorem v13_read (i : Fin 8192) (k : Fin 31) (d : Fin 512) :
    (res_main_v13 V0 (ix3 (batch i) ⟨(pos i).val + k.val, by omega⟩ d) : EReal) = back ((args V0).glu d) i k := by
  have e : res_main_v13 V0 = pad S2x4126x512 ![0, 30, 0] ![0, 0, 0] ![0, 0, 0] (gluR V0) (sitofp .f32 (constantI S_ 32 0#32))
      pads_S2x4096x512_S2x4126x512_000_3000_000 h_S_ := rfl
  rw [e]
  unfold back
  by_cases h : i.val % 4096 + k.val < 30
  · rw [if_pos h]
    refine (pad_apply_of_not_inside _ _ _ _ _ _ _ _ 1 fun hn => ?_).trans ?_
    · have : 30 ≤ i.val % 4096 + k.val := hn.1
      omega
    · show ((((0#32 : BitVec 32).toInt : ℝ)) : EReal) = 0
      norm_num
  · rw [if_neg h]
    have hk := k.isLt
    have hi := i.isLt
    have hb : (batch ⟨i.val + k.val - 30, by omega⟩).val = (batch i).val := by show (i.val + k.val - 30) / 4096 = i.val / 4096; omega
    have hp : (pos ⟨i.val + k.val - 30, by omega⟩).val + 30 = (pos i).val + k.val := by
      show (i.val + k.val - 30) % 4096 + 30 = i.val % 4096 + k.val
      omega
    refine (pad_apply_of_inside _ _ _ _ _ _ _ _ (ix3 (batch ⟨i.val + k.val - 30, by omega⟩) (pos ⟨i.val + k.val - 30, by omega⟩) d) fun a => ?_).trans
      (gluR_read V0 _ d)
    match a with
    | ⟨0, _⟩ => show (batch i).val = 0 + (batch ⟨i.val + k.val - 30, by omega⟩).val * 1; omega
    | ⟨1, _⟩ => show (pos i).val + k.val = 30 + (pos ⟨i.val + k.val - 30, by omega⟩).val * 1; omega
    | ⟨2, _⟩ => show d.val = 0 + d.val * 1; omega

theorem slP (k : Fin 31) : S2x4126x512.Slices ![0, k.val, 0] S2x4096x512 := by revert k; decide
theorem slW (k : Fin 31) : S31x512.Slices ![k.val, 0] S1x512 := by revert k; decide

/-- One tap's product. -/
def tapR (k : Fin 31) : FVec Ideal S2x4096x512 .f32 :=
  mulf (extractStridedSlice S2x4096x512 ![0, k.val, 0] (res_main_v13 V0) (slP k))
    (broadcastInDim S2x4096x512 ![0, 1, 2] bcast_S1x1x512_S2x4096x512_0_1_2 (broadcastInDim S1x1x512 ![2] bcast_S512_S1x1x512_2
      (shapeCast S512 (extractStridedSlice S1x512 ![k.val, 0] (res_main_v10 V0) (slW k)) shapeCasts_S1x512_S512)))

theorem tapR_read (k : Fin 31) (i : Fin 8192) (d : Fin 512) :
    (tapR V0 k (ix3 (batch i) (pos i) d) : EReal) = (args V0).wd (ix3 1 k d) * back ((args V0).glu d) i k := by
  unfold tapR
  rw [mulf_apply]
  refine (congrArg₂ (fun a b : EReal => a * b) ?_ ?_).trans (mul_comm _ _)
  · refine (extractStridedSlice_apply _ _ _ _ (ix3 (batch i) ⟨(pos i).val + k.val, by omega⟩ d) fun a => ?_).trans (v13_read V0 i k d)
    match a with
    | ⟨0, _⟩ => show (batch i).val = 0 + (batch i).val; omega
    | ⟨1, _⟩ => show (pos i).val + k.val = k.val + (pos i).val; omega
    | ⟨2, _⟩ => show d.val = 0 + d.val; omega
  · exact (spread_read _ _ _ d).trans ((line_read (n := 31) _ k (slW k) d).trans (v10_read V0 k d))

theorem v234_eq : res_main_v234 V0 = addf
    (([0, 1, 2, 3, 4, 5, 6, 7, 8, 9, 10, 11, 12, 13, 14, 15, 16, 17, 18, 19, 20, 21, 22, 23, 24, 25, 26, 27, 28, 29, 30] : List (Fin 31)).foldl
      (fun acc k => addf acc (tapR V0 k)) (broadcastInDim S2x4096x512 ![] bcast_S_S2x4096x512 (constant S_ .f32 0x00000000#32)))
    (broadcastInDim S2x4096x512 ![0, 1, 2] bcast_S1x1x512_S2x4096x512_0_1_2 (broadcastInDim S1x1x512 ![2] bcast_S512_S1x1x512_2
      (shapeCast S512 (extractStridedSlice S1x512 ![1, 0] (args V0).bd slices_S2x512_S1x512_1_0) shapeCasts_S1x512_S512))) := by
  unfold res_main_v234 res_main_v175 res_main_v91
  simp only [List.foldl_cons, List.foldl_nil]
  rfl

theorem v234_read (i : Fin 8192) (d : Fin 512) : (res_main_v234 V0 (ix3 (batch i) (pos i) d) : EReal) = (args V0).conv i d := by
  rw [v234_eq]
  unfold Args.conv taps
  refine Eq.trans ?_ (add_comm (G := EReal) _ _)
  refine congrArg₂ (fun a b : EReal => a + b) ?_ (second_read _ _ _ d)
  refine (foldl_read _ _ _ _).trans ?_
  rw [sum_taps]
  refine (congrArg (fun a : EReal => a + _) Ideal.ofBits_zero_f32).trans ((zero_add _).trans ?_)
  exact Finset.sum_congr rfl fun k _ => tapR_read V0 k i d

/-! ## The normalised rows -/

theorem red2 : S2x4096x512.Reduces [2] S2x4096 := by decide

theorem lift2 {A B C : ℕ} (hd : (⟨3, ![A, B, C]⟩ : Shape).Reduces [2] ⟨2, ![A, B]⟩) (b : Fin A) (s : Fin B) (j : Fin C) :
    hd.lift (ix2 b s) j = ix3 b s j := by
  funext a
  match a with
  | ⟨0, _⟩ => rfl
  | ⟨1, _⟩ => rfl
  | ⟨2, _⟩ => rfl

/-- The sum over the last axis, from zero. -/
theorem sum_last {A B C : ℕ} (z : FVec Ideal ⟨3, ![A, B, C]⟩ .f32) (i : S_.Idx → Ideal .f32) (hu : 0 < S_.numel) (hi : ∀ u, i u = (0 : EReal))
    (h' : (⟨3, ![A, B, C]⟩ : Shape).ReducesTo [2] ⟨2, ![A, B]⟩) (hd : (⟨3, ![A, B, C]⟩ : Shape).Reduces [2] ⟨2, ![A, B]⟩)
    (b : Fin A) (s : Fin B) :
    (Host.reduceAdd z i h' hu (ix2 b s) : Ideal .f32) = ∑ j : Fin C, (z (ix3 b s j) : EReal) := by
  rw [hostReduceAdd_apply, Ideal.hostReduceAdd_single _ hd, hi]
  exact (zero_add _).trans (Finset.sum_congr rfl fun j _ => congrArg z (lift2 hd b s j))

/-- Each row's mean. -/
def meanR (z : FVec Ideal S2x4096x512 .f32) : FVec Ideal S2x4096x1 .f32 :=
  Host.divf (broadcastInDim S2x4096x1 ![0, 1] bcast_S2x4096_S2x4096x1_0_1 (Host.reduceAdd z (constant S_ .f32 0x00000000#32)
    reducesTo_S2x4096x512_S2x4096_d2 h_S_)) (broadcastInDim S2x4096x1 ![] bcast_S_S2x4096x1 (constant S_ .f32 0x44000000#32))

theorem meanR_read (z : FVec Ideal S2x4096x512 .f32) (b : Fin 2) (s : Fin 4096) :
    (meanR z (ix3 b s 0) : EReal) = mean fun k => z (ix3 b s k) := by
  unfold meanR mean
  rw [hostDivf_apply]
  refine congrArg (fun a : EReal => Ideal.div a (Ideal.ofBits .f32 0x44000000#32)) ?_
  refine (broadcastInDim_apply _ _ _ _ (ix2 b s) fun a => ?_).trans ?_
  · match a with
    | ⟨0, _⟩ => rfl
    | ⟨1, _⟩ => rfl
  exact sum_last z (constant S_ .f32 0x00000000#32) h_S_ (fun _ => Ideal.ofBits_zero_f32) reducesTo_S2x4096x512_S2x4096_d2 red2 b s

/-- A column for every element of a row. -/
theorem col_read (z : FVec Ideal S2x4096x1 .f32) (b : Fin 2) (s : Fin 4096) (d : Fin 512) :
    (broadcastInDim S2x4096x512 ![0, 1, 2] bcast_S2x4096x1_S2x4096x512_0_1_2 z (ix3 b s d) : EReal) = z (ix3 b s 0) := by
  refine broadcastInDim_apply _ _ _ _ (ix3 b s 0) fun a => ?_
  match a with
  | ⟨0, _⟩ => rfl
  | ⟨1, _⟩ => rfl
  | ⟨2, _⟩ => rfl

theorem v244_read (i : Fin 8192) (d : Fin 512) :
    (res_main_v244 V0 (ix3 (batch i) (pos i) d) : EReal) = (args V0).conv i d - mean ((args V0).conv i) := by
  have e : res_main_v244 V0 = subf (res_main_v234 V0) (broadcastInDim S2x4096x512 ![0, 1, 2] bcast_S2x4096x1_S2x4096x512_0_1_2 (meanR (res_main_v234 V0))) := rfl
  rw [e]
  refine congrArg₂ (fun a b : EReal => a - b) (v234_read V0 i d) ((col_read _ _ _ d).trans ((meanR_read _ _ _).trans (congrArg mean ?_)))
  exact funext fun k => v234_read V0 i k

theorem v262_read (i : Fin 8192) (d : Fin 512) : (res_main_v262 V0 (ix3 (batch i) (pos i) d) : EReal)
    = normed ((args V0).conv i) (fun d => (args V0).lg (ix2 1 d)) (fun d => (args V0).lb (ix2 1 d)) d := by
  have e : res_main_v262 V0 = addf (mulf (mulf (res_main_v244 V0) (broadcastInDim S2x4096x512 ![0, 1, 2] bcast_S2x4096x1_S2x4096x512_0_1_2
      (Host.rsqrt (addf (meanR (mulf (res_main_v244 V0) (res_main_v244 V0))) (broadcastInDim S2x4096x1 ![] bcast_S_S2x4096x1 (constant S_ .f32 0x3727C5AC#32))))))
      (broadcastInDim S2x4096x512 ![0, 1, 2] bcast_S1x1x512_S2x4096x512_0_1_2 (broadcastInDim S1x1x512 ![2] bcast_S512_S1x1x512_2
        (shapeCast S512 (extractStridedSlice S1x512 ![1, 0] (args V0).lg slices_S2x512_S1x512_1_0) shapeCasts_S1x512_S512))))
      (broadcastInDim S2x4096x512 ![0, 1, 2] bcast_S1x1x512_S2x4096x512_0_1_2 (broadcastInDim S1x1x512 ![2] bcast_S512_S1x1x512_2
        (shapeCast S512 (extractStridedSlice S1x512 ![1, 0] (args V0).lb slices_S2x512_S1x512_1_0) shapeCasts_S1x512_S512))) := rfl
  rw [e]
  unfold normed
  refine congrArg₂ (fun a b : EReal => a + b) (congrArg₂ (fun a b : EReal => a * b) (congrArg₂ (fun a b : EReal => a * b) (v244_read V0 i d)
    ((col_read _ _ _ d).trans (congrArg (fun a : EReal => Ideal.rsqrt (a + Ideal.ofBits .f32 0x3727C5AC#32)) ((meanR_read _ _ _).trans (congrArg mean ?_)))))
    (second_read _ _ _ d)) (second_read _ _ _ d)
  exact funext fun k => congrArg₂ (fun a b : EReal => a * b) (v244_read V0 i k) (v244_read V0 i k)

/-! ## The branch and the result -/

/-- The weights of the second layer. -/
theorem plane_read {n k : ℕ} (w : FVec Ideal ⟨3, ![2, n, k]⟩ .f32) (hs : (⟨3, ![2, n, k]⟩ : Shape).Slices ![1, 0, 0] ⟨3, ![1, n, k]⟩)
    (hc : (⟨3, ![1, n, k]⟩ : Shape).ShapeCasts ⟨2, ![n, k]⟩) (i : Fin n) (j : Fin k) :
    (shapeCast ⟨2, ![n, k]⟩ (extractStridedSlice ⟨3, ![1, n, k]⟩ ![1, 0, 0] w hs) hc (ix2 i j) : EReal) = w (ix3 1 i j) := by
  refine (shapeCast_apply _ _ _ (ix3 0 i j) ?_).trans (extractStridedSlice_apply _ _ _ _ (ix3 1 i j) fun a => ?_)
  · rw [Shape.rowMajor_val_three, Shape.rowMajor_val_two]
    show (0 * n + i.val) * k + j.val = i.val * k + j.val
    rw [Nat.zero_mul, Nat.zero_add]
  · match a with
    | ⟨0, _⟩ => rfl
    | ⟨1, _⟩ => show i.val = 0 + i.val; omega
    | ⟨2, _⟩ => show j.val = 0 + j.val; omega

/-- The convolution's branch. -/
def branchR : FVec Ideal S2x4096x512 .f32 :=
  mulf (Host.dotGeneral (φ₂ := .f32) dot_S2x4096x512_S512x512_S2x4096x512_2_0_01_1_n_n none (mulf (res_main_v262 V0) (sigR (res_main_v262 V0)))
      (shapeCast S512x512 (extractStridedSlice S1x512x512 ![1, 0, 0] ((args V0).wp : FVec Ideal S2x512x512 .f32) slices_S2x512x512_S1x512x512_1_0_0) shapeCasts_S1x512x512_S512x512))
    (mulf (args V0).gc (sigR (args V0).gc))

theorem branchR_read (i : Fin 8192) (e : Fin 512) : (branchR V0 (ix3 (batch i) (pos i) e) : EReal) = (args V0).branch i e := by
  unfold branchR Args.branch mixed
  rw [mulf_apply, mulf_apply]
  refine congrArg₂ (fun a b : EReal => a * b) ?_ (congrArg (fun a : EReal => _ * a) (sigR_read _ _))
  have hr : dot_S2x4096x512_S512x512_S2x4096x512_2_0_01_1_n_n.contr.rank = 1 := rfl
  have hs : dot_S2x4096x512_S512x512_S2x4096x512_2_0_01_1_n_n.contr.size ⟨0, by rw [hr]; exact Nat.one_pos⟩ = 512 := rfl
  refine (Ideal.dotGeneral_apply _ _ _ _ _ _).trans ?_
  rw [← Equiv.sum_comp (contrEquiv1 _ 512 hr hs).symm]
  refine Finset.sum_congr rfl fun d _ => ?_
  have hk := contrEquiv1_symm_val _ 512 hr hs d
  refine congrArg₂ (fun x y : EReal => x * y) ((congrArg (mulf (res_main_v262 V0) (sigR (res_main_v262 V0))) (?_ : _ = ix3 (batch i) (pos i) d)).trans ?_)
    ((congrArg _ (?_ : _ = ix2 d e)).trans (plane_read (n := 512) (k := 512) _ slices_S2x512x512_S1x512x512_1_0_0 shapeCasts_S1x512x512_S512x512 d e))
  · funext a; apply Fin.ext
    match a with
    | ⟨0, _⟩ => rfl
    | ⟨1, _⟩ => rfl
    | ⟨2, _⟩ => exact hk
  · rw [mulf_apply, sigR_read]
    exact congrArg silu (v262_read V0 i d)
  · funext a; apply Fin.ext
    match a with
    | ⟨0, _⟩ => exact hk
    | ⟨1, _⟩ => rfl

/-- The three branches side by side. -/
def sideR : FVec Ideal S2x4096x2048 .f32 :=
  concatenate S2x4096x2048 2 [⟨S2x4096x768, ((args V0).a : (⟨S2x4096x768, .f32⟩ : BufTy).Contents (Elt Ideal))⟩,
    ⟨S2x4096x512, (branchR V0 : (⟨S2x4096x512, .f32⟩ : BufTy).Contents (Elt Ideal))⟩,
    ⟨S2x4096x768, ((args V0).s : (⟨S2x4096x768, .f32⟩ : BufTy).Contents (Elt Ideal))⟩]
    concatenates_S2x4096x768_S2x4096x512_S2x4096x768_S2x4096x2048_d2

theorem sideR_read (i : Fin 8192) (k : Fin 2048) : (sideR V0 (ix3 (batch i) (pos i) k) : EReal)
    = side (fun k => (args V0).a (ix3 (batch i) (pos i) k)) ((args V0).branch i) (fun k => (args V0).s (ix3 (batch i) (pos i) k)) k := by
  unfold sideR side
  by_cases h1 : k.val < 768
  · rw [dif_pos h1]
    refine concatenate_apply_piece 2 _ (by exact concatenates_S2x4096x768_S2x4096x512_S2x4096x768_S2x4096x2048_d2) (ix3 (batch i) (pos i) k) 0 (by simp)
      S2x4096x768 _ rfl rfl 0 rfl (ix3 (batch i) (pos i) ⟨k.val, h1⟩) (fun b hb => ?_) ?_
    · match b with
      | ⟨0, _⟩ => rfl
      | ⟨1, _⟩ => rfl
      | ⟨2, _⟩ => exact absurd rfl hb
    · show 0 + k.val = k.val
      omega
  rw [dif_neg h1]
  by_cases h2 : k.val < 1280
  · rw [dif_pos h2]
    refine (concatenate_apply_piece 2 _ (by exact concatenates_S2x4096x768_S2x4096x512_S2x4096x768_S2x4096x2048_d2) (ix3 (batch i) (pos i) k) 1 (by simp)
      S2x4096x512 _ rfl rfl 768 rfl (ix3 (batch i) (pos i) ⟨k.val - 768, by omega⟩) (fun b hb => ?_) ?_).trans (branchR_read V0 i _)
    · match b with
      | ⟨0, _⟩ => rfl
      | ⟨1, _⟩ => rfl
      | ⟨2, _⟩ => exact absurd rfl hb
    · show 768 + (k.val - 768) = k.val
      omega
  · rw [dif_neg h2]
    refine concatenate_apply_piece 2 _ (by exact concatenates_S2x4096x768_S2x4096x512_S2x4096x768_S2x4096x2048_d2) (ix3 (batch i) (pos i) k) 2 (by simp)
      S2x4096x768 _ rfl rfl 1280 rfl (ix3 (batch i) (pos i) ⟨k.val - 1280, by omega⟩) (fun b hb => ?_) ?_
    · match b with
      | ⟨0, _⟩ => rfl
      | ⟨1, _⟩ => rfl
      | ⟨2, _⟩ => exact absurd rfl hb
    · show 1280 + (k.val - 1280) = k.val
      omega

/-- The result. -/
def outR : FVec Ideal S8192x2048 .f32 :=
  shapeCast S8192x2048 (addf ((args V0).x : FVec Ideal S2x4096x2048 .f32) (Host.dotGeneral (φ₂ := .f32) dot_S2x4096x2048_S2048x2048_S2x4096x2048_2_0_01_1_n_n none (sideR V0)
    (shapeCast S2048x2048 (extractStridedSlice S1x2048x2048 ![1, 0, 0] ((args V0).w : FVec Ideal S2x2048x2048 .f32) slices_S2x2048x2048_S1x2048x2048_1_0_0)
      shapeCasts_S1x2048x2048_S2048x2048))) shapeCasts_S2x4096x2048_S8192x2048

theorem outR_eq : outR V0 = (args V0).want := by
  funext y
  obtain ⟨i, e, rfl⟩ : ∃ (i : Fin 8192) (e : Fin 2048), y = ix2 i e := ⟨y 0, y 1, by funext a; match a with | ⟨0, _⟩ => rfl | ⟨1, _⟩ => rfl⟩
  unfold outR
  show _ = (args V0).entry i e
  unfold Args.entry
  refine (shapeCast_apply _ _ _ (ix3 (batch i) (pos i) e) ?_).trans ?_
  · rw [Shape.rowMajor_val_three, Shape.rowMajor_val_two]
    show (i.val / 4096 * 4096 + i.val % 4096) * 2048 + e.val = i.val * 2048 + e.val
    omega
  refine congrArg (fun a : EReal => (args V0).x (ix3 (batch i) (pos i) e) + a) ?_
  have hr : dot_S2x4096x2048_S2048x2048_S2x4096x2048_2_0_01_1_n_n.contr.rank = 1 := rfl
  have hs : dot_S2x4096x2048_S2048x2048_S2x4096x2048_2_0_01_1_n_n.contr.size ⟨0, by rw [hr]; exact Nat.one_pos⟩ = 2048 := rfl
  refine (Ideal.dotGeneral_apply _ _ _ _ _ _).trans ?_
  rw [← Equiv.sum_comp (contrEquiv1 _ 2048 hr hs).symm]
  refine Finset.sum_congr rfl fun d _ => ?_
  have hk := contrEquiv1_symm_val _ 2048 hr hs d
  refine congrArg₂ (fun x y : EReal => x * y) ((congrArg (sideR V0) (?_ : _ = ix3 (batch i) (pos i) d)).trans (sideR_read V0 i d))
    ((congrArg _ (?_ : _ = ix2 d e)).trans (plane_read (n := 2048) (k := 2048) _ slices_S2x2048x2048_S1x2048x2048_1_0_0 shapeCasts_S1x2048x2048_S2048x2048 d e))
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

end Cert.ConvOutReferenceIdeal.Conv

end
-- ==== Proof.lean ====
/-
  The certificate: the attention kernel and its reference run to the end, leave their arguments alone, and from finite
  queries and keys end with the same result; so do, from any arguments, the projection kernel and its reference, and the
  convolution and output projection kernel and its reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal.Run
public import proofs.«01_k».proof.Proof.Gen.InProj
public import proofs.«01_k».proof.Proof.Gen.InProj.Value
public import proofs.«01_k».proof.Proof.Gen.InProjIdeal
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.ConvOut
public import proofs.«01_k».proof.Proof.Gen.ConvOut.Skeleton
public import proofs.«01_k».proof.Proof.Gen.ConvOut.Launch
public import proofs.«01_k».proof.Proof.Gen.ConvOut.Frame
public import proofs.«01_k».proof.Proof.Gen.ConvOut.Points
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Frame
public import proofs.«01_k».proof.Proof.Gen.ConvOutIdeal.Points
public import proofs.«01_k».proof.Proof.Gen.ConvOutReferenceIdeal
public import proofs.«01_k».proof.Proof.Gen.ConvOutReferenceIdeal.Run
public import proofs.«01_k».proof.Proof.FrameBits
public import proofs.«01_k».proof.Proof.Result
public import proofs.«01_k».proof.Proof.Project
public import proofs.«01_k».proof.Proof.ProjectRef
public import proofs.«01_k».proof.Proof.ConvFrames
public import proofs.«01_k».proof.Proof.ConvResult
public import proofs.«01_k».proof.Proof.ConvRef
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal := fun m g _ =>
  (θ_run (Cert.KernelIdeal.defs (F := Ideal)) _ _).mono (fun _ h => ⟨fun c => (h.1 c).2, h.2⟩)
    (Cert.KernelIdeal.Attn.run_frame m g)

theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run m g)

/-- The precondition's side condition. -/
theorem pre_facts : Cert.Pre_finite.Facts where
  bcast_S_S2x4096x6x192 := by decide

theorem frame_ideal_finite : Cert.quiescent_KernelIdeal_pre_finite (hPre_finite := pre_facts) := fun m g _ =>
  (θ_run (Cert.KernelIdeal.defs (F := Ideal)) _ _).mono (fun _ h => ⟨fun c => (h.1 c).2, h.2⟩)
    (Cert.KernelIdeal.Attn.run_frame m g)

theorem frame_reference_finite : Cert.quiescent_ReferenceIdeal_pre_finite (hPre_finite := pre_facts) := fun m g _ =>
  (θ_run (Cert.ReferenceIdeal.defs (F := Ideal)) _ _).mono (fun r h => ⟨fun c => (h c).2, sem_eq_zero_of_no_sems (by decide) r.2⟩)
    (Cert.ReferenceIdeal.Value.run m g)

/-- An extended real below infinity in absolute value is a real. -/
theorem real_of_abs (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  induction x using EReal.rec with
  | bot => exact absurd (lt_of_le_of_lt (le_max_right _ _) hlt) (by simp)
  | top => exact absurd (lt_of_le_of_lt (le_max_left _ _) hlt) (by simp)
  | coe r => exact ⟨r, rfl⟩

theorem value : Cert.algebraic_KernelIdeal_ReferenceIdeal_pre_finite (hPre_finite := pre_facts) := by
  intro m g m' g' hpre hargs
  have hr0 : ∀ c i, ∃ r : ℝ, (Cert.KernelIdeal.Attn.A0 m c i : EReal) = (r : EReal) := fun c i => real_of_abs _ (congrFun (hpre c).1 i)
  have hr1 : ∀ c i, ∃ r : ℝ, (Cert.KernelIdeal.Attn.A1 m c i : EReal) = (r : EReal) := fun c i => real_of_abs _ (congrFun (hpre c).2 i)
  choose a0 h0 using hr0
  choose a1 h1 using hr1
  refine ⟨fun c => Cert.KernelIdeal.Attn.res m c, ?_, ?_⟩
  · exact (θ_run (Cert.KernelIdeal.defs (F := Ideal)) _ _).mono (fun _ h => h.1) (Cert.KernelIdeal.Attn.run_frame m g)
  · refine (θ_run (Cert.ReferenceIdeal.defs (F := Ideal)) _ _).mono (fun r h c => ⟨(h c).1.trans ?_, (h c).2⟩)
      (Cert.ReferenceIdeal.Value.run m' g')
    obtain ⟨e0, e1, e2, e3⟩ := hargs c
    refine (Cert.ReferenceIdeal.Attn.res_eq m' c).trans ?_
    rw [e0, e1, e2, e3]
    exact (Cert.KernelIdeal.Attn.res_eq m c (a0 c) (a1 c) (h0 c) (h1 c)).symm

theorem frame_project : Cert.quiescent_InProj := fun m g _ => Cert.InProj.Gen.frame m g

theorem frame_project_ideal : Cert.quiescent_InProjIdeal := fun m g _ => Cert.InProjIdeal.Gen.frame m g

theorem frame_project_reference : Cert.quiescent_InProjReferenceIdeal := fun m g _ =>
  (θ_run (Cert.InProjReferenceIdeal.defs (F := Ideal)) _ _).mono
    (fun r h => ⟨fun c => (h c).2.2.2.2.2.2.2.2, sem_eq_zero_of_no_sems (by decide) r.2⟩) (Cert.InProjReferenceIdeal.Value.run m g)

theorem value_project : Cert.algebraic_InProjIdeal_InProjReferenceIdeal := by
  intro m g m' g' _ hargs
  refine ⟨fun c => (Cert.InProjIdeal.Gen.dats m 0 c).arrAt 3 Cert.InProjIdeal.cfg0.N, fun c => (Cert.InProjIdeal.Gen.dats m 0 c).arrAt 4 Cert.InProjIdeal.cfg0.N,
    fun c => (Cert.InProjIdeal.Gen.dats m 0 c).arrAt 5 Cert.InProjIdeal.cfg0.N, fun c => (Cert.InProjIdeal.Gen.dats m 0 c).arrAt 6 Cert.InProjIdeal.cfg0.N,
    fun c => (Cert.InProjIdeal.Gen.dats m 0 c).arrAt 7 Cert.InProjIdeal.cfg0.N, fun c => (Cert.InProjIdeal.Gen.dats m 0 c).arrAt 8 Cert.InProjIdeal.cfg0.N,
    fun c => (Cert.InProjIdeal.Gen.dats m 0 c).arrAt 9 Cert.InProjIdeal.cfg0.N, fun c => (Cert.InProjIdeal.Gen.dats m 0 c).arrAt 10 Cert.InProjIdeal.cfg0.N,
    Cert.InProjIdeal.Value.run_blocks m g, ?_⟩
  refine (θ_run (Cert.InProjReferenceIdeal.defs (F := Ideal)) _ _).mono (fun r h c => ?_) (Cert.InProjReferenceIdeal.Value.run m' g')
  obtain ⟨e0, e1, e2⟩ := hargs c
  obtain ⟨h0, h1, h2, h3, h4, h5, h6, h7, hk⟩ := h c
  rw [e0, e1, e2] at h0 h1 h2 h3 h4 h5 h6 h7
  refine ⟨h0.trans ?_, h1.trans ?_, h2.trans ?_, h3.trans ?_, h4.trans ?_, h5.trans ?_, h6.trans ?_, h7.trans ?_, hk⟩
  · exact (Cert.InProjReferenceIdeal.Project.run_first (N := 512) (off := 0) _ _ _ _ _ (by decide)).trans (Cert.InProjIdeal.Project.out3 m c).symm
  · exact (Cert.InProjReferenceIdeal.Project.run_first (N := 256) (off := 512) _ _ _ _ _ (by decide)).trans (Cert.InProjIdeal.Project.out4 m c).symm
  · exact (Cert.InProjReferenceIdeal.Project.run_joined _ _ _ _).trans (Cert.InProjIdeal.Project.out5 m c).symm
  · exact (Cert.InProjReferenceIdeal.Project.run_mid (N := 768) (off := 832) _ _ _ _ _ (by decide) (by decide) rfl).trans (Cert.InProjIdeal.Project.out6 m c).symm
  · exact (Cert.InProjReferenceIdeal.Project.run_mid (N := 1024) (off := 1600) _ _ _ _ _ (by decide) (by decide) rfl).trans (Cert.InProjIdeal.Project.out7 m c).symm
  · exact (Cert.InProjReferenceIdeal.Project.run_mid (N := 512) (off := 2624) _ _ _ _ _ (by decide) (by decide) rfl).trans (Cert.InProjIdeal.Project.out8 m c).symm
  · exact (Cert.InProjReferenceIdeal.Project.run_mid (N := 768) (off := 3136) _ _ _ _ _ (by decide) (by decide) rfl).trans (Cert.InProjIdeal.Project.out9 m c).symm
  · exact (Cert.InProjReferenceIdeal.Project.run_mid (N := 1280) (off := 3904) _ _ _ _ _ (by decide) (by decide) rfl).trans (Cert.InProjIdeal.Project.out10 m c).symm

theorem frame_conv_reference : Cert.quiescent_ConvOutReferenceIdeal := fun m g _ =>
  (θ_run (Cert.ConvOutReferenceIdeal.defs (F := Ideal)) _ _).mono (fun r h => ⟨fun c => (h c).2, sem_eq_zero_of_no_sems (by decide) r.2⟩)
    (Cert.ConvOutReferenceIdeal.Value.run m g)

theorem value_conv : Cert.algebraic_ConvOutIdeal_ConvOutReferenceIdeal := by
  intro m g m' g' _ hargs
  refine ⟨fun c => Cert.ConvOutIdeal.Conv.res m c, ?_, ?_⟩
  · exact (θ_run (Cert.ConvOutIdeal.defs (F := Ideal)) _ _).mono (fun _ h => h.1) (Cert.ConvOutIdeal.Conv.run_frame m g)
  · refine (θ_run (Cert.ConvOutReferenceIdeal.defs (F := Ideal)) _ _).mono (fun r h c => ⟨(h c).1.trans ?_, (h c).2⟩)
      (Cert.ConvOutReferenceIdeal.Value.run m' g')
    obtain ⟨e0, e1, e2, e3, e4, e5, e6, e7, e8, e9, e10⟩ := hargs c
    have ea : Cert.ConvOutReferenceIdeal.Conv.args (StableHlo.launchContents m' c) = Cert.ConvOutIdeal.Conv.args m c := by
      show Cert.Conv.Args.mk _ _ _ _ _ _ _ _ _ _ _ = Cert.Conv.Args.mk _ _ _ _ _ _ _ _ _ _ _
      exact congr (congr (congr (congr (congr (congr (congr (congr (congr (congr (congrArg Cert.Conv.Args.mk e0) e1) e2) e3) e4) e5) e6) e7) e8) e9) e10
    refine (Cert.ConvOutReferenceIdeal.Conv.outR_eq (StableHlo.launchContents m' c)).trans ?_
    rw [ea]
    exact (Cert.ConvOutIdeal.Conv.res_eq m c).symm

theorem claim : Cert.Claim := ⟨Cert.Kernel.Gen.facts, Cert.KernelIdeal.Gen.facts, Cert.ReferenceIdeal.Gen.facts, Cert.InProj.Gen.facts,
  Cert.InProjIdeal.Gen.facts, Cert.InProjReferenceIdeal.Gen.facts, Cert.ConvOut.Gen.facts, Cert.ConvOutIdeal.Gen.facts,
  Cert.ConvOutReferenceIdeal.Gen.facts, pre_facts, frame_kernel, frame_ideal,
  frame_ideal_finite, frame_reference, frame_reference_finite, frame_project, frame_project_ideal, frame_project_reference,
  frame_conv, frame_conv_ideal, frame_conv_reference,
  IdealRules.named_const.statement Cert.KernelIdeal.κ "neg_log2e" .f32 0xBFB8AA3B#32 ((-((Real.log 2)⁻¹) : ℝ) : EReal) rfl, value,
  trivial, value_project,
  IdealRules.named_const.statement Cert.ConvOutIdeal.κ "neg_log2e" .f32 0xBFB8AA3B#32 ((-((Real.log 2)⁻¹) : ℝ) : EReal) rfl, value_conv⟩

end Cert.Proof

end
